-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleRefIdeal (m : (ℓ : Loc Cert.InprojSampleRefIdeal.nD Cert.InprojSampleRefIdeal.τ Cert.InprojSampleRefIdeal.sig) → Buf (Elt Ideal) ℓ) : Prop :=
  True

def Pre_FfnInner (m : (ℓ : Loc Cert.FfnInner.nD Cert.FfnInner.τ Cert.FfnInner.sig) → Buf (Elt Bits) ℓ) : Prop :=
  True

def Pre_FfnInnerIdeal (m : (ℓ : Loc Cert.FfnInnerIdeal.nD Cert.FfnInnerIdeal.τ Cert.FfnInnerIdeal.sig) → Buf (Elt Ideal) ℓ) : Prop :=
  True

def Pre_FfnInnerRefIdeal (m : (ℓ : Loc Cert.FfnInnerRefIdeal.nD Cert.FfnInnerRefIdeal.τ Cert.FfnInnerRefIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def Pre_FfnInnerSample (m : (ℓ : Loc Cert.FfnInnerSample.nD Cert.FfnInnerSample.τ Cert.FfnInnerSample.sig) → Buf (Elt Bits) ℓ) : Prop :=
  True

def Pre_FfnInnerSampleIdeal (m : (ℓ : Loc Cert.FfnInnerSampleIdeal.nD Cert.FfnInnerSampleIdeal.τ Cert.FfnInnerSampleIdeal.sig) → Buf (Elt Ideal) ℓ) : Prop :=
  True

def Pre_FfnInnerSampleRefIdeal (m : (ℓ : Loc Cert.FfnInnerSampleRefIdeal.nD Cert.FfnInnerSampleRefIdeal.τ Cert.FfnInnerSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3)
      ∧ r.2.mem ((c.tc : Thread Cert.InprojSample.nD Cert.InprojSample.τ).loc Cert.InprojSample.main_arg4) = m ((c.tc : Thread Cert.InprojSample.nD Cert.InprojSample.τ).loc Cert.InprojSample.main_arg4)
      ∧ r.2.mem ((c.tc : Thread Cert.InprojSample.nD Cert.InprojSample.τ).loc Cert.InprojSample.main_arg5) = m ((c.tc : Thread Cert.InprojSample.nD Cert.InprojSample.τ).loc Cert.InprojSample.main_arg5))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4)
      ∧ r.2.mem ((c.tc : Thread Cert.InprojSampleIdeal.nD Cert.InprojSampleIdeal.τ).loc Cert.InprojSampleIdeal.main_arg5) = m ((c.tc : Thread Cert.InprojSampleIdeal.nD Cert.InprojSampleIdeal.τ).loc Cert.InprojSampleIdeal.main_arg5))
      ∧ r.2.sem = fun _ => 0)

def quiescent_InprojSampleRefIdeal [hInprojSampleRefIdeal : Cert.InprojSampleRefIdeal.Facts] : Prop :=
  ∀ (m : (ℓ : Loc Cert.InprojSampleRefIdeal.nD Cert.InprojSampleRefIdeal.τ Cert.InprojSampleRefIdeal.sig) → Buf (Elt Ideal) ℓ) (g : Dev Cert.InprojSampleRefIdeal.nD → PrngReg), Pre_InprojSampleRefIdeal m →
    θ_run (Cert.InprojSampleRefIdeal.defs (F := Ideal)) (onTc (τ := Cert.InprojSampleRefIdeal.τ) (Cert.InprojSampleRefIdeal.main (F := Ideal))) ⟨m, fun _ => 0, g⟩ (fun r => (∀ c : Dev Cert.InprojSampleRefIdeal.nD,
      r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
      ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1)
      ∧ r.2.mem ((c.tc : Thread Cert.InprojSampleRefIdeal.nD Cert.InprojSampleRefIdeal.τ).loc Cert.InprojSampleRefIdeal.main_arg2) = m ((c.tc : Thread Cert.InprojSampleRefIdeal.nD Cert.InprojSampleRefIdeal.τ).loc Cert.InprojSampleRefIdeal.main_arg2)
      ∧ r.2.mem ((c.tc : Thread Cert.InprojSampleRefIdeal.nD Cert.InprojSampleRefIdeal.τ).loc Cert.InprojSampleRefIdeal.main_arg3) = m ((c.tc : Thread Cert.InprojSampleRefIdeal.nD Cert.InprojSampleRefIdeal.τ).loc Cert.InprojSampleRefIdeal.main_arg3)
      ∧ r.2.mem ((c.tc : Thread Cert.InprojSampleRefIdeal.nD Cert.InprojSampleRefIdeal.τ).loc Cert.InprojSampleRefIdeal.main_arg4) = m ((c.tc : Thread Cert.InprojSampleRefIdeal.nD Cert.InprojSampleRefIdeal.τ).loc Cert.InprojSampleRefIdeal.main_arg4)
      ∧ r.2.mem ((c.tc : Thread Cert.InprojSampleRefIdeal.nD Cert.InprojSampleRefIdeal.τ).loc Cert.InprojSampleRefIdeal.main_arg5) = m ((c.tc : Thread Cert.InprojSampleRefIdeal.nD Cert.InprojSampleRefIdeal.τ).loc Cert.InprojSampleRefIdeal.main_arg5))
      ∧ r.2.sem = fun _ => 0)

def quiescent_FfnInner [hFfnInner : Cert.FfnInner.Facts] : Prop :=
  ∀ (m : (ℓ : Loc Cert.FfnInner.nD Cert.FfnInner.τ Cert.FfnInner.sig) → Buf (Elt Bits) ℓ) (g : Dev Cert.FfnInner.nD → PrngReg), Pre_FfnInner m →
    θ_run (Cert.FfnInner.defs (F := Bits)) (onTc (τ := Cert.FfnInner.τ) (Cert.FfnInner.main (F := Bits))) ⟨m, fun _ => 0, g⟩ (fun r => (∀ c : Dev Cert.FfnInner.nD,
      r.2.mem ((c.tc : Thread Cert.FfnInner.nD Cert.FfnInner.τ).loc Cert.FfnInner.main_arg0) = m ((c.tc : Thread Cert.FfnInner.nD Cert.FfnInner.τ).loc Cert.FfnInner.main_arg0)
      ∧ r.2.mem ((c.tc : Thread Cert.FfnInner.nD Cert.FfnInner.τ).loc Cert.FfnInner.main_arg1) = m ((c.tc : Thread Cert.FfnInner.nD Cert.FfnInner.τ).loc Cert.FfnInner.main_arg1)
      ∧ r.2.mem ((c.tc : Thread Cert.FfnInner.nD Cert.FfnInner.τ).loc Cert.FfnInner.main_arg2) = m ((c.tc : Thread Cert.FfnInner.nD Cert.FfnInner.τ).loc Cert.FfnInner.main_arg2)
      ∧ r.2.mem ((c.tc : Thread Cert.FfnInner.nD Cert.FfnInner.τ).loc Cert.FfnInner.main_arg3) = m ((c.tc : Thread Cert.FfnInner.nD Cert.FfnInner.τ).loc Cert.FfnInner.main_arg3)
      ∧ r.2.mem ((c.tc : Thread Cert.FfnInner.nD Cert.FfnInner.τ).loc Cert.FfnInner.main_arg4) = m ((c.tc : Thread Cert.FfnInner.nD Cert.FfnInner.τ).loc Cert.FfnInner.main_arg4)
      ∧ r.2.mem ((c.tc : Thread Cert.FfnInner.nD Cert.FfnInner.τ).loc Cert.FfnInner.main_arg5) = m ((c.tc : Thread Cert.FfnInner.nD Cert.FfnInner.τ).loc Cert.FfnInner.main_arg5))
      ∧ r.2.sem = fun _ => 0)

def quiescent_FfnInnerIdeal [hFfnInnerIdeal : Cert.FfnInnerIdeal.Facts] : Prop :=
  ∀ (m : (ℓ : Loc Cert.FfnInnerIdeal.nD Cert.FfnInnerIdeal.τ Cert.FfnInnerIdeal.sig) → Buf (Elt Ideal) ℓ) (g : Dev Cert.FfnInnerIdeal.nD → PrngReg), Pre_FfnInnerIdeal m →
    θ_run (Cert.FfnInnerIdeal.defs (F := Ideal)) (onTc (τ := Cert.FfnInnerIdeal.τ) (Cert.FfnInnerIdeal.main (F := Ideal))) ⟨m, fun _ => 0, g⟩ (fun r => (∀ c : Dev Cert.FfnInnerIdeal.nD,
      r.2.mem ((c.tc : Thread Cert.FfnInnerIdeal.nD Cert.FfnInnerIdeal.τ).loc Cert.FfnInnerIdeal.main_arg0) = m ((c.tc : Thread Cert.FfnInnerIdeal.nD Cert.FfnInnerIdeal.τ).loc Cert.FfnInnerIdeal.main_arg0)
      ∧ r.2.mem ((c.tc : Thread Cert.FfnInnerIdeal.nD Cert.FfnInnerIdeal.τ).loc Cert.FfnInnerIdeal.main_arg1) = m ((c.tc : Thread Cert.FfnInnerIdeal.nD Cert.FfnInnerIdeal.τ).loc Cert.FfnInnerIdeal.main_arg1)
      ∧ r.2.mem ((c.tc : Thread Cert.FfnInnerIdeal.nD Cert.FfnInnerIdeal.τ).loc Cert.FfnInnerIdeal.main_arg2) = m ((c.tc : Thread Cert.FfnInnerIdeal.nD Cert.FfnInnerIdeal.τ).loc Cert.FfnInnerIdeal.main_arg2)
      ∧ r.2.mem ((c.tc : Thread Cert.FfnInnerIdeal.nD Cert.FfnInnerIdeal.τ).loc Cert.FfnInnerIdeal.main_arg3) = m ((c.tc : Thread Cert.FfnInnerIdeal.nD Cert.FfnInnerIdeal.τ).loc Cert.FfnInnerIdeal.main_arg3)
      ∧ r.2.mem ((c.tc : Thread Cert.FfnInnerIdeal.nD Cert.FfnInnerIdeal.τ).loc Cert.FfnInnerIdeal.main_arg4) = m ((c.tc : Thread Cert.FfnInnerIdeal.nD Cert.FfnInnerIdeal.τ).loc Cert.FfnInnerIdeal.main_arg4)
      ∧ r.2.mem ((c.tc : Thread Cert.FfnInnerIdeal.nD Cert.FfnInnerIdeal.τ).loc Cert.FfnInnerIdeal.main_arg5) = m ((c.tc : Thread Cert.FfnInnerIdeal.nD Cert.FfnInnerIdeal.τ).loc Cert.FfnInnerIdeal.main_arg5))
      ∧ r.2.sem = fun _ => 0)

def quiescent_FfnInnerRefIdeal [hFfnInnerRefIdeal : Cert.FfnInnerRefIdeal.Facts] : Prop :=
  ∀ (m : (ℓ : Loc Cert.FfnInnerRefIdeal.nD Cert.FfnInnerRefIdeal.τ Cert.FfnInnerRefIdeal.sig) → Buf (Elt Ideal) ℓ) (g : Dev Cert.FfnInnerRefIdeal.nD → PrngReg), Pre_FfnInnerRefIdeal m →
    θ_run (Cert.FfnInnerRefIdeal.defs (F := Ideal)) (onTc (τ := Cert.FfnInnerRefIdeal.τ) (Cert.FfnInnerRefIdeal.main (F := Ideal))) ⟨m, fun _ => 0, g⟩ (fun r => (∀ c : Dev Cert.FfnInnerRefIdeal.nD,
      r.2.mem ((c.tc : Thread Cert.FfnInnerRefIdeal.nD Cert.FfnInnerRefIdeal.τ).loc Cert.FfnInnerRefIdeal.main_arg0) = m ((c.tc : Thread Cert.FfnInnerRefIdeal.nD Cert.FfnInnerRefIdeal.τ).loc Cert.FfnInnerRefIdeal.main_arg0)
      ∧ r.2.mem ((c.tc : Thread Cert.FfnInnerRefIdeal.nD Cert.FfnInnerRefIdeal.τ).loc Cert.FfnInnerRefIdeal.main_arg1) = m ((c.tc : Thread Cert.FfnInnerRefIdeal.nD Cert.FfnInnerRefIdeal.τ).loc Cert.FfnInnerRefIdeal.main_arg1)
      ∧ r.2.mem ((c.tc : Thread Cert.FfnInnerRefIdeal.nD Cert.FfnInnerRefIdeal.τ).loc Cert.FfnInnerRefIdeal.main_arg2) = m ((c.tc : Thread Cert.FfnInnerRefIdeal.nD Cert.FfnInnerRefIdeal.τ).loc Cert.FfnInnerRefIdeal.main_arg2)
      ∧ r.2.mem ((c.tc : Thread Cert.FfnInnerRefIdeal.nD Cert.FfnInnerRefIdeal.τ).loc Cert.FfnInnerRefIdeal.main_arg3) = m ((c.tc : Thread Cert.FfnInnerRefIdeal.nD Cert.FfnInnerRefIdeal.τ).loc Cert.FfnInnerRefIdeal.main_arg3)
      ∧ r.2.mem ((c.tc : Thread Cert.FfnInnerRefIdeal.nD Cert.FfnInnerRefIdeal.τ).loc Cert.FfnInnerRefIdeal.main_arg4) = m ((c.tc : Thread Cert.FfnInnerRefIdeal.nD Cert.FfnInnerRefIdeal.τ).loc Cert.FfnInnerRefIdeal.main_arg4)
      ∧ r.2.mem ((c.tc : Thread Cert.FfnInnerRefIdeal.nD Cert.FfnInnerRefIdeal.τ).loc Cert.FfnInnerRefIdeal.main_arg5) = m ((c.tc : Thread Cert.FfnInnerRefIdeal.nD Cert.FfnInnerRefIdeal.τ).loc Cert.FfnInnerRefIdeal.main_arg5))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7)
      ∧ r.2.mem ((c.tc : Thread Cert.MergeSampleRefIdeal.nD Cert.MergeSampleRefIdeal.τ).loc Cert.MergeSampleRefIdeal.main_arg8) = m ((c.tc : Thread Cert.MergeSampleRefIdeal.nD Cert.MergeSampleRefIdeal.τ).loc Cert.MergeSampleRefIdeal.main_arg8))
      ∧ r.2.sem = fun _ => 0)

def quiescent_FfnInnerSample [hFfnInnerSample : Cert.FfnInnerSample.Facts] : Prop :=
  ∀ (m : (ℓ : Loc Cert.FfnInnerSample.nD Cert.FfnInnerSample.τ Cert.FfnInnerSample.sig) → Buf (Elt Bits) ℓ) (g : Dev Cert.FfnInnerSample.nD → PrngReg), Pre_FfnInnerSample m →
    θ_run (Cert.FfnInnerSample.defs (F := Bits)) (onTc (τ := Cert.FfnInnerSample.τ) (Cert.FfnInnerSample.main (F := Bits))) ⟨m, fun _ => 0, g⟩ (fun r => (∀ c : Dev Cert.FfnInnerSample.nD,
      r.2.mem ((c.tc : Thread Cert.FfnInnerSample.nD Cert.FfnInnerSample.τ).loc Cert.FfnInnerSample.main_arg0) = m ((c.tc : Thread Cert.FfnInnerSample.nD Cert.FfnInnerSample.τ).loc Cert.FfnInnerSample.main_arg0)
      ∧ r.2.mem ((c.tc : Thread Cert.FfnInnerSample.nD Cert.FfnInnerSample.τ).loc Cert.FfnInnerSample.main_arg1) = m ((c.tc : Thread Cert.FfnInnerSample.nD Cert.FfnInnerSample.τ).loc Cert.FfnInnerSample.main_arg1)
      ∧ r.2.mem ((c.tc : Thread Cert.FfnInnerSample.nD Cert.FfnInnerSample.τ).loc Cert.FfnInnerSample.main_arg2) = m ((c.tc : Thread Cert.FfnInnerSample.nD Cert.FfnInnerSample.τ).loc Cert.FfnInnerSample.main_arg2)
      ∧ r.2.mem ((c.tc : Thread Cert.FfnInnerSample.nD Cert.FfnInnerSample.τ).loc Cert.FfnInnerSample.main_arg3) = m ((c.tc : Thread Cert.FfnInnerSample.nD Cert.FfnInnerSample.τ).loc Cert.FfnInnerSample.main_arg3)
      ∧ r.2.mem ((c.tc : Thread Cert.FfnInnerSample.nD Cert.FfnInnerSample.τ).loc Cert.FfnInnerSample.main_arg4) = m ((c.tc : Thread Cert.FfnInnerSample.nD Cert.FfnInnerSample.τ).loc Cert.FfnInnerSample.main_arg4)
      ∧ r.2.mem ((c.tc : Thread Cert.FfnInnerSample.nD Cert.FfnInnerSample.τ).loc Cert.FfnInnerSample.main_arg5) = m ((c.tc : Thread Cert.FfnInnerSample.nD Cert.FfnInnerSample.τ).loc Cert.FfnInnerSample.main_arg5))
      ∧ r.2.sem = fun _ => 0)

def quiescent_FfnInnerSampleIdeal [hFfnInnerSampleIdeal : Cert.FfnInnerSampleIdeal.Facts] : Prop :=
  ∀ (m : (ℓ : Loc Cert.FfnInnerSampleIdeal.nD Cert.FfnInnerSampleIdeal.τ Cert.FfnInnerSampleIdeal.sig) → Buf (Elt Ideal) ℓ) (g : Dev Cert.FfnInnerSampleIdeal.nD → PrngReg), Pre_FfnInnerSampleIdeal m →
    θ_run (Cert.FfnInnerSampleIdeal.defs (F := Ideal)) (onTc (τ := Cert.FfnInnerSampleIdeal.τ) (Cert.FfnInnerSampleIdeal.main (F := Ideal))) ⟨m, fun _ => 0, g⟩ (fun r => (∀ c : Dev Cert.FfnInnerSampleIdeal.nD,
      r.2.mem ((c.tc : Thread Cert.FfnInnerSampleIdeal.nD Cert.FfnInnerSampleIdeal.τ).loc Cert.FfnInnerSampleIdeal.main_arg0) = m ((c.tc : Thread Cert.FfnInnerSampleIdeal.nD Cert.FfnInnerSampleIdeal.τ).loc Cert.FfnInnerSampleIdeal.main_arg0)
      ∧ r.2.mem ((c.tc : Thread Cert.FfnInnerSampleIdeal.nD Cert.FfnInnerSampleIdeal.τ).loc Cert.FfnInnerSampleIdeal.main_arg1) = m ((c.tc : Thread Cert.FfnInnerSampleIdeal.nD Cert.FfnInnerSampleIdeal.τ).loc Cert.FfnInnerSampleIdeal.main_arg1)
      ∧ r.2.mem ((c.tc : Thread Cert.FfnInnerSampleIdeal.nD Cert.FfnInnerSampleIdeal.τ).loc Cert.FfnInnerSampleIdeal.main_arg2) = m ((c.tc : Thread Cert.FfnInnerSampleIdeal.nD Cert.FfnInnerSampleIdeal.τ).loc Cert.FfnInnerSampleIdeal.main_arg2)
      ∧ r.2.mem ((c.tc : Thread Cert.FfnInnerSampleIdeal.nD Cert.FfnInnerSampleIdeal.τ).loc Cert.FfnInnerSampleIdeal.main_arg3) = m ((c.tc : Thread Cert.FfnInnerSampleIdeal.nD Cert.FfnInnerSampleIdeal.τ).loc Cert.FfnInnerSampleIdeal.main_arg3)
      ∧ r.2.mem ((c.tc : Thread Cert.FfnInnerSampleIdeal.nD Cert.FfnInnerSampleIdeal.τ).loc Cert.FfnInnerSampleIdeal.main_arg4) = m ((c.tc : Thread Cert.FfnInnerSampleIdeal.nD Cert.FfnInnerSampleIdeal.τ).loc Cert.FfnInnerSampleIdeal.main_arg4)
      ∧ r.2.mem ((c.tc : Thread Cert.FfnInnerSampleIdeal.nD Cert.FfnInnerSampleIdeal.τ).loc Cert.FfnInnerSampleIdeal.main_arg5) = m ((c.tc : Thread Cert.FfnInnerSampleIdeal.nD Cert.FfnInnerSampleIdeal.τ).loc Cert.FfnInnerSampleIdeal.main_arg5))
      ∧ r.2.sem = fun _ => 0)

def quiescent_FfnInnerSampleRefIdeal [hFfnInnerSampleRefIdeal : Cert.FfnInnerSampleRefIdeal.Facts] : Prop :=
  ∀ (m : (ℓ : Loc Cert.FfnInnerSampleRefIdeal.nD Cert.FfnInnerSampleRefIdeal.τ Cert.FfnInnerSampleRefIdeal.sig) → Buf (Elt Ideal) ℓ) (g : Dev Cert.FfnInnerSampleRefIdeal.nD → PrngReg), Pre_FfnInnerSampleRefIdeal m →
    θ_run (Cert.FfnInnerSampleRefIdeal.defs (F := Ideal)) (onTc (τ := Cert.FfnInnerSampleRefIdeal.τ) (Cert.FfnInnerSampleRefIdeal.main (F := Ideal))) ⟨m, fun _ => 0, g⟩ (fun r => (∀ c : Dev Cert.FfnInnerSampleRefIdeal.nD,
      r.2.mem ((c.tc : Thread Cert.FfnInnerSampleRefIdeal.nD Cert.FfnInnerSampleRefIdeal.τ).loc Cert.FfnInnerSampleRefIdeal.main_arg0) = m ((c.tc : Thread Cert.FfnInnerSampleRefIdeal.nD Cert.FfnInnerSampleRefIdeal.τ).loc Cert.FfnInnerSampleRefIdeal.main_arg0)
      ∧ r.2.mem ((c.tc : Thread Cert.FfnInnerSampleRefIdeal.nD Cert.FfnInnerSampleRefIdeal.τ).loc Cert.FfnInnerSampleRefIdeal.main_arg1) = m ((c.tc : Thread Cert.FfnInnerSampleRefIdeal.nD Cert.FfnInnerSampleRefIdeal.τ).loc Cert.FfnInnerSampleRefIdeal.main_arg1)
      ∧ r.2.mem ((c.tc : Thread Cert.FfnInnerSampleRefIdeal.nD Cert.FfnInnerSampleRefIdeal.τ).loc Cert.FfnInnerSampleRefIdeal.main_arg2) = m ((c.tc : Thread Cert.FfnInnerSampleRefIdeal.nD Cert.FfnInnerSampleRefIdeal.τ).loc Cert.FfnInnerSampleRefIdeal.main_arg2)
      ∧ r.2.mem ((c.tc : Thread Cert.FfnInnerSampleRefIdeal.nD Cert.FfnInnerSampleRefIdeal.τ).loc Cert.FfnInnerSampleRefIdeal.main_arg3) = m ((c.tc : Thread Cert.FfnInnerSampleRefIdeal.nD Cert.FfnInnerSampleRefIdeal.τ).loc Cert.FfnInnerSampleRefIdeal.main_arg3)
      ∧ r.2.mem ((c.tc : Thread Cert.FfnInnerSampleRefIdeal.nD Cert.FfnInnerSampleRefIdeal.τ).loc Cert.FfnInnerSampleRefIdeal.main_arg4) = m ((c.tc : Thread Cert.FfnInnerSampleRefIdeal.nD Cert.FfnInnerSampleRefIdeal.τ).loc Cert.FfnInnerSampleRefIdeal.main_arg4)
      ∧ r.2.mem ((c.tc : Thread Cert.FfnInnerSampleRefIdeal.nD Cert.FfnInnerSampleRefIdeal.τ).loc Cert.FfnInnerSampleRefIdeal.main_arg5) = m ((c.tc : Thread Cert.FfnInnerSampleRefIdeal.nD Cert.FfnInnerSampleRefIdeal.τ).loc Cert.FfnInnerSampleRefIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v27_0)) (v1 : (c : Dev Cert.InprojIdeal.nD) → Buf (Elt Ideal) ((c.tc : Thread Cert.InprojIdeal.nD Cert.InprojIdeal.τ).loc Cert.InprojIdeal.main_v27_1)) (v2 : (c : Dev Cert.InprojIdeal.nD) → Buf (Elt Ideal) ((c.tc : Thread Cert.InprojIdeal.nD Cert.InprojIdeal.τ).loc Cert.InprojIdeal.main_v27_2)) (v3 : (c : Dev Cert.InprojIdeal.nD) → Buf (Elt Ideal) ((c.tc : Thread Cert.InprojIdeal.nD Cert.InprojIdeal.τ).loc Cert.InprojIdeal.main_v27_3)) (v4 : (c : Dev Cert.InprojIdeal.nD) → Buf (Elt Ideal) ((c.tc : Thread Cert.InprojIdeal.nD Cert.InprojIdeal.τ).loc Cert.InprojIdeal.main_v27_4)) (v5 : (c : Dev Cert.InprojIdeal.nD) → Buf (Elt Ideal) ((c.tc : Thread Cert.InprojIdeal.nD Cert.InprojIdeal.τ).loc Cert.InprojIdeal.main_v27_5)) (v6 : (c : Dev Cert.InprojIdeal.nD) → Buf (Elt Ideal) ((c.tc : Thread Cert.InprojIdeal.nD Cert.InprojIdeal.τ).loc Cert.InprojIdeal.main_v27_6)) (v7 : (c : Dev Cert.InprojIdeal.nD) → Buf (Elt Ideal) ((c.tc : Thread Cert.InprojIdeal.nD Cert.InprojIdeal.τ).loc Cert.InprojIdeal.main_v27_7)) (v8 : (c : Dev Cert.InprojIdeal.nD) → Buf (Elt Ideal) ((c.tc : Thread Cert.InprojIdeal.nD Cert.InprojIdeal.τ).loc Cert.InprojIdeal.main_v27_8)) (v9 : (c : Dev Cert.InprojIdeal.nD) → Buf (Elt Ideal) ((c.tc : Thread Cert.InprojIdeal.nD Cert.InprojIdeal.τ).loc Cert.InprojIdeal.main_v27_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v27_0) = v0 c
          ∧ r.2.mem ((c.tc : Thread Cert.InprojIdeal.nD Cert.InprojIdeal.τ).loc Cert.InprojIdeal.main_v27_1) = v1 c
          ∧ r.2.mem ((c.tc : Thread Cert.InprojIdeal.nD Cert.InprojIdeal.τ).loc Cert.InprojIdeal.main_v27_2) = v2 c
          ∧ r.2.mem ((c.tc : Thread Cert.InprojIdeal.nD Cert.InprojIdeal.τ).loc Cert.InprojIdeal.main_v27_3) = v3 c
          ∧ r.2.mem ((c.tc : Thread Cert.InprojIdeal.nD Cert.InprojIdeal.τ).loc Cert.InprojIdeal.main_v27_4) = v4 c
          ∧ r.2.mem ((c.tc : Thread Cert.InprojIdeal.nD Cert.InprojIdeal.τ).loc Cert.InprojIdeal.main_v27_5) = v5 c
          ∧ r.2.mem ((c.tc : Thread Cert.InprojIdeal.nD Cert.InprojIdeal.τ).loc Cert.InprojIdeal.main_v27_6) = v6 c
          ∧ r.2.mem ((c.tc : Thread Cert.InprojIdeal.nD Cert.InprojIdeal.τ).loc Cert.InprojIdeal.main_v27_7) = v7 c
          ∧ r.2.mem ((c.tc : Thread Cert.InprojIdeal.nD Cert.InprojIdeal.τ).loc Cert.InprojIdeal.main_v27_8) = v8 c
          ∧ r.2.mem ((c.tc : Thread Cert.InprojIdeal.nD Cert.InprojIdeal.τ).loc Cert.InprojIdeal.main_v27_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v56) = v0 c
          ∧ r.2.mem ((c.tc : Thread Cert.InprojRefIdeal.nD Cert.InprojRefIdeal.τ).loc Cert.InprojRefIdeal.main_v19) = v1 c
          ∧ r.2.mem ((c.tc : Thread Cert.InprojRefIdeal.nD Cert.InprojRefIdeal.τ).loc Cert.InprojRefIdeal.main_v20) = v2 c
          ∧ r.2.mem ((c.tc : Thread Cert.InprojRefIdeal.nD Cert.InprojRefIdeal.τ).loc Cert.InprojRefIdeal.main_v58) = v3 c
          ∧ r.2.mem ((c.tc : Thread Cert.InprojRefIdeal.nD Cert.InprojRefIdeal.τ).loc Cert.InprojRefIdeal.main_v60) = v4 c
          ∧ r.2.mem ((c.tc : Thread Cert.InprojRefIdeal.nD Cert.InprojRefIdeal.τ).loc Cert.InprojRefIdeal.main_v22) = v5 c
          ∧ r.2.mem ((c.tc : Thread Cert.InprojRefIdeal.nD Cert.InprojRefIdeal.τ).loc Cert.InprojRefIdeal.main_v23) = v6 c
          ∧ r.2.mem ((c.tc : Thread Cert.InprojRefIdeal.nD Cert.InprojRefIdeal.τ).loc Cert.InprojRefIdeal.main_v24) = v7 c
          ∧ r.2.mem ((c.tc : Thread Cert.InprojRefIdeal.nD Cert.InprojRefIdeal.τ).loc Cert.InprojRefIdeal.main_v27) = v8 c
          ∧ r.2.mem ((c.tc : Thread Cert.InprojRefIdeal.nD Cert.InprojRefIdeal.τ).loc Cert.InprojRefIdeal.main_v61) = v9 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v5)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v5) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v41) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_InprojSample_InprojSampleIdeal : Prop :=
  True

def algebraic_InprojSampleIdeal_InprojSampleRefIdeal [hInprojSampleIdeal : Cert.InprojSampleIdeal.Facts] [hInprojSampleRefIdeal : Cert.InprojSampleRefIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleRefIdeal.nD Cert.InprojSampleRefIdeal.τ Cert.InprojSampleRefIdeal.sig) → Buf (Elt Ideal) ℓ) (g' : Dev Cert.InprojSampleRefIdeal.nD → PrngReg), Pre_InprojSampleIdeal m →
    (∀ c : Dev Cert.InprojSampleIdeal.nD,
      m' ((c.tc : Thread Cert.InprojSampleRefIdeal.nD Cert.InprojSampleRefIdeal.τ).loc Cert.InprojSampleRefIdeal.main_arg0) = m ((c.tc : Thread Cert.InprojSampleIdeal.nD Cert.InprojSampleIdeal.τ).loc Cert.InprojSampleIdeal.main_arg0)
      ∧ m' ((c.tc : Thread Cert.InprojSampleRefIdeal.nD Cert.InprojSampleRefIdeal.τ).loc Cert.InprojSampleRefIdeal.main_arg1) = m ((c.tc : Thread Cert.InprojSampleIdeal.nD Cert.InprojSampleIdeal.τ).loc Cert.InprojSampleIdeal.main_arg1)
      ∧ m' ((c.tc : Thread Cert.InprojSampleRefIdeal.nD Cert.InprojSampleRefIdeal.τ).loc Cert.InprojSampleRefIdeal.main_arg2) = m ((c.tc : Thread Cert.InprojSampleIdeal.nD Cert.InprojSampleIdeal.τ).loc Cert.InprojSampleIdeal.main_arg2)
      ∧ m' ((c.tc : Thread Cert.InprojSampleRefIdeal.nD Cert.InprojSampleRefIdeal.τ).loc Cert.InprojSampleRefIdeal.main_arg3) = m ((c.tc : Thread Cert.InprojSampleIdeal.nD Cert.InprojSampleIdeal.τ).loc Cert.InprojSampleIdeal.main_arg3)
      ∧ m' ((c.tc : Thread Cert.InprojSampleRefIdeal.nD Cert.InprojSampleRefIdeal.τ).loc Cert.InprojSampleRefIdeal.main_arg4) = m ((c.tc : Thread Cert.InprojSampleIdeal.nD Cert.InprojSampleIdeal.τ).loc Cert.InprojSampleIdeal.main_arg4)
      ∧ m' ((c.tc : Thread Cert.InprojSampleRefIdeal.nD Cert.InprojSampleRefIdeal.τ).loc Cert.InprojSampleRefIdeal.main_arg5) = m ((c.tc : Thread Cert.InprojSampleIdeal.nD Cert.InprojSampleIdeal.τ).loc Cert.InprojSampleIdeal.main_arg5)) →
    ∃ (v0 : (c : Dev Cert.InprojSampleIdeal.nD) → Buf (Elt Ideal) ((c.tc : Thread Cert.InprojSampleIdeal.nD Cert.InprojSampleIdeal.τ).loc Cert.InprojSampleIdeal.main_v27_0)) (v1 : (c : Dev Cert.InprojSampleIdeal.nD) → Buf (Elt Ideal) ((c.tc : Thread Cert.InprojSampleIdeal.nD Cert.InprojSampleIdeal.τ).loc Cert.InprojSampleIdeal.main_v27_1)) (v2 : (c : Dev Cert.InprojSampleIdeal.nD) → Buf (Elt Ideal) ((c.tc : Thread Cert.InprojSampleIdeal.nD Cert.InprojSampleIdeal.τ).loc Cert.InprojSampleIdeal.main_v27_2)) (v3 : (c : Dev Cert.InprojSampleIdeal.nD) → Buf (Elt Ideal) ((c.tc : Thread Cert.InprojSampleIdeal.nD Cert.InprojSampleIdeal.τ).loc Cert.InprojSampleIdeal.main_v27_3)) (v4 : (c : Dev Cert.InprojSampleIdeal.nD) → Buf (Elt Ideal) ((c.tc : Thread Cert.InprojSampleIdeal.nD Cert.InprojSampleIdeal.τ).loc Cert.InprojSampleIdeal.main_v27_4)) (v5 : (c : Dev Cert.InprojSampleIdeal.nD) → Buf (Elt Ideal) ((c.tc : Thread Cert.InprojSampleIdeal.nD Cert.InprojSampleIdeal.τ).loc Cert.InprojSampleIdeal.main_v27_5)) (v6 : (c : Dev Cert.InprojSampleIdeal.nD) → Buf (Elt Ideal) ((c.tc : Thread Cert.InprojSampleIdeal.nD Cert.InprojSampleIdeal.τ).loc Cert.InprojSampleIdeal.main_v27_6)) (v7 : (c : Dev Cert.InprojSampleIdeal.nD) → Buf (Elt Ideal) ((c.tc : Thread Cert.InprojSampleIdeal.nD Cert.InprojSampleIdeal.τ).loc Cert.InprojSampleIdeal.main_v27_7)) (v8 : (c : Dev Cert.InprojSampleIdeal.nD) → Buf (Elt Ideal) ((c.tc : Thread Cert.InprojSampleIdeal.nD Cert.InprojSampleIdeal.τ).loc Cert.InprojSampleIdeal.main_v27_8)) (v9 : (c : Dev Cert.InprojSampleIdeal.nD) → Buf (Elt Ideal) ((c.tc : Thread Cert.InprojSampleIdeal.nD Cert.InprojSampleIdeal.τ).loc Cert.InprojSampleIdeal.main_v27_9)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v27_0) = v0 c
          ∧ r.2.mem ((c.tc : Thread Cert.InprojSampleIdeal.nD Cert.InprojSampleIdeal.τ).loc Cert.InprojSampleIdeal.main_v27_1) = v1 c
          ∧ r.2.mem ((c.tc : Thread Cert.InprojSampleIdeal.nD Cert.InprojSampleIdeal.τ).loc Cert.InprojSampleIdeal.main_v27_2) = v2 c
          ∧ r.2.mem ((c.tc : Thread Cert.InprojSampleIdeal.nD Cert.InprojSampleIdeal.τ).loc Cert.InprojSampleIdeal.main_v27_3) = v3 c
          ∧ r.2.mem ((c.tc : Thread Cert.InprojSampleIdeal.nD Cert.InprojSampleIdeal.τ).loc Cert.InprojSampleIdeal.main_v27_4) = v4 c
          ∧ r.2.mem ((c.tc : Thread Cert.InprojSampleIdeal.nD Cert.InprojSampleIdeal.τ).loc Cert.InprojSampleIdeal.main_v27_5) = v5 c
          ∧ r.2.mem ((c.tc : Thread Cert.InprojSampleIdeal.nD Cert.InprojSampleIdeal.τ).loc Cert.InprojSampleIdeal.main_v27_6) = v6 c
          ∧ r.2.mem ((c.tc : Thread Cert.InprojSampleIdeal.nD Cert.InprojSampleIdeal.τ).loc Cert.InprojSampleIdeal.main_v27_7) = v7 c
          ∧ r.2.mem ((c.tc : Thread Cert.InprojSampleIdeal.nD Cert.InprojSampleIdeal.τ).loc Cert.InprojSampleIdeal.main_v27_8) = v8 c
          ∧ r.2.mem ((c.tc : Thread Cert.InprojSampleIdeal.nD Cert.InprojSampleIdeal.τ).loc Cert.InprojSampleIdeal.main_v27_9) = v9 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
          ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4)
          ∧ r.2.mem ((c.tc : Thread Cert.InprojSampleIdeal.nD Cert.InprojSampleIdeal.τ).loc Cert.InprojSampleIdeal.main_arg5) = m ((c.tc : Thread Cert.InprojSampleIdeal.nD Cert.InprojSampleIdeal.τ).loc Cert.InprojSampleIdeal.main_arg5))
      ∧ θ_run (Cert.InprojSampleRefIdeal.defs (F := Ideal)) (onTc (τ := Cert.InprojSampleRefIdeal.τ) (Cert.InprojSampleRefIdeal.main (F := Ideal))) ⟨m', fun _ => 0, g'⟩ (fun r => ∀ c : Dev Cert.InprojSampleRefIdeal.nD,
          r.2.mem ((c.tc : Thread Cert.InprojSampleRefIdeal.nD Cert.InprojSampleRefIdeal.τ).loc Cert.InprojSampleRefIdeal.main_v56) = v0 c
          ∧ r.2.mem ((c.tc : Thread Cert.InprojSampleRefIdeal.nD Cert.InprojSampleRefIdeal.τ).loc Cert.InprojSampleRefIdeal.main_v19) = v1 c
          ∧ r.2.mem ((c.tc : Thread Cert.InprojSampleRefIdeal.nD Cert.InprojSampleRefIdeal.τ).loc Cert.InprojSampleRefIdeal.main_v20) = v2 c
          ∧ r.2.mem ((c.tc : Thread Cert.InprojSampleRefIdeal.nD Cert.InprojSampleRefIdeal.τ).loc Cert.InprojSampleRefIdeal.main_v58) = v3 c
          ∧ r.2.mem ((c.tc : Thread Cert.InprojSampleRefIdeal.nD Cert.InprojSampleRefIdeal.τ).loc Cert.InprojSampleRefIdeal.main_v60) = v4 c
          ∧ r.2.mem ((c.tc : Thread Cert.InprojSampleRefIdeal.nD Cert.InprojSampleRefIdeal.τ).loc Cert.InprojSampleRefIdeal.main_v22) = v5 c
          ∧ r.2.mem ((c.tc : Thread Cert.InprojSampleRefIdeal.nD Cert.InprojSampleRefIdeal.τ).loc Cert.InprojSampleRefIdeal.main_v23) = v6 c
          ∧ r.2.mem ((c.tc : Thread Cert.InprojSampleRefIdeal.nD Cert.InprojSampleRefIdeal.τ).loc Cert.InprojSampleRefIdeal.main_v24) = v7 c
          ∧ r.2.mem ((c.tc : Thread Cert.InprojSampleRefIdeal.nD Cert.InprojSampleRefIdeal.τ).loc Cert.InprojSampleRefIdeal.main_v27) = v8 c
          ∧ r.2.mem ((c.tc : Thread Cert.InprojSampleRefIdeal.nD Cert.InprojSampleRefIdeal.τ).loc Cert.InprojSampleRefIdeal.main_v61) = v9 c
          ∧ r.2.mem ((c.tc : Thread Cert.InprojSampleRefIdeal.nD Cert.InprojSampleRefIdeal.τ).loc Cert.InprojSampleRefIdeal.main_arg0) = m' ((c.tc : Thread Cert.InprojSampleRefIdeal.nD Cert.InprojSampleRefIdeal.τ).loc Cert.InprojSampleRefIdeal.main_arg0)
          ∧ r.2.mem ((c.tc : Thread Cert.InprojSampleRefIdeal.nD Cert.InprojSampleRefIdeal.τ).loc Cert.InprojSampleRefIdeal.main_arg1) = m' ((c.tc : Thread Cert.InprojSampleRefIdeal.nD Cert.InprojSampleRefIdeal.τ).loc Cert.InprojSampleRefIdeal.main_arg1)
          ∧ r.2.mem ((c.tc : Thread Cert.InprojSampleRefIdeal.nD Cert.InprojSampleRefIdeal.τ).loc Cert.InprojSampleRefIdeal.main_arg2) = m' ((c.tc : Thread Cert.InprojSampleRefIdeal.nD Cert.InprojSampleRefIdeal.τ).loc Cert.InprojSampleRefIdeal.main_arg2)
          ∧ r.2.mem ((c.tc : Thread Cert.InprojSampleRefIdeal.nD Cert.InprojSampleRefIdeal.τ).loc Cert.InprojSampleRefIdeal.main_arg3) = m' ((c.tc : Thread Cert.InprojSampleRefIdeal.nD Cert.InprojSampleRefIdeal.τ).loc Cert.InprojSampleRefIdeal.main_arg3)
          ∧ r.2.mem ((c.tc : Thread Cert.InprojSampleRefIdeal.nD Cert.InprojSampleRefIdeal.τ).loc Cert.InprojSampleRefIdeal.main_arg4) = m' ((c.tc : Thread Cert.InprojSampleRefIdeal.nD Cert.InprojSampleRefIdeal.τ).loc Cert.InprojSampleRefIdeal.main_arg4)
          ∧ r.2.mem ((c.tc : Thread Cert.InprojSampleRefIdeal.nD Cert.InprojSampleRefIdeal.τ).loc Cert.InprojSampleRefIdeal.main_arg5) = m' ((c.tc : Thread Cert.InprojSampleRefIdeal.nD Cert.InprojSampleRefIdeal.τ).loc Cert.InprojSampleRefIdeal.main_arg5))

def preserves_FfnInner_FfnInnerIdeal : Prop :=
  True

def algebraic_FfnInnerIdeal_FfnInnerRefIdeal [hFfnInnerIdeal : Cert.FfnInnerIdeal.Facts] [hFfnInnerRefIdeal : Cert.FfnInnerRefIdeal.Facts] : Prop :=
  ∀ (m : (ℓ : Loc Cert.FfnInnerIdeal.nD Cert.FfnInnerIdeal.τ Cert.FfnInnerIdeal.sig) → Buf (Elt Ideal) ℓ) (g : Dev Cert.FfnInnerIdeal.nD → PrngReg)
    (m' : (ℓ : Loc Cert.FfnInnerRefIdeal.nD Cert.FfnInnerRefIdeal.τ Cert.FfnInnerRefIdeal.sig) → Buf (Elt Ideal) ℓ) (g' : Dev Cert.FfnInnerRefIdeal.nD → PrngReg), Pre_FfnInnerIdeal m →
    (∀ c : Dev Cert.FfnInnerIdeal.nD,
      m' ((c.tc : Thread Cert.FfnInnerRefIdeal.nD Cert.FfnInnerRefIdeal.τ).loc Cert.FfnInnerRefIdeal.main_arg0) = m ((c.tc : Thread Cert.FfnInnerIdeal.nD Cert.FfnInnerIdeal.τ).loc Cert.FfnInnerIdeal.main_arg0)
      ∧ m' ((c.tc : Thread Cert.FfnInnerRefIdeal.nD Cert.FfnInnerRefIdeal.τ).loc Cert.FfnInnerRefIdeal.main_arg1) = m ((c.tc : Thread Cert.FfnInnerIdeal.nD Cert.FfnInnerIdeal.τ).loc Cert.FfnInnerIdeal.main_arg1)
      ∧ m' ((c.tc : Thread Cert.FfnInnerRefIdeal.nD Cert.FfnInnerRefIdeal.τ).loc Cert.FfnInnerRefIdeal.main_arg2) = m ((c.tc : Thread Cert.FfnInnerIdeal.nD Cert.FfnInnerIdeal.τ).loc Cert.FfnInnerIdeal.main_arg2)
      ∧ m' ((c.tc : Thread Cert.FfnInnerRefIdeal.nD Cert.FfnInnerRefIdeal.τ).loc Cert.FfnInnerRefIdeal.main_arg3) = m ((c.tc : Thread Cert.FfnInnerIdeal.nD Cert.FfnInnerIdeal.τ).loc Cert.FfnInnerIdeal.main_arg3)
      ∧ m' ((c.tc : Thread Cert.FfnInnerRefIdeal.nD Cert.FfnInnerRefIdeal.τ).loc Cert.FfnInnerRefIdeal.main_arg4) = m ((c.tc : Thread Cert.FfnInnerIdeal.nD Cert.FfnInnerIdeal.τ).loc Cert.FfnInnerIdeal.main_arg4)
      ∧ m' ((c.tc : Thread Cert.FfnInnerRefIdeal.nD Cert.FfnInnerRefIdeal.τ).loc Cert.FfnInnerRefIdeal.main_arg5) = m ((c.tc : Thread Cert.FfnInnerIdeal.nD Cert.FfnInnerIdeal.τ).loc Cert.FfnInnerIdeal.main_arg5)) →
    ∃ (v0 : (c : Dev Cert.FfnInnerIdeal.nD) → Buf (Elt Ideal) ((c.tc : Thread Cert.FfnInnerIdeal.nD Cert.FfnInnerIdeal.τ).loc Cert.FfnInnerIdeal.main_v5)),
      θ_run (Cert.FfnInnerIdeal.defs (F := Ideal)) (onTc (τ := Cert.FfnInnerIdeal.τ) (Cert.FfnInnerIdeal.main (F := Ideal))) ⟨m, fun _ => 0, g⟩ (fun r => ∀ c : Dev Cert.FfnInnerIdeal.nD,
          r.2.mem ((c.tc : Thread Cert.FfnInnerIdeal.nD Cert.FfnInnerIdeal.τ).loc Cert.FfnInnerIdeal.main_v5) = v0 c
          ∧ r.2.mem ((c.tc : Thread Cert.FfnInnerIdeal.nD Cert.FfnInnerIdeal.τ).loc Cert.FfnInnerIdeal.main_arg0) = m ((c.tc : Thread Cert.FfnInnerIdeal.nD Cert.FfnInnerIdeal.τ).loc Cert.FfnInnerIdeal.main_arg0)
          ∧ r.2.mem ((c.tc : Thread Cert.FfnInnerIdeal.nD Cert.FfnInnerIdeal.τ).loc Cert.FfnInnerIdeal.main_arg1) = m ((c.tc : Thread Cert.FfnInnerIdeal.nD Cert.FfnInnerIdeal.τ).loc Cert.FfnInnerIdeal.main_arg1)
          ∧ r.2.mem ((c.tc : Thread Cert.FfnInnerIdeal.nD Cert.FfnInnerIdeal.τ).loc Cert.FfnInnerIdeal.main_arg2) = m ((c.tc : Thread Cert.FfnInnerIdeal.nD Cert.FfnInnerIdeal.τ).loc Cert.FfnInnerIdeal.main_arg2)
          ∧ r.2.mem ((c.tc : Thread Cert.FfnInnerIdeal.nD Cert.FfnInnerIdeal.τ).loc Cert.FfnInnerIdeal.main_arg3) = m ((c.tc : Thread Cert.FfnInnerIdeal.nD Cert.FfnInnerIdeal.τ).loc Cert.FfnInnerIdeal.main_arg3)
          ∧ r.2.mem ((c.tc : Thread Cert.FfnInnerIdeal.nD Cert.FfnInnerIdeal.τ).loc Cert.FfnInnerIdeal.main_arg4) = m ((c.tc : Thread Cert.FfnInnerIdeal.nD Cert.FfnInnerIdeal.τ).loc Cert.FfnInnerIdeal.main_arg4)
          ∧ r.2.mem ((c.tc : Thread Cert.FfnInnerIdeal.nD Cert.FfnInnerIdeal.τ).loc Cert.FfnInnerIdeal.main_arg5) = m ((c.tc : Thread Cert.FfnInnerIdeal.nD Cert.FfnInnerIdeal.τ).loc Cert.FfnInnerIdeal.main_arg5))
      ∧ θ_run (Cert.FfnInnerRefIdeal.defs (F := Ideal)) (onTc (τ := Cert.FfnInnerRefIdeal.τ) (Cert.FfnInnerRefIdeal.main (F := Ideal))) ⟨m', fun _ => 0, g'⟩ (fun r => ∀ c : Dev Cert.FfnInnerRefIdeal.nD,
          r.2.mem ((c.tc : Thread Cert.FfnInnerRefIdeal.nD Cert.FfnInnerRefIdeal.τ).loc Cert.FfnInnerRefIdeal.main_v28) = v0 c
          ∧ r.2.mem ((c.tc : Thread Cert.FfnInnerRefIdeal.nD Cert.FfnInnerRefIdeal.τ).loc Cert.FfnInnerRefIdeal.main_arg0) = m' ((c.tc : Thread Cert.FfnInnerRefIdeal.nD Cert.FfnInnerRefIdeal.τ).loc Cert.FfnInnerRefIdeal.main_arg0)
          ∧ r.2.mem ((c.tc : Thread Cert.FfnInnerRefIdeal.nD Cert.FfnInnerRefIdeal.τ).loc Cert.FfnInnerRefIdeal.main_arg1) = m' ((c.tc : Thread Cert.FfnInnerRefIdeal.nD Cert.FfnInnerRefIdeal.τ).loc Cert.FfnInnerRefIdeal.main_arg1)
          ∧ r.2.mem ((c.tc : Thread Cert.FfnInnerRefIdeal.nD Cert.FfnInnerRefIdeal.τ).loc Cert.FfnInnerRefIdeal.main_arg2) = m' ((c.tc : Thread Cert.FfnInnerRefIdeal.nD Cert.FfnInnerRefIdeal.τ).loc Cert.FfnInnerRefIdeal.main_arg2)
          ∧ r.2.mem ((c.tc : Thread Cert.FfnInnerRefIdeal.nD Cert.FfnInnerRefIdeal.τ).loc Cert.FfnInnerRefIdeal.main_arg3) = m' ((c.tc : Thread Cert.FfnInnerRefIdeal.nD Cert.FfnInnerRefIdeal.τ).loc Cert.FfnInnerRefIdeal.main_arg3)
          ∧ r.2.mem ((c.tc : Thread Cert.FfnInnerRefIdeal.nD Cert.FfnInnerRefIdeal.τ).loc Cert.FfnInnerRefIdeal.main_arg4) = m' ((c.tc : Thread Cert.FfnInnerRefIdeal.nD Cert.FfnInnerRefIdeal.τ).loc Cert.FfnInnerRefIdeal.main_arg4)
          ∧ r.2.mem ((c.tc : Thread Cert.FfnInnerRefIdeal.nD Cert.FfnInnerRefIdeal.τ).loc Cert.FfnInnerRefIdeal.main_arg5) = m' ((c.tc : Thread Cert.FfnInnerRefIdeal.nD Cert.FfnInnerRefIdeal.τ).loc Cert.FfnInnerRefIdeal.main_arg5))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)
      ∧ m' ((c.tc : Thread Cert.MergeSampleRefIdeal.nD Cert.MergeSampleRefIdeal.τ).loc Cert.MergeSampleRefIdeal.main_arg8) = m ((c.tc : Thread Cert.MergeSampleIdeal.nD Cert.MergeSampleIdeal.τ).loc Cert.MergeSampleIdeal.main_arg8)) →
    ∃ (v0 : (c : Dev Cert.MergeSampleIdeal.nD) → Buf (Elt Ideal) ((c.tc : Thread Cert.MergeSampleIdeal.nD Cert.MergeSampleIdeal.τ).loc Cert.MergeSampleIdeal.main_v4)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v4) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v33) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7)
          ∧ r.2.mem ((c.tc : Thread Cert.MergeSampleRefIdeal.nD Cert.MergeSampleRefIdeal.τ).loc Cert.MergeSampleRefIdeal.main_arg8) = m' ((c.tc : Thread Cert.MergeSampleRefIdeal.nD Cert.MergeSampleRefIdeal.τ).loc Cert.MergeSampleRefIdeal.main_arg8))

def preserves_FfnInnerSample_FfnInnerSampleIdeal : Prop :=
  True

def algebraic_FfnInnerSampleIdeal_FfnInnerSampleRefIdeal [hFfnInnerSampleIdeal : Cert.FfnInnerSampleIdeal.Facts] [hFfnInnerSampleRefIdeal : Cert.FfnInnerSampleRefIdeal.Facts] : Prop :=
  ∀ (m : (ℓ : Loc Cert.FfnInnerSampleIdeal.nD Cert.FfnInnerSampleIdeal.τ Cert.FfnInnerSampleIdeal.sig) → Buf (Elt Ideal) ℓ) (g : Dev Cert.FfnInnerSampleIdeal.nD → PrngReg)
    (m' : (ℓ : Loc Cert.FfnInnerSampleRefIdeal.nD Cert.FfnInnerSampleRefIdeal.τ Cert.FfnInnerSampleRefIdeal.sig) → Buf (Elt Ideal) ℓ) (g' : Dev Cert.FfnInnerSampleRefIdeal.nD → PrngReg), Pre_FfnInnerSampleIdeal m →
    (∀ c : Dev Cert.FfnInnerSampleIdeal.nD,
      m' ((c.tc : Thread Cert.FfnInnerSampleRefIdeal.nD Cert.FfnInnerSampleRefIdeal.τ).loc Cert.FfnInnerSampleRefIdeal.main_arg0) = m ((c.tc : Thread Cert.FfnInnerSampleIdeal.nD Cert.FfnInnerSampleIdeal.τ).loc Cert.FfnInnerSampleIdeal.main_arg0)
      ∧ m' ((c.tc : Thread Cert.FfnInnerSampleRefIdeal.nD Cert.FfnInnerSampleRefIdeal.τ).loc Cert.FfnInnerSampleRefIdeal.main_arg1) = m ((c.tc : Thread Cert.FfnInnerSampleIdeal.nD Cert.FfnInnerSampleIdeal.τ).loc Cert.FfnInnerSampleIdeal.main_arg1)
      ∧ m' ((c.tc : Thread Cert.FfnInnerSampleRefIdeal.nD Cert.FfnInnerSampleRefIdeal.τ).loc Cert.FfnInnerSampleRefIdeal.main_arg2) = m ((c.tc : Thread Cert.FfnInnerSampleIdeal.nD Cert.FfnInnerSampleIdeal.τ).loc Cert.FfnInnerSampleIdeal.main_arg2)
      ∧ m' ((c.tc : Thread Cert.FfnInnerSampleRefIdeal.nD Cert.FfnInnerSampleRefIdeal.τ).loc Cert.FfnInnerSampleRefIdeal.main_arg3) = m ((c.tc : Thread Cert.FfnInnerSampleIdeal.nD Cert.FfnInnerSampleIdeal.τ).loc Cert.FfnInnerSampleIdeal.main_arg3)
      ∧ m' ((c.tc : Thread Cert.FfnInnerSampleRefIdeal.nD Cert.FfnInnerSampleRefIdeal.τ).loc Cert.FfnInnerSampleRefIdeal.main_arg4) = m ((c.tc : Thread Cert.FfnInnerSampleIdeal.nD Cert.FfnInnerSampleIdeal.τ).loc Cert.FfnInnerSampleIdeal.main_arg4)
      ∧ m' ((c.tc : Thread Cert.FfnInnerSampleRefIdeal.nD Cert.FfnInnerSampleRefIdeal.τ).loc Cert.FfnInnerSampleRefIdeal.main_arg5) = m ((c.tc : Thread Cert.FfnInnerSampleIdeal.nD Cert.FfnInnerSampleIdeal.τ).loc Cert.FfnInnerSampleIdeal.main_arg5)) →
    ∃ (v0 : (c : Dev Cert.FfnInnerSampleIdeal.nD) → Buf (Elt Ideal) ((c.tc : Thread Cert.FfnInnerSampleIdeal.nD Cert.FfnInnerSampleIdeal.τ).loc Cert.FfnInnerSampleIdeal.main_v5)),
      θ_run (Cert.FfnInnerSampleIdeal.defs (F := Ideal)) (onTc (τ := Cert.FfnInnerSampleIdeal.τ) (Cert.FfnInnerSampleIdeal.main (F := Ideal))) ⟨m, fun _ => 0, g⟩ (fun r => ∀ c : Dev Cert.FfnInnerSampleIdeal.nD,
          r.2.mem ((c.tc : Thread Cert.FfnInnerSampleIdeal.nD Cert.FfnInnerSampleIdeal.τ).loc Cert.FfnInnerSampleIdeal.main_v5) = v0 c
          ∧ r.2.mem ((c.tc : Thread Cert.FfnInnerSampleIdeal.nD Cert.FfnInnerSampleIdeal.τ).loc Cert.FfnInnerSampleIdeal.main_arg0) = m ((c.tc : Thread Cert.FfnInnerSampleIdeal.nD Cert.FfnInnerSampleIdeal.τ).loc Cert.FfnInnerSampleIdeal.main_arg0)
          ∧ r.2.mem ((c.tc : Thread Cert.FfnInnerSampleIdeal.nD Cert.FfnInnerSampleIdeal.τ).loc Cert.FfnInnerSampleIdeal.main_arg1) = m ((c.tc : Thread Cert.FfnInnerSampleIdeal.nD Cert.FfnInnerSampleIdeal.τ).loc Cert.FfnInnerSampleIdeal.main_arg1)
          ∧ r.2.mem ((c.tc : Thread Cert.FfnInnerSampleIdeal.nD Cert.FfnInnerSampleIdeal.τ).loc Cert.FfnInnerSampleIdeal.main_arg2) = m ((c.tc : Thread Cert.FfnInnerSampleIdeal.nD Cert.FfnInnerSampleIdeal.τ).loc Cert.FfnInnerSampleIdeal.main_arg2)
          ∧ r.2.mem ((c.tc : Thread Cert.FfnInnerSampleIdeal.nD Cert.FfnInnerSampleIdeal.τ).loc Cert.FfnInnerSampleIdeal.main_arg3) = m ((c.tc : Thread Cert.FfnInnerSampleIdeal.nD Cert.FfnInnerSampleIdeal.τ).loc Cert.FfnInnerSampleIdeal.main_arg3)
          ∧ r.2.mem ((c.tc : Thread Cert.FfnInnerSampleIdeal.nD Cert.FfnInnerSampleIdeal.τ).loc Cert.FfnInnerSampleIdeal.main_arg4) = m ((c.tc : Thread Cert.FfnInnerSampleIdeal.nD Cert.FfnInnerSampleIdeal.τ).loc Cert.FfnInnerSampleIdeal.main_arg4)
          ∧ r.2.mem ((c.tc : Thread Cert.FfnInnerSampleIdeal.nD Cert.FfnInnerSampleIdeal.τ).loc Cert.FfnInnerSampleIdeal.main_arg5) = m ((c.tc : Thread Cert.FfnInnerSampleIdeal.nD Cert.FfnInnerSampleIdeal.τ).loc Cert.FfnInnerSampleIdeal.main_arg5))
      ∧ θ_run (Cert.FfnInnerSampleRefIdeal.defs (F := Ideal)) (onTc (τ := Cert.FfnInnerSampleRefIdeal.τ) (Cert.FfnInnerSampleRefIdeal.main (F := Ideal))) ⟨m', fun _ => 0, g'⟩ (fun r => ∀ c : Dev Cert.FfnInnerSampleRefIdeal.nD,
          r.2.mem ((c.tc : Thread Cert.FfnInnerSampleRefIdeal.nD Cert.FfnInnerSampleRefIdeal.τ).loc Cert.FfnInnerSampleRefIdeal.main_v28) = v0 c
          ∧ r.2.mem ((c.tc : Thread Cert.FfnInnerSampleRefIdeal.nD Cert.FfnInnerSampleRefIdeal.τ).loc Cert.FfnInnerSampleRefIdeal.main_arg0) = m' ((c.tc : Thread Cert.FfnInnerSampleRefIdeal.nD Cert.FfnInnerSampleRefIdeal.τ).loc Cert.FfnInnerSampleRefIdeal.main_arg0)
          ∧ r.2.mem ((c.tc : Thread Cert.FfnInnerSampleRefIdeal.nD Cert.FfnInnerSampleRefIdeal.τ).loc Cert.FfnInnerSampleRefIdeal.main_arg1) = m' ((c.tc : Thread Cert.FfnInnerSampleRefIdeal.nD Cert.FfnInnerSampleRefIdeal.τ).loc Cert.FfnInnerSampleRefIdeal.main_arg1)
          ∧ r.2.mem ((c.tc : Thread Cert.FfnInnerSampleRefIdeal.nD Cert.FfnInnerSampleRefIdeal.τ).loc Cert.FfnInnerSampleRefIdeal.main_arg2) = m' ((c.tc : Thread Cert.FfnInnerSampleRefIdeal.nD Cert.FfnInnerSampleRefIdeal.τ).loc Cert.FfnInnerSampleRefIdeal.main_arg2)
          ∧ r.2.mem ((c.tc : Thread Cert.FfnInnerSampleRefIdeal.nD Cert.FfnInnerSampleRefIdeal.τ).loc Cert.FfnInnerSampleRefIdeal.main_arg3) = m' ((c.tc : Thread Cert.FfnInnerSampleRefIdeal.nD Cert.FfnInnerSampleRefIdeal.τ).loc Cert.FfnInnerSampleRefIdeal.main_arg3)
          ∧ r.2.mem ((c.tc : Thread Cert.FfnInnerSampleRefIdeal.nD Cert.FfnInnerSampleRefIdeal.τ).loc Cert.FfnInnerSampleRefIdeal.main_arg4) = m' ((c.tc : Thread Cert.FfnInnerSampleRefIdeal.nD Cert.FfnInnerSampleRefIdeal.τ).loc Cert.FfnInnerSampleRefIdeal.main_arg4)
          ∧ r.2.mem ((c.tc : Thread Cert.FfnInnerSampleRefIdeal.nD Cert.FfnInnerSampleRefIdeal.τ).loc Cert.FfnInnerSampleRefIdeal.main_arg5) = m' ((c.tc : Thread Cert.FfnInnerSampleRefIdeal.nD Cert.FfnInnerSampleRefIdeal.τ).loc Cert.FfnInnerSampleRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hFfnSample : Cert.FfnSample.Facts) (hFfnSampleIdeal : Cert.FfnSampleIdeal.Facts) (hFfnSampleRefIdeal : Cert.FfnSampleRefIdeal.Facts) (hInprojSample : Cert.InprojSample.Facts) (hInprojSampleIdeal : Cert.InprojSampleIdeal.Facts) (hInprojSampleRefIdeal : Cert.InprojSampleRefIdeal.Facts) (hFfnInner : Cert.FfnInner.Facts) (hFfnInnerIdeal : Cert.FfnInnerIdeal.Facts) (hFfnInnerRefIdeal : Cert.FfnInnerRefIdeal.Facts) (hMergeSample : Cert.MergeSample.Facts) (hMergeSampleIdeal : Cert.MergeSampleIdeal.Facts) (hMergeSampleRefIdeal : Cert.MergeSampleRefIdeal.Facts) (hFfnInnerSample : Cert.FfnInnerSample.Facts) (hFfnInnerSampleIdeal : Cert.FfnInnerSampleIdeal.Facts) (hFfnInnerSampleRefIdeal : Cert.FfnInnerSampleRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_InprojSample (hInprojSample := hInprojSample)
    ∧ quiescent_InprojSampleIdeal (hInprojSampleIdeal := hInprojSampleIdeal)
    ∧ quiescent_InprojSampleRefIdeal (hInprojSampleRefIdeal := hInprojSampleRefIdeal)
    ∧ quiescent_FfnInner (hFfnInner := hFfnInner)
    ∧ quiescent_FfnInnerIdeal (hFfnInnerIdeal := hFfnInnerIdeal)
    ∧ quiescent_FfnInnerRefIdeal (hFfnInnerRefIdeal := hFfnInnerRefIdeal)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ quiescent_FfnInnerSample (hFfnInnerSample := hFfnInnerSample)
    ∧ quiescent_FfnInnerSampleIdeal (hFfnInnerSampleIdeal := hFfnInnerSampleIdeal)
    ∧ quiescent_FfnInnerSampleRefIdeal (hFfnInnerSampleRefIdeal := hFfnInnerSampleRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_InprojSample_InprojSampleIdeal
    ∧ algebraic_InprojSampleIdeal_InprojSampleRefIdeal (hInprojSampleIdeal := hInprojSampleIdeal) (hInprojSampleRefIdeal := hInprojSampleRefIdeal)
    ∧ preserves_FfnInner_FfnInnerIdeal
    ∧ algebraic_FfnInnerIdeal_FfnInnerRefIdeal (hFfnInnerIdeal := hFfnInnerIdeal) (hFfnInnerRefIdeal := hFfnInnerRefIdeal)
    ∧ preserves_MergeSample_MergeSampleIdeal
    ∧ algebraic_MergeSampleIdeal_MergeSampleRefIdeal (hMergeSampleIdeal := hMergeSampleIdeal) (hMergeSampleRefIdeal := hMergeSampleRefIdeal)
    ∧ preserves_FfnInnerSample_FfnInnerSampleIdeal
    ∧ algebraic_FfnInnerSampleIdeal_FfnInnerSampleRefIdeal (hFfnInnerSampleIdeal := hFfnInnerSampleIdeal) (hFfnInnerSampleRefIdeal := hFfnInnerSampleRefIdeal)
-- ==== Pre_finite.lean ====
abbrev S16384x1536 : Shape := ⟨2, ![16384, 1536]⟩
abbrev S8x512x2048 : Shape := ⟨3, ![8, 512, 2048]⟩
abbrev S16384x16 : Shape := ⟨2, ![16384, 16]⟩
abbrev S16384x1024 : Shape := ⟨2, ![16384, 1024]⟩
abbrev S16384x8 : Shape := ⟨2, ![16384, 8]⟩
abbrev S_ : Shape := ⟨0, ![]⟩

class Facts : Prop where
  slices_S16384x1536_S16384x1024_0_0 : S16384x1536.Slices ![0, 0] S16384x1024
  bitsLt_bf16_f32 : FTy.bits .bf16 < FTy.bits .f32
  slices_S16384x16_S16384x8_0_0 : S16384x16.Slices ![0, 0] S16384x8
  bcast_S_S16384x1024 : S_.BroadcastsInDim S16384x1024 (![] : Fin 0 → Fin S16384x1024.rank)
  bcast_S_S16384x8 : S_.BroadcastsInDim S16384x8 (![] : Fin 0 → Fin S16384x8.rank)

variable [Facts]

def fn {F : FTy → Type} [FloatOps F] (main_arg0 : FVec F S16384x1536 .bf16) (main_arg1 : FVec F S8x512x2048 .f32) (main_arg2 : FVec F S16384x16 .f32) : IVec S16384x1024 1 × IVec S16384x8 1 :=
  let main_v0 : FVec F S16384x1024 .bf16 := (extractStridedSlice S16384x1024 ![0, 0] · slices_S16384x1536_S16384x1024_0_0) main_arg0
  let main_v1 : FVec F S16384x1024 .f32 := (extf .f32 · bitsLt_bf16_f32) main_v0
  let main_v2 : FVec F S16384x8 .f32 := (extractStridedSlice S16384x8 ![0, 0] · slices_S16384x16_S16384x8_0_0) main_arg2
  let main_v3 : FVec F S16384x1024 .f32 := Host.absf main_v1
  let main_cst : FVec F S_ .f32 := constant S_ .f32 0x7F800000#32
  let main_v4 : FVec F S16384x1024 .f32 := broadcastInDim S16384x1024 ![] bcast_S_S16384x1024 main_cst
  let main_v5 : IVec S16384x1024 1 := cmpf .olt main_v3 main_v4
  let main_v6 : FVec F S16384x8 .f32 := Host.absf main_v2
  let main_cst_0 : FVec F S_ .f32 := constant S_ .f32 0x7F800000#32
  let main_v7 : FVec F S16384x8 .f32 := broadcastInDim S16384x8 ![] bcast_S_S16384x8 main_cst_0
  let main_v8 : IVec S16384x8 1 := cmpf .olt main_v6 main_v7
  (main_v5, main_v8)
-- ==== Kernel.lean ====
abbrev S16384x1536 : Shape := ⟨2, ![16384, 1536]⟩
abbrev S8x512x2048 : Shape := ⟨3, ![8, 512, 2048]⟩
abbrev S16384x16 : Shape := ⟨2, ![16384, 16]⟩
abbrev S1024 : Shape := ⟨1, ![1024]⟩
abbrev S512 : Shape := ⟨1, ![512]⟩
abbrev S1x1024 : Shape := ⟨2, ![1, 1024]⟩
abbrev S_ : Shape := ⟨0, ![]⟩
abbrev S512x1 : Shape := ⟨2, ![512, 1]⟩
abbrev S512x1024 : Shape := ⟨2, ![512, 1024]⟩
abbrev S48 : Shape := ⟨1, ![48]⟩
abbrev S48x1 : Shape := ⟨2, ![48, 1]⟩
abbrev S48x1024 : Shape := ⟨2, ![48, 1024]⟩
abbrev S16384x512 : Shape := ⟨2, ![16384, 512]⟩
abbrev S512x512 : Shape := ⟨2, ![512, 512]⟩
abbrev S2048x512 : Shape := ⟨2, ![2048, 512]⟩
abbrev S1x512x2048 : Shape := ⟨3, ![1, 512, 2048]⟩
abbrev S2048x16 : Shape := ⟨2, ![2048, 16]⟩
abbrev S2048x1024 : Shape := ⟨2, ![2048, 1024]⟩
abbrev S512x2048 : Shape := ⟨2, ![512, 2048]⟩
abbrev S8x1x512 : Shape := ⟨3, ![8, 1, 512]⟩
abbrev S1x16 : Shape := ⟨2, ![1, 16]⟩
abbrev S512x16 : Shape := ⟨2, ![512, 16]⟩
abbrev S512x1536 : Shape := ⟨2, ![512, 1536]⟩
abbrev S1536x16 : Shape := ⟨2, ![1536, 16]⟩
abbrev S512x48 : Shape := ⟨2, ![512, 48]⟩
abbrev S1x512x512 : Shape := ⟨3, ![1, 512, 512]⟩
abbrev S512x128 : Shape := ⟨2, ![512, 128]⟩
abbrev S1x1x512 : Shape := ⟨3, ![1, 1, 512]⟩
abbrev S1x512 : Shape := ⟨2, ![1, 512]⟩
abbrev S64x512 : Shape := ⟨2, ![64, 512]⟩

abbrev nBuf : Space → Nat
  | .hbm => 192
  | .vmem => 19
  | .smem => 0
  | _ => 0

abbrev hbmTy0_0 (i : Nat) : BufTy := match i % 128 with
  | 0 => ⟨S16384x1536, .bf16⟩
  | 1 => ⟨S8x512x2048, .f32⟩
  | 2 => ⟨S16384x16, .f32⟩
  | 3 => ⟨S1024, .i32⟩
  | 4 => ⟨S512, .i32⟩
  | 5 => ⟨S1x1024, .i32⟩
  | 6 => ⟨S_, .i32⟩
  | 7 => ⟨S_, .i32⟩
  | 8 => ⟨S512, .i32⟩
  | 9 => ⟨S512, .i32⟩
  | 10 => ⟨S512, .i32⟩
  | 11 => ⟨S_, .i32⟩
  | 12 => ⟨S512, .i32⟩
  | 13 => ⟨S512, .i1⟩
  | 14 => ⟨S512, .i32⟩
  | 15 => ⟨S512, .i32⟩
  | 16 => ⟨S_, .i32⟩
  | 17 => ⟨S512, .i32⟩
  | 18 => ⟨S512, .i1⟩
  | 19 => ⟨S512, .i1⟩
  | 20 => ⟨S_, .i32⟩
  | 21 => ⟨S512, .i32⟩
  | 22 => ⟨S512, .i32⟩
  | 23 => ⟨S512, .i32⟩
  | 24 => ⟨S_, .i32⟩
  | 25 => ⟨S512, .i32⟩
  | 26 => ⟨S512, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S512, .i32⟩
  | 34 => ⟨S512, .i32⟩
  | 35 => ⟨S_, .i32⟩
  | 36 => ⟨S512, .i32⟩
  | 37 => ⟨S512, .i1⟩
  | 38 => ⟨S_, .i32⟩
  | 39 => ⟨S512, .i32⟩
  | 40 => ⟨S512, .i1⟩
  | 41 => ⟨S_, .i32⟩
  | 42 => ⟨S_, .i1⟩
  | 43 => ⟨S512, .i1⟩
  | 44 => ⟨S512, .i1⟩
  | 45 => ⟨S512, .i1⟩
  | 46 => ⟨S512, .i32⟩
  | 47 => ⟨S512, .i32⟩
  | 48 => ⟨S512, .i32⟩
  | 49 => ⟨S512, .i32⟩
  | 50 => ⟨S512x1, .i32⟩
  | 51 => ⟨S512x1024, .i32⟩
  | 52 => ⟨S512x1024, .i32⟩
  | 53 => ⟨S512x1024, .i1⟩
  | 54 => ⟨S512x1024, .bf16⟩
  | 55 => ⟨S48, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S48, .i32⟩
  | 63 => ⟨S48, .i32⟩
  | 64 => ⟨S_, .i32⟩
  | 65 => ⟨S48, .i32⟩
  | 66 => ⟨S48, .i1⟩
  | 67 => ⟨S_, .i32⟩
  | 68 => ⟨S48, .i32⟩
  | 69 => ⟨S48, .i1⟩
  | 70 => ⟨S_, .i32⟩
  | 71 => ⟨S_, .i1⟩
  | 72 => ⟨S48, .i1⟩
  | 73 => ⟨S48, .i1⟩
  | 74 => ⟨S48, .i1⟩
  | 75 => ⟨S48, .i32⟩
  | 76 => ⟨S48, .i32⟩
  | 77 => ⟨S48, .i32⟩
  | 78 => ⟨S_, .i32⟩
  | 79 => ⟨S48, .i32⟩
  | 80 => ⟨S48, .i1⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S48, .i32⟩
  | 88 => ⟨S48, .i32⟩
  | 89 => ⟨S_, .i32⟩
  | 90 => ⟨S48, .i32⟩
  | 91 => ⟨S48, .i1⟩
  | 92 => ⟨S_, .i32⟩
  | 93 => ⟨S48, .i32⟩
  | 94 => ⟨S48, .i1⟩
  | 95 => ⟨S_, .i32⟩
  | 96 => ⟨S_, .i1⟩
  | 97 => ⟨S48, .i1⟩
  | 98 => ⟨S48, .i1⟩
  | 99 => ⟨S48, .i1⟩
  | 100 => ⟨S48, .i32⟩
  | 101 => ⟨S48, .i32⟩
  | 102 => ⟨S48, .i32⟩
  | 103 => ⟨S_, .i32⟩
  | 104 => ⟨S48, .i32⟩
  | 105 => ⟨S48, .i32⟩
  | 106 => ⟨S_, .i32⟩
  | 107 => ⟨S48, .i32⟩
  | 108 => ⟨S48, .i32⟩
  | 109 => ⟨S_, .i32⟩
  | 110 => ⟨S_, .i32⟩
  | 111 => ⟨S48, .i32⟩
  | 112 => ⟨S48, .i32⟩
  | 113 => ⟨S48, .i32⟩
  | 114 => ⟨S_, .i32⟩
  | 115 => ⟨S48, .i32⟩
  | 116 => ⟨S48, .i1⟩
  | 117 => ⟨S48, .i32⟩
  | 118 => ⟨S48, .i32⟩
  | 119 => ⟨S_, .i32⟩
  | 120 => ⟨S48, .i32⟩
  | 121 => ⟨S48, .i1⟩
  | 122 => ⟨S48, .i1⟩
  | 123 => ⟨S_, .i32⟩
  | 124 => ⟨S48, .i32⟩
  | 125 => ⟨S48, .i32⟩
  | 126 => ⟨S48, .i32⟩
  | 127 => ⟨S48, .i32⟩
  | _ => ⟨S16384x1536, .bf16⟩

abbrev hbmTy0_1 (i : Nat) : BufTy := match i % 128 with
  | 0 => ⟨S_, .i32⟩
  | 1 => ⟨S_, .i32⟩
  | 2 => ⟨S48, .i32⟩
  | 3 => ⟨S48, .i32⟩
  | 4 => ⟨S1x1024, .i32⟩
  | 5 => ⟨S48x1, .i32⟩
  | 6 => ⟨S48x1024, .i32⟩
  | 7 => ⟨S48x1024, .i32⟩
  | 8 => ⟨S48x1024, .i1⟩
  | 9 => ⟨S48x1024, .bf16⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S1024, .i32⟩
  | 17 => ⟨S1024, .i32⟩
  | 18 => ⟨S_, .i32⟩
  | 19 => ⟨S1024, .i32⟩
  | 20 => ⟨S1024, .i1⟩
  | 21 => ⟨S_, .i32⟩
  | 22 => ⟨S1024, .i32⟩
  | 23 => ⟨S1024, .i1⟩
  | 24 => ⟨S_, .i32⟩
  | 25 => ⟨S_, .i1⟩
  | 26 => ⟨S1024, .i1⟩
  | 27 => ⟨S1024, .i1⟩
  | 28 => ⟨S1024, .i1⟩
  | 29 => ⟨S1024, .i32⟩
  | 30 => ⟨S1024, .i32⟩
  | 31 => ⟨S1024, .i32⟩
  | 32 => ⟨S_, .i32⟩
  | 33 => ⟨S1024, .i32⟩
  | 34 => ⟨S1024, .i1⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S1024, .i32⟩
  | 42 => ⟨S1024, .i32⟩
  | 43 => ⟨S_, .i32⟩
  | 44 => ⟨S1024, .i32⟩
  | 45 => ⟨S1024, .i1⟩
  | 46 => ⟨S_, .i32⟩
  | 47 => ⟨S1024, .i32⟩
  | 48 => ⟨S1024, .i1⟩
  | 49 => ⟨S_, .i32⟩
  | 50 => ⟨S_, .i1⟩
  | 51 => ⟨S1024, .i1⟩
  | 52 => ⟨S1024, .i1⟩
  | 53 => ⟨S1024, .i1⟩
  | 54 => ⟨S1024, .i32⟩
  | 55 => ⟨S1024, .i32⟩
  | 56 => ⟨S1024, .i32⟩
  | 57 => ⟨S_, .i32⟩
  | 58 => ⟨S1024, .i32⟩
  | 59 => ⟨S1024, .i1⟩
  | 60 => ⟨S1024, .i1⟩
  | 61 => ⟨S1024, .f32⟩
  | 62 => ⟨S1x1024, .f32⟩
  | 63 => ⟨S16384x512, .bf16⟩
  | _ => ⟨S16384x1536, .bf16⟩

abbrev hbmTy (i : Nat) : BufTy := match i / 128 with
  | 0 => hbmTy0_0 i
  | 1 => hbmTy0_1 i
  | _ => ⟨S16384x1536, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x2048, .f32⟩
  | .local _ .vmem, ⟨5, _⟩ => ⟨S1x512x2048, .f32⟩
  | .local _ .vmem, ⟨6, _⟩ => ⟨S2048x16, .f32⟩
  | .local _ .vmem, ⟨7, _⟩ => ⟨S2048x16, .f32⟩
  | .local _ .vmem, ⟨8, _⟩ => ⟨S512x1024, .bf16⟩
  | .local _ .vmem, ⟨9, _⟩ => ⟨S48x1024, .bf16⟩
  | .local _ .vmem, ⟨10, _⟩ => ⟨S1x1024, .f32⟩
  | .local _ .vmem, ⟨11, _⟩ => ⟨S512x512, .bf16⟩
  | .local _ .vmem, ⟨12, _⟩ => ⟨S512x512, .bf16⟩
  | .local _ .vmem, ⟨13, _⟩ => ⟨S2048x1024, .bf16⟩
  | .local _ .vmem, ⟨14, _⟩ => ⟨S512x2048, .bf16⟩
  | .local _ .vmem, ⟨15, _⟩ => ⟨S512x1024, .bf16⟩
  | .local _ .vmem, ⟨16, _⟩ => ⟨S8x1x512, .f32⟩
  | .local _ .vmem, ⟨17, _⟩ => ⟨S8x1x512, .f32⟩
  | .local _ .vmem, ⟨18, _⟩ => ⟨S512x512, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_c_1 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_c_2 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v14 : Ref sig .tc := ⟨.hbm, 77, rfl⟩
abbrev main_c_3 : Ref sig .tc := ⟨.hbm, 78, rfl⟩
abbrev main_v15 : Ref sig .tc := ⟨.hbm, 79, rfl⟩
abbrev main_v16 : Ref sig .tc := ⟨.hbm, 80, rfl⟩
abbrev main_c_4 : Ref sig .tc := ⟨.hbm, 81, rfl⟩
abbrev main_call3_v0 : Ref sig .tc := ⟨.hbm, 82, rfl⟩
abbrev main_call3_c : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_c_1 : Ref sig .tc := ⟨.hbm, 89, rfl⟩
abbrev main_call3_v5 : Ref sig .tc := ⟨.hbm, 90, rfl⟩
abbrev main_call3_v6 : Ref sig .tc := ⟨.hbm, 91, rfl⟩
abbrev main_call3_c_2 : Ref sig .tc := ⟨.hbm, 92, rfl⟩
abbrev main_call3_v7 : Ref sig .tc := ⟨.hbm, 93, rfl⟩
abbrev main_call3_v8 : Ref sig .tc := ⟨.hbm, 94, rfl⟩
abbrev main_call3_c_3 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_v17 : Ref sig .tc := ⟨.hbm, 102, rfl⟩
abbrev main_c_5 : Ref sig .tc := ⟨.hbm, 103, rfl⟩
abbrev main_v18 : Ref sig .tc := ⟨.hbm, 104, rfl⟩
abbrev main_v19 : Ref sig .tc := ⟨.hbm, 105, rfl⟩
abbrev main_c_6 : Ref sig .tc := ⟨.hbm, 106, rfl⟩
abbrev main_v20 : Ref sig .tc := ⟨.hbm, 107, rfl⟩
abbrev main_v21 : Ref sig .tc := ⟨.hbm, 108, rfl⟩
abbrev main_c_7 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_c : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_c_0 : Ref sig .tc := ⟨.hbm, 123, rfl⟩
abbrev main_call4_v12 : Ref sig .tc := ⟨.hbm, 124, rfl⟩
abbrev main_call4_v13 : Ref sig .tc := ⟨.hbm, 125, rfl⟩
abbrev main_v22 : Ref sig .tc := ⟨.hbm, 126, rfl⟩
abbrev main_v23 : Ref sig .tc := ⟨.hbm, 127, rfl⟩
abbrev main_c_8 : Ref sig .tc := ⟨.hbm, 128, rfl⟩
abbrev main_call5_v0 : Ref sig .tc := ⟨.hbm, 129, rfl⟩
abbrev main_call5_v1 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_v29 : Ref sig .tc := ⟨.hbm, 136, rfl⟩
abbrev main_v30 : Ref sig .tc := ⟨.hbm, 137, rfl⟩
abbrev main_c_9 : Ref sig .tc := ⟨.hbm, 138, rfl⟩
abbrev main_call6_v0 : Ref sig .tc := ⟨.hbm, 139, rfl⟩
abbrev main_call6_c : Ref sig .tc := ⟨.hbm, 140, rfl⟩
abbrev main_call6_v1 : Ref sig .tc := ⟨.hbm, 141, rfl⟩
abbrev main_call6_c_0 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_call6_c_1 : Ref sig .tc := ⟨.hbm, 146, rfl⟩
abbrev main_call6_v5 : Ref sig .tc := ⟨.hbm, 147, rfl⟩
abbrev main_call6_v6 : Ref sig .tc := ⟨.hbm, 148, rfl⟩
abbrev main_call6_c_2 : Ref sig .tc := ⟨.hbm, 149, rfl⟩
abbrev main_call6_v7 : Ref sig .tc := ⟨.hbm, 150, rfl⟩
abbrev main_call6_v8 : Ref sig .tc := ⟨.hbm, 151, rfl⟩
abbrev main_call6_c_3 : Ref sig .tc := ⟨.hbm, 152, rfl⟩
abbrev main_call6_v9 : Ref sig .tc := ⟨.hbm, 153, rfl⟩
abbrev main_call6_v10 : Ref sig .tc := ⟨.hbm, 154, rfl⟩
abbrev main_call6_v11 : Ref sig .tc := ⟨.hbm, 155, rfl⟩
abbrev main_call6_v12 : Ref sig .tc := ⟨.hbm, 156, rfl⟩
abbrev main_call6_v13 : Ref sig .tc := ⟨.hbm, 157, rfl⟩
abbrev main_call6_v14 : Ref sig .tc := ⟨.hbm, 158, rfl⟩
abbrev main_v31 : Ref sig .tc := ⟨.hbm, 159, rfl⟩
abbrev main_c_10 : Ref sig .tc := ⟨.hbm, 160, rfl⟩
abbrev main_v32 : Ref sig .tc := ⟨.hbm, 161, rfl⟩
abbrev main_v33 : Ref sig .tc := ⟨.hbm, 162, rfl⟩
abbrev main_c_11 : Ref sig .tc := ⟨.hbm, 163, rfl⟩
abbrev main_call7_v0 : Ref sig .tc := ⟨.hbm, 164, rfl⟩
abbrev main_call7_c : Ref sig .tc := ⟨.hbm, 165, rfl⟩
abbrev main_call7_v1 : Ref sig .tc := ⟨.hbm, 166, rfl⟩
abbrev main_call7_c_0 : Ref sig .tc := ⟨.hbm, 167, rfl⟩
abbrev main_call7_v2 : Ref sig .tc := ⟨.hbm, 168, rfl⟩
abbrev main_call7_v3 : Ref sig .tc := ⟨.hbm, 169, rfl⟩
abbrev main_call7_v4 : Ref sig .tc := ⟨.hbm, 170, rfl⟩
abbrev main_call7_c_1 : Ref sig .tc := ⟨.hbm, 171, rfl⟩
abbrev main_call7_v5 : Ref sig .tc := ⟨.hbm, 172, rfl⟩
abbrev main_call7_v6 : Ref sig .tc := ⟨.hbm, 173, rfl⟩
abbrev main_call7_c_2 : Ref sig .tc := ⟨.hbm, 174, rfl⟩
abbrev main_call7_v7 : Ref sig .tc := ⟨.hbm, 175, rfl⟩
abbrev main_call7_v8 : Ref sig .tc := ⟨.hbm, 176, rfl⟩
abbrev main_call7_c_3 : Ref sig .tc := ⟨.hbm, 177, rfl⟩
abbrev main_call7_v9 : Ref sig .tc := ⟨.hbm, 178, rfl⟩
abbrev main_call7_v10 : Ref sig .tc := ⟨.hbm, 179, rfl⟩
abbrev main_call7_v11 : Ref sig .tc := ⟨.hbm, 180, rfl⟩
abbrev main_call7_v12 : Ref sig .tc := ⟨.hbm, 181, rfl⟩
abbrev main_call7_v13 : Ref sig .tc := ⟨.hbm, 182, rfl⟩
abbrev main_call7_v14 : Ref sig .tc := ⟨.hbm, 183, rfl⟩
abbrev main_v34 : Ref sig .tc := ⟨.hbm, 184, rfl⟩
abbrev main_c_12 : Ref sig .tc := ⟨.hbm, 185, rfl⟩
abbrev main_v35 : Ref sig .tc := ⟨.hbm, 186, rfl⟩
abbrev main_v36 : Ref sig .tc := ⟨.hbm, 187, rfl⟩
abbrev main_v37 : Ref sig .tc := ⟨.hbm, 188, rfl⟩
abbrev main_v38 : Ref sig .tc := ⟨.hbm, 189, rfl⟩
abbrev main_v39 : Ref sig .tc := ⟨.hbm, 190, rfl⟩
abbrev main_v40 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_22 : BitVec 32 := 1#32
  ⟨c0_i32_21, v33, c1_i32_22⟩
def k0_mult1 (i : grid0.Coords) (k0_t1 : Fin (k0_t1_loop i).trips) : BitVec 32 :=
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  v402
def k0_off1 (i : grid0.Coords) (k0_t1 : Fin (k0_t1_loop i).trips) : Fin 2 → Nat :=
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v404 : Index := Scalar.indexCast v403
  let c0_250 : Index := 0#32
  ![v404.toNat, 0]
def k0_off2 (i : grid0.Coords) (k0_t1 : Fin (k0_t1_loop i).trips) : Fin 2 → Nat :=
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v408 : Index := Scalar.indexCast v403
  let c128_254 : Index := 128#32
  ![v408.toNat, 128]
def k0_off3 (i : grid0.Coords) (k0_t1 : Fin (k0_t1_loop i).trips) : Fin 2 → Nat :=
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v412 : Index := Scalar.indexCast v403
  let c256_258 : Index := 256#32
  ![v412.toNat, 256]
def k0_off4 (i : grid0.Coords) (k0_t1 : Fin (k0_t1_loop i).trips) : Fin 2 → Nat :=
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v416 : Index := Scalar.indexCast v403
  let c384_262 : Index := 384#32
  ![v416.toNat, 384]
def k0_off5 (i : grid0.Coords) (k0_t1 : Fin (k0_t1_loop i).trips) : Fin 2 → Nat :=
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v420 : Index := Scalar.indexCast v403
  let c512_266 : Index := 512#32
  ![v420.toNat, 512]
def k0_off6 (i : grid0.Coords) (k0_t1 : Fin (k0_t1_loop i).trips) : Fin 2 → Nat :=
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v424 : Index := Scalar.indexCast v403
  let c640_270 : Index := 640#32
  ![v424.toNat, 640]
def k0_off7 (i : grid0.Coords) (k0_t1 : Fin (k0_t1_loop i).trips) : Fin 2 → Nat :=
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v428 : Index := Scalar.indexCast v403
  let c768_274 : Index := 768#32
  ![v428.toNat, 768]
def k0_off8 (i : grid0.Coords) (k0_t1 : Fin (k0_t1_loop i).trips) : Fin 2 → Nat :=
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v432 : Index := Scalar.indexCast v403
  let c896_278 : Index := 896#32
  ![v432.toNat, 896]
def k0_off9 (i : grid0.Coords) (k0_t1 : Fin (k0_t1_loop i).trips) : Fin 2 → Nat :=
  let c0_298 : Index := 0#32
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v461 : Index := Scalar.indexCast v403
  ![0, v461.toNat]
def k0_off10 (i : grid0.Coords) (k0_t1 : Fin (k0_t1_loop i).trips) : Fin 2 → Nat :=
  let c64_318 : Index := 64#32
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v494 : Index := Scalar.indexCast v403
  ![64, v494.toNat]
def k0_off11 (i : grid0.Coords) (k0_t1 : Fin (k0_t1_loop i).trips) : Fin 2 → Nat :=
  let c128_338 : Index := 128#32
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v527 : Index := Scalar.indexCast v403
  ![128, v527.toNat]
def k0_off12 (i : grid0.Coords) (k0_t1 : Fin (k0_t1_loop i).trips) : Fin 2 → Nat :=
  let c192_358 : Index := 192#32
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v560 : Index := Scalar.indexCast v403
  ![192, v560.toNat]
def k0_off13 (i : grid0.Coords) (k0_t1 : Fin (k0_t1_loop i).trips) : Fin 2 → Nat :=
  let c256_378 : Index := 256#32
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v593 : Index := Scalar.indexCast v403
  ![256, v593.toNat]
def k0_off14 (i : grid0.Coords) (k0_t1 : Fin (k0_t1_loop i).trips) : Fin 2 → Nat :=
  let c320_398 : Index := 320#32
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v626 : Index := Scalar.indexCast v403
  ![320, v626.toNat]
def k0_off15 (i : grid0.Coords) (k0_t1 : Fin (k0_t1_loop i).trips) : Fin 2 → Nat :=
  let c384_418 : Index := 384#32
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v659 : Index := Scalar.indexCast v403
  ![384, v659.toNat]
def k0_off16 (i : grid0.Coords) (k0_t1 : Fin (k0_t1_loop i).trips) : Fin 2 → Nat :=
  let c448_438 : Index := 448#32
  let c0_i32_21 : BitVec 32 := 0#32
  let c1_i32_22 : BitVec 32 := 1#32
  let arg16 : BitVec 32 := Scf.iv c0_i32_21 c1_i32_22 k0_t1
  let c512_i32_249 : BitVec 32 := 512#32
  let v402 : BitVec 32 := Scalar.muli arg16 c512_i32_249
  let v403 : BitVec 32 := v402
  let v692 : Index := Scalar.indexCast v403
  ![448, v692.toNat]
@[reducible] def k0_t2_loop (i : grid0.Coords) : Scf.Loop 32 :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let v30 : BitVec 32 := Scalar.addi c0_i32_21 v29
  let c1_i32_23 : BitVec 32 := 1#32
  ⟨v33, v30, c1_i32_23⟩
def k0_mult2 (i : grid0.Coords) (k0_t2 : Fin (k0_t2_loop i).trips) : BitVec 32 :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  v402
def k0_off17 (i : grid0.Coords) (k0_t2 : Fin (k0_t2_loop i).trips) : Fin 2 → Nat :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v404 : Index := Scalar.indexCast v403
  let c0_250 : Index := 0#32
  ![v404.toNat, 0]
def k0_off18 (i : grid0.Coords) (k0_t2 : Fin (k0_t2_loop i).trips) : Fin 2 → Nat :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v408 : Index := Scalar.indexCast v403
  let c128_254 : Index := 128#32
  ![v408.toNat, 128]
def k0_off19 (i : grid0.Coords) (k0_t2 : Fin (k0_t2_loop i).trips) : Fin 2 → Nat :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v412 : Index := Scalar.indexCast v403
  let c256_258 : Index := 256#32
  ![v412.toNat, 256]
def k0_off20 (i : grid0.Coords) (k0_t2 : Fin (k0_t2_loop i).trips) : Fin 2 → Nat :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v416 : Index := Scalar.indexCast v403
  let c384_262 : Index := 384#32
  ![v416.toNat, 384]
def k0_off21 (i : grid0.Coords) (k0_t2 : Fin (k0_t2_loop i).trips) : Fin 2 → Nat :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v420 : Index := Scalar.indexCast v403
  let c512_266 : Index := 512#32
  ![v420.toNat, 512]
def k0_off22 (i : grid0.Coords) (k0_t2 : Fin (k0_t2_loop i).trips) : Fin 2 → Nat :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v424 : Index := Scalar.indexCast v403
  let c640_270 : Index := 640#32
  ![v424.toNat, 640]
def k0_off23 (i : grid0.Coords) (k0_t2 : Fin (k0_t2_loop i).trips) : Fin 2 → Nat :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v428 : Index := Scalar.indexCast v403
  let c768_274 : Index := 768#32
  ![v428.toNat, 768]
def k0_off24 (i : grid0.Coords) (k0_t2 : Fin (k0_t2_loop i).trips) : Fin 2 → Nat :=
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v432 : Index := Scalar.indexCast v403
  let c896_278 : Index := 896#32
  ![v432.toNat, 896]
def k0_off25 (i : grid0.Coords) (k0_t2 : Fin (k0_t2_loop i).trips) : Fin 2 → Nat :=
  let c0_298 : Index := 0#32
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v461 : Index := Scalar.indexCast v403
  ![0, v461.toNat]
def k0_off26 (i : grid0.Coords) (k0_t2 : Fin (k0_t2_loop i).trips) : Fin 2 → Nat :=
  let c64_318 : Index := 64#32
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v494 : Index := Scalar.indexCast v403
  ![64, v494.toNat]
def k0_off27 (i : grid0.Coords) (k0_t2 : Fin (k0_t2_loop i).trips) : Fin 2 → Nat :=
  let c128_338 : Index := 128#32
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v527 : Index := Scalar.indexCast v403
  ![128, v527.toNat]
def k0_off28 (i : grid0.Coords) (k0_t2 : Fin (k0_t2_loop i).trips) : Fin 2 → Nat :=
  let c192_358 : Index := 192#32
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v560 : Index := Scalar.indexCast v403
  ![192, v560.toNat]
def k0_off29 (i : grid0.Coords) (k0_t2 : Fin (k0_t2_loop i).trips) : Fin 2 → Nat :=
  let c256_378 : Index := 256#32
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v593 : Index := Scalar.indexCast v403
  ![256, v593.toNat]
def k0_off30 (i : grid0.Coords) (k0_t2 : Fin (k0_t2_loop i).trips) : Fin 2 → Nat :=
  let c320_398 : Index := 320#32
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v626 : Index := Scalar.indexCast v403
  ![320, v626.toNat]
def k0_off31 (i : grid0.Coords) (k0_t2 : Fin (k0_t2_loop i).trips) : Fin 2 → Nat :=
  let c384_418 : Index := 384#32
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v659 : Index := Scalar.indexCast v403
  ![384, v659.toNat]
def k0_off32 (i : grid0.Coords) (k0_t2 : Fin (k0_t2_loop i).trips) : Fin 2 → Nat :=
  let c448_438 : Index := 448#32
  let c0_i32_21 : BitVec 32 := 0#32
  let arg1 : BitVec 32 := BitVec.ofNat 32 (i 1).val
  let v29 : BitVec 32 := Scalar.subi arg1 c0_i32_21
  let c1_i32 : BitVec 32 := 1#32
  let v31 : BitVec 32 := Scalar.divsi v29 c1_i32
  let v32 : BitVec 32 := Scalar.muli v31 c1_i32
  let v33 : BitVec 32 := Scalar.addi c0_i32_21 v32
  let c1_i32_23 : BitVec 32 := 1#32
  let arg16 : BitVec 32 := Scf.iv v33 c1_i32_23 k0_t2
  let c512_i32_249 : BitVec 32 := 512#32
  let v402 : BitVec 32 := Scalar.muli arg16 c512_i32_249
  let v403 : BitVec 32 := v402
  let v692 : Index := Scalar.indexCast v403
  ![448, v692.toNat]
def k0_mult3 (i : grid0.Coords) : BitVec 32 :=
  let arg1 : BitVec 32 := BitVec.ofNat 32 (i 1).val
  let c512_i32 : BitVec 32 := 512#32
  let v34 : BitVec 32 := Scalar.muli arg1 c512_i32
  v34
def k0_off33 (i : grid0.Coords) : Fin 2 → Nat :=
  let arg1 : BitVec 32 := BitVec.ofNat 32 (i 1).val
  let c512_i32 : BitVec 32 := 512#32
  let v34 : BitVec 32 := Scalar.muli arg1 c512_i32
  let v35 : BitVec 32 := v34
  let v39 : Index := Scalar.indexCast v35
  let c0_24 : Index := 0#32
  ![v39.toNat, 0]
def k0_off34 (i : grid0.Coords) : Fin 2 → Nat :=
  let arg1 : BitVec 32 := BitVec.ofNat 32 (i 1).val
  let c512_i32 : BitVec 32 := 512#32
  let v34 : BitVec 32 := Scalar.muli arg1 c512_i32
  let v35 : BitVec 32 := v34
  let v43 : Index := Scalar.indexCast v35
  let c128 : Index := 128#32
  ![v43.toNat, 128]
def k0_off35 (i : grid0.Coords) : Fin 2 → Nat :=
  let arg1 : BitVec 32 := BitVec.ofNat 32 (i 1).val
  let c512_i32 : BitVec 32 := 512#32
  let v34 : BitVec 32 := Scalar.muli arg1 c512_i32
  let v35 : BitVec 32 := v34
  let v47 : Index := Scalar.indexCast v35
  let c256 : Index := 256#32
  ![v47.toNat, 256]
def k0_off36 (i : grid0.Coords) : Fin 2 → Nat :=
  let arg1 : BitVec 32 := BitVec.ofNat 32 (i 1).val
  let c512_i32 : BitVec 32 := 512#32
  let v34 : BitVec 32 := Scalar.muli arg1 c512_i32
  let v35 : BitVec 32 := v34
  let v51 : Index := Scalar.indexCast v35
  let c384 : Index := 384#32
  ![v51.toNat, 384]
def k0_off37 (i : grid0.Coords) : Fin 2 → Nat :=
  let arg1 : BitVec 32 := BitVec.ofNat 32 (i 1).val
  let c512_i32 : BitVec 32 := 512#32
  let v34 : BitVec 32 := Scalar.muli arg1 c512_i32
  let v35 : BitVec 32 := v34
  let v55 : Index := Scalar.indexCast v35
  let c512 : Index := 512#32
  ![v55.toNat, 512]
def k0_off38 (i : grid0.Coords) : Fin 2 → Nat :=
  let arg1 : BitVec 32 := BitVec.ofNat 32 (i 1).val
  let c512_i32 : BitVec 32 := 512#32
  let v34 : BitVec 32 := Scalar.muli arg1 c512_i32
  let v35 : BitVec 32 := v34
  let v59 : Index := Scalar.indexCast v35
  let c640 : Index := 640#32
  ![v59.toNat, 640]
def k0_off39 (i : grid0.Coords) : Fin 2 → Nat :=
  let arg1 : BitVec 32 := BitVec.ofNat 32 (i 1).val
  let c512_i32 : BitVec 32 := 512#32
  let v34 : BitVec 32 := Scalar.muli arg1 c512_i32
  let v35 : BitVec 32 := v34
  let v63 : Index := Scalar.indexCast v35
  let c768 : Index := 768#32
  ![v63.toNat, 768]
def k0_off40 (i : grid0.Coords) : Fin 2 → Nat :=
  let arg1 : BitVec 32 := BitVec.ofNat 32 (i 1).val
  let c512_i32 : BitVec 32 := 512#32
  let v34 : BitVec 32 := Scalar.muli arg1 c512_i32
  let v35 : BitVec 32 := v34
  let v67 : Index := Scalar.indexCast v35
  let c896 : Index := 896#32
  ![v67.toNat, 896]
def k0_off41 (i : grid0.Coords) : Fin 2 → Nat :=
  let c0_66 : Index := 0#32
  let arg1 : BitVec 32 := BitVec.ofNat 32 (i 1).val
  let c512_i32 : BitVec 32 := 512#32
  let v34 : BitVec 32 := Scalar.muli arg1 c512_i32
  let v35 : BitVec 32 := v34
  let v98 : Index := Scalar.indexCast v35
  ![0, v98.toNat]
def k0_off42 (i : grid0.Coords) : Fin 2 → Nat :=
  let c64_85 : Index := 64#32
  let arg1 : BitVec 32 := BitVec.ofNat 32 (i 1).val
  let c512_i32 : BitVec 32 := 512#32
  let v34 : BitVec 32 := Scalar.muli arg1 c512_i32
  let v35 : BitVec 32 := v34
  let v133 : Index := Scalar.indexCast v35
  ![64, v133.toNat]
def k0_off43 (i : grid0.Coords) : Fin 2 → Nat :=
  let c128_105 : Index := 128#32
  let arg1 : BitVec 32 := BitVec.ofNat 32 (i 1).val
  let c512_i32 : BitVec 32 := 512#32
  let v34 : BitVec 32 := Scalar.muli arg1 c512_i32
  let v35 : BitVec 32 := v34
  let v168 : Index := Scalar.indexCast v35
  ![128, v168.toNat]
def k0_off44 (i : grid0.Coords) : Fin 2 → Nat :=
  let c192_124 : Index := 192#32
  let arg1 : BitVec 32 := BitVec.ofNat 32 (i 1).val
  let c512_i32 : BitVec 32 := 512#32
  let v34 : BitVec 32 := Scalar.muli arg1 c512_i32
  let v35 : BitVec 32 := v34
  let v203 : Index := Scalar.indexCast v35
  ![192, v203.toNat]
def k0_off45 (i : grid0.Coords) : Fin 2 → Nat :=
  let c256_144 : Index := 256#32
  let arg1 : BitVec 32 := BitVec.ofNat 32 (i 1).val
  let c512_i32 : BitVec 32 := 512#32
  let v34 : BitVec 32 := Scalar.muli arg1 c512_i32
  let v35 : BitVec 32 := v34
  let v238 : Index := Scalar.indexCast v35
  ![256, v238.toNat]
def k0_off46 (i : grid0.Coords) : Fin 2 → Nat :=
  let c320_163 : Index := 320#32
  let arg1 : BitVec 32 := BitVec.ofNat 32 (i 1).val
  let c512_i32 : BitVec 32 := 512#32
  let v34 : BitVec 32 := Scalar.muli arg1 c512_i32
  let v35 : BitVec 32 := v34
  let v273 : Index := Scalar.indexCast v35
  ![320, v273.toNat]
def k0_off47 (i : grid0.Coords) : Fin 2 → Nat :=
  let c384_183 : Index := 384#32
  let arg1 : BitVec 32 := BitVec.ofNat 32 (i 1).val
  let c512_i32 : BitVec 32 := 512#32
  let v34 : BitVec 32 := Scalar.muli arg1 c512_i32
  let v35 : BitVec 32 := v34
  let v308 : Index := Scalar.indexCast v35
  ![384, v308.toNat]
def k0_off48 (i : grid0.Coords) : Fin 2 → Nat :=
  let c448_202 : Index := 448#32
  let arg1 : BitVec 32 := BitVec.ofNat 32 (i 1).val
  let c512_i32 : BitVec 32 := 512#32
  let v34 : BitVec 32 := Scalar.muli arg1 c512_i32
  let v35 : BitVec 32 := v34
  let v343 : Index := Scalar.indexCast v35
  ![448, v343.toNat]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S48x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x1536 : Shape := ⟨2, ![16384, 1536]⟩
abbrev S8x512x2048 : Shape := ⟨3, ![8, 512, 2048]⟩
abbrev S16384x16 : Shape := ⟨2, ![16384, 16]⟩
abbrev S16384x512 : Shape := ⟨2, ![16384, 512]⟩
abbrev S8x2048x8x64 : Shape := ⟨4, ![8, 2048, 8, 64]⟩
abbrev S8x8x64x2048 : Shape := ⟨4, ![8, 8, 64, 2048]⟩
abbrev S16384x8 : Shape := ⟨2, ![16384, 8]⟩
abbrev S8x2048x8 : Shape := ⟨3, ![8, 2048, 8]⟩
abbrev S_ : Shape := ⟨0, ![]⟩
abbrev S8x8x2048 : Shape := ⟨3, ![8, 8, 2048]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S8x512x2048, .f32⟩
  | .hbm, ⟨2, _⟩ => ⟨S16384x16, .f32⟩
  | .hbm, ⟨3, _⟩ => ⟨S16384x512, .bf16⟩
  | .hbm, ⟨4, _⟩ => ⟨S16384x512, .f32⟩
  | .hbm, ⟨5, _⟩ => ⟨S8x2048x8x64, .f32⟩
  | .hbm, ⟨6, _⟩ => ⟨S16384x512, .bf16⟩
  | .hbm, ⟨7, _⟩ => ⟨S16384x512, .f32⟩
  | .hbm, ⟨8, _⟩ => ⟨S8x2048x8x64, .f32⟩
  | .hbm, ⟨9, _⟩ => ⟨S8x8x64x2048, .f32⟩
  | .hbm, ⟨10, _⟩ => ⟨S8x2048x8x64, .f32⟩
  | .hbm, ⟨11, _⟩ => ⟨S16384x8, .f32⟩
  | .hbm, ⟨12, _⟩ => ⟨S8x2048x8, .f32⟩
  | .hbm, ⟨13, _⟩ => ⟨S_, .f32⟩
  | .hbm, ⟨14, _⟩ => ⟨S_, .f32⟩
  | .hbm, ⟨15, _⟩ => ⟨S8x2048x8, .f32⟩
  | .hbm, ⟨16, _⟩ => ⟨S8x8x2048, .f32⟩
  | .hbm, ⟨17, _⟩ => ⟨S8x8x2048x2048, .f32⟩
  | .hbm, ⟨18, _⟩ => ⟨S8x8x2048x1, .f32⟩
  | .hbm, ⟨19, _⟩ => ⟨S8x8x2048x2048, .f32⟩
  | .hbm, ⟨20, _⟩ => ⟨S8x8x2048x2048, .f32⟩
  | .hbm, ⟨21, _⟩ => ⟨S8x8x1x2048, .f32⟩
  | .hbm, ⟨22, _⟩ => ⟨S8x8x2048x2048, .f32⟩
  | .hbm, ⟨23, _⟩ => ⟨S8x8x2048x2048, .f32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S8x8x2048x2048, .i1⟩
  | .hbm, ⟨33, _⟩ => ⟨S8x8x2048x2048, .f32⟩
  | .hbm, ⟨34, _⟩ => ⟨S8x8x2048x2048, .f32⟩
  | .hbm, ⟨35, _⟩ => ⟨S_, .f32⟩
  | .hbm, ⟨36, _⟩ => ⟨S8x8x2048, .f32⟩
  | .hbm, ⟨37, _⟩ => ⟨S_, .f32⟩
  | .hbm, ⟨38, _⟩ => ⟨S8x8x2048, .f32⟩
  | .hbm, ⟨39, _⟩ => ⟨S8x8x2048, .f32⟩
  | .hbm, ⟨40, _⟩ => ⟨S8x8x2048x1, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S8x8x2048, .f32⟩
  | .hbm, ⟨46, _⟩ => ⟨S8x8x2048x1, .f32⟩
  | .hbm, ⟨47, _⟩ => ⟨S8x8x2048x2048, .f32⟩
  | .hbm, ⟨48, _⟩ => ⟨S8x8x2048x2048, .f32⟩
  | .hbm, ⟨49, _⟩ => ⟨S8x8x64x2048, .f32⟩
  | .hbm, ⟨50, _⟩ => ⟨S8x2048x8x64, .f32⟩
  | .hbm, ⟨51, _⟩ => ⟨S16384x512, .f32⟩
  | .hbm, ⟨52, _⟩ => ⟨S16384x512, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_call0_cst : Ref sig .tc := ⟨.hbm, 13, rfl⟩
abbrev main_call0_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Ffn.lean ====
abbrev S16384x1024 : Shape := ⟨2, ![16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S4x1x1024, .f32⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x2816, .f32⟩
  | .hbm, ⟨25, _⟩ => ⟨S1024x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S1x1024x2816, .f32⟩
  | .hbm, ⟨37, _⟩ => ⟨S1024x2816, .f32⟩
  | .hbm, ⟨38, _⟩ => ⟨S16384x2816, .f32⟩
  | .hbm, ⟨39, _⟩ => ⟨S16384x2816, .f32⟩
  | .hbm, ⟨40, _⟩ => ⟨S1x2816x1024, .f32⟩
  | .hbm, ⟨41, _⟩ => ⟨S2816x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x3072 : Shape := ⟨2, ![16384, 3072]⟩
abbrev S4x512x1024 : Shape := ⟨3, ![4, 512, 1024]⟩
abbrev S4x1024x1024 : Shape := ⟨3, ![4, 1024, 1024]⟩
abbrev S512x1024 : Shape := ⟨2, ![512, 1024]⟩
abbrev S512x512 : Shape := ⟨2, ![512, 512]⟩
abbrev S512x3072 : Shape := ⟨2, ![512, 3072]⟩
abbrev S1x512x1024 : Shape := ⟨3, ![1, 512, 1024]⟩
abbrev S1x1024x1024 : Shape := ⟨3, ![1, 1024, 1024]⟩
abbrev S1024x1024 : Shape := ⟨2, ![1024, 1024]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x1024x1024, .f32⟩
  | .hbm, ⟨9, _⟩ => ⟨S4x512x1024, .bf16⟩
  | .hbm, ⟨10, _⟩ => ⟨S4x512x1024, .bf16⟩
  | .hbm, ⟨11, _⟩ => ⟨S4x512x1024, .bf16⟩
  | .hbm, ⟨12, _⟩ => ⟨S4x1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .f32⟩
  | .local _ .vmem, ⟨9, _⟩ => ⟨S512x3072, .f32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1024x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S16384x1024 : Shape := ⟨2, ![16384, 1024]⟩
abbrev S16384x512 : Shape := ⟨2, ![16384, 512]⟩
abbrev S16384x3072 : Shape := ⟨2, ![16384, 3072]⟩
abbrev S4x512x1024 : Shape := ⟨3, ![4, 512, 1024]⟩
abbrev S4x1024x1024 : Shape := ⟨3, ![4, 1024, 1024]⟩
abbrev S_ : Shape := ⟨0, ![]⟩
abbrev S16384x3x1024 : Shape := ⟨3, ![16384, 3, 1024]⟩
abbrev S16384x1x1024 : Shape := ⟨3, ![16384, 1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x1024x1024, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x3072, .f32⟩
  | .hbm, ⟨13, _⟩ => ⟨S16384x3072, .f32⟩
  | .hbm, ⟨14, _⟩ => ⟨S_, .f32⟩
  | .hbm, ⟨15, _⟩ => ⟨S16384x3072, .f32⟩
  | .hbm, ⟨16, _⟩ => ⟨S16384x3072, .f32⟩
  | .hbm, ⟨17, _⟩ => ⟨S_, .f32⟩
  | .hbm, ⟨18, _⟩ => ⟨S16384x3072, .f32⟩
  | .hbm, ⟨19, _⟩ => ⟨S16384x3072, .f32⟩
  | .hbm, ⟨20, _⟩ => ⟨S16384x3x1024, .f32⟩
  | .hbm, ⟨21, _⟩ => ⟨S16384x1x1024, .f32⟩
  | .hbm, ⟨22, _⟩ => ⟨S16384x1024, .f32⟩
  | .hbm, ⟨23, _⟩ => ⟨S1x512x1024, .f32⟩
  | .hbm, ⟨24, _⟩ => ⟨S512x1024, .f32⟩
  | .hbm, ⟨25, _⟩ => ⟨S16384x1024, .f32⟩
  | .hbm, ⟨26, _⟩ => ⟨S16384x1024, .f32⟩
  | .hbm, ⟨27, _⟩ => ⟨S16384x1x1024, .f32⟩
  | .hbm, ⟨28, _⟩ => ⟨S16384x1024, .f32⟩
  | .hbm, ⟨29, _⟩ => ⟨S1x512x1024, .f32⟩
  | .hbm, ⟨30, _⟩ => ⟨S512x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1x1024, .f32⟩
  | .hbm, ⟨35, _⟩ => ⟨S16384x1024, .f32⟩
  | .hbm, ⟨36, _⟩ => ⟨S1x512x1024, .f32⟩
  | .hbm, ⟨37, _⟩ => ⟨S512x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S1x1024x1024, .f32⟩
  | .hbm, ⟨42, _⟩ => ⟨S1024x1024, .f32⟩
  | .hbm, ⟨43, _⟩ => ⟨S16384x1024, .f32⟩
  | .hbm, ⟨44, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Inproj.lean ====
abbrev S16384x1024 : Shape := ⟨2, ![16384, 1024]⟩
abbrev S4x1024 : Shape := ⟨2, ![4, 1024]⟩
abbrev S4x1024x8464 : Shape := ⟨3, ![4, 1024, 8464]⟩
abbrev S4x8 : Shape := ⟨2, ![4, 8]⟩
abbrev S4x4 : Shape := ⟨2, ![4, 4]⟩
abbrev S4x1024x8 : Shape := ⟨3, ![4, 1024, 8]⟩
abbrev S4x1024x16 : Shape := ⟨3, ![4, 1024, 16]⟩
abbrev S_ : Shape := ⟨0, ![]⟩
abbrev S4x16 : Shape := ⟨2, ![4, 16]⟩
abbrev S4x1024x512 : Shape := ⟨3, ![4, 1024, 512]⟩
abbrev S4x1024x1024 : Shape := ⟨3, ![4, 1024, 1024]⟩
abbrev S4x1024x1536 : Shape := ⟨3, ![4, 1024, 1536]⟩
abbrev S4x1024x1792 : Shape := ⟨3, ![4, 1024, 1792]⟩
abbrev S4x1024x2048 : Shape := ⟨3, ![4, 1024, 2048]⟩
abbrev S4x1024x3072 : Shape := ⟨3, ![4, 1024, 3072]⟩
abbrev S4x1x16 : Shape := ⟨3, ![4, 1, 16]⟩
abbrev S4x2x16 : Shape := ⟨3, ![4, 2, 16]⟩
abbrev S4x1x1024 : Shape := ⟨3, ![4, 1, 1024]⟩
abbrev S16384x1536 : Shape := ⟨2, ![16384, 1536]⟩
abbrev S16384x512 : Shape := ⟨2, ![16384, 512]⟩
abbrev S8x512x2048 : Shape := ⟨3, ![8, 512, 2048]⟩
abbrev S16384x1792 : Shape := ⟨2, ![16384, 1792]⟩
abbrev S16384x3072 : Shape := ⟨2, ![16384, 3072]⟩
abbrev S16384x16 : Shape := ⟨2, ![16384, 16]⟩
abbrev S256x1024 : Shape := ⟨2, ![256, 1024]⟩
abbrev S1x1x1024 : Shape := ⟨3, ![1, 1, 1024]⟩
abbrev S1x1024x1536 : Shape := ⟨3, ![1, 1024, 1536]⟩
abbrev S1x1024x1792 : Shape := ⟨3, ![1, 1024, 1792]⟩
abbrev S1x1024x2048 : Shape := ⟨3, ![1, 1024, 2048]⟩
abbrev S1x1024x3072 : Shape := ⟨3, ![1, 1024, 3072]⟩
abbrev S1x1024x16 : Shape := ⟨3, ![1, 1024, 16]⟩
abbrev S1x1024x1024 : Shape := ⟨3, ![1, 1024, 1024]⟩
abbrev S1x2x16 : Shape := ⟨3, ![1, 2, 16]⟩
abbrev S256x1536 : Shape := ⟨2, ![256, 1536]⟩
abbrev S256x512 : Shape := ⟨2, ![256, 512]⟩
abbrev S1x512x256 : Shape := ⟨3, ![1, 512, 256]⟩
abbrev S256x1792 : Shape := ⟨2, ![256, 1792]⟩
abbrev S256x3072 : Shape := ⟨2, ![256, 3072]⟩
abbrev S256x16 : Shape := ⟨2, ![256, 16]⟩
abbrev S1x1024 : Shape := ⟨2, ![1, 1024]⟩
abbrev S256 : Shape := ⟨1, ![256]⟩
abbrev S256x1 : Shape := ⟨2, ![256, 1]⟩
abbrev S1024x1536 : Shape := ⟨2, ![1024, 1536]⟩
abbrev S1024x1024 : Shape := ⟨2, ![1024, 1024]⟩
abbrev S1024x256 : Shape := ⟨2, ![1024, 256]⟩
abbrev S512x256 : Shape := ⟨2, ![512, 256]⟩
abbrev S1024x1792 : Shape := ⟨2, ![1024, 1792]⟩
abbrev S1024x2048 : Shape := ⟨2, ![1024, 2048]⟩
abbrev S256x2048 : Shape := ⟨2, ![256, 2048]⟩
abbrev S1024x3072 : Shape := ⟨2, ![1024, 3072]⟩
abbrev S2x16 : Shape := ⟨2, ![2, 16]⟩
abbrev S1x16 : Shape := ⟨2, ![1, 16]⟩
abbrev S1024x16 : Shape := ⟨2, ![1024, 16]⟩

abbrev nBuf : Space → Nat
  | .hbm => 46
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x8464, .f32⟩
  | .hbm, ⟨3, _⟩ => ⟨S4x8, .f32⟩
  | .hbm, ⟨4, _⟩ => ⟨S4x4, .f32⟩
  | .hbm, ⟨5, _⟩ => ⟨S4x4, .f32⟩
  | .hbm, ⟨6, _⟩ => ⟨S4x1024x8, .f32⟩
  | .hbm, ⟨7, _⟩ => ⟨S4x1024x8, .f32⟩
  | .hbm, ⟨8, _⟩ => ⟨S4x1024x16, .f32⟩
  | .hbm, ⟨9, _⟩ => ⟨S_, .f32⟩
  | .hbm, ⟨10, _⟩ => ⟨S4x4, .f32⟩
  | .hbm, ⟨11, _⟩ => ⟨S4x16, .f32⟩
  | .hbm, ⟨12, _⟩ => ⟨S_, .f32⟩
  | .hbm, ⟨13, _⟩ => ⟨S4x8, .f32⟩
  | .hbm, ⟨14, _⟩ => ⟨S4x16, .f32⟩
  | .hbm, ⟨15, _⟩ => ⟨S4x1024x512, .f32⟩
  | .hbm, ⟨16, _⟩ => ⟨S_, .f32⟩
  | .hbm, ⟨17, _⟩ => ⟨S4x1024x512, .f32⟩
  | .hbm, ⟨18, _⟩ => ⟨S4x1024x512, .f32⟩
  | .hbm, ⟨19, _⟩ => ⟨S4x1024x1024, .f32⟩
  | .hbm, ⟨20, _⟩ => ⟨S4x1024x1536, .f32⟩
  | .hbm, ⟨21, _⟩ => ⟨S4x1024x1536, .bf16⟩
  | .hbm, ⟨22, _⟩ => ⟨S4x1024x1792, .f32⟩
  | .hbm, ⟨23, _⟩ => ⟨S4x1024x1792, .bf16⟩
  | .hbm, ⟨24, _⟩ => ⟨S4x1024x2048, .f32⟩
  | .hbm, ⟨25, _⟩ => ⟨S4x1024x2048, .bf16⟩
  | .hbm, ⟨26, _⟩ => ⟨S4x1024x3072, .f32⟩
  | .hbm, ⟨27, _⟩ => ⟨S4x1024x3072, .bf16⟩
  | .hbm, ⟨28, _⟩ => ⟨S4x1024x16, .bf16⟩
  | .hbm, ⟨29, _⟩ => ⟨S4x1024x1024, .f32⟩
  | .hbm, ⟨30, _⟩ => ⟨S4x1024x1024, .f32⟩
  | .hbm, ⟨31, _⟩ => ⟨S4x1024x1024, .bf16⟩
  | .hbm, ⟨32, _⟩ => ⟨S4x1x16, .f32⟩
  | .hbm, ⟨33, _⟩ => ⟨S4x1x16, .f32⟩
  | .hbm, ⟨34, _⟩ => ⟨S4x2x16, .f32⟩
  | .hbm, ⟨35, _⟩ => ⟨S4x1x1024, .f32⟩
  | .hbm, ⟨36, _⟩ => ⟨S16384x1536, .bf16⟩
  | .hbm, ⟨37, _⟩ => ⟨S16384x512, .f32⟩
  | .hbm, ⟨38, _⟩ => ⟨S16384x512, .f32⟩
  | .hbm, ⟨39, _⟩ => ⟨S8x512x2048, .f32⟩
  | .hbm, ⟨40, _⟩ => ⟨S8x512x2048, .f32⟩
  | .hbm, ⟨41, _⟩ => ⟨S16384x1792, .f32⟩
  | .hbm, ⟨42, _⟩ => ⟨S16384x1536, .f32⟩
  | .hbm, ⟨43, _⟩ => ⟨S16384x512, .f32⟩
  | .hbm, ⟨44, _⟩ => ⟨S16384x3072, .f32⟩
  | .hbm, ⟨45, _⟩ => ⟨S16384x16, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1024x1536, .bf16⟩
  | .local _ .vmem, ⟨4, _⟩ => ⟨S1x1024x1792, .bf16⟩
  | .local _ .vmem, ⟨5, _⟩ => ⟨S1x1024x2048, .bf16⟩
  | .local _ .vmem, ⟨6, _⟩ => ⟨S1x1024x3072, .bf16⟩
  | .local _ .vmem, ⟨7, _⟩ => ⟨S1x1024x16, .bf16⟩
  | .local _ .vmem, ⟨8, _⟩ => ⟨S1x1024x1024, .bf16⟩
  | .local _ .vmem, ⟨9, _⟩ => ⟨S1x2x16, .f32⟩
  | .local _ .vmem, ⟨10, _⟩ => ⟨S256x1536, .bf16⟩
  | .local _ .vmem, ⟨11, _⟩ => ⟨S256x1536, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S256x1792, .f32⟩
  | .local _ .vmem, ⟨21, _⟩ => ⟨S256x1792, .f32⟩
  | .local _ .vmem, ⟨22, _⟩ => ⟨S256x1536, .f32⟩
  | .local _ .vmem, ⟨23, _⟩ => ⟨S256x1536, .f32⟩
  | .local _ .vmem, ⟨24, _⟩ => ⟨S256x512, .f32⟩
  | .local _ .vmem, ⟨25, _⟩ => ⟨S256x512, .f32⟩
  | .local _ .vmem, ⟨26, _⟩ => ⟨S256x3072, .f32⟩
  | .local _ .vmem, ⟨27, _⟩ => ⟨S256x3072, .f32⟩
  | .local _ .vmem, ⟨28, _⟩ => ⟨S256x16, .f32⟩
  | .local _ .vmem, ⟨29, _⟩ => ⟨S256x16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev main_v27_5 : Ref sig .tc := ⟨.hbm, 41, rfl⟩
abbrev main_v27_6 : Ref sig .tc := ⟨.hbm, 42, rfl⟩
abbrev main_v27_7 : Ref sig .tc := ⟨.hbm, 43, rfl⟩
abbrev main_v27_8 : Ref sig .tc := ⟨.hbm, 44, rfl⟩
abbrev main_v27_9 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1792 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x3072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x16 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InprojRefIdeal.lean ====
abbrev S16384x1024 : Shape := ⟨2, ![16384, 1024]⟩
abbrev S4x1024 : Shape := ⟨2, ![4, 1024]⟩
abbrev S4x1024x8464 : Shape := ⟨3, ![4, 1024, 8464]⟩
abbrev S4x8 : Shape := ⟨2, ![4, 8]⟩
abbrev S4x4 : Shape := ⟨2, ![4, 4]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x8464 : Shape := ⟨3, ![1, 1024, 8464]⟩
abbrev S1024x8464 : Shape := ⟨2, ![1024, 8464]⟩
abbrev S16384x8464 : Shape := ⟨2, ![16384, 8464]⟩
abbrev S16384x512 : Shape := ⟨2, ![16384, 512]⟩
abbrev S16384x8 : Shape := ⟨2, ![16384, 8]⟩
abbrev S16384x1792 : Shape := ⟨2, ![16384, 1792]⟩
abbrev S16384x1536 : Shape := ⟨2, ![16384, 1536]⟩
abbrev S16384x4 : Shape := ⟨2, ![16384, 4]⟩
abbrev S16384x3072 : Shape := ⟨2, ![16384, 3072]⟩
abbrev S1x8 : Shape := ⟨2, ![1, 8]⟩
abbrev S8 : Shape := ⟨1, ![8]⟩
abbrev S1x4 : Shape := ⟨2, ![1, 4]⟩
abbrev S4 : Shape := ⟨1, ![4]⟩
abbrev S8x2048x512 : Shape := ⟨3, ![8, 2048, 512]⟩
abbrev S8x512x2048 : Shape := ⟨3, ![8, 512, 2048]⟩
abbrev S16384x16 : Shape := ⟨2, ![16384, 16]⟩

abbrev nBuf : Space → Nat
  | .hbm => 102
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x8464, .f32⟩
  | .hbm, ⟨3, _⟩ => ⟨S4x8, .f32⟩
  | .hbm, ⟨4, _⟩ => ⟨S4x4, .f32⟩
  | .hbm, ⟨5, _⟩ => ⟨S4x4, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x8464, .f32⟩
  | .hbm, ⟨25, _⟩ => ⟨S1024x8464, .f32⟩
  | .hbm, ⟨26, _⟩ => ⟨S16384x8464, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x8, .f32⟩
  | .hbm, ⟨31, _⟩ => ⟨S16384x1792, .f32⟩
  | .hbm, ⟨32, _⟩ => ⟨S16384x1536, .f32⟩
  | .hbm, ⟨33, _⟩ => ⟨S16384x512, .f32⟩
  | .hbm, ⟨34, _⟩ => ⟨S16384x4, .f32⟩
  | .hbm, ⟨35, _⟩ => ⟨S16384x4, .f32⟩
  | .hbm, ⟨36, _⟩ => ⟨S16384x3072, .f32⟩
  | .hbm, ⟨37, _⟩ => ⟨S1x8, .f32⟩
  | .hbm, ⟨38, _⟩ => ⟨S8, .f32⟩
  | .hbm, ⟨39, _⟩ => ⟨S1x8, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S_, .f32⟩
  | .hbm, ⟨44, _⟩ => ⟨S16384x8, .f32⟩
  | .hbm, ⟨45, _⟩ => ⟨S16384x8, .f32⟩
  | .hbm, ⟨46, _⟩ => ⟨S16384x8, .f32⟩
  | .hbm, ⟨47, _⟩ => ⟨S16384x8, .f32⟩
  | .hbm, ⟨48, _⟩ => ⟨S16384x8, .i1⟩
  | .hbm, ⟨49, _⟩ => ⟨S16384x8, .f32⟩
  | .hbm, ⟨50, _⟩ => ⟨S16384x8, .f32⟩
  | .hbm, ⟨51, _⟩ => ⟨S16384x8, .f32⟩
  | .hbm, ⟨52, _⟩ => ⟨S16384x8, .f32⟩
  | .hbm, ⟨53, _⟩ => ⟨S16384x8, .f32⟩
  | .hbm, ⟨54, _⟩ => ⟨S16384x8, .f32⟩
  | .hbm, ⟨55, _⟩ => ⟨S16384x8, .f32⟩
  | .hbm, ⟨56, _⟩ => ⟨S16384x8, .f32⟩
  | .hbm, ⟨57, _⟩ => ⟨S16384x8, .f32⟩
  | .hbm, ⟨58, _⟩ => ⟨S16384x4, .f32⟩
  | .hbm, ⟨59, _⟩ => ⟨S16384x4, .f32⟩
  | .hbm, ⟨60, _⟩ => ⟨S_, .f32⟩
  | .hbm, ⟨61, _⟩ => ⟨S16384x4, .f32⟩
  | .hbm, ⟨62, _⟩ => ⟨S16384x4, .f32⟩
  | .hbm, ⟨63, _⟩ => ⟨S_, .f32⟩
  | .hbm, ⟨64, _⟩ => ⟨S16384x4, .f32⟩
  | .hbm, ⟨65, _⟩ => ⟨S16384x4, .f32⟩
  | .hbm, ⟨66, _⟩ => ⟨S1x4, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S1x4, .f32⟩
  | .hbm, ⟨71, _⟩ => ⟨S4, .f32⟩
  | .hbm, ⟨72, _⟩ => ⟨S1x4, .f32⟩
  | .hbm, ⟨73, _⟩ => ⟨S16384x4, .f32⟩
  | .hbm, ⟨74, _⟩ => ⟨S16384x4, .f32⟩
  | .hbm, ⟨75, _⟩ => ⟨S_, .f32⟩
  | .hbm, ⟨76, _⟩ => ⟨S16384x4, .f32⟩
  | .hbm, ⟨77, _⟩ => ⟨S16384x4, .f32⟩
  | .hbm, ⟨78, _⟩ => ⟨S16384x4, .f32⟩
  | .hbm, ⟨79, _⟩ => ⟨S16384x4, .f32⟩
  | .hbm, ⟨80, _⟩ => ⟨S16384x4, .i1⟩
  | .hbm, ⟨81, _⟩ => ⟨S16384x4, .f32⟩
  | .hbm, ⟨82, _⟩ => ⟨S16384x4, .f32⟩
  | .hbm, ⟨83, _⟩ => ⟨S16384x4, .f32⟩
  | .hbm, ⟨84, _⟩ => ⟨S16384x4, .f32⟩
  | .hbm, ⟨85, _⟩ => ⟨S16384x4, .f32⟩
  | .hbm, ⟨86, _⟩ => ⟨S16384x4, .f32⟩
  | .hbm, ⟨87, _⟩ => ⟨S16384x4, .f32⟩
  | .hbm, ⟨88, _⟩ => ⟨S16384x4, .f32⟩
  | .hbm, ⟨89, _⟩ => ⟨S1x4, .f32⟩
  | .hbm, ⟨90, _⟩ => ⟨S16384x4, .f32⟩
  | .hbm, ⟨91, _⟩ => ⟨S16384x4, .f32⟩
  | .hbm, ⟨92, _⟩ => ⟨S_, .f32⟩
  | .hbm, ⟨93, _⟩ => ⟨S16384x512, .f32⟩
  | .hbm, ⟨94, _⟩ => ⟨S16384x512, .f32⟩
  | .hbm, ⟨95, _⟩ => ⟨S16384x1536, .f32⟩
  | .hbm, ⟨96, _⟩ => ⟨S16384x1536, .bf16⟩
  | .hbm, ⟨97, _⟩ => ⟨S8x2048x512, .f32⟩
  | .hbm, ⟨98, _⟩ => ⟨S8x512x2048, .f32⟩
  | .hbm, ⟨99, _⟩ => ⟨S8x2048x512, .f32⟩
  | .hbm, ⟨100, _⟩ => ⟨S8x512x2048, .f32⟩
  | .hbm, ⟨101, _⟩ => ⟨S16384x16, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_4 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩

abbrev nD : Nat := 1
abbrev τ : Topo := Topo.v7x

variable {F : FTy → Type} [FloatOps F]
-- ==== FfnSample.lean ====
abbrev S256x1024 : Shape := ⟨2, ![256, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S4x1x1024 : Shape := ⟨3, ![4, 1, 1024]⟩
abbrev S1x1024 : Shape := ⟨2, ![1, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 12
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S4x1x1024, .f32⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S1x1024, .f32⟩
  | .hbm, ⟨11, _⟩ => ⟨S256x1024, .f32⟩
  | .local _ .vmem, ⟨0, _⟩ => ⟨S256x1024, .f32⟩
  | .local _ .vmem, ⟨1, _⟩ => ⟨S1x1x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FfnSampleRefIdeal.lean ====
abbrev S256x1024 : Shape := ⟨2, ![256, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1x1024x2816 : Shape := ⟨3, ![1, 1024, 2816]⟩
abbrev S1024x2816 : Shape := ⟨2, ![1024, 2816]⟩
abbrev S256x2816 : Shape := ⟨2, ![256, 2816]⟩
abbrev S1x2816x1024 : Shape := ⟨3, ![1, 2816, 1024]⟩
abbrev S2816x1024 : Shape := ⟨2, ![2816, 1024]⟩

abbrev nBuf : Space → Nat
  | .hbm => 63
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S1x1024x2816, .f32⟩
  | .hbm, ⟨25, _⟩ => ⟨S1024x2816, .f32⟩
  | .hbm, ⟨26, _⟩ => ⟨S256x2816, .f32⟩
  | .hbm, ⟨27, _⟩ => ⟨S256x2816, .f32⟩
  | .hbm, ⟨28, _⟩ => ⟨S256x2816, .f32⟩
  | .hbm, ⟨29, _⟩ => ⟨S_, .f32⟩
  | .hbm, ⟨30, _⟩ => ⟨S256x2816, .f32⟩
  | .hbm, ⟨31, _⟩ => ⟨S256x2816, .f32⟩
  | .hbm, ⟨32, _⟩ => ⟨S_, .f32⟩
  | .hbm, ⟨33, _⟩ => ⟨S256x2816, .f32⟩
  | .hbm, ⟨34, _⟩ => ⟨S256x2816, .f32⟩
  | .hbm, ⟨35, _⟩ => ⟨S256x2816, .f32⟩
  | .hbm, ⟨36, _⟩ => ⟨S1x1024x2816, .f32⟩
  | .hbm, ⟨37, _⟩ => ⟨S1024x2816, .f32⟩
  | .hbm, ⟨38, _⟩ => ⟨S256x2816, .f32⟩
  | .hbm, ⟨39, _⟩ => ⟨S256x2816, .f32⟩
  | .hbm, ⟨40, _⟩ => ⟨S1x2816x1024, .f32⟩
  | .hbm, ⟨41, _⟩ => ⟨S2816x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256, .f32⟩
  | .hbm, ⟨50, _⟩ => ⟨S256x1, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S256x1, .f32⟩
  | .hbm, ⟨58, _⟩ => ⟨S256x1024, .f32⟩
  | .hbm, ⟨59, _⟩ => ⟨S256x1024, .f32⟩
  | .hbm, ⟨60, _⟩ => ⟨S1x1024, .f32⟩
  | .hbm, ⟨61, _⟩ => ⟨S256x1024, .f32⟩
  | .hbm, ⟨62, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== InprojSample.lean ====
abbrev S256x1024 : Shape := ⟨2, ![256, 1024]⟩
abbrev S4x1024 : Shape := ⟨2, ![4, 1024]⟩
abbrev S4x1024x8464 : Shape := ⟨3, ![4, 1024, 8464]⟩
abbrev S4x8 : Shape := ⟨2, ![4, 8]⟩
abbrev S4x4 : Shape := ⟨2, ![4, 4]⟩
abbrev S4x1024x8 : Shape := ⟨3, ![4, 1024, 8]⟩
abbrev S4x1024x16 : Shape := ⟨3, ![4, 1024, 16]⟩
abbrev S_ : Shape := ⟨0, ![]⟩
abbrev S4x16 : Shape := ⟨2, ![4, 16]⟩
abbrev S4x1024x512 : Shape := ⟨3, ![4, 1024, 512]⟩
abbrev S4x1024x1024 : Shape := ⟨3, ![4, 1024, 1024]⟩
abbrev S4x1024x1536 : Shape := ⟨3, ![4, 1024, 1536]⟩
abbrev S4x1024x1792 : Shape := ⟨3, ![4, 1024, 1792]⟩
abbrev S4x1024x2048 : Shape := ⟨3, ![4, 1024, 2048]⟩
abbrev S4x1024x3072 : Shape := ⟨3, ![4, 1024, 3072]⟩
abbrev S4x1x16 : Shape := ⟨3, ![4, 1, 16]⟩
abbrev S4x2x16 : Shape := ⟨3, ![4, 2, 16]⟩
abbrev S4x1x1024 : Shape := ⟨3, ![4, 1, 1024]⟩
abbrev S256x1536 : Shape := ⟨2, ![256, 1536]⟩
abbrev S256x512 : Shape := ⟨2, ![256, 512]⟩
abbrev S1x512x256 : Shape := ⟨3, ![1, 512, 256]⟩
abbrev S256x1792 : Shape := ⟨2, ![256, 1792]⟩
abbrev S256x3072 : Shape := ⟨2, ![256, 3072]⟩
abbrev S256x16 : Shape := ⟨2, ![256, 16]⟩
abbrev S1x1x1024 : Shape := ⟨3, ![1, 1, 1024]⟩
abbrev S1x1024x1536 : Shape := ⟨3, ![1, 1024, 1536]⟩
abbrev S1x1024x1792 : Shape := ⟨3, ![1, 1024, 1792]⟩
abbrev S1x1024x2048 : Shape := ⟨3, ![1, 1024, 2048]⟩
abbrev S1x1024x3072 : Shape := ⟨3, ![1, 1024, 3072]⟩
abbrev S1x1024x16 : Shape := ⟨3, ![1, 1024, 16]⟩
abbrev S1x1024x1024 : Shape := ⟨3, ![1, 1024, 1024]⟩
abbrev S1x2x16 : Shape := ⟨3, ![1, 2, 16]⟩
abbrev S1x1024 : Shape := ⟨2, ![1, 1024]⟩
abbrev S256 : Shape := ⟨1, ![256]⟩
abbrev S256x1 : Shape := ⟨2, ![256, 1]⟩
abbrev S1024x1536 : Shape := ⟨2, ![1024, 1536]⟩
abbrev S1024x1024 : Shape := ⟨2, ![1024, 1024]⟩
abbrev S1024x256 : Shape := ⟨2, ![1024, 256]⟩
abbrev S512x256 : Shape := ⟨2, ![512, 256]⟩
abbrev S1024x1792 : Shape := ⟨2, ![1024, 1792]⟩
abbrev S1024x2048 : Shape := ⟨2, ![1024, 2048]⟩
abbrev S256x2048 : Shape := ⟨2, ![256, 2048]⟩
abbrev S1024x3072 : Shape := ⟨2, ![1024, 3072]⟩
abbrev S2x16 : Shape := ⟨2, ![2, 16]⟩
abbrev S1x16 : Shape := ⟨2, ![1, 16]⟩
abbrev S1024x16 : Shape := ⟨2, ![1024, 16]⟩

abbrev nBuf : Space → Nat
  | .hbm => 46
  | .vmem => 19
  | .smem => 0
  | _ => 0

abbrev bufTy : (tb : Table) → Fin (tcTables nBuf tb) → BufTy
  | .hbm, ⟨0, _⟩ => ⟨S256x1024, .f32⟩
  | .hbm, ⟨1, _⟩ => ⟨S4x1024, .f32⟩
  | .hbm, ⟨2, _⟩ => ⟨S4x1024x8464, .f32⟩
  | .hbm, ⟨3, _⟩ => ⟨S4x8, .f32⟩
  | .hbm, ⟨4, _⟩ => ⟨S4x4, .f32⟩
  | .hbm, ⟨5, _⟩ => ⟨S4x4, .f32⟩
  | .hbm, ⟨6, _⟩ => ⟨S4x1024x8, .f32⟩
  | .hbm, ⟨7, _⟩ => ⟨S4x1024x8, .f32⟩
  | .hbm, ⟨8, _⟩ => ⟨S4x1024x16, .f32⟩
  | .hbm, ⟨9, _⟩ => ⟨S_, .f32⟩
  | .hbm, ⟨10, _⟩ => ⟨S4x4, .f32⟩
  | .hbm, ⟨11, _⟩ => ⟨S4x16, .f32⟩
  | .hbm, ⟨12, _⟩ => ⟨S_, .f32⟩
  | .hbm, ⟨13, _⟩ => ⟨S4x8, .f32⟩
  | .hbm, ⟨14, _⟩ => ⟨S4x16, .f32⟩
  | .hbm, ⟨15, _⟩ => ⟨S4x1024x512, .f32⟩
  | .hbm, ⟨16, _⟩ => ⟨S_, .f32⟩
  | .hbm, ⟨17, _⟩ => ⟨S4x1024x512, .f32⟩
  | .hbm, ⟨18, _⟩ => ⟨S4x1024x512, .f32⟩
  | .hbm, ⟨19, _⟩ => ⟨S4x1024x1024, .f32⟩
  | .hbm, ⟨20, _⟩ => ⟨S4x1024x1536, .f32⟩
  | .hbm, ⟨21, _⟩ => ⟨S4x1024x1536, .bf16⟩
  | .hbm, ⟨22, _⟩ => ⟨S4x1024x1792, .f32⟩
  | .hbm, ⟨23, _⟩ => ⟨S4x1024x1792, .bf16⟩
  | .hbm, ⟨24, _⟩ => ⟨S4x1024x2048, .f32⟩
  | .hbm, ⟨25, _⟩ => ⟨S4x1024x2048, .bf16⟩
  | .hbm, ⟨26, _⟩ => ⟨S4x1024x3072, .f32⟩
  | .hbm, ⟨27, _⟩ => ⟨S4x1024x3072, .bf16⟩
  | .hbm, ⟨28, _⟩ => ⟨S4x1024x16, .bf16⟩
  | .hbm, ⟨29, _⟩ => ⟨S4x1024x1024, .f32⟩
  | .hbm, ⟨30, _⟩ => ⟨S4x1024x1024, .f32⟩
  | .hbm, ⟨31, _⟩ => ⟨S4x1024x1024, .bf16⟩
  | .hbm, ⟨32, _⟩ => ⟨S4x1x16, .f32⟩
  | .hbm, ⟨33, _⟩ => ⟨S4x1x16, .f32⟩
  | .hbm, ⟨34, _⟩ => ⟨S4x2x16, .f32⟩
  | .hbm, ⟨35, _⟩ => ⟨S4x1x1024, .f32⟩
  | .hbm, ⟨36, _⟩ => ⟨S256x1536, .bf16⟩
  | .hbm, ⟨37, _⟩ => ⟨S256x512, .f32⟩
  | .hbm, ⟨38, _⟩ => ⟨S256x512, .f32⟩
  | .hbm, ⟨39, _⟩ => ⟨S1x512x256, .f32⟩
  | .hbm, ⟨40, _⟩ => ⟨S1x512x256, .f32⟩
  | .hbm, ⟨41, _⟩ => ⟨S256x1792, .f32⟩
  | .hbm, ⟨42, _⟩ => ⟨S256x1536, .f32⟩
  | .hbm, ⟨43, _⟩ => ⟨S256x512, .f32⟩
  | .hbm, ⟨44, _⟩ => ⟨S256x3072, .f32⟩
  | .hbm, ⟨45, _⟩ => ⟨S256x16, .f32⟩
  | .local _ .vmem, ⟨0, _⟩ => ⟨S256x1024, .f32⟩
  | .local _ .vmem, ⟨1, _⟩ => ⟨S1x1x1024, .f32⟩
  | .local _ .vmem, ⟨2, _⟩ => ⟨S1x1024x1536, .bf16⟩
  | .local _ .vmem, ⟨3, _⟩ => ⟨S1x1024x1792, .bf16⟩
  | .local _ .vmem, ⟨4, _⟩ => ⟨S1x1024x2048, .bf16⟩
  | .local _ .vmem, ⟨5, _⟩ => ⟨S1x1024x3072, .bf16⟩
  | .local _ .vmem, ⟨6, _⟩ => ⟨S1x1024x16, .bf16⟩
  | .local _ .vmem, ⟨7, _⟩ => ⟨S1x1024x1024, .bf16⟩
  | .local _ .vmem, ⟨8, _⟩ => ⟨S1x2x16, .f32⟩
  | .local _ .vmem, ⟨9, _⟩ => ⟨S256x1536, .bf16⟩
  | .local _ .vmem, ⟨10, _⟩ => ⟨S256x512, .f32⟩
  | .local _ .vmem, ⟨11, _⟩ => ⟨S256x512, .f32⟩
  | .local _ .vmem, ⟨12, _⟩ => ⟨S1x512x256, .f32⟩
  | .local _ .vmem, ⟨13, _⟩ => ⟨S1x512x256, .f32⟩
  | .local _ .vmem, ⟨14, _⟩ => ⟨S256x1792, .f32⟩
  | .local _ .vmem, ⟨15, _⟩ => ⟨S256x1536, .f32⟩
  | .local _ .vmem, ⟨16, _⟩ => ⟨S256x512, .f32⟩
  | .local _ .vmem, ⟨17, _⟩ => ⟨S256x3072, .f32⟩
  | .local _ .vmem, ⟨18, _⟩ => ⟨S256x16, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev main_v27_4 : Ref sig .tc := ⟨.hbm, 40, rfl⟩
abbrev main_v27_5 : Ref sig .tc := ⟨.hbm, 41, rfl⟩
abbrev main_v27_6 : Ref sig .tc := ⟨.hbm, 42, rfl⟩
abbrev main_v27_7 : Ref sig .tc := ⟨.hbm, 43, rfl⟩
abbrev main_v27_8 : Ref sig .tc := ⟨.hbm, 44, rfl⟩
abbrev main_v27_9 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_13 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1536 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x1792 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x3072 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== InprojSampleRefIdeal.lean ====
abbrev S256x1024 : Shape := ⟨2, ![256, 1024]⟩
abbrev S4x1024 : Shape := ⟨2, ![4, 1024]⟩
abbrev S4x1024x8464 : Shape := ⟨3, ![4, 1024, 8464]⟩
abbrev S4x8 : Shape := ⟨2, ![4, 8]⟩
abbrev S4x4 : Shape := ⟨2, ![4, 4]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024x8464 : Shape := ⟨3, ![1, 1024, 8464]⟩
abbrev S1024x8464 : Shape := ⟨2, ![1024, 8464]⟩
abbrev S256x8464 : Shape := ⟨2, ![256, 8464]⟩
abbrev S256x512 : Shape := ⟨2, ![256, 512]⟩
abbrev S256x8 : Shape := ⟨2, ![256, 8]⟩
abbrev S256x1792 : Shape := ⟨2, ![256, 1792]⟩
abbrev S256x1536 : Shape := ⟨2, ![256, 1536]⟩
abbrev S256x4 : Shape := ⟨2, ![256, 4]⟩
abbrev S256x3072 : Shape := ⟨2, ![256, 3072]⟩
abbrev S1x8 : Shape := ⟨2, ![1, 8]⟩
abbrev S8 : Shape := ⟨1, ![8]⟩
abbrev S1x4 : Shape := ⟨2, ![1, 4]⟩
abbrev S4 : Shape := ⟨1, ![4]⟩
abbrev S1x256x512 : Shape := ⟨3, ![1, 256, 512]⟩
abbrev S1x512x256 : Shape := ⟨3, ![1, 512, 256]⟩
abbrev S256x16 : Shape := ⟨2, ![256, 16]⟩

abbrev nBuf : Space → Nat
  | .hbm => 102
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x1024, .f32⟩
  | .hbm, ⟨2, _⟩ => ⟨S4x1024x8464, .f32⟩
  | .hbm, ⟨3, _⟩ => ⟨S4x8, .f32⟩
  | .hbm, ⟨4, _⟩ => ⟨S4x4, .f32⟩
  | .hbm, ⟨5, _⟩ => ⟨S4x4, .f32⟩
  | .hbm, ⟨6, _⟩ => ⟨S1x1024, .f32⟩
  | .hbm, ⟨7, _⟩ => ⟨S1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S1x1024x8464, .f32⟩
  | .hbm, ⟨25, _⟩ => ⟨S1024x8464, .f32⟩
  | .hbm, ⟨26, _⟩ => ⟨S256x8464, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S256x8, .f32⟩
  | .hbm, ⟨31, _⟩ => ⟨S256x1792, .f32⟩
  | .hbm, ⟨32, _⟩ => ⟨S256x1536, .f32⟩
  | .hbm, ⟨33, _⟩ => ⟨S256x512, .f32⟩
  | .hbm, ⟨34, _⟩ => ⟨S256x4, .f32⟩
  | .hbm, ⟨35, _⟩ => ⟨S256x4, .f32⟩
  | .hbm, ⟨36, _⟩ => ⟨S256x3072, .f32⟩
  | .hbm, ⟨37, _⟩ => ⟨S1x8, .f32⟩
  | .hbm, ⟨38, _⟩ => ⟨S8, .f32⟩
  | .hbm, ⟨39, _⟩ => ⟨S1x8, .f32⟩
  | .hbm, ⟨40, _⟩ => ⟨S256x8, .f32⟩
  | .hbm, ⟨41, _⟩ => ⟨S256x8, .f32⟩
  | .hbm, ⟨42, _⟩ => ⟨S256x8, .f32⟩
  | .hbm, ⟨43, _⟩ => ⟨S_, .f32⟩
  | .hbm, ⟨44, _⟩ => ⟨S256x8, .f32⟩
  | .hbm, ⟨45, _⟩ => ⟨S256x8, .f32⟩
  | .hbm, ⟨46, _⟩ => ⟨S256x8, .f32⟩
  | .hbm, ⟨47, _⟩ => ⟨S256x8, .f32⟩
  | .hbm, ⟨48, _⟩ => ⟨S256x8, .i1⟩
  | .hbm, ⟨49, _⟩ => ⟨S256x8, .f32⟩
  | .hbm, ⟨50, _⟩ => ⟨S256x8, .f32⟩
  | .hbm, ⟨51, _⟩ => ⟨S256x8, .f32⟩
  | .hbm, ⟨52, _⟩ => ⟨S256x8, .f32⟩
  | .hbm, ⟨53, _⟩ => ⟨S256x8, .f32⟩
  | .hbm, ⟨54, _⟩ => ⟨S256x8, .f32⟩
  | .hbm, ⟨55, _⟩ => ⟨S256x8, .f32⟩
  | .hbm, ⟨56, _⟩ => ⟨S256x8, .f32⟩
  | .hbm, ⟨57, _⟩ => ⟨S256x8, .f32⟩
  | .hbm, ⟨58, _⟩ => ⟨S256x4, .f32⟩
  | .hbm, ⟨59, _⟩ => ⟨S256x4, .f32⟩
  | .hbm, ⟨60, _⟩ => ⟨S_, .f32⟩
  | .hbm, ⟨61, _⟩ => ⟨S256x4, .f32⟩
  | .hbm, ⟨62, _⟩ => ⟨S256x4, .f32⟩
  | .hbm, ⟨63, _⟩ => ⟨S_, .f32⟩
  | .hbm, ⟨64, _⟩ => ⟨S256x4, .f32⟩
  | .hbm, ⟨65, _⟩ => ⟨S256x4, .f32⟩
  | .hbm, ⟨66, _⟩ => ⟨S1x4, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S1x4, .f32⟩
  | .hbm, ⟨71, _⟩ => ⟨S4, .f32⟩
  | .hbm, ⟨72, _⟩ => ⟨S1x4, .f32⟩
  | .hbm, ⟨73, _⟩ => ⟨S256x4, .f32⟩
  | .hbm, ⟨74, _⟩ => ⟨S256x4, .f32⟩
  | .hbm, ⟨75, _⟩ => ⟨S_, .f32⟩
  | .hbm, ⟨76, _⟩ => ⟨S256x4, .f32⟩
  | .hbm, ⟨77, _⟩ => ⟨S256x4, .f32⟩
  | .hbm, ⟨78, _⟩ => ⟨S256x4, .f32⟩
  | .hbm, ⟨79, _⟩ => ⟨S256x4, .f32⟩
  | .hbm, ⟨80, _⟩ => ⟨S256x4, .i1⟩
  | .hbm, ⟨81, _⟩ => ⟨S256x4, .f32⟩
  | .hbm, ⟨82, _⟩ => ⟨S256x4, .f32⟩
  | .hbm, ⟨83, _⟩ => ⟨S256x4, .f32⟩
  | .hbm, ⟨84, _⟩ => ⟨S256x4, .f32⟩
  | .hbm, ⟨85, _⟩ => ⟨S256x4, .f32⟩
  | .hbm, ⟨86, _⟩ => ⟨S256x4, .f32⟩
  | .hbm, ⟨87, _⟩ => ⟨S256x4, .f32⟩
  | .hbm, ⟨88, _⟩ => ⟨S256x4, .f32⟩
  | .hbm, ⟨89, _⟩ => ⟨S1x4, .f32⟩
  | .hbm, ⟨90, _⟩ => ⟨S256x4, .f32⟩
  | .hbm, ⟨91, _⟩ => ⟨S256x4, .f32⟩
  | .hbm, ⟨92, _⟩ => ⟨S_, .f32⟩
  | .hbm, ⟨93, _⟩ => ⟨S256x512, .f32⟩
  | .hbm, ⟨94, _⟩ => ⟨S256x512, .f32⟩
  | .hbm, ⟨95, _⟩ => ⟨S256x1536, .f32⟩
  | .hbm, ⟨96, _⟩ => ⟨S256x1536, .bf16⟩
  | .hbm, ⟨97, _⟩ => ⟨S1x256x512, .f32⟩
  | .hbm, ⟨98, _⟩ => ⟨S1x512x256, .f32⟩
  | .hbm, ⟨99, _⟩ => ⟨S1x256x512, .f32⟩
  | .hbm, ⟨100, _⟩ => ⟨S1x512x256, .f32⟩
  | .hbm, ⟨101, _⟩ => ⟨S256x16, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_4 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩

abbrev nD : Nat := 1
abbrev τ : Topo := Topo.v7x

variable {F : FTy → Type} [FloatOps F]
-- ==== FfnInner.lean ====
abbrev S16384x1024 : Shape := ⟨2, ![16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S4x1x1024, .f32⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnInnerRefIdeal.lean ====
abbrev S16384x1024 : Shape := ⟨2, ![16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x2816, .f32⟩
  | .hbm, ⟨25, _⟩ => ⟨S1024x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S1x1024x2816, .f32⟩
  | .hbm, ⟨37, _⟩ => ⟨S1024x2816, .f32⟩
  | .hbm, ⟨38, _⟩ => ⟨S16384x2816, .f32⟩
  | .hbm, ⟨39, _⟩ => ⟨S16384x2816, .f32⟩
  | .hbm, ⟨40, _⟩ => ⟨S1x2816x1024, .f32⟩
  | .hbm, ⟨41, _⟩ => ⟨S2816x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== MergeSample.lean ====
abbrev S256x1024 : Shape := ⟨2, ![256, 1024]⟩
abbrev S256x512 : Shape := ⟨2, ![256, 512]⟩
abbrev S256x3072 : Shape := ⟨2, ![256, 3072]⟩
abbrev S4x512x1024 : Shape := ⟨3, ![4, 512, 1024]⟩
abbrev S4x1024x1024 : Shape := ⟨3, ![4, 1024, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 14
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S256x3072, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x1024x1024, .f32⟩
  | .hbm, ⟨9, _⟩ => ⟨S4x512x1024, .bf16⟩
  | .hbm, ⟨10, _⟩ => ⟨S4x512x1024, .bf16⟩
  | .hbm, ⟨11, _⟩ => ⟨S4x512x1024, .bf16⟩
  | .hbm, ⟨12, _⟩ => ⟨S4x1024x1024, .bf16⟩
  | .hbm, ⟨13, _⟩ => ⟨S256x1024, .f32⟩
  | .local _ .vmem, ⟨0, _⟩ => ⟨S256x1024, .f32⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x3072, .f32⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x1024, .bf16⟩
  | .local _ .vmem, ⟨9, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MergeSampleRefIdeal.lean ====
abbrev S256x1024 : Shape := ⟨2, ![256, 1024]⟩
abbrev S256x512 : Shape := ⟨2, ![256, 512]⟩
abbrev S256x3072 : Shape := ⟨2, ![256, 3072]⟩
abbrev S4x512x1024 : Shape := ⟨3, ![4, 512, 1024]⟩
abbrev S4x1024x1024 : Shape := ⟨3, ![4, 1024, 1024]⟩
abbrev S_ : Shape := ⟨0, ![]⟩
abbrev S256x3x1024 : Shape := ⟨3, ![256, 3, 1024]⟩
abbrev S256x1x1024 : Shape := ⟨3, ![256, 1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S256x3072, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x1024x1024, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S256x3072, .f32⟩
  | .hbm, ⟨13, _⟩ => ⟨S256x3072, .f32⟩
  | .hbm, ⟨14, _⟩ => ⟨S_, .f32⟩
  | .hbm, ⟨15, _⟩ => ⟨S256x3072, .f32⟩
  | .hbm, ⟨16, _⟩ => ⟨S256x3072, .f32⟩
  | .hbm, ⟨17, _⟩ => ⟨S_, .f32⟩
  | .hbm, ⟨18, _⟩ => ⟨S256x3072, .f32⟩
  | .hbm, ⟨19, _⟩ => ⟨S256x3072, .f32⟩
  | .hbm, ⟨20, _⟩ => ⟨S256x3x1024, .f32⟩
  | .hbm, ⟨21, _⟩ => ⟨S256x1x1024, .f32⟩
  | .hbm, ⟨22, _⟩ => ⟨S256x1024, .f32⟩
  | .hbm, ⟨23, _⟩ => ⟨S1x512x1024, .f32⟩
  | .hbm, ⟨24, _⟩ => ⟨S512x1024, .f32⟩
  | .hbm, ⟨25, _⟩ => ⟨S256x1024, .f32⟩
  | .hbm, ⟨26, _⟩ => ⟨S256x1024, .f32⟩
  | .hbm, ⟨27, _⟩ => ⟨S256x1x1024, .f32⟩
  | .hbm, ⟨28, _⟩ => ⟨S256x1024, .f32⟩
  | .hbm, ⟨29, _⟩ => ⟨S1x512x1024, .f32⟩
  | .hbm, ⟨30, _⟩ => ⟨S512x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1x1024, .f32⟩
  | .hbm, ⟨35, _⟩ => ⟨S256x1024, .f32⟩
  | .hbm, ⟨36, _⟩ => ⟨S1x512x1024, .f32⟩
  | .hbm, ⟨37, _⟩ => ⟨S512x1024, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S1x1024x1024, .f32⟩
  | .hbm, ⟨42, _⟩ => ⟨S1024x1024, .f32⟩
  | .hbm, ⟨43, _⟩ => ⟨S256x1024, .f32⟩
  | .hbm, ⟨44, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== FfnInnerSample.lean ====
abbrev S256x1024 : Shape := ⟨2, ![256, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S4x1x1024 : Shape := ⟨3, ![4, 1, 1024]⟩
abbrev S1x1024 : Shape := ⟨2, ![1, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 12
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S4x1x1024, .f32⟩
  | .hbm, ⟨7, _⟩ => ⟨S4x1024x2816, .bf16⟩
  | .hbm, ⟨8, _⟩ => ⟨S4x1024x2816, .bf16⟩
  | .hbm, ⟨9, _⟩ => ⟨S4x2816x1024, .bf16⟩
  | .hbm, ⟨10, _⟩ => ⟨S1x1024, .f32⟩
  | .hbm, ⟨11, _⟩ => ⟨S256x1024, .f32⟩
  | .local _ .vmem, ⟨0, _⟩ => ⟨S256x1024, .f32⟩
  | .local _ .vmem, ⟨1, _⟩ => ⟨S1x1x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FfnInnerSampleRefIdeal.lean ====
abbrev S256x1024 : Shape := ⟨2, ![256, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1x1024x2816 : Shape := ⟨3, ![1, 1024, 2816]⟩
abbrev S1024x2816 : Shape := ⟨2, ![1024, 2816]⟩
abbrev S256x2816 : Shape := ⟨2, ![256, 2816]⟩
abbrev S1x2816x1024 : Shape := ⟨3, ![1, 2816, 1024]⟩
abbrev S2816x1024 : Shape := ⟨2, ![2816, 1024]⟩

abbrev nBuf : Space → Nat
  | .hbm => 47
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S1x1024x2816, .f32⟩
  | .hbm, ⟨25, _⟩ => ⟨S1024x2816, .f32⟩
  | .hbm, ⟨26, _⟩ => ⟨S256x2816, .f32⟩
  | .hbm, ⟨27, _⟩ => ⟨S256x2816, .f32⟩
  | .hbm, ⟨28, _⟩ => ⟨S256x2816, .f32⟩
  | .hbm, ⟨29, _⟩ => ⟨S_, .f32⟩
  | .hbm, ⟨30, _⟩ => ⟨S256x2816, .f32⟩
  | .hbm, ⟨31, _⟩ => ⟨S256x2816, .f32⟩
  | .hbm, ⟨32, _⟩ => ⟨S_, .f32⟩
  | .hbm, ⟨33, _⟩ => ⟨S256x2816, .f32⟩
  | .hbm, ⟨34, _⟩ => ⟨S256x2816, .f32⟩
  | .hbm, ⟨35, _⟩ => ⟨S256x2816, .f32⟩
  | .hbm, ⟨36, _⟩ => ⟨S1x1024x2816, .f32⟩
  | .hbm, ⟨37, _⟩ => ⟨S1024x2816, .f32⟩
  | .hbm, ⟨38, _⟩ => ⟨S256x2816, .f32⟩
  | .hbm, ⟨39, _⟩ => ⟨S256x2816, .f32⟩
  | .hbm, ⟨40, _⟩ => ⟨S1x2816x1024, .f32⟩
  | .hbm, ⟨41, _⟩ => ⟨S2816x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | .hbm, ⟨46, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Proof.FfnBlocks.lean ====
/-
  The feed-forward call's input blocks: what each window's block holds at each grid point, as elements of the argument
  arrays.
-/
module

public import proofs.«01_k».proof.Defs
public import proofs.«01_k».proof.Proof.Gen.FfnIdeal.Value
public import proofs.«01_k».proof.Proof.Gen.FfnRefIdeal.Read
public import Idealize.ShloMosaic.Lib.Pointwise

@[expose] public section

set_option maxRecDepth 16384

noncomputable section

namespace Cert.Proof.FfnBlocks

open Idealize.ShloMosaic Idealize.ShloMosaic.TcCoe Idealize.SL.Sem
open Cert.FfnIdeal Cert.FfnIdeal.Gen

variable (m : (ℓ : Loc nD τ sig) → Buf (Elt Ideal) ℓ)

/-- Where each window's block sits, decided over the 32 points: the rows advance with the point, and every other window
    stays at the last layer's block. -/
theorem idx_facts : ∀ t : Fin cfg0.N,
    win0_0.index t = ![t.val, 0] ∧ win0_1.index t = ![3, 0, 0] ∧ win0_2.index t = ![3, 0, 0] ∧ win0_3.index t = ![3, 0, 0]
    ∧ win0_4.index t = ![3, 0, 0] ∧ win0_5.index t = ![0, 0] ∧ win0_6.index t = ![t.val, 0] :=
  (by decide +kernel : ∀ t : Fin grid0.N, _)

/-- The norm weights as the region finds them: the argument with a unit axis inserted. -/
theorem V_v0 (c : Dev nD) : V m c main_v0 = broadcastInDim S4x1x1024 ![0, 2] bcast_S4x1024_S4x1x1024_0_2 (m ((c : Thread nD τ).loc main_arg1)) := by
  unfold_abbrev_sides
  after_results

/-- The gate weights as the region finds them. -/
theorem V_v1 (c : Dev nD) : V m c main_v1 = truncf (F := Ideal) .bf16 (m ((c : Thread nD τ).loc main_arg2)) bitsLt_bf16_f32 := by
  unfold_abbrev_sides
  after_results

/-- The up weights as the region finds them. -/
theorem V_v2 (c : Dev nD) : V m c main_v2 = truncf (F := Ideal) .bf16 (m ((c : Thread nD τ).loc main_arg3)) bitsLt_bf16_f32 := by
  unfold_abbrev_sides
  after_results

/-- The down weights as the region finds them. -/
theorem V_v3 (c : Dev nD) : V m c main_v3 = truncf (F := Ideal) .bf16 (m ((c : Thread nD τ).loc main_arg4)) bitsLt_bf16_f32 := by
  unfold_abbrev_sides
  after_results

/-- The final norm's weights as the region finds them. -/
theorem V_v4 (c : Dev nD) : V m c main_v4 = broadcastInDim S1x1024 ![1] bcast_S1024_S1x1024_1 (m ((c : Thread nD τ).loc main_arg5)) := by
  unfold_abbrev_sides
  after_results

/-- The row of the arrays that row `r` of the block at point `t` is. -/
def row (t : Fin cfg0.N) (r : Fin 512) : Fin 16384 := ⟨t.val * 512 + r.val, by have h : t.val < 32 := t.isLt; omega⟩

theorem block0 (c : Dev nD) (t : Fin cfg0.N) (r : Fin 512) (l : Fin 1024) :
    iblk m c 0 t (ix2 r l) = m ((c : Thread nD τ).loc main_arg0) (ix2 (row t r) l) := by
  have e : iblk m c 0 t (ix2 r l) = m ((c : Thread nD τ).loc main_arg0) (((cfg0.win 0).blk t).view.emb (ix2 r l)) :=
    congrFun (V_main_arg0 m c) _
  refine e.trans (congrArg _ (funext fun a => Fin.ext ?_))
  obtain ⟨h, -⟩ := idx_facts t
  fin_cases a
  · show win0_0.index t 0 * 512 + 1 * r.val = t.val * 512 + r.val
    rw [h]; simp
  · show win0_0.index t 1 * 1024 + 1 * l.val = l.val
    rw [h]; simp

theorem block1 (c : Dev nD) (t : Fin cfg0.N) (l : Fin 1024) :
    iblk m c 1 t (ix3 0 0 l) = m ((c : Thread nD τ).loc main_arg1) (ix2 3 l) := by
  have e : iblk m c 1 t (ix3 0 0 l) = broadcastInDim S4x1x1024 ![0, 2] bcast_S4x1024_S4x1x1024_0_2 (m ((c : Thread nD τ).loc main_arg1)) (((cfg0.win 1).blk t).view.emb (ix3 0 0 l)) :=
    congrFun (V_v0 m c) _
  rw [e, show ((cfg0.win 1).blk t).view.emb (ix3 0 0 l) = ix3 (n0 := 4) 3 0 l from funext fun a => Fin.ext ?_]
  · pointwise
  obtain ⟨-, h, -⟩ := idx_facts t
  fin_cases a
  · show win0_1.index t 0 * 1 + 1 * 0 = 3
    rw [h]; simp
  · show win0_1.index t 1 * 1 + 1 * 0 = 0
    rw [h]; simp
  · show win0_1.index t 2 * 1024 + 1 * l.val = l.val
    rw [h]; simp

theorem block2 (c : Dev nD) (t : Fin cfg0.N) (k : Fin 1024) (l : Fin 2816) :
    iblk m c 2 t (ix3 0 k l) = m ((c : Thread nD τ).loc main_arg2) (ix3 3 k l) := by
  have e : iblk m c 2 t (ix3 0 k l) = m ((c : Thread nD τ).loc main_arg2) (((cfg0.win 2).blk t).view.emb (ix3 0 k l)) :=
    congrFun (V_v1 m c) _
  refine e.trans (congrArg _ (funext fun a => Fin.ext ?_))
  obtain ⟨-, -, h, -⟩ := idx_facts t
  fin_cases a
  · show win0_2.index t 0 * 1 + 1 * 0 = 3
    rw [h]; simp
  · show win0_2.index t 1 * 1024 + 1 * k.val = k.val
    rw [h]; simp
  · show win0_2.index t 2 * 2816 + 1 * l.val = l.val
    rw [h]; simp

theorem block3 (c : Dev nD) (t : Fin cfg0.N) (k : Fin 1024) (l : Fin 2816) :
    iblk m c 3 t (ix3 0 k l) = m ((c : Thread nD τ).loc main_arg3) (ix3 3 k l) := by
  have e : iblk m c 3 t (ix3 0 k l) = m ((c : Thread nD τ).loc main_arg3) (((cfg0.win 3).blk t).view.emb (ix3 0 k l)) :=
    congrFun (V_v2 m c) _
  refine e.trans (congrArg _ (funext fun a => Fin.ext ?_))
  obtain ⟨-, -, -, h, -⟩ := idx_facts t
  fin_cases a
  · show win0_3.index t 0 * 1 + 1 * 0 = 3
    rw [h]; simp
  · show win0_3.index t 1 * 1024 + 1 * k.val = k.val
    rw [h]; simp
  · show win0_3.index t 2 * 2816 + 1 * l.val = l.val
    rw [h]; simp

theorem block4 (c : Dev nD) (t : Fin cfg0.N) (k : Fin 2816) (l : Fin 1024) :
    iblk m c 4 t (ix3 0 k l) = m ((c : Thread nD τ).loc main_arg4) (ix3 3 k l) := by
  have e : iblk m c 4 t (ix3 0 k l) = m ((c : Thread nD τ).loc main_arg4) (((cfg0.win 4).blk t).view.emb (ix3 0 k l)) :=
    congrFun (V_v3 m c) _
  refine e.trans (congrArg _ (funext fun a => Fin.ext ?_))
  obtain ⟨-, -, -, -, h, -⟩ := idx_facts t
  fin_cases a
  · show win0_4.index t 0 * 1 + 1 * 0 = 3
    rw [h]; simp
  · show win0_4.index t 1 * 2816 + 1 * k.val = k.val
    rw [h]; simp
  · show win0_4.index t 2 * 1024 + 1 * l.val = l.val
    rw [h]; simp

theorem block5 (c : Dev nD) (t : Fin cfg0.N) (l : Fin 1024) :
    iblk m c 5 t (ix2 0 l) = m ((c : Thread nD τ).loc main_arg5) (ix1 l) := by
  have e : iblk m c 5 t (ix2 0 l) = broadcastInDim S1x1024 ![1] bcast_S1024_S1x1024_1 (m ((c : Thread nD τ).loc main_arg5)) (((cfg0.win 5).blk t).view.emb (ix2 0 l)) :=
    congrFun (V_v4 m c) _
  rw [e, show ((cfg0.win 5).blk t).view.emb (ix2 0 l) = ix2 (n0 := 1) 0 l from funext fun a => Fin.ext ?_]
  · pointwise
  obtain ⟨-, -, -, -, -, h, -⟩ := idx_facts t
  fin_cases a
  · show win0_5.index t 0 * 1 + 1 * 0 = 0
    rw [h]; simp
  · show win0_5.index t 1 * 1024 + 1 * l.val = l.val
    rw [h]; simp

/-- Where the output window's block at point `t` sits in the array. -/
theorem out_emb (t : Fin cfg0.N) (r : Fin 512) (l : Fin 1024) :
    ((cfg0.win 6).blk t).view.emb (ix2 r l) = ix2 (row t r) l := by
  refine funext fun a => Fin.ext ?_
  obtain ⟨-, -, -, -, -, -, h⟩ := idx_facts t
  fin_cases a
  · show win0_6.index t 0 * 512 + 1 * r.val = t.val * 512 + r.val
    rw [h]; simp
  · show win0_6.index t 1 * 1024 + 1 * l.val = l.val
    rw [h]; simp

end Cert.Proof.FfnBlocks

end
-- ==== Proof.FfnRow.lean ====
/-
  One row of the feed-forward call: the block's row computed in the kernel's body is the reference's row.
-/
module

public import proofs.«01_k».proof.Proof.Gen.FfnIdeal.Skeleton
public import proofs.«01_k».proof.Proof.Gen.FfnRefIdeal.Read
public import Idealize.ShloMosaic.Lib.Pointwise

@[expose] public section

set_option maxRecDepth 16384

noncomputable section

namespace Cert.Proof.FfnRow

open Idealize.ShloMosaic Idealize.ShloMosaic.TcCoe Idealize.SL.Sem Cert.FfnRefIdeal.Read
open Cert.FfnIdeal Cert.FfnIdeal.Gen

/-- The gated hidden row: the normalised row against the two weight matrices, the gate through silu. -/
theorem hidden_row (x0 : Vec Ideal S16384x1024 .f32) (x1 : Vec Ideal S4x1024 .f32) (x2 x3 : Vec Ideal S4x1024x2816 .f32)
    (b0 : Vec Ideal S512x1024 .f32) (b1 : Vec Ideal S1x1x1024 .f32) (b2 b3 : Vec Ideal S1x1024x2816 .bf16) (ρ : Fin 512 → Fin 16384)
    (h0 : ∀ r l, b0 (ix2 r l) = x0 (ix2 (ρ r) l)) (h1 : ∀ l, b1 (ix3 0 0 l) = x1 (ix2 3 l))
    (h2 : ∀ k l, b2 (ix3 0 k l) = x2 (ix3 3 k l)) (h3 : ∀ k l, b3 (ix3 0 k l) = x3 (ix3 3 k l)) (r : Fin 512) (l : Fin 2816) :
    k0_pay3 b0 b1 b2 b3 (ix2 r l) = val_main_v22 x0 x1 x2 x3 (ix2 (ρ r) l) := by
  pointwise [k0_pay3]
  simp only [h0, h1, h2, h3]
  pointwise [val_main_v22, val_main_v21, val_main_v20, val_main_v19, val_main_v18, val_main_call0_v5, val_main_call0_v4, val_main_call0_cst_0, val_main_call0_v3, val_main_call0_v2, val_main_call0_cst, val_main_call0_v1, val_main_call0_v0, val_main_v17, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  simp only [zero_sub]

/-- The finished row: the residual plus half of the hidden row against the down weights, normalised once more. -/
theorem out_row (x0 : Vec Ideal S16384x1024 .f32) (x1 : Vec Ideal S4x1024 .f32) (x2 x3 : Vec Ideal S4x1024x2816 .f32)
    (x4 : Vec Ideal S4x2816x1024 .f32) (x5 : Vec Ideal S1024 .f32)
    (b0 : Vec Ideal S512x1024 .f32) (hid : FVec Ideal S512x2816 .bf16) (b4 : Vec Ideal S1x2816x1024 .bf16) (b5 : Vec Ideal S1x1024 .f32)
    (ρ : Fin 512 → Fin 16384) (h0 : ∀ r l, b0 (ix2 r l) = x0 (ix2 (ρ r) l))
    (hh : ∀ r l, hid (ix2 r l) = val_main_v22 x0 x1 x2 x3 (ix2 (ρ r) l))
    (h4 : ∀ k l, b4 (ix3 0 k l) = x4 (ix3 3 k l)) (h5 : ∀ l, b5 (ix2 0 l) = x5 (ix1 l)) (r : Fin 512) (l : Fin 1024) :
    k0_pay1 b0 k0_pay2 hid (k0_pay4 b4) (constant S512x1024 .f32 0x00000000#32) b5 (ix2 r l) = val_main_v41 x0 x1 x2 x3 x4 x5 (ix2 (ρ r) l) := by
  pointwise [k0_pay1, k0_pay2, k0_pay4]
  simp only [h0, hh, h4, h5]
  pointwise [val_main_v41, val_main_v40, val_main_v39, val_main_v38, val_main_v37, val_main_v36, val_main_v35, val_main_v34, val_main_cst_5, val_main_v33, val_main_v32, val_main_cst_4, val_main_v31, val_main_v30, val_main_cst_3, val_main_v29, val_main_v28, val_main_v27, val_main_v26, val_main_cst_2, val_main_v25, val_main_v24, val_main_v23]

end Cert.Proof.FfnRow

end
-- ==== Proof.FfnValue.lean ====
/-
  The feed-forward call computes its reference: block by block, then the whole array, then the claim.
-/
module

public import proofs.«01_k».proof.Proof.FfnBlocks
public import proofs.«01_k».proof.Proof.FfnRow
public import Idealize.ShloMosaic.Lib.Quiescent

@[expose] public section

set_option maxRecDepth 16384

noncomputable section

namespace Cert.Proof.FfnValue

open Idealize.ShloMosaic Idealize.ShloMosaic.TcCoe Idealize.SL.Sem
open Cert.FfnIdeal Cert.FfnIdeal.Gen Cert.Proof.FfnBlocks

variable (m : (ℓ : Loc nD τ sig) → Buf (Elt Ideal) ℓ)

/-- The reference's result on the call's own arguments. -/
def G (c : Dev nD) : Vec Ideal S16384x1024 .f32 :=
  Cert.FfnRefIdeal.Read.val_main_v41 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, as its stored value. -/
theorem out_eq (x0 : Vec Ideal S512x1024 .f32) (x1 : Vec Ideal S1x1x1024 .f32) (x2 x3 : Vec Ideal S1x1024x2816 .bf16)
    (x4 : Vec Ideal S1x2816x1024 .bf16) (x5 : Vec Ideal S1x1024 .f32) :
    out0_6 x0 x1 x2 x3 x4 x5
      = k0_pay1 x0 k0_pay2 (k0_pay3 x0 x1 x2 x3) (k0_pay4 x4) (constant S512x1024 .f32 0x00000000#32) x5 := by
  unfold out0_6
  rw [View.canon_unit_zero hz2]
  rw [View.ld_unit_zero hz2, View.ld_unit_zero hz3, View.ld_unit_zero hz3, View.ld_unit_zero hz3, View.ld_unit_zero hz3,
    View.ld_unit_zero hz2]

/-- What point `t` writes back is block `t` of the reference's result. -/
theorem flushed_eq (c : Dev nD) (t : Fin cfg0.N) :
    (dats m 0 c).flushed 6 t = ((cfg0.win 6).blk t).view.read (Elt Ideal) (G m c) := by
  rw [Cert.FfnIdeal.Value.flushed6, out_eq]
  funext j
  obtain ⟨r, l, rfl⟩ : ∃ (r : Fin 512) (l : Fin 1024), j = ix2 r l := ⟨j 0, j 1, eq_ix2 j⟩
  show (k0_pay1 (F := Ideal) _ _ _ _ _ _ : Vec Ideal S512x1024 .f32) (ix2 r l) = G m c (((cfg0.win 6).blk t).view.emb (ix2 r l))
  rw [out_emb]
  exact FfnRow.out_row _ _ _ _ _ _ _ _ _ _ (row t) (block0 m c t)
    (FfnRow.hidden_row _ _ _ _ _ _ _ _ (row t) (block0 m c t) (block1 m c t) (block2 m c t) (block3 m c t))
    (block4 m c t) (block5 m c t) r l

theorem mem_blk (t : Fin cfg0.N) (i : S16384x1024.Idx) :
    i ∈ ((cfg0.win 6).blk t).view.set ↔ ∀ a, win0_6.index t a * S512x1024.size a ≤ (i a).val ∧ (i a).val < win0_6.index t a * S512x1024.size a + S512x1024.size a := by
  show i ∈ ((View.whole main_v5).slice (win0_6.rect t)).set ↔ _
  rw [View.set_slice_whole, Rect.mem_set_unit]

/-- Every element of the array lies in some point's block. -/
theorem cover (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  refine ⟨⟨(i 0).val / 512, by show _ < 32; omega⟩, (by decide +kernel : ∀ t : Fin cfg0.N, (cfg0.win 6).flush t = true) _, ?_⟩
  rw [mem_blk]
  obtain ⟨-, -, -, -, -, -, h⟩ := idx_facts ⟨(i 0).val / 512, by show _ < 32; omega⟩
  rw [h]
  intro a
  fin_cases a
  · show (i 0).val / 512 * 512 ≤ (i 0).val ∧ (i 0).val < (i 0).val / 512 * 512 + 512
    omega
  · show 0 * 1024 ≤ (i 1).val ∧ (i 1).val < 0 * 1024 + 1024
    omega

/-- The output array after the run is the reference's result. -/
theorem final_eq (c : Dev nD) : (dats m 0 c).arrAt 6 cfg0.N = G m c :=
  (dats m 0 c).arrAt_eq_of_cover 6 (G m c) (fun t _ => flushed_eq m c t) cover

/-- The two programs' claims of equality: both run, and from equal arguments their results are equal. -/
theorem algebraic : Cert.algebraic_FfnIdeal_FfnRefIdeal (hFfnIdeal := Cert.FfnIdeal.Gen.facts)
    (hFfnRefIdeal := Cert.FfnRefIdeal.Gen.facts) := by
  intro m g m' g' _ hargs
  refine ⟨fun c => G m c, ?_, ?_⟩
  · refine (θ_run (Cert.FfnIdeal.defs (F := Ideal)) _ _).mono (fun r h c => ?_) (Cert.FfnIdeal.Value.run_blocks (F := Ideal) m g)
    obtain ⟨hv, h0⟩ := h c
    exact ⟨hv.trans (final_eq m c), h0⟩
  · refine (θ_run (Cert.FfnRefIdeal.defs (F := Ideal)) _ _).mono (fun r h c => ?_) (Cert.FfnRefIdeal.Value.run (F := Ideal) m' g')
    obtain ⟨hv, h0⟩ := h c
    obtain ⟨e0, e1, e2, e3, e4, e5⟩ := hargs c
    refine ⟨(hv.trans (Cert.FfnRefIdeal.Read.val_main_v41_eq m' c)).trans ?_, h0⟩
    rw [e0, e1, e2, e3, e4, e5]
    rfl

/-- The reference's frame. -/
theorem frame_ref : Cert.quiescent_FfnRefIdeal (hFfnRefIdeal := Cert.FfnRefIdeal.Gen.facts) :=
  fun m g _ => (θ_run Cert.FfnRefIdeal.defs _ _).mono
    (fun r h => ⟨fun c => (h c).2, sem_eq_zero_of_no_sems (by decide) r.2⟩) (Cert.FfnRefIdeal.Value.run m g)

end Cert.Proof.FfnValue

end
-- ==== Proof.Coords.lean ====
/-
  Indices of rank two and three from the values of their coordinates, and the zero offsets of whole-block accesses.
-/
module

public import Idealize.ShloMosaic.Lib.Pointwise

@[expose] public section

noncomputable section

namespace Cert.Proof.Coords

open Idealize.ShloMosaic

/-- An index of rank two is the one with the same coordinates. -/
theorem ext2 {n0 n1 : ℕ} {x : (⟨2, ![n0, n1]⟩ : Shape).Idx} {a : Fin n0} {b : Fin n1} (h0 : (x 0).val = a.val)
    (h1 : (x 1).val = b.val) : x = ix2 a b := by
  refine funext fun i => Fin.ext ?_
  fin_cases i
  · exact h0
  · exact h1

/-- An index of rank three is the one with the same coordinates. -/
theorem ext3 {n0 n1 n2 : ℕ} {x : (⟨3, ![n0, n1, n2]⟩ : Shape).Idx} {a : Fin n0} {b : Fin n1} {c : Fin n2}
    (h0 : (x 0).val = a.val) (h1 : (x 1).val = b.val) (h2 : (x 2).val = c.val) : x = ix3 a b c := by
  refine funext fun i => Fin.ext ?_
  fin_cases i
  · exact h0
  · exact h1
  · exact h2

theorem zero2 : (![0, 0] : Fin 2 → Nat) = fun _ => 0 := funext fun a => by fin_cases a <;> rfl
theorem zero3 : (![0, 0, 0] : Fin 3 → Nat) = fun _ => 0 := funext fun a => by fin_cases a <;> rfl

/-- A function of equal arguments has equal values. -/
theorem same_three {α β γ δ : Type} (f : α → β → γ → δ) {x0 y0 : α} {x1 y1 : β} {x2 y2 : γ} (h0 : x0 = y0) (h1 : x1 = y1)
    (h2 : x2 = y2) : f x0 x1 x2 = f y0 y1 y2 := by
  rw [h0, h1, h2]

theorem same_six {α β γ ε ζ η δ : Type} (f : α → β → γ → ε → ζ → η → δ) {x0 y0 : α} {x1 y1 : β} {x2 y2 : γ} {x3 y3 : ε} {x4 y4 : ζ}
    {x5 y5 : η} (h0 : x0 = y0) (h1 : x1 = y1) (h2 : x2 = y2) (h3 : x3 = y3) (h4 : x4 = y4) (h5 : x5 = y5) :
    f x0 x1 x2 x3 x4 x5 = f y0 y1 y2 y3 y4 y5 := by
  rw [h0, h1, h2, h3, h4, h5]

/-- Where an element of a block lies in its array: in the last layer, or at its own place. -/
theorem last_layer {n1 n2 : ℕ} (ix : Fin 3 → ℕ) (h : ix = ![3, 0, 0]) (k : Fin n1) (l : Fin n2) (x : (⟨3, ![4, n1, n2]⟩ : Shape).Idx)
    (h0 : (x 0).val = ix 0 * 1 + 1 * 0) (h1 : (x 1).val = ix 1 * n1 + 1 * k.val) (h2 : (x 2).val = ix 2 * n2 + 1 * l.val) :
    x = ix3 3 k l := by
  subst h
  exact ext3 h0 (h1.trans (by show 0 * n1 + 1 * k.val = k.val; omega)) (h2.trans (by show 0 * n2 + 1 * l.val = l.val; omega))

theorem same_place {n0 n1 : ℕ} (ix : Fin 2 → ℕ) (h : ix = ![0, 0]) (r : Fin n0) (j : Fin n1) (x : (⟨2, ![n0, n1]⟩ : Shape).Idx)
    (h0 : (x 0).val = ix 0 * n0 + 1 * r.val) (h1 : (x 1).val = ix 1 * n1 + 1 * j.val) : x = ix2 r j := by
  subst h
  exact ext2 (h0.trans (by show 0 * n0 + 1 * r.val = r.val; omega)) (h1.trans (by show 0 * n1 + 1 * j.val = j.val; omega))

theorem same_place3 {n1 n2 : ℕ} (ix : Fin 3 → ℕ) (h : ix = ![0, 0, 0]) (d : Fin n1) (r : Fin n2) (x : (⟨3, ![1, n1, n2]⟩ : Shape).Idx)
    (h0 : (x 0).val = ix 0 * 1 + 1 * 0) (h1 : (x 1).val = ix 1 * n1 + 1 * d.val) (h2 : (x 2).val = ix 2 * n2 + 1 * r.val) :
    x = ix3 0 d r := by
  subst h
  exact ext3 h0 (h1.trans (by show 0 * n1 + 1 * d.val = d.val; omega)) (h2.trans (by show 0 * n2 + 1 * r.val = r.val; omega))

/-- The one block is the whole array. -/
theorem whole2 {n0 n1 : ℕ} (i : (⟨2, ![n0, n1]⟩ : Shape).Idx) (ix : Fin 2 → ℕ) (h : ix = ![0, 0]) :
    ∀ a, ix a * ![n0, n1] a ≤ (i a).val ∧ (i a).val < ix a * ![n0, n1] a + ![n0, n1] a := by
  subst h
  have h0 : (i 0).val < n0 := (i 0).isLt
  have h1 : (i 1).val < n1 := (i 1).isLt
  intro a
  fin_cases a
  · show 0 * n0 ≤ (i 0).val ∧ (i 0).val < 0 * n0 + n0
    omega
  · show 0 * n1 ≤ (i 1).val ∧ (i 1).val < 0 * n1 + n1
    omega

theorem whole3 {n0 n1 n2 : ℕ} (i : (⟨3, ![n0, n1, n2]⟩ : Shape).Idx) (ix : Fin 3 → ℕ) (h : ix = ![0, 0, 0]) :
    ∀ a, ix a * ![n0, n1, n2] a ≤ (i a).val ∧ (i a).val < ix a * ![n0, n1, n2] a + ![n0, n1, n2] a := by
  subst h
  have h0 : (i 0).val < n0 := (i 0).isLt
  have h1 : (i 1).val < n1 := (i 1).isLt
  have h2 : (i 2).val < n2 := (i 2).isLt
  intro a
  fin_cases a
  · show 0 * n0 ≤ (i 0).val ∧ (i 0).val < 0 * n0 + n0
    omega
  · show 0 * n1 ≤ (i 1).val ∧ (i 1).val < 0 * n1 + n1
    omega
  · show 0 * n2 ≤ (i 2).val ∧ (i 2).val < 0 * n2 + n2
    omega

end Cert.Proof.Coords

end
-- ==== Proof.MergeBlocks.lean ====
/-
  The merge call's input blocks: what each window's block holds at each grid point, as elements of the argument arrays.
-/
module

public import proofs.«01_k».proof.Defs
public import proofs.«01_k».proof.Proof.Gen.MergeIdeal.Value
public import proofs.«01_k».proof.Proof.Coords

@[expose] public section

set_option maxRecDepth 16384

noncomputable section

namespace Cert.Proof.MergeBlocks

open Idealize.ShloMosaic Idealize.ShloMosaic.TcCoe Idealize.SL.Sem
open Cert.MergeIdeal Cert.MergeIdeal.Gen Cert.Proof.Coords

variable (m : (ℓ : Loc nD τ sig) → Buf (Elt Ideal) ℓ)

/-- Where each window's block sits, decided over the 32 points: the token windows advance with the point, the weight
    windows stay at the last layer. -/
theorem idx_facts : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![3, 0, 0] ∧ win0_6.index t = ![3, 0, 0]
    ∧ win0_7.index t = ![3, 0, 0] ∧ win0_8.index t = ![3, 0, 0] ∧ win0_9.index t = ![t.val, 0] :=
  (by decide +kernel : ∀ t : Fin grid0.N, _)

/-- The weights as the region finds them: the arguments in the narrower format. -/
theorem V_v0 (c : Dev nD) : V m c main_v0 = truncf (F := Ideal) .bf16 (m ((c : Thread nD τ).loc main_arg5)) bitsLt_bf16_f32 := by
  unfold_abbrev_sides
  after_results

theorem V_v1 (c : Dev nD) : V m c main_v1 = truncf (F := Ideal) .bf16 (m ((c : Thread nD τ).loc main_arg6)) bitsLt_bf16_f32 := by
  unfold_abbrev_sides
  after_results

theorem V_v2 (c : Dev nD) : V m c main_v2 = truncf (F := Ideal) .bf16 (m ((c : Thread nD τ).loc main_arg7)) bitsLt_bf16_f32 := by
  unfold_abbrev_sides
  after_results

theorem V_v3 (c : Dev nD) : V m c main_v3 = truncf (F := Ideal) .bf16 (m ((c : Thread nD τ).loc main_arg8)) bitsLt_bf16_f32 := by
  unfold_abbrev_sides
  after_results

/-- The row of the arrays that row `r` of the block at point `t` is. -/
def row (t : Fin cfg0.N) (r : Fin 512) : Fin 16384 := ⟨t.val * 512 + r.val, by have h : t.val < 32 := t.isLt; omega⟩

theorem block0 (c : Dev nD) (t : Fin cfg0.N) (r : Fin 512) (l : Fin 1024) :
    iblk m c 0 t (ix2 r l) = m ((c : Thread nD τ).loc main_arg0) (ix2 (row t r) l) := by
  have e : iblk m c 0 t (ix2 r l) = m ((c : Thread nD τ).loc main_arg0) (((cfg0.win 0).blk t).view.emb (ix2 r l)) :=
    congrFun (V_main_arg0 m c) _
  have h := (idx_facts t).1
  rw [e]
  refine congrArg _ (ext2 ?_ ?_)
  · show win0_0.index t 0 * 512 + 1 * r.val = t.val * 512 + r.val
    rw [h]; simp
  · show win0_0.index t 1 * 1024 + 1 * l.val = l.val
    rw [h]; simp

theorem block1 (c : Dev nD) (t : Fin cfg0.N) (r l : Fin 512) :
    iblk m c 1 t (ix2 r l) = m ((c : Thread nD τ).loc main_arg1) (ix2 (row t r) l) := by
  have e : iblk m c 1 t (ix2 r l) = m ((c : Thread nD τ).loc main_arg1) (((cfg0.win 1).blk t).view.emb (ix2 r l)) :=
    congrFun (V_main_arg1 m c) _
  have h := (idx_facts t).2.1
  rw [e]
  refine congrArg _ (ext2 ?_ ?_)
  · show win0_1.index t 0 * 512 + 1 * r.val = t.val * 512 + r.val
    rw [h]; simp
  · show win0_1.index t 1 * 512 + 1 * l.val = l.val
    rw [h]; simp

theorem block2 (c : Dev nD) (t : Fin cfg0.N) (r l : Fin 512) :
    iblk m c 2 t (ix2 r l) = m ((c : Thread nD τ).loc main_arg2) (ix2 (row t r) l) := by
  have e : iblk m c 2 t (ix2 r l) = m ((c : Thread nD τ).loc main_arg2) (((cfg0.win 2).blk t).view.emb (ix2 r l)) :=
    congrFun (V_main_arg2 m c) _
  have h := (idx_facts t).2.2.1
  rw [e]
  refine congrArg _ (ext2 ?_ ?_)
  · show win0_2.index t 0 * 512 + 1 * r.val = t.val * 512 + r.val
    rw [h]; simp
  · show win0_2.index t 1 * 512 + 1 * l.val = l.val
    rw [h]; simp

theorem block3 (c : Dev nD) (t : Fin cfg0.N) (r l : Fin 512) :
    iblk m c 3 t (ix2 r l) = m ((c : Thread nD τ).loc main_arg3) (ix2 (row t r) l) := by
  have e : iblk m c 3 t (ix2 r l) = m ((c : Thread nD τ).loc main_arg3) (((cfg0.win 3).blk t).view.emb (ix2 r l)) :=
    congrFun (V_main_arg3 m c) _
  have h := (idx_facts t).2.2.2.1
  rw [e]
  refine congrArg _ (ext2 ?_ ?_)
  · show win0_3.index t 0 * 512 + 1 * r.val = t.val * 512 + r.val
    rw [h]; simp
  · show win0_3.index t 1 * 512 + 1 * l.val = l.val
    rw [h]; simp

theorem block4 (c : Dev nD) (t : Fin cfg0.N) (r : Fin 512) (l : Fin 3072) :
    iblk m c 4 t (ix2 r l) = m ((c : Thread nD τ).loc main_arg4) (ix2 (row t r) l) := by
  have e : iblk m c 4 t (ix2 r l) = m ((c : Thread nD τ).loc main_arg4) (((cfg0.win 4).blk t).view.emb (ix2 r l)) :=
    congrFun (V_main_arg4 m c) _
  have h := (idx_facts t).2.2.2.2.1
  rw [e]
  refine congrArg _ (ext2 ?_ ?_)
  · show win0_4.index t 0 * 512 + 1 * r.val = t.val * 512 + r.val
    rw [h]; simp
  · show win0_4.index t 1 * 3072 + 1 * l.val = l.val
    rw [h]; simp

theorem block5 (c : Dev nD) (t : Fin cfg0.N) (k : Fin 512) (l : Fin 1024) :
    iblk m c 5 t (ix3 0 k l) = m ((c : Thread nD τ).loc main_arg5) (ix3 3 k l) := by
  have e : iblk m c 5 t (ix3 0 k l) = m ((c : Thread nD τ).loc main_arg5) (((cfg0.win 5).blk t).view.emb (ix3 0 k l)) :=
    congrFun (V_v0 m c) _
  have h := (idx_facts t).2.2.2.2.2.1
  rw [e]
  refine congrArg _ (ext3 ?_ ?_ ?_)
  · show win0_5.index t 0 * 1 + 1 * 0 = 3
    rw [h]; simp
  · show win0_5.index t 1 * 512 + 1 * k.val = k.val
    rw [h]; simp
  · show win0_5.index t 2 * 1024 + 1 * l.val = l.val
    rw [h]; simp

theorem block6 (c : Dev nD) (t : Fin cfg0.N) (k : Fin 512) (l : Fin 1024) :
    iblk m c 6 t (ix3 0 k l) = m ((c : Thread nD τ).loc main_arg6) (ix3 3 k l) := by
  have e : iblk m c 6 t (ix3 0 k l) = m ((c : Thread nD τ).loc main_arg6) (((cfg0.win 6).blk t).view.emb (ix3 0 k l)) :=
    congrFun (V_v1 m c) _
  have h := (idx_facts t).2.2.2.2.2.2.1
  rw [e]
  refine congrArg _ (ext3 ?_ ?_ ?_)
  · show win0_6.index t 0 * 1 + 1 * 0 = 3
    rw [h]; simp
  · show win0_6.index t 1 * 512 + 1 * k.val = k.val
    rw [h]; simp
  · show win0_6.index t 2 * 1024 + 1 * l.val = l.val
    rw [h]; simp

theorem block7 (c : Dev nD) (t : Fin cfg0.N) (k : Fin 512) (l : Fin 1024) :
    iblk m c 7 t (ix3 0 k l) = m ((c : Thread nD τ).loc main_arg7) (ix3 3 k l) := by
  have e : iblk m c 7 t (ix3 0 k l) = m ((c : Thread nD τ).loc main_arg7) (((cfg0.win 7).blk t).view.emb (ix3 0 k l)) :=
    congrFun (V_v2 m c) _
  have h := (idx_facts t).2.2.2.2.2.2.2.1
  rw [e]
  refine congrArg _ (ext3 ?_ ?_ ?_)
  · show win0_7.index t 0 * 1 + 1 * 0 = 3
    rw [h]; simp
  · show win0_7.index t 1 * 512 + 1 * k.val = k.val
    rw [h]; simp
  · show win0_7.index t 2 * 1024 + 1 * l.val = l.val
    rw [h]; simp

theorem block8 (c : Dev nD) (t : Fin cfg0.N) (k l : Fin 1024) :
    iblk m c 8 t (ix3 0 k l) = m ((c : Thread nD τ).loc main_arg8) (ix3 3 k l) := by
  have e : iblk m c 8 t (ix3 0 k l) = m ((c : Thread nD τ).loc main_arg8) (((cfg0.win 8).blk t).view.emb (ix3 0 k l)) :=
    congrFun (V_v3 m c) _
  have h := (idx_facts t).2.2.2.2.2.2.2.2.1
  rw [e]
  refine congrArg _ (ext3 ?_ ?_ ?_)
  · show win0_8.index t 0 * 1 + 1 * 0 = 3
    rw [h]; simp
  · show win0_8.index t 1 * 1024 + 1 * k.val = k.val
    rw [h]; simp
  · show win0_8.index t 2 * 1024 + 1 * l.val = l.val
    rw [h]; simp

/-- Where the output window's block at point `t` sits in the array. -/
theorem out_emb (t : Fin cfg0.N) (r : Fin 512) (l : Fin 1024) :
    ((cfg0.win 9).blk t).view.emb (ix2 r l) = ix2 (row t r) l := by
  have h := (idx_facts t).2.2.2.2.2.2.2.2.2
  refine ext2 ?_ ?_
  · show win0_9.index t 0 * 512 + 1 * r.val = t.val * 512 + r.val
    rw [h]; simp
  · show win0_9.index t 1 * 1024 + 1 * l.val = l.val
    rw [h]; simp

end Cert.Proof.MergeBlocks

end
-- ==== Proof.MergeRow.lean ====
/-
  One row of the merge call: the block's row computed in the kernel's body is the reference's row.
-/
module

public import proofs.«01_k».proof.Proof.Gen.MergeIdeal.Frame
public import proofs.«01_k».proof.Proof.Gen.MergeRefIdeal.Read
public import proofs.«01_k».proof.Proof.Coords

@[expose] public section

set_option maxRecDepth 16384

noncomputable section

namespace Cert.Proof.MergeRow

open Idealize.ShloMosaic Idealize.ShloMosaic.TcCoe Idealize.SL.Sem Cert.MergeRefIdeal.Read
open Cert.MergeIdeal Cert.MergeIdeal.Gen Cert.Proof.Coords

/-- What the body leaves in the output block, as its stored value. -/
theorem out_eq (x0 : Vec Ideal S512x1024 .f32) (x1 x2 x3 : Vec Ideal S512x512 .bf16) (x4 : Vec Ideal S512x3072 .f32)
    (x5 x6 x7 : Vec Ideal S1x512x1024 .bf16) (x8 : Vec Ideal S1x1024x1024 .bf16) :
    out0_9 x0 x1 x2 x3 x4 x5 x6 x7 x8
      = k0_pay1 (k0_pay2 (View.ld x4 r0_0) x1 x5 (View.ld x4 r0_3) x2 x6) (k0_pay3 (View.ld x4 r0_4)) x3 x7 x0 x8 := by
  unfold out0_9
  rw [View.canon_unit_zero zero2, View.ld_unit_zero zero2, View.ld_unit_zero zero3, View.ld_unit_zero zero2,
    View.ld_unit_zero zero3, View.ld_unit_zero zero2, View.ld_unit_zero zero3, View.ld_unit_zero zero2, View.ld_unit_zero zero3]

/-- The finished row: the residual plus the gated sum of the three branches against the output weights. -/
theorem out_row (x0 : Vec Ideal S16384x1024 .f32) (x1 x2 x3 : Vec Ideal S16384x512 .bf16) (x4 : Vec Ideal S16384x3072 .f32)
    (x5 x6 x7 : Vec Ideal S4x512x1024 .f32) (x8 : Vec Ideal S4x1024x1024 .f32)
    (b0 : Vec Ideal S512x1024 .f32) (b1 b2 b3 : Vec Ideal S512x512 .bf16) (b4 : Vec Ideal S512x3072 .f32)
    (b5 b6 b7 : Vec Ideal S1x512x1024 .bf16) (b8 : Vec Ideal S1x1024x1024 .bf16)
    (ρ : Fin 512 → Fin 16384) (h0 : ∀ r l, b0 (ix2 r l) = x0 (ix2 (ρ r) l)) (h1 : ∀ r l, b1 (ix2 r l) = x1 (ix2 (ρ r) l))
    (h2 : ∀ r l, b2 (ix2 r l) = x2 (ix2 (ρ r) l)) (h3 : ∀ r l, b3 (ix2 r l) = x3 (ix2 (ρ r) l))
    (h4 : ∀ r l, b4 (ix2 r l) = x4 (ix2 (ρ r) l)) (h5 : ∀ k l, b5 (ix3 0 k l) = x5 (ix3 3 k l))
    (h6 : ∀ k l, b6 (ix3 0 k l) = x6 (ix3 3 k l)) (h7 : ∀ k l, b7 (ix3 0 k l) = x7 (ix3 3 k l))
    (h8 : ∀ k l, b8 (ix3 0 k l) = x8 (ix3 3 k l)) (r : Fin 512) (l : Fin 1024) :
    k0_pay1 (k0_pay2 (View.ld b4 r0_0) b1 b5 (View.ld b4 r0_3) b2 b6) (k0_pay3 (View.ld b4 r0_4)) b3 b7 b0 b8 (ix2 r l)
      = val_main_v33 x0 x1 x2 x3 x4 x5 x6 x7 x8 (ix2 (ρ r) l) := by
  pointwise [k0_pay1, k0_pay2, k0_pay3]
  simp only [h0, h1, h2, h3, h4, h5, h6, h7, h8, zero_sub]
  pointwise [val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_cst_0, val_main_v6, val_main_v5, val_main_cst, val_main_v4,
    val_main_v3, val_main_v2, val_main_v1, val_main_v0]

end Cert.Proof.MergeRow

end
-- ==== Proof.MergeValue.lean ====
/-
  The merge call computes its reference: block by block, then the whole array, then the claim.
-/
module

public import proofs.«01_k».proof.Proof.MergeBlocks
public import proofs.«01_k».proof.Proof.MergeRow
public import Idealize.ShloMosaic.Lib.Quiescent

@[expose] public section

set_option maxRecDepth 16384

noncomputable section

namespace Cert.Proof.MergeValue

open Idealize.ShloMosaic Idealize.ShloMosaic.TcCoe Idealize.SL.Sem
open Cert.MergeIdeal Cert.MergeIdeal.Gen Cert.Proof.MergeBlocks

variable (m : (ℓ : Loc nD τ sig) → Buf (Elt Ideal) ℓ)

/-- The reference's result on the call's own arguments. -/
def G (c : Dev nD) : Vec Ideal S16384x1024 .f32 :=
  Cert.MergeRefIdeal.Read.val_main_v33 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- What point `t` writes back is block `t` of the reference's result. -/
theorem flushed_eq (c : Dev nD) (t : Fin cfg0.N) :
    (dats m 0 c).flushed 9 t = ((cfg0.win 9).blk t).view.read (Elt Ideal) (G m c) := by
  rw [Cert.MergeIdeal.Value.flushed9, MergeRow.out_eq]
  funext j
  obtain ⟨r, l, rfl⟩ : ∃ (r : Fin 512) (l : Fin 1024), j = ix2 r l := ⟨j 0, j 1, eq_ix2 j⟩
  show (k0_pay1 (F := Ideal) _ _ _ _ _ _ : Vec Ideal S512x1024 .f32) (ix2 r l) = G m c (((cfg0.win 9).blk t).view.emb (ix2 r l))
  rw [out_emb]
  exact MergeRow.out_row _ _ _ _ _ _ _ _ _ _ _ _ _ _ _ _ _ _ (row t) (block0 m c t) (block1 m c t) (block2 m c t)
    (block3 m c t) (block4 m c t) (block5 m c t) (block6 m c t) (block7 m c t) (block8 m c t) r l

theorem mem_blk (t : Fin cfg0.N) (i : S16384x1024.Idx) :
    i ∈ ((cfg0.win 9).blk t).view.set ↔ ∀ a, win0_9.index t a * S512x1024.size a ≤ (i a).val ∧ (i a).val < win0_9.index t a * S512x1024.size a + S512x1024.size a := by
  show i ∈ ((View.whole main_v4).slice (win0_9.rect t)).set ↔ _
  rw [View.set_slice_whole, Rect.mem_set_unit]

/-- Every element of the array lies in some point's block. -/
theorem cover (i : S16384x1024.Idx) : ∃ t : Fin cfg0.N, (cfg0.win 9).flush t = true ∧ i ∈ ((cfg0.win 9).blk t).view.set := by
  have h0 : (i 0).val < 16384 := (i 0).isLt
  have h1 : (i 1).val < 1024 := (i 1).isLt
  refine ⟨⟨(i 0).val / 512, by show _ < 32; omega⟩, (by decide +kernel : ∀ t : Fin cfg0.N, (cfg0.win 9).flush t = true) _, ?_⟩
  rw [mem_blk, (idx_facts ⟨(i 0).val / 512, by show _ < 32; omega⟩).2.2.2.2.2.2.2.2.2]
  intro a
  fin_cases a
  · show (i 0).val / 512 * 512 ≤ (i 0).val ∧ (i 0).val < (i 0).val / 512 * 512 + 512
    omega
  · show 0 * 1024 ≤ (i 1).val ∧ (i 1).val < 0 * 1024 + 1024
    omega

/-- The output array after the run is the reference's result. -/
theorem final_eq (c : Dev nD) : (dats m 0 c).arrAt 9 cfg0.N = G m c :=
  (dats m 0 c).arrAt_eq_of_cover 9 (G m c) (fun t _ => flushed_eq m c t) cover

/-- The claim of equality: both programs run, and from equal arguments their results are equal. -/
theorem algebraic : Cert.algebraic_MergeIdeal_MergeRefIdeal (hMergeIdeal := Cert.MergeIdeal.Gen.facts)
    (hMergeRefIdeal := Cert.MergeRefIdeal.Gen.facts) := by
  intro m g m' g' _ hargs
  refine ⟨fun c => G m c, ?_, ?_⟩
  · refine (θ_run (Cert.MergeIdeal.defs (F := Ideal)) _ _).mono (fun r h c => ?_) (Cert.MergeIdeal.Value.run_blocks (F := Ideal) m g)
    obtain ⟨hv, h0⟩ := h c
    exact ⟨hv.trans (final_eq m c), h0⟩
  · refine (θ_run (Cert.MergeRefIdeal.defs (F := Ideal)) _ _).mono (fun r h c => ?_) (Cert.MergeRefIdeal.Value.run (F := Ideal) m' g')
    obtain ⟨hv, h0⟩ := h c
    obtain ⟨e0, e1, e2, e3, e4, e5, e6, e7, e8⟩ := hargs c
    refine ⟨(hv.trans (Cert.MergeRefIdeal.Read.val_main_v33_eq _ _ _ _ _ _ _ _ _)).trans ?_, h0⟩
    rw [e0, e1, e2, e3, e4, e5, e6, e7, e8]
    rfl

/-- The reference's frame. -/
theorem frame_ref : Cert.quiescent_MergeRefIdeal (hMergeRefIdeal := Cert.MergeRefIdeal.Gen.facts) :=
  fun m g _ => (θ_run Cert.MergeRefIdeal.defs _ _).mono
    (fun r h => ⟨fun c => (h c).2, sem_eq_zero_of_no_sems (by decide) r.2⟩) (Cert.MergeRefIdeal.Value.run m g)

end Cert.Proof.MergeValue

end
-- ==== Proof.FoxHeads.lean ====
/-
  The eight heads of the fox kernel: the rectangle each head's row of maxima, of sums and of weighted values takes in
  the buffers, what a list of eight stores leaves there, and what one tile's payloads are over the extended reals.
-/
module

public import proofs.«01_k».proof.Proof.Gen.KernelIdeal.Skeleton
public import proofs.«01_k».proof.Proof.Coords
public import Idealize.ShloMosaic.Lib.WritesUnit
public import Idealize.ShloMosaic.Lib.Pointwise
public import Idealize.ShloMosaic.Lib.Pipeline.FrameBody

@[expose] public section

noncomputable section

namespace Cert.KernelIdeal.Fox

open Idealize.ShloMosaic Idealize.ShloMosaic.TcCoe Idealize.SL.Sem
open Cert.KernelIdeal Cert.KernelIdeal.Gen Cert.Proof.Coords

/-- Head `h`'s row of the maxima and of the sums. -/
abbrev rect3 (h : Fin 8) : Rect S8x1x512 := Rect.unit (s := S8x1x512) ![h.val, 0, 0] S1x1x512.size (fun a => by
  fin_cases a
  · show h.val + 1 ≤ 8; omega
  · show 0 + 1 ≤ 1; omega
  · show 0 + 512 ≤ 512; omega)

/-- Head `h`'s rows of the weighted values. -/
abbrev rect2 (h : Fin 8) : Rect S512x512 := Rect.unit (s := S512x512) ![64 * h.val, 0] S64x512.size (fun a => by
  fin_cases a
  · show 64 * h.val + 64 ≤ 512; omega
  · show 0 + 512 ≤ 512; omega)

/-- Head `h`'s columns of one tile of augmented keys. -/
abbrev kaugRect (o : ℕ) (ho : o + 512 ≤ 2048) (h : Fin 8) : Rect S2048x1024 :=
  Rect.unit (s := S2048x1024) ![o, 128 * h.val] S512x128.size (fun a => by
    fin_cases a
    · exact ho
    · show 128 * h.val + 128 ≤ 1024; omega)

/-- Head `h`'s columns of the augmented queries. -/
abbrev qaugRect (h : Fin 8) : Rect S512x1024 :=
  Rect.unit (s := S512x1024) ![0, 128 * h.val] S512x128.size (fun a => by
    fin_cases a
    · show 0 + 512 ≤ 512; omega
    · show 128 * h.val + 128 ≤ 1024; omega)

/-- Head `h`'s rows of one tile of values. -/
abbrev vtRect (o : ℕ) (ho : o + 512 ≤ 2048) (h : Fin 8) : Rect S512x2048 :=
  Rect.unit (s := S512x2048) ![64 * h.val, o] S64x512.size (fun a => by
    fin_cases a
    · show 64 * h.val + 64 ≤ 512; omega
    · exact ho)

/-- The heads, the last one first. -/
abbrev headsDown : List (Fin 8) := [7, 6, 5, 4, 3, 2, 1, 0]

/-- One store per head into the maxima or the sums, the last head's first. -/
abbrev heads3 (w : Fin 8 → (S1x1x512.Idx → Elt Ideal .f32)) : List (View.Piece (Elt Ideal) S8x1x512 .f32) :=
  headsDown.map fun h => ⟨rect3 h, w h⟩

/-- One store per head into the weighted values, the last head's first. -/
abbrev heads2 (w : Fin 8 → (S64x512.Idx → Elt Ideal .f32)) : List (View.Piece (Elt Ideal) S512x512 .f32) :=
  headsDown.map fun h => ⟨rect2 h, w h⟩

/-- A tile's new maxima. -/
abbrev mP (st : FVec Ideal S512x512 .f32) (mo : Vec Ideal S1x1x512 .f32) : FVec Ideal S1x1x512 .f32 := k0_pay33 st mo
/-- A tile's new sums of weights. -/
abbrev lP (st : FVec Ideal S512x512 .f32) (mo lo : Vec Ideal S1x1x512 .f32) : FVec Ideal S1x1x512 .f32 := k0_pay34 st mo lo
/-- A tile's new weighted sums of values. -/
abbrev aP (st : FVec Ideal S512x512 .f32) (mo : Vec Ideal S1x1x512 .f32) (ao : Vec Ideal S64x512 .f32)
    (vt : Vec Ideal S64x512 .bf16) : FVec Ideal S64x512 .f32 := k0_pay36 (k0_pay35 st mo ao vt)

/-! ## What the stores leave -/

section Reads

variable {sig' : RefSig} {κ : Kind} {sp : Space}

/-- A store at head `h'` leaves the other heads. -/
theorem read_cons3_ne (v : View sig' κ sp S8x1x512 .f32) (f : v.ty.Contents (Elt Ideal)) (h' h : Fin 8) (hne : h ≠ h')
    (w : S1x1x512.Idx → Elt Ideal .f32) (L : List (View.Piece (Elt Ideal) S8x1x512 .f32)) (t : Fin 512) :
    v.read (Elt Ideal) (v.writes (Elt Ideal) f (⟨rect3 h', w⟩ :: L)) (ix3 h 0 t)
      = v.read (Elt Ideal) (v.writes (Elt Ideal) f L) (ix3 h 0 t) :=
  View.read_writes_cons_unit_of_not_mem v f _ w L (ix3 h 0 t) rfl 0 (by
    show h.val < h'.val ∨ h'.val + 1 ≤ h.val
    have : h.val ≠ h'.val := fun e => hne (Fin.ext e)
    omega)

/-- and sets its own. -/
theorem read_cons3_eq (v : View sig' κ sp S8x1x512 .f32) (f : v.ty.Contents (Elt Ideal)) (h : Fin 8)
    (w : S1x1x512.Idx → Elt Ideal .f32) (L : List (View.Piece (Elt Ideal) S8x1x512 .f32)) (t : Fin 512) :
    v.read (Elt Ideal) (v.writes (Elt Ideal) f (⟨rect3 h, w⟩ :: L)) (ix3 h 0 t) = w (ix3 0 0 t) :=
  View.read_writes_cons_unit_of_mem v f _ w L (ix3 h 0 t) (ix3 0 0 t) rfl (fun a => by
    fin_cases a
    · rfl
    · rfl
    · exact (Nat.zero_add _).symm)

/-- Row `64 h + d` of the weighted values. -/
abbrev hd (h : Fin 8) (d : Fin 64) : Fin 512 := ⟨64 * h.val + d.val, by omega⟩

theorem read_cons2_ne (v : View sig' κ sp S512x512 .f32) (f : v.ty.Contents (Elt Ideal)) (h' h : Fin 8) (hne : h ≠ h')
    (w : S64x512.Idx → Elt Ideal .f32) (L : List (View.Piece (Elt Ideal) S512x512 .f32)) (d : Fin 64) (t : Fin 512) :
    v.read (Elt Ideal) (v.writes (Elt Ideal) f (⟨rect2 h', w⟩ :: L)) (ix2 (hd h d) t)
      = v.read (Elt Ideal) (v.writes (Elt Ideal) f L) (ix2 (hd h d) t) :=
  View.read_writes_cons_unit_of_not_mem v f _ w L (ix2 (hd h d) t) rfl 0 (by
    show 64 * h.val + d.val < 64 * h'.val ∨ 64 * h'.val + 64 ≤ 64 * h.val + d.val
    have : h.val ≠ h'.val := fun e => hne (Fin.ext e)
    omega)

theorem read_cons2_eq (v : View sig' κ sp S512x512 .f32) (f : v.ty.Contents (Elt Ideal)) (h : Fin 8)
    (w : S64x512.Idx → Elt Ideal .f32) (L : List (View.Piece (Elt Ideal) S512x512 .f32)) (d : Fin 64) (t : Fin 512) :
    v.read (Elt Ideal) (v.writes (Elt Ideal) f (⟨rect2 h, w⟩ :: L)) (ix2 (hd h d) t) = w (ix2 d t) :=
  View.read_writes_cons_unit_of_mem v f _ w L (ix2 (hd h d) t) (ix2 d t) rfl (fun a => by
    fin_cases a
    · rfl
    · exact (Nat.zero_add _).symm)

/-- After stores at distinct heads a head stored holds its store. -/
theorem read_map3 (v : View sig' κ sp S8x1x512 .f32) (f : v.ty.Contents (Elt Ideal))
    (w : Fin 8 → (S1x1x512.Idx → Elt Ideal .f32)) (h : Fin 8) (t : Fin 512) : ∀ hs : List (Fin 8), h ∈ hs →
    v.read (Elt Ideal) (v.writes (Elt Ideal) f (hs.map fun h => ⟨rect3 h, w h⟩)) (ix3 h 0 t) = w h (ix3 0 0 t)
  | [], hm => by simp at hm
  | h' :: hs, hm => by
    rw [List.map_cons]
    by_cases e : h = h'
    · subst e; exact read_cons3_eq v f h (w h) _ t
    · rw [read_cons3_ne v f h' h e]
      exact read_map3 v f w h t hs ((List.mem_cons.mp hm).resolve_left e)

theorem read_map2 (v : View sig' κ sp S512x512 .f32) (f : v.ty.Contents (Elt Ideal))
    (w : Fin 8 → (S64x512.Idx → Elt Ideal .f32)) (h : Fin 8) (d : Fin 64) (t : Fin 512) : ∀ hs : List (Fin 8), h ∈ hs →
    v.read (Elt Ideal) (v.writes (Elt Ideal) f (hs.map fun h => ⟨rect2 h, w h⟩)) (ix2 (hd h d) t) = w h (ix2 d t)
  | [], hm => by simp at hm
  | h' :: hs, hm => by
    rw [List.map_cons]
    by_cases e : h = h'
    · subst e; exact read_cons2_eq v f h (w h) _ d t
    · rw [read_cons2_ne v f h' h e]
      exact read_map2 v f w h d t hs ((List.mem_cons.mp hm).resolve_left e)

theorem mem_headsDown (h : Fin 8) : h ∈ headsDown := by fin_cases h <;> decide

/-- A load of head `h`'s row reads that head. -/
theorem readAt3 (v : View sig' κ sp S8x1x512 .f32) (f : v.ty.Contents (Elt Ideal)) (h : Fin 8) (t : Fin 512) :
    v.readAt (Elt Ideal) (rect3 h).toLoadRect f (ix3 0 0 t) = v.read (Elt Ideal) f (ix3 h 0 t) := by
  rw [View.readAt_eq_ld]
  show v.read (Elt Ideal) f _ = _
  refine congrArg _ (ext3 ?_ ?_ ?_)
  · show h.val + 1 * 0 = h.val; omega
  · rfl
  · show 0 + 1 * t.val = t.val; omega

theorem readAt2 (v : View sig' κ sp S512x512 .f32) (f : v.ty.Contents (Elt Ideal)) (h : Fin 8) (d : Fin 64) (t : Fin 512) :
    v.readAt (Elt Ideal) (rect2 h).toLoadRect f (ix2 d t) = v.read (Elt Ideal) f (ix2 (hd h d) t) := by
  rw [View.readAt_eq_ld]
  show v.read (Elt Ideal) f _ = _
  refine congrArg _ (ext2 ?_ ?_)
  · show 64 * h.val + 1 * d.val = 64 * h.val + d.val; omega
  · show 0 + 1 * t.val = t.val; omega

/-- A load of head `h`'s augmented keys of the tile at row `o`. -/
theorem readAtK (v : View sig' κ sp S2048x1024 .bf16) (f : v.ty.Contents (Elt Ideal)) (o : ℕ) (ho : o + 512 ≤ 2048)
    (h : Fin 8) (r : Fin 512) (l : Fin 128) :
    v.readAt (Elt Ideal) (kaugRect o ho h).toLoadRect f (ix2 r l)
      = v.read (Elt Ideal) f (ix2 ⟨o + r.val, by omega⟩ ⟨128 * h.val + l.val, by omega⟩) := by
  rw [View.readAt_eq_ld]
  show v.read (Elt Ideal) f _ = _
  refine congrArg _ (ext2 ?_ ?_)
  · show o + 1 * r.val = o + r.val; omega
  · show 128 * h.val + 1 * l.val = 128 * h.val + l.val; omega

theorem readAtQ (v : View sig' κ sp S512x1024 .bf16) (f : v.ty.Contents (Elt Ideal)) (h : Fin 8) (r : Fin 512) (l : Fin 128) :
    v.readAt (Elt Ideal) (qaugRect h).toLoadRect f (ix2 r l)
      = v.read (Elt Ideal) f (ix2 r ⟨128 * h.val + l.val, by omega⟩) := by
  rw [View.readAt_eq_ld]
  show v.read (Elt Ideal) f _ = _
  refine congrArg _ (ext2 ?_ ?_)
  · show 0 + 1 * r.val = r.val; omega
  · show 128 * h.val + 1 * l.val = 128 * h.val + l.val; omega

theorem readAtV (v : View sig' κ sp S512x2048 .bf16) (f : v.ty.Contents (Elt Ideal)) (o : ℕ) (ho : o + 512 ≤ 2048)
    (h : Fin 8) (d : Fin 64) (r : Fin 512) :
    v.readAt (Elt Ideal) (vtRect o ho h).toLoadRect f (ix2 d r)
      = v.read (Elt Ideal) f (ix2 (hd h d) ⟨o + r.val, by omega⟩) := by
  rw [View.readAt_eq_ld]
  show v.read (Elt Ideal) f _ = _
  refine congrArg _ (ext2 ?_ ?_)
  · show 64 * h.val + 1 * d.val = 64 * h.val + d.val; omega
  · show o + 1 * r.val = o + r.val; omega

end Reads

/-! ## One tile over the extended reals -/

/-- The maximum after a tile of scores `s`, from the maximum `m` before it. -/
def mS (m : EReal) (s : Fin 512 → EReal) : EReal := max m (Finset.univ.sup s)
/-- The sum of weights after a tile, from the maximum and the sum before it. -/
def lS (m l : EReal) (s : Fin 512 → EReal) : EReal :=
  Ideal.exp2 (m - mS m s) * l + ∑ x, Ideal.exp2 (s x - mS m s)
/-- The weighted sum of values `v` after a tile. -/
def aS (m a : EReal) (s v : Fin 512 → EReal) : EReal :=
  Ideal.exp2 (m - mS m s) * a + ∑ x, v x * Ideal.exp2 (s x - mS m s)

theorem ninf : Ideal.ofBits FTy.f32 4286578688#32 = (⊥ : EReal) := by
  simp [Ideal.ofBits, Ideal.ieee]

theorem mP_apply (st : FVec Ideal S512x512 .f32) (mo : Vec Ideal S1x1x512 .f32) (t : Fin 512) :
    (mP st mo : Vec Ideal S1x1x512 .f32) (ix3 0 0 t) = mS (mo (ix3 0 0 t)) fun x => st (ix2 x t) := by
  unfold mP mS
  pointwise [k0_pay33, k0_pay30, k0_pay29]
  rw [ninf]; rfl

theorem lP_apply (st : FVec Ideal S512x512 .f32) (mo lo : Vec Ideal S1x1x512 .f32) (t : Fin 512) :
    (lP st mo lo : Vec Ideal S1x1x512 .f32) (ix3 0 0 t)
      = lS (mo (ix3 0 0 t)) (lo (ix3 0 0 t)) fun x => st (ix2 x t) := by
  unfold lP lS mS
  pointwise [k0_pay34, k0_pay32, k0_pay31, k0_pay30, k0_pay29]
  rw [ninf]; rfl

theorem aP_apply (st : FVec Ideal S512x512 .f32) (mo : Vec Ideal S1x1x512 .f32) (ao : Vec Ideal S64x512 .f32)
    (vt : Vec Ideal S64x512 .bf16) (d : Fin 64) (t : Fin 512) :
    (aP st mo ao vt : Vec Ideal S64x512 .f32) (ix2 d t)
      = aS (mo (ix3 0 0 t)) (ao (ix2 d t)) (fun x => st (ix2 x t)) fun x => vt (ix2 d x) := by
  unfold aP aS mS
  pointwise [k0_pay36, k0_pay35, k0_pay32, k0_pay31, k0_pay30, k0_pay29]
  rw [ninf]; rfl

theorem st_apply (ka qa : Vec Ideal S512x128 .bf16) (r t : Fin 512) :
    (k0_pay21 (F := Ideal) ka qa : Vec Ideal S512x512 .f32) (ix2 r t) = ∑ l : Fin 128, ka (ix2 r l) * qa (ix2 t l) := by
  pointwise [k0_pay21]

/-! ## The tiles one after another -/

/-- The score of key row `j` and query row `t` in head `h`, from the augmented arrays; past the last row, zero. -/
def scN (K : Vec Ideal S2048x1024 .bf16) (Q : Vec Ideal S512x1024 .bf16) (h : Fin 8) (t : Fin 512) (j : ℕ) : EReal :=
  if hj : j < 2048 then ∑ l : Fin 128, K (ix2 ⟨j, hj⟩ ⟨128 * h.val + l.val, by omega⟩) * Q (ix2 t ⟨128 * h.val + l.val, by omega⟩)
  else 0

theorem scN_eq (K : Vec Ideal S2048x1024 .bf16) (Q : Vec Ideal S512x1024 .bf16) (h : Fin 8) (t : Fin 512) (j : ℕ)
    (hj : j < 2048) : scN K Q h t j
      = ∑ l : Fin 128, K (ix2 ⟨j, hj⟩ ⟨128 * h.val + l.val, by omega⟩) * Q (ix2 t ⟨128 * h.val + l.val, by omega⟩) :=
  dif_pos hj

/-- Value `d` of head `h` at row `j`; past the last row, zero. -/
def vN (V : Vec Ideal S512x2048 .bf16) (h : Fin 8) (d : Fin 64) (j : ℕ) : EReal :=
  if hj : j < 2048 then V (ix2 (hd h d) ⟨j, hj⟩) else 0

theorem vN_eq (V : Vec Ideal S512x2048 .bf16) (h : Fin 8) (d : Fin 64) (j : ℕ) (hj : j < 2048) :
    vN V h d j = V (ix2 (hd h d) ⟨j, hj⟩) := dif_pos hj

/-- Tile `k`'s scores and values. -/
def tileS (K : Vec Ideal S2048x1024 .bf16) (Q : Vec Ideal S512x1024 .bf16) (h : Fin 8) (t : Fin 512) (k : ℕ) :
    Fin 512 → EReal := fun r => scN K Q h t (512 * k + r.val)
def tileV (V : Vec Ideal S512x2048 .bf16) (h : Fin 8) (d : Fin 64) (k : ℕ) : Fin 512 → EReal :=
  fun r => vN V h d (512 * k + r.val)

/-- The maximum, the sum of weights and the weighted sum after `k` tiles of scores `s` and values `v`. -/
def mAt (m : EReal) (s : ℕ → Fin 512 → EReal) : ℕ → EReal
  | 0 => m
  | k + 1 => mS (mAt m s k) (s k)
def lAt (m l : EReal) (s : ℕ → Fin 512 → EReal) : ℕ → EReal
  | 0 => l
  | k + 1 => lS (mAt m s k) (lAt m l s k) (s k)
def aAt (m a : EReal) (s v : ℕ → Fin 512 → EReal) : ℕ → EReal
  | 0 => a
  | k + 1 => aS (mAt m s k) (aAt m a s v k) (s k) (v k)

end Cert.KernelIdeal.Fox

end
-- ==== Proof.FoxSoft.lean ====
/-
  The mathematics of the online softmax over the extended reals: what the running maximum, the running sum of weights and
  the running weighted sum hold after some tiles, and that their last quotient is the softmax of the same scores taken with
  the natural exponential and shifted by a constant.
-/
module

public import proofs.«01_k».proof.Proof.FoxHeads

@[expose] public section

noncomputable section

namespace Cert.KernelIdeal.Fox

open Idealize.ShloMosaic

/-- Every score is a real number or minus infinity. -/
def Below (S : ℕ → EReal) : Prop := ∀ j, S j ≠ ⊤

theorem exp2_nonneg (x : EReal) : 0 ≤ Ideal.exp2 x := by
  induction x with
  | bot => exact le_rfl
  | top => exact le_top
  | coe r => exact EReal.coe_nonneg.mpr (Real.rpow_nonneg (by norm_num) r)

theorem exp2_ne_top (x : EReal) (h : x ≠ ⊤) : Ideal.exp2 x ≠ ⊤ := by
  induction x with
  | bot => exact EReal.zero_ne_top
  | top => exact absurd rfl h
  | coe r => exact EReal.coe_ne_top _

theorem sub_ne_top' (x y : EReal) (hx : x ≠ ⊤) (h : x ≤ y) : x - y ≠ ⊤ := by
  induction x with
  | bot => rw [EReal.bot_sub]; exact bot_ne_top
  | top => exact absurd rfl hx
  | coe r =>
    induction y with
    | bot => exact absurd h (by simp)
    | top => simp
    | coe q => rw [← EReal.coe_sub]; exact EReal.coe_ne_top _

/-- A weight taken against an old maximum, rescaled to a new one. -/
theorem exp2_rescale (x a b : EReal) (hx : x ≤ a) (hab : a ≤ b) (hb : b ≠ ⊤) :
    Ideal.exp2 (a - b) * Ideal.exp2 (x - a) = Ideal.exp2 (x - b) := by
  induction x with
  | bot => rw [EReal.bot_sub, EReal.bot_sub, Ideal.exp2_bot, mul_zero]
  | top => exact absurd (top_le_iff.mp (hx.trans hab)) hb
  | coe r =>
    induction a with
    | bot => exact absurd hx (by simp)
    | top => exact absurd (top_le_iff.mp hab) hb
    | coe q =>
      induction b with
      | bot => exact absurd hab (by simp)
      | top => exact absurd rfl hb
      | coe p =>
        rw [← EReal.coe_sub, ← EReal.coe_sub, ← EReal.coe_sub, Ideal.exp2_coe, Ideal.exp2_coe, Ideal.exp2_coe, ← EReal.coe_mul]
        refine congrArg _ ?_
        show (2 : ℝ) ^ (q - p) * (2 : ℝ) ^ (r - q) = (2 : ℝ) ^ (r - p)
        rw [← Real.rpow_add (by norm_num)]
        congr 1
        ring

/-- A finite factor that is not negative goes into a sum. -/
theorem mul_sum' {ι : Type} (c : EReal) (h0 : 0 ≤ c) (h1 : c ≠ ⊤) (s : Finset ι) (f : ι → EReal) :
    c * ∑ j ∈ s, f j = ∑ j ∈ s, c * f j := by
  classical
  induction s using Finset.induction_on with
  | empty => rw [Finset.sum_empty, Finset.sum_empty, mul_zero]
  | insert a s ha ih => rw [Finset.sum_insert ha, Finset.sum_insert ha, EReal.left_distrib_of_nonneg_of_ne_top h0 h1, ih]

theorem coe_sum' {ι : Type} (s : Finset ι) (f : ι → ℝ) : ((∑ j ∈ s, f j : ℝ) : EReal) = ∑ j ∈ s, (f j : EReal) := by
  classical
  induction s using Finset.induction_on with
  | empty => rfl
  | insert a s ha ih => rw [Finset.sum_insert ha, Finset.sum_insert ha, EReal.coe_add, ih]

/-- The largest of the first `n` scores. -/
def sup' (S : ℕ → EReal) (n : ℕ) : EReal := (Finset.range n).sup S

theorem sup'_ne_top (S : ℕ → EReal) (h : Below S) (n : ℕ) : sup' S n ≠ ⊤ := by
  have : sup' S n < ⊤ := (Finset.sup_lt_iff (by simp)).mpr fun j _ => lt_top_iff_ne_top.mpr (h j)
  exact this.ne

theorem le_sup' (S : ℕ → EReal) (n j : ℕ) (h : j < n) : S j ≤ sup' S n := Finset.le_sup (f := S) (Finset.mem_range.mpr h)

theorem sup'_add (S : ℕ → EReal) (n k : ℕ) :
    sup' S (n + k) = max (sup' S n) (Finset.univ.sup fun x : Fin k => S (n + x.val)) := by
  apply le_antisymm
  · refine Finset.sup_le fun j hj => ?_
    rw [Finset.mem_range] at hj
    by_cases h : j < n
    · exact (le_sup' S n j h).trans (le_max_left _ _)
    · refine le_trans ?_ (le_max_right _ _)
      have e : S j = (fun x : Fin k => S (n + x.val)) ⟨j - n, by omega⟩ := congrArg S (by show j = n + (j - n); omega)
      rw [e]
      exact Finset.le_sup (f := fun x : Fin k => S (n + x.val)) (Finset.mem_univ _)
  · refine max_le (Finset.sup_le fun j hj => le_sup' S _ j (by rw [Finset.mem_range] at hj; omega)) (Finset.sup_le fun x _ => ?_)
    exact le_sup' S _ _ (by have := x.isLt; omega)

theorem sum_add (f : ℕ → EReal) (n k : ℕ) :
    ∑ j ∈ Finset.range (n + k), f j = ∑ j ∈ Finset.range n, f j + ∑ x : Fin k, f (n + x.val) := by
  rw [Finset.sum_range_add, Finset.sum_range (fun x => f (n + x))]

/-- The sums of the weights and of the weighted values of the first `n` scores. -/
def sumL (S : ℕ → EReal) (n : ℕ) : EReal := ∑ j ∈ Finset.range n, Ideal.exp2 (S j - sup' S n)

def sumA (S v : ℕ → EReal) (n : ℕ) : EReal := ∑ j ∈ Finset.range n, v j * Ideal.exp2 (S j - sup' S n)

/-- One more tile of 512 scores. -/
theorem run_step (S v : ℕ → EReal) (hS : Below S) (s w : Fin 512 → EReal) (k : ℕ) (es : ∀ x, s x = S (512 * k + x.val))
    (ew : ∀ x, w x = v (512 * k + x.val)) :
    mS (sup' S (512 * k)) s = sup' S (512 * (k + 1))
    ∧ lS (sup' S (512 * k)) (sumL S (512 * k)) s = sumL S (512 * (k + 1))
    ∧ aS (sup' S (512 * k)) (sumA S v (512 * k)) s w = sumA S v (512 * (k + 1)) := by
  have es : s = fun x => S (512 * k + x.val) := funext es
  have ew : w = fun x => v (512 * k + x.val) := funext ew
  have hm : mS (sup' S (512 * k)) s = sup' S (512 * (k + 1)) := by rw [es, mul_add, mul_one, sup'_add]; rfl
  have hle : sup' S (512 * k) ≤ sup' S (512 * (k + 1)) := by rw [← hm]; exact le_max_left _ _
  have hnt := sup'_ne_top S hS (512 * (k + 1))
  have h0 := exp2_nonneg (sup' S (512 * k) - sup' S (512 * (k + 1)))
  have h1 := exp2_ne_top _ (sub_ne_top' _ _ (sup'_ne_top S hS (512 * k)) hle)
  refine ⟨hm, ?_, ?_⟩
  · rw [lS, hm, es, sumL, sumL, mul_sum' _ h0 h1, show 512 * (k + 1) = 512 * k + 512 from by ring, sum_add,
      show 512 * k + 512 = 512 * (k + 1) from by ring]
    refine congrArg (· + _) (Finset.sum_congr rfl fun j hj => ?_)
    exact exp2_rescale _ _ _ (le_sup' S _ j (Finset.mem_range.mp hj)) hle hnt
  · rw [aS, hm, es, ew, sumA, sumA, mul_sum' _ h0 h1, show 512 * (k + 1) = 512 * k + 512 from by ring, sum_add,
      show 512 * k + 512 = 512 * (k + 1) from by ring]
    refine congrArg (· + _) (Finset.sum_congr rfl fun j hj => ?_)
    rw [mul_left_comm, exp2_rescale _ _ _ (le_sup' S _ j (Finset.mem_range.mp hj)) hle hnt]

/-- What the running quantities hold after `k` tiles. -/
theorem run_apply (S v : ℕ → EReal) (hS : Below S) (s w : ℕ → Fin 512 → EReal) :
    ∀ k : ℕ, (∀ k' < k, ∀ x, s k' x = S (512 * k' + x.val)) → (∀ k' < k, ∀ x, w k' x = v (512 * k' + x.val)) →
      mAt ⊥ s k = sup' S (512 * k) ∧ lAt ⊥ 0 s k = sumL S (512 * k) ∧ aAt ⊥ 0 s w k = sumA S v (512 * k)
  | 0, _, _ => ⟨rfl, rfl, rfl⟩
  | k + 1, hs, hw => by
    obtain ⟨e1, e2, e3⟩ := run_apply S v hS s w k (fun k' h => hs k' (by omega)) (fun k' h => hw k' (by omega))
    obtain ⟨f1, f2, f3⟩ := run_step S v hS (s k) (w k) k (hs k (by omega)) (hw k (by omega))
    refine ⟨?_, ?_, ?_⟩
    · rw [mAt, e1, f1]
    · rw [lAt, e1, e2, f2]
    · rw [aAt, e1, e3, f3]

/-- Scores at minus infinity add nothing to the maximum, -/
theorem sup'_extend (S : ℕ → EReal) (n N : ℕ) (hn : n ≤ N) (hS : ∀ j, n ≤ j → S j = ⊥) : sup' S N = sup' S n := by
  apply le_antisymm
  · refine Finset.sup_le fun j _ => ?_
    by_cases h : j < n
    · exact le_sup' S n j h
    · rw [hS j (by omega)]; exact bot_le
  · exact Finset.sup_mono (Finset.range_mono hn)

/-- nor to a sum of weights. -/
theorem sum_extend (S v : ℕ → EReal) (M : EReal) (n N : ℕ) (hn : n ≤ N) (hS : ∀ j, n ≤ j → S j = ⊥) :
    ∑ j ∈ Finset.range n, v j * Ideal.exp2 (S j - M) = ∑ j ∈ Finset.range N, v j * Ideal.exp2 (S j - M) := by
  refine Finset.sum_subset (Finset.range_mono hn) fun j _ hj => ?_
  rw [hS j (by rw [Finset.mem_range] at hj; omega), EReal.bot_sub, Ideal.exp2_bot, mul_zero]

theorem mul_sum_left {ι : Type} (c : EReal) (h0 : 0 ≤ c) (h1 : c ≠ ⊤) (s : Finset ι) (f : ι → EReal) :
    (∑ j ∈ s, f j) * c = ∑ j ∈ s, f j * c := by
  rw [mul_comm, mul_sum' c h0 h1]
  exact Finset.sum_congr rfl fun j _ => mul_comm _ _

/-- The scores the kernel takes (base two), and the reference's (natural), masked after row `T`. -/
def masked (σ : ℕ → ℝ) (T : ℕ) (j : ℕ) : EReal := if j ≤ T then (σ j : EReal) else ⊥

theorem masked_below (σ : ℕ → ℝ) (T : ℕ) : Below (masked σ T) := by
  intro j
  unfold masked
  split_ifs
  · exact EReal.coe_ne_top _
  · exact bot_ne_top

/-- The largest of some masked scores is one of them. -/
theorem masked_sup (σ : ℕ → ℝ) (T N : ℕ) (hT : T < N) :
    ∃ i ≤ T, sup' (masked σ T) N = (σ i : EReal) ∧ ∀ j ≤ T, σ j ≤ σ i := by
  obtain ⟨i, hi, hmax⟩ := Finset.exists_max_image (Finset.range (T + 1)) σ ⟨0, by simp⟩
  rw [Finset.mem_range] at hi
  refine ⟨i, by omega, ?_, fun j hj => hmax j (by rw [Finset.mem_range]; omega)⟩
  apply le_antisymm
  · refine Finset.sup_le fun j _ => ?_
    unfold masked
    split_ifs with h
    · exact EReal.coe_le_coe_iff.mpr (hmax j (by rw [Finset.mem_range]; omega))
    · exact bot_le
  · have := le_sup' (masked σ T) N i (by omega)
    rwa [masked, if_pos (by omega : i ≤ T)] at this

/-- A weight of the natural softmax is the weight of the kernel's scores. -/
theorem weight_eq (σ ρ : ℕ → ℝ) (T N : ℕ) (c : ℝ) (hT : T < N) (h : ∀ j ≤ T, ρ j = Real.log 2 * σ j + c) (j : ℕ) :
    Ideal.exp (masked ρ T j - sup' (masked ρ T) N) = Ideal.exp2 (masked σ T j - sup' (masked σ T) N) := by
  obtain ⟨i, hi, e, hmax⟩ := masked_sup σ T N hT
  obtain ⟨i', hi', e', hmax'⟩ := masked_sup ρ T N hT
  have hl : 0 < Real.log 2 := Real.log_pos (by norm_num)
  have hii : ρ i' = ρ i := by
    refine le_antisymm ?_ (hmax' i hi)
    rw [h i' hi', h i hi]
    have := mul_le_mul_of_nonneg_left (hmax i' hi') hl.le
    linarith
  rw [e, e', hii]
  unfold masked
  split_ifs with hj
  · rw [← EReal.coe_sub, ← EReal.coe_sub, Ideal.exp_coe, Ideal.exp2_coe]
    refine congrArg _ ?_
    show Real.exp (ρ j - ρ i) = (2 : ℝ) ^ (σ j - σ i)
    rw [Real.rpow_def_of_pos (by norm_num), h j hj, h i hi]
    congr 1
    ring
  · rw [EReal.bot_sub, EReal.bot_sub]; rfl

/-- The sum of the weights is a positive real number. -/
theorem weights_pos (σ : ℕ → ℝ) (T N : ℕ) (hT : T < N) :
    ∃ L : ℝ, 0 < L ∧ ∑ j ∈ Finset.range N, Ideal.exp2 (masked σ T j - sup' (masked σ T) N) = (L : EReal) := by
  obtain ⟨i, hi, e, -⟩ := masked_sup σ T N hT
  have hw : ∀ j, Ideal.exp2 (masked σ T j - (σ i : EReal)) = ((if j ≤ T then (2 : ℝ) ^ (σ j - σ i) else 0 : ℝ) : EReal) := by
    intro j
    unfold masked
    split_ifs with hj
    · rw [← EReal.coe_sub, Ideal.exp2_coe]; rfl
    · rw [EReal.bot_sub]; rfl
  refine ⟨∑ j ∈ Finset.range N, if j ≤ T then (2 : ℝ) ^ (σ j - σ i) else 0, ?_, ?_⟩
  · refine Finset.sum_pos' (fun j _ => ?_) ⟨i, Finset.mem_range.mpr (by omega), ?_⟩
    · split_ifs
      · exact Real.rpow_nonneg (by norm_num) _
      · exact le_rfl
    · rw [if_pos hi]; exact Real.rpow_pos_of_pos (by norm_num) _
  · rw [e]
    simp only [hw]
    exact (coe_sum' _ _).symm

/-- The online softmax's quotient is the plain softmax's weighted sum. -/
theorem soft_eq (σ ρ : ℕ → ℝ) (v : ℕ → EReal) (T N : ℕ) (c : ℝ) (hT : T < N) (h : ∀ j ≤ T, ρ j = Real.log 2 * σ j + c) :
    Ideal.div (∑ j ∈ Finset.range N, v j * Ideal.exp2 (masked σ T j - sup' (masked σ T) N))
        (∑ j ∈ Finset.range N, Ideal.exp2 (masked σ T j - sup' (masked σ T) N))
      = ∑ j ∈ Finset.range N, v j * Ideal.div (Ideal.exp (masked ρ T j - sup' (masked ρ T) N))
          (∑ j ∈ Finset.range N, Ideal.exp (masked ρ T j - sup' (masked ρ T) N)) := by
  simp only [weight_eq σ ρ T N c hT h]
  obtain ⟨L, hL, eL⟩ := weights_pos σ T N hT
  rw [eL, Ideal.div_coe hL.ne', mul_sum_left _ (EReal.coe_nonneg.mpr (by positivity)) (EReal.coe_ne_top _)]
  refine Finset.sum_congr rfl fun j _ => ?_
  rw [Ideal.div_coe hL.ne', mul_assoc]

/-- The kernel's quotient over `n` whole tiles and the masked tile `n` is the softmax over all `N` masked scores. -/
theorem kernel_soft (σ ρ : ℕ → ℝ) (v : ℕ → EReal) (n : ℕ) (t : Fin 512) (N : ℕ) (c : ℝ) (hN : 512 * (n + 1) ≤ N)
    (h : ∀ j ≤ 512 * n + t.val, ρ j = Real.log 2 * σ j + c) (s w : ℕ → Fin 512 → EReal) (s' : Fin 512 → EReal)
    (hs : ∀ k < n, ∀ x, s k x = (σ (512 * k + x.val) : EReal)) (hw : ∀ k < n + 1, ∀ x, w k x = v (512 * k + x.val))
    (hs' : ∀ x, s' x = if x ≤ t then (σ (512 * n + x.val) : EReal) else ⊥) :
    Ideal.div (aS (mAt ⊥ s n) (aAt ⊥ 0 s w n) s' (w n)) (lS (mAt ⊥ s n) (lAt ⊥ 0 s n) s')
      = ∑ j ∈ Finset.range N, v j * Ideal.div (Ideal.exp (masked ρ (512 * n + t.val) j - sup' (masked ρ (512 * n + t.val)) N))
          (∑ j ∈ Finset.range N, Ideal.exp (masked ρ (512 * n + t.val) j - sup' (masked ρ (512 * n + t.val)) N)) := by
  have ht := t.isLt
  have hb : ∀ j, 512 * (n + 1) ≤ j → masked σ (512 * n + t.val) j = ⊥ := fun j hj => if_neg (by omega)
  obtain ⟨e1, e2, e3⟩ := run_apply (masked σ (512 * n + t.val)) v (masked_below σ _) s w n
    (fun k hk x => (hs k hk x).trans (if_pos (by have := x.isLt; omega)).symm) (fun k hk => hw k (by omega))
  obtain ⟨-, f2, f3⟩ := run_step (masked σ (512 * n + t.val)) v (masked_below σ _) s' (w n) n
    (fun x => by
      rw [hs' x]
      unfold masked
      by_cases hx : x ≤ t
      · rw [if_pos hx, if_pos (by have : x.val ≤ t.val := hx; omega)]
      · rw [if_neg hx, if_neg (by have : ¬ x.val ≤ t.val := hx; omega)])
    (hw n (by omega))
  rw [e1, e2, e3, f2, f3, ← soft_eq σ ρ v (512 * n + t.val) N c (by omega) h, sumA, sumL]
  have e := sup'_extend (masked σ (512 * n + t.val)) _ N hN hb
  rw [e, sum_extend _ v _ _ N hN hb]
  refine congrArg _ ?_
  have := sum_extend (masked σ (512 * n + t.val)) (fun _ => 1) (sup' (masked σ (512 * n + t.val)) (512 * (n + 1))) _ N hN hb
  simpa only [one_mul] using this

end Cert.KernelIdeal.Fox

end
-- ==== Proof.FoxTile.lean ====
/-
  The last tile of a point of the fox kernel's grid, the one on the diagonal: its eight heads store one after another,
  each from what the buffers hold when its turn comes, and the block written is the weighted sums over the sums of
  weights, transposed.
-/
module

public import proofs.«01_k».proof.Proof.FoxHeads

@[expose] public section

noncomputable section

namespace Cert.KernelIdeal.Fox

open Idealize.ShloMosaic Idealize.ShloMosaic.TcCoe Idealize.SL.Sem
open Cert.KernelIdeal Cert.KernelIdeal.Gen Cert.Proof.Coords

variable {sp : Space} (v13 v14 : View sig .tc sp S8x1x512 .f32) (v15 : View sig .tc sp S512x512 .f32)
  (B3 B4 : List (View.Piece (Elt Ideal) S8x1x512 .f32)) (B5 : List (View.Piece (Elt Ideal) S512x512 .f32))
  (st : Fin 8 → FVec Ideal S512x512 .f32) (vt : Fin 8 → Vec Ideal S64x512 .bf16)

/-- The stores into the maxima after the heads of a list, the latest head first, over the earlier stores. -/
def D3 : List (Fin 8) → List (View.Piece (Elt Ideal) S8x1x512 .f32)
  | [] => B3
  | h :: hs => ⟨rect3 h, mP (st h) (v13.readCov (D3 hs) (rect3 h).toLoadRect)⟩ :: D3 hs

/-- The stores into the sums of weights. -/
def D4 : List (Fin 8) → List (View.Piece (Elt Ideal) S8x1x512 .f32)
  | [] => B4
  | h :: hs => ⟨rect3 h, lP (st h) (v13.readCov (D3 v13 B3 st hs) (rect3 h).toLoadRect)
      (v14.readCov (D4 hs) (rect3 h).toLoadRect)⟩ :: D4 hs

/-- The stores into the weighted sums of values. -/
def D5 : List (Fin 8) → List (View.Piece (Elt Ideal) S512x512 .f32)
  | [] => B5
  | h :: hs => ⟨rect2 h, aP (st h) (v13.readCov (D3 v13 B3 st hs) (rect3 h).toLoadRect)
      (v15.readCov (D5 hs) (rect2 h).toLoadRect) (vt h)⟩ :: D5 hs

/-- The block written, from the last contents of the sums of weights and of the weighted sums. -/
def outP (L4 : List (View.Piece (Elt Ideal) S8x1x512 .f32)) (L5 : List (View.Piece (Elt Ideal) S512x512 .f32)) :
    FVec Ideal S512x512 .bf16 :=
  k0_pay1 (k0_pay237 (v15.readCov L5 (rect2 0).toLoadRect) (v14.readCov L4 (rect3 0).toLoadRect))
    (k0_pay238 (v15.readCov L5 (rect2 1).toLoadRect) (v14.readCov L4 (rect3 1).toLoadRect))
    (k0_pay239 (v15.readCov L5 (rect2 2).toLoadRect) (v14.readCov L4 (rect3 2).toLoadRect))
    (k0_pay240 (v15.readCov L5 (rect2 3).toLoadRect) (v14.readCov L4 (rect3 3).toLoadRect))
    (v15.readCov L5 (rect2 4).toLoadRect) (v14.readCov L4 (rect3 4).toLoadRect)
    (v15.readCov L5 (rect2 5).toLoadRect) (v14.readCov L4 (rect3 5).toLoadRect)
    (v15.readCov L5 (rect2 6).toLoadRect) (v14.readCov L4 (rect3 6).toLoadRect)
    (v15.readCov L5 (rect2 7).toLoadRect) (v14.readCov L4 (rect3 7).toLoadRect)

/-- A load of head `h`'s row after stores reads what they left there. -/
theorem readCov3 (v : View sig .tc sp S8x1x512 .f32) (L : List (View.Piece (Elt Ideal) S8x1x512 .f32)) (h : Fin 8) (t : Fin 512) :
    v.readCov L (rect3 h).toLoadRect (ix3 0 0 t) = View.canon L (ix3 h 0 t) := by
  rw [View.readCov_eq_canon', ← View.read_writes_junk_apply_eq_canon v, ← readAt3, View.readAt_eq_ld]
  exact (View.read_writes_junk_apply_eq_canon v _ L).symm

theorem readCov2 (v : View sig .tc sp S512x512 .f32) (L : List (View.Piece (Elt Ideal) S512x512 .f32)) (h : Fin 8) (d : Fin 64)
    (t : Fin 512) : v.readCov L (rect2 h).toLoadRect (ix2 d t) = View.canon L (ix2 (hd h d) t) := by
  rw [View.readCov_eq_canon', ← View.read_writes_junk_apply_eq_canon v, ← readAt2, View.readAt_eq_ld]
  exact (View.read_writes_junk_apply_eq_canon v _ L).symm

include v13 in
theorem canon3_ne (h' h : Fin 8) (hne : h ≠ h') (w : S1x1x512.Idx → Elt Ideal .f32)
    (L : List (View.Piece (Elt Ideal) S8x1x512 .f32)) (t : Fin 512) :
    View.canon (⟨rect3 h', w⟩ :: L) (ix3 h 0 t) = View.canon L (ix3 h 0 t) := by
  rw [← View.read_writes_junk_apply_eq_canon v13, ← View.read_writes_junk_apply_eq_canon v13, read_cons3_ne _ _ _ _ hne]

include v13 in
theorem canon3_eq (h : Fin 8) (w : S1x1x512.Idx → Elt Ideal .f32)
    (L : List (View.Piece (Elt Ideal) S8x1x512 .f32)) (t : Fin 512) :
    View.canon (⟨rect3 h, w⟩ :: L) (ix3 h 0 t) = w (ix3 0 0 t) := by
  rw [← View.read_writes_junk_apply_eq_canon v13, read_cons3_eq]

include v15 in
theorem canon2_ne (h' h : Fin 8) (hne : h ≠ h') (w : S64x512.Idx → Elt Ideal .f32)
    (L : List (View.Piece (Elt Ideal) S512x512 .f32)) (d : Fin 64) (t : Fin 512) :
    View.canon (⟨rect2 h', w⟩ :: L) (ix2 (hd h d) t) = View.canon L (ix2 (hd h d) t) := by
  rw [← View.read_writes_junk_apply_eq_canon v15, ← View.read_writes_junk_apply_eq_canon v15, read_cons2_ne _ _ _ _ hne]

include v15 in
theorem canon2_eq (h : Fin 8) (w : S64x512.Idx → Elt Ideal .f32)
    (L : List (View.Piece (Elt Ideal) S512x512 .f32)) (d : Fin 64) (t : Fin 512) :
    View.canon (⟨rect2 h, w⟩ :: L) (ix2 (hd h d) t) = w (ix2 d t) := by
  rw [← View.read_writes_junk_apply_eq_canon v15, read_cons2_eq]

/-- A head whose turn has not come still holds what the earlier stores left. -/
theorem D3_before (h : Fin 8) (t : Fin 512) : ∀ hs : List (Fin 8), h ∉ hs →
    View.canon (D3 v13 B3 st hs) (ix3 h 0 t) = View.canon B3 (ix3 h 0 t)
  | [], _ => rfl
  | h' :: hs, hm => by
    rw [D3, canon3_ne v13 h' h (fun e => hm (e ▸ List.mem_cons_self))]
    exact D3_before h t hs fun hh => hm (List.mem_cons_of_mem _ hh)

theorem D4_before (h : Fin 8) (t : Fin 512) : ∀ hs : List (Fin 8), h ∉ hs →
    View.canon (D4 v13 v14 B3 B4 st hs) (ix3 h 0 t) = View.canon B4 (ix3 h 0 t)
  | [], _ => rfl
  | h' :: hs, hm => by
    rw [D4, canon3_ne v14 h' h (fun e => hm (e ▸ List.mem_cons_self))]
    exact D4_before h t hs fun hh => hm (List.mem_cons_of_mem _ hh)

theorem D5_before (h : Fin 8) (d : Fin 64) (t : Fin 512) : ∀ hs : List (Fin 8), h ∉ hs →
    View.canon (D5 v13 v15 B3 B5 st vt hs) (ix2 (hd h d) t) = View.canon B5 (ix2 (hd h d) t)
  | [], _ => rfl
  | h' :: hs, hm => by
    rw [D5, canon2_ne v15 h' h (fun e => hm (e ▸ List.mem_cons_self))]
    exact D5_before h d t hs fun hh => hm (List.mem_cons_of_mem _ hh)

/-- A head whose turn has come holds its new sum of weights, -/
theorem D4_after (h : Fin 8) (t : Fin 512) : ∀ hs : List (Fin 8), hs.Nodup → h ∈ hs →
    View.canon (D4 v13 v14 B3 B4 st hs) (ix3 h 0 t)
      = lS (View.canon B3 (ix3 h 0 t)) (View.canon B4 (ix3 h 0 t)) fun x => st h (ix2 x t)
  | [], _, hm => by simp at hm
  | h' :: hs, hn, hm => by
    have hn' := List.nodup_cons.mp hn
    rw [D4]
    by_cases e : h = h'
    · subst e
      rw [canon3_eq v14, lP_apply, readCov3, readCov3, D3_before v13 B3 st h t hs hn'.1, D4_before v13 v14 B3 B4 st h t hs hn'.1]
    · rw [canon3_ne v14 h' h e]
      exact D4_after h t hs hn'.2 ((List.mem_cons.mp hm).resolve_left e)

/-- and its new weighted sums of values. -/
theorem D5_after (h : Fin 8) (d : Fin 64) (t : Fin 512) : ∀ hs : List (Fin 8), hs.Nodup → h ∈ hs →
    View.canon (D5 v13 v15 B3 B5 st vt hs) (ix2 (hd h d) t)
      = aS (View.canon B3 (ix3 h 0 t)) (View.canon B5 (ix2 (hd h d) t)) (fun x => st h (ix2 x t)) fun x => vt h (ix2 d x)
  | [], _, hm => by simp at hm
  | h' :: hs, hn, hm => by
    have hn' := List.nodup_cons.mp hn
    rw [D5]
    by_cases e : h = h'
    · subst e
      rw [canon2_eq v15, aP_apply, readCov3, readCov2, D3_before v13 B3 st h t hs hn'.1, D5_before v13 v15 B3 B5 st vt h d t hs hn'.1]
    · rw [canon2_ne v15 h' h e]
      exact D5_after h d t hs hn'.2 ((List.mem_cons.mp hm).resolve_left e)

end Cert.KernelIdeal.Fox

end
-- ==== Proof.FoxEye.lean ====
/-
  The last step of a point: the eight heads' weighted sums over their sums of weights, transposed by a product with the
  identity matrix.
-/
module

public import proofs.«01_k».proof.Proof.FoxTile

@[expose] public section

noncomputable section

namespace Cert.KernelIdeal.Fox

open Idealize.ShloMosaic Idealize.ShloMosaic.TcCoe Idealize.SL.Sem
open Cert.KernelIdeal Cert.KernelIdeal.Gen Cert.Proof.Coords

/-- The identity matrix's entries. -/
theorem eye_entry (t x : Fin 512) :
    (FloatOps.sitofp (F := Ideal) FTy.f32 (BitVec.setWidth 32 (IntOp.cmpi .eq (BitVec.ofNat 32 t.val) (BitVec.ofNat 32 x.val))) : EReal)
      = if t = x then 1 else 0 := by
  have hw : (BitVec.ofNat 32 t.val = BitVec.ofNat 32 x.val) ↔ t = x := by
    rw [← BitVec.toNat_inj, BitVec.toNat_ofNat, BitVec.toNat_ofNat, Nat.mod_eq_of_lt (by omega), Nat.mod_eq_of_lt (by omega)]
    exact Fin.val_inj
  by_cases e : t = x
  · subst e
    simp [IntOp.cmpi, FloatOps.sitofp]
  · have e' : (BitVec.ofNat 32 t.val == BitVec.ofNat 32 x.val) = false := beq_eq_false_iff_ne.mpr fun q => e (hw.mp q)
    simp [IntOp.cmpi, FloatOps.sitofp, e, e']

/-- Row `t`, column `64 h + d` of the block written: head `h`'s weighted sum `d` at row `t` over its sum of weights. -/
theorem last_apply (A : Fin 8 → Vec Ideal S64x512 .f32) (L : Fin 8 → Vec Ideal S1x1x512 .f32) (h : Fin 8) (d : Fin 64)
    (t : Fin 512) :
    (k0_pay1 (F := Ideal) (k0_pay237 (A 0) (L 0)) (k0_pay238 (A 1) (L 1)) (k0_pay239 (A 2) (L 2)) (k0_pay240 (A 3) (L 3))
      (A 4) (L 4) (A 5) (L 5) (A 6) (L 6) (A 7) (L 7) : Vec Ideal S512x512 .bf16) (ix2 t (hd h d))
      = Ideal.div (A h (ix2 d t)) (L h (ix3 0 0 t)) := by
  pointwise [k0_pay1, k0_pay237, k0_pay238, k0_pay239, k0_pay240]
  rw [Finset.sum_eq_single t]
  · rw [eye_entry, if_pos rfl, one_mul]
    have key : ∀ (h' : Fin 8) (n : ℕ) (hn : n < 64), h = h' → n = d.val →
        Ideal.div (A h' (ix2 ⟨n, hn⟩ t)) (L h' (ix3 0 0 t)) = Ideal.div (A h (ix2 d t)) (L h (ix3 0 0 t)) := by
      intro h' n hn e1 e2
      subst e1 e2
      rfl
    by_cases h0 : 64 * h.val + d.val < 64
    · exact (dif_pos h0).trans (key 0 _ h0 (Fin.ext (show h.val = 0 by omega)) (by omega))
    refine (dif_neg h0).trans ?_
    by_cases h1 : 64 * h.val + d.val - 64 < 64
    · exact (dif_pos h1).trans (key 1 _ h1 (Fin.ext (show h.val = 1 by omega)) (by omega))
    refine (dif_neg h1).trans ?_
    by_cases h2 : 64 * h.val + d.val - 64 - 64 < 64
    · exact (dif_pos h2).trans (key 2 _ h2 (Fin.ext (show h.val = 2 by omega)) (by omega))
    refine (dif_neg h2).trans ?_
    by_cases h3 : 64 * h.val + d.val - 64 - 64 - 64 < 64
    · exact (dif_pos h3).trans (key 3 _ h3 (Fin.ext (show h.val = 3 by omega)) (by omega))
    refine (dif_neg h3).trans ?_
    by_cases h4 : 64 * h.val + d.val - 64 - 64 - 64 - 64 < 64
    · exact (dif_pos h4).trans (key 4 _ h4 (Fin.ext (show h.val = 4 by omega)) (by omega))
    refine (dif_neg h4).trans ?_
    by_cases h5 : 64 * h.val + d.val - 64 - 64 - 64 - 64 - 64 < 64
    · exact (dif_pos h5).trans (key 5 _ h5 (Fin.ext (show h.val = 5 by omega)) (by omega))
    refine (dif_neg h5).trans ?_
    by_cases h6 : 64 * h.val + d.val - 64 - 64 - 64 - 64 - 64 - 64 < 64
    · exact (dif_pos h6).trans (key 6 _ h6 (Fin.ext (show h.val = 6 by omega)) (by omega))
    refine (dif_neg h6).trans ?_
    exact key 7 _ _ (Fin.ext (show h.val = 7 by omega)) (by omega)
  · intro x _ hx
    rw [eye_entry, if_neg (Ne.symm hx), zero_mul]
  · intro hn
    exact absurd (Finset.mem_univ _) hn

end Cert.KernelIdeal.Fox

end
-- ==== Proof.FoxPrep.lean ====
/-
  What the fox kernel prepares from a sequence's keys, values, gates and queries: the gates' running sums, the augmented
  keys, the transposed values and the augmented queries, read at one entry, and the score they give.
-/
module

public import proofs.«01_k».proof.Proof.FoxEye
public import proofs.«01_k».proof.Proof.FoxSoft

@[expose] public section

noncomputable section

namespace Cert.KernelIdeal.Fox

open Idealize.ShloMosaic Idealize.ShloMosaic.TcCoe Idealize.SL.Sem
open Cert.KernelIdeal Cert.KernelIdeal.Gen Cert.Proof.Coords

/-- A sum over three runs of `n`. -/
theorem sum3 (n N : ℕ) (hN : N = n + n + n) (f : Fin N → EReal) :
    ∑ x, f x = (∑ x : Fin n, f ⟨x.val, by omega⟩) + (∑ x : Fin n, f ⟨n + x.val, by omega⟩)
      + ∑ x : Fin n, f ⟨n + n + x.val, by omega⟩ := by
  subst hN
  rw [Fin.sum_univ_add, Fin.sum_univ_add]
  rfl

/-- The base-two logarithm of e. -/
def lg : ℝ := (Real.log 2)⁻¹

theorem named_lg : (Named.named κ "log2e" (0x3FB8AA3B#32 : BitVec FTy.f32.bits) : Ideal .f32) = (lg : EReal) := rfl

/-- The lower triangle's entries. -/
theorem tri_entry (r x : Fin 512) :
    (FloatOps.sitofp (F := Ideal) FTy.f32 (BitVec.setWidth 32 (IntOp.cmpi .sge (BitVec.ofNat 32 r.val) (BitVec.ofNat 32 x.val))) : EReal)
      = if x ≤ r then 1 else 0 := by
  have hn : ∀ x : Fin 512, (BitVec.ofNat 32 x.val).toInt = x.val := by
    intro x
    have e : (BitVec.ofNat 32 x.val).toNat = x.val := by rw [BitVec.toNat_ofNat, Nat.mod_eq_of_lt (by omega)]
    rw [BitVec.toInt_eq_toNat_of_lt (by rw [e]; omega), e]
  have hw : ((BitVec.ofNat 32 x.val).sle (BitVec.ofNat 32 r.val)) = decide (x ≤ r) := by
    rw [BitVec.sle_eq_decide, hn, hn]
    simp
  by_cases e : x ≤ r
  · simp [IntOp.cmpi, FloatOps.sitofp, hw, e]
  · simp [IntOp.cmpi, FloatOps.sitofp, hw, e]

/-- A block's running sums of the gates, from the sums `g` carried in. -/
def cumB (g : FVec Ideal S1x16 .f32) (lf : Vec Ideal S512x16 .f32) : FVec Ideal S512x16 .f32 := k0_pay8 k0_pay2 g lf

/-- Row `r`: the carried sum and the block's gates up to row `r`. -/
theorem cumB_apply (g : FVec Ideal S1x16 .f32) (lf : Vec Ideal S512x16 .f32) (r : Fin 512) (a : Fin 16) (γ : ℝ) (f : Fin 512 → ℝ)
    (hg : g (ix2 0 a) = (γ : EReal)) (hf : ∀ x, lf (ix2 x a) = (f x : EReal)) :
    cumB g lf (ix2 r a) = ((γ + ∑ x : Fin 512, if x ≤ r then f x else 0 : ℝ) : EReal) := by
  have h0 : ∀ x, lf (ix2 x a) - lf (ix2 x a) = 0 := by
    intro x
    rw [hf, ← EReal.coe_sub, sub_self]; rfl
  unfold cumB
  pointwise [k0_pay8, k0_pay2]
  rw [sum3 512 1536 rfl, hg]
  have e1 : ∀ x : Fin 512, ¬ (512 + x.val < 512) := fun x => by omega
  have e2 : ∀ x : Fin 512, ¬ (512 + 512 + x.val < 512) := fun x => by omega
  have e3 : ∀ x : Fin 512, ¬ (512 + 512 + x.val - 512 < 512) := fun x => by omega
  have e4 : ∀ x : Fin 512, 512 + x.val - 512 < 512 := fun x => by omega
  have s1 : (∑ x : Fin 512, (if x ≤ r then (1 : EReal) else 0) * lf (ix2 x a)) = ((∑ x : Fin 512, if x ≤ r then f x else 0 : ℝ) : EReal) := by
    rw [coe_sum']
    refine Finset.sum_congr rfl fun x _ => ?_
    rw [hf]
    split_ifs
    · rw [one_mul]
    · rw [zero_mul]; rfl
  simp only [e1, e2, e3, e4, dif_neg, dif_pos, not_false_eq_true, Fin.is_lt, Fin.eta, h0, sub_zero, mul_zero, Finset.sum_const_zero,
    add_zero, tri_entry]
  rw [s1, ← EReal.coe_add, add_comm]

/-- A block of augmented keys. -/
def kblk (g : FVec Ideal S1x16 .f32) (lf : Vec Ideal S512x16 .f32) (k : Vec Ideal S512x512 .bf16) (pk : Vec Ideal S512x1024 .bf16)
    (pc : Vec Ideal S48x1024 .bf16) : FVec Ideal S512x1024 .bf16 :=
  k0_pay12 (k0_pay10 k pk) (k0_pay11 k0_pay2 g lf pc)

/-- The constant matrices: the one placing a head's 64 keys in its 128 lanes, -/
def IsPk (pk : Vec Ideal S512x1024 .bf16) : Prop :=
  ∀ (x : Fin 512) (y : Fin 1024), pk (ix2 x y) = if y.val = x.val / 64 * 128 + x.val % 64 then 1 else 0

/-- the one placing the three parts of a gate sum after the keys, -/
def IsPc (pc : Vec Ideal S48x1024 .bf16) : Prop :=
  ∀ (x : Fin 48) (y : Fin 1024), pc (ix2 x y) = if x.val % 16 < 8 ∧ y.val = x.val % 16 * 128 + 64 + x.val / 16 then 1 else 0

/-- and the ones standing against those parts. -/
def IsOne (o : Vec Ideal S1x1024 .f32) : Prop :=
  ∀ y : Fin 1024, o (ix2 0 y) = if 64 ≤ y.val % 128 ∧ y.val % 128 < 67 then 1 else 0

/-- A product with the placing matrix takes one column or none. -/
theorem place_sum (q : Fin 512 → EReal) (pk : Vec Ideal S512x1024 .bf16) (hpk : IsPk pk) (h : Fin 8) (l : Fin 128) :
    ∑ x : Fin 512, q x * pk (ix2 x ⟨128 * h.val + l.val, by omega⟩)
      = if hl : l.val < 64 then q ⟨64 * h.val + l.val, by omega⟩ else 0 := by
  by_cases hl : l.val < 64
  · rw [dif_pos hl, Finset.sum_eq_single ⟨64 * h.val + l.val, by omega⟩]
    · rw [hpk, if_pos (by show 128 * h.val + l.val = (64 * h.val + l.val) / 64 * 128 + (64 * h.val + l.val) % 64; omega), mul_one]
    · intro x _ hx
      rw [hpk, if_neg, mul_zero]
      intro e
      exact hx (Fin.ext (by have e : 128 * h.val + l.val = x.val / 64 * 128 + x.val % 64 := e; show x.val = 64 * h.val + l.val; omega))
    · intro hn; exact absurd (Finset.mem_univ _) hn
  · rw [dif_neg hl]
    refine Finset.sum_eq_zero fun x _ => ?_
    rw [hpk, if_neg, mul_zero]
    intro e
    have e : 128 * h.val + l.val = x.val / 64 * 128 + x.val % 64 := e
    omega

/-- A product with one third of the gates' placing matrix takes one entry or none. -/
theorem part_sum (Z : Fin 16 → EReal) (pc : Vec Ideal S48x1024 .bf16) (hpc : IsPc pc) (h : Fin 8) (l : Fin 128) (p : Fin 3)
    (at' : Fin 16 → ℕ) (hlt : ∀ x, at' x < 48) (hat : ∀ x, at' x = 16 * p.val + x.val) :
    ∑ x : Fin 16, Z x * pc (ix2 ⟨at' x, hlt x⟩ ⟨128 * h.val + l.val, by omega⟩)
      = if l.val = 64 + p.val then Z ⟨h.val, by omega⟩ else 0 := by
  have hw : ∀ x : Fin 16, pc (ix2 ⟨at' x, hlt x⟩ ⟨128 * h.val + l.val, by omega⟩) = if x.val = h.val ∧ l.val = 64 + p.val then 1 else 0 := by
    intro x
    rw [hpc]
    refine if_congr ?_ rfl rfl
    show at' x % 16 < 8 ∧ 128 * h.val + l.val = at' x % 16 * 128 + 64 + at' x / 16 ↔ _
    rw [hat x, show (16 * p.val + x.val) % 16 = x.val by omega, show (16 * p.val + x.val) / 16 = p.val by omega]
    constructor
    · intro e; omega
    · intro e; omega
  rw [Finset.sum_eq_single ⟨h.val, by omega⟩]
  · rw [hw]
    by_cases e : l.val = 64 + p.val
    · rw [if_pos e, if_pos ⟨rfl, e⟩, mul_one]
    · rw [if_neg e, if_neg (fun q => e q.2), mul_zero]
  · intro x _ hx
    rw [hw, if_neg (fun q => hx (Fin.ext q.1)), mul_zero]
  · intro hn; exact absurd (Finset.mem_univ _) hn

/-- A block of augmented keys at row `r`, head `h`, lane `l`: the key, or at lane 64 the scaled negated gate sum. -/
theorem kblk_apply (g : FVec Ideal S1x16 .f32) (lf : Vec Ideal S512x16 .f32) (k : Vec Ideal S512x512 .bf16) (pk : Vec Ideal S512x1024 .bf16)
    (pc : Vec Ideal S48x1024 .bf16) (hpk : IsPk pk) (hpc : IsPc pc) (r : Fin 512) (h : Fin 8) (l : Fin 128) (C : ℝ)
    (hC : cumB g lf (ix2 r ⟨h.val, by omega⟩) = (C : EReal)) :
    kblk g lf k pk pc (ix2 r ⟨128 * h.val + l.val, by omega⟩)
      = (if hl : l.val < 64 then k (ix2 r ⟨64 * h.val + l.val, by omega⟩) else 0)
        + if l.val = 64 then (((0 - C) * lg : ℝ) : EReal) else 0 := by
  unfold kblk
  pointwise [k0_pay12, k0_pay10, k0_pay11]
  rw [place_sum (fun x => k (ix2 r x)) pk hpk h l]
  refine congrArg _ ?_
  unfold cumB at hC
  generalize k0_pay8 k0_pay2 g lf = cb at hC ⊢
  rw [named_lg, sum3 16 48 rfl]
  have hP : (0 - cb (ix2 r ⟨h.val, by omega⟩)) * (lg : EReal) = (((0 - C) * lg : ℝ) : EReal) := by
    rw [hC, EReal.coe_mul, EReal.coe_sub]; rfl
  have hz : (((0 - C) * lg : ℝ) : EReal) - (((0 - C) * lg : ℝ) : EReal) = 0 := by rw [← EReal.coe_sub, sub_self]; rfl
  have e1 : ∀ x : Fin 16, ¬ (16 + x.val < 16) := fun x => by omega
  have e2 : ∀ x : Fin 16, ¬ (16 + 16 + x.val < 16) := fun x => by omega
  have e3 : ∀ x : Fin 16, ¬ (16 + 16 + x.val - 16 < 16) := fun x => by omega
  have e4 : ∀ x : Fin 16, 16 + x.val - 16 < 16 := fun x => by omega
  have e5 : ∀ x : Fin 16, 16 + x.val - 16 = x.val := fun x => by omega
  have e6 : ∀ x : Fin 16, 16 + 16 + x.val - 16 - 16 = x.val := fun x => by omega
  simp only [e1, e2, e3, e4, e5, e6, dif_neg, dif_pos, not_false_eq_true, Fin.is_lt, Fin.eta]
  rw [part_sum (fun x => (0 - cb (ix2 r x)) * (lg : EReal)) pc hpc h l 0 (fun x => x.val) (fun x => by omega) (fun x => by omega),
    part_sum (fun x => (0 - cb (ix2 r x)) * (lg : EReal) - (0 - cb (ix2 r x)) * (lg : EReal)) pc hpc h l 1 (fun x => 16 + x.val)
      (fun x => by omega) (fun x => by omega),
    part_sum (fun x => (0 - cb (ix2 r x)) * (lg : EReal) - (0 - cb (ix2 r x)) * (lg : EReal)
        - ((0 - cb (ix2 r x)) * (lg : EReal) - (0 - cb (ix2 r x)) * (lg : EReal))) pc hpc h l 2 (fun x => 16 + 16 + x.val)
      (fun x => by omega) (fun x => by omega)]
  simp only [hP, hz, sub_zero, ite_self, add_zero]
  rfl

/-- The augmented queries at row `t`, head `h`, lane `l`. -/
theorem qaug_apply (q : Vec Ideal S512x512 .bf16) (pk : Vec Ideal S512x1024 .bf16) (o : Vec Ideal S1x1024 .f32) (hpk : IsPk pk)
    (ho : IsOne o) (t : Fin 512) (h : Fin 8) (l : Fin 128) :
    (k0_pay153 q pk o : FVec Ideal S512x1024 .bf16) (ix2 t ⟨128 * h.val + l.val, by omega⟩)
      = (if hl : l.val < 64 then q (ix2 t ⟨64 * h.val + l.val, by omega⟩) else 0) * (lg : EReal)
        + if 64 ≤ l.val ∧ l.val < 67 then 1 else 0 := by
  pointwise [k0_pay153]
  rw [named_lg, place_sum (fun x => q (ix2 t x)) pk hpk h l, ho]
  refine congrArg _ (if_congr ?_ rfl rfl)
  show 64 ≤ (128 * h.val + l.val) % 128 ∧ (128 * h.val + l.val) % 128 < 67 ↔ _
  rw [show (128 * h.val + l.val) % 128 = l.val by omega]

/-- The score of a query against a key, from the augmented rows. -/
theorem lanes_sum (A B : Fin 128 → EReal) (k q : Fin 64 → ℝ) (P : ℝ)
    (hA : ∀ l : Fin 128, A l = (if hl : l.val < 64 then (k ⟨l.val, hl⟩ : EReal) else 0) + if l.val = 64 then (P : EReal) else 0)
    (hB : ∀ l : Fin 128, B l = (if hl : l.val < 64 then (q ⟨l.val, hl⟩ : EReal) else 0) * (lg : EReal)
      + if 64 ≤ l.val ∧ l.val < 67 then 1 else 0) :
    ∑ l, A l * B l = (((∑ d : Fin 64, k d * q d) * lg + P : ℝ) : EReal) := by
  rw [show (∑ l : Fin 128, A l * B l) = _ from Fin.sum_univ_add (a := 64) (b := 64) fun l => A l * B l]
  have e1 : ∀ d : Fin 64, A (Fin.castAdd 64 d) * B (Fin.castAdd 64 d) = ((k d * (q d * lg) : ℝ) : EReal) := by
    intro d
    rw [hA, hB, dif_pos (show (Fin.castAdd 64 d).val < 64 from d.isLt), dif_pos (show (Fin.castAdd 64 d).val < 64 from d.isLt),
      if_neg (show ¬ (Fin.castAdd 64 d).val = 64 from by have := d.isLt; show ¬ d.val = 64; omega),
      if_neg (show ¬ (64 ≤ (Fin.castAdd 64 d).val ∧ _) from fun e => by have := d.isLt; have : 64 ≤ d.val := e.1; omega),
      add_zero, add_zero, EReal.coe_mul, EReal.coe_mul]
    rfl
  have e2 : ∑ d : Fin 64, A (Fin.natAdd 64 d) * B (Fin.natAdd 64 d) = (P : EReal) := by
    rw [Finset.sum_eq_single 0]
    · rw [hA, hB, dif_neg (by simp), dif_neg (by simp), if_pos (by simp), if_pos (by simp)]
      rw [zero_add, zero_mul, zero_add, mul_one]
    · intro d _ hd
      have : d.val ≠ 0 := fun e => hd (Fin.ext e)
      rw [hA, dif_neg (by show ¬ 64 + d.val < 64; omega), if_neg (by show ¬ 64 + d.val = 64; omega), zero_add, zero_mul]
    · intro hn; exact absurd (Finset.mem_univ _) hn
  rw [e2, Finset.sum_congr rfl fun d _ => e1 d, ← coe_sum', ← EReal.coe_add, Finset.sum_mul]
  refine congrArg (fun x : ℝ => ((x + P : ℝ) : EReal)) (Finset.sum_congr rfl fun d _ => ?_)
  ring

end Cert.KernelIdeal.Fox

end
-- ==== Proof.FoxBlocks.lean ====
/-
  The fox call's input blocks: what each window's block holds at each grid point, as elements of the argument arrays.
-/
module

public import proofs.«01_k».proof.Proof.Gen.KernelIdeal.Value
public import proofs.«01_k».proof.Proof.Coords

@[expose] public section

set_option maxRecDepth 16384

noncomputable section

namespace Cert.KernelIdeal.Fox

open Idealize.ShloMosaic Idealize.ShloMosaic.TcCoe Idealize.SL.Sem
open Cert.KernelIdeal Cert.KernelIdeal.Gen Cert.Proof.Coords

variable (m : (ℓ : Loc nD τ sig) → Buf (Elt Ideal) ℓ)

/-- Where each window's block sits, decided over the 32 points: the queries and the output advance with the point, the keys,
    values and decays with the sequence, the constants stay. -/
theorem idx_facts : ∀ t : Fin cfg0.N,
    win0_0.index t = ![t.val, 0] ∧ win0_1.index t = ![t.val / 4, 1] ∧ win0_2.index t = ![t.val / 4, 0, 0]
    ∧ win0_3.index t = ![t.val / 4, 0] ∧ win0_4.index t = ![0, 0] ∧ win0_5.index t = ![0, 0]
    ∧ win0_6.index t = ![0, 0] ∧ win0_7.index t = ![t.val, 0] :=
  (by decide +kernel : ∀ t : Fin grid0.N, _)

/-- The second coordinate of a point is its place in its sequence. -/
theorem coords_one : ∀ t : Fin cfg0.N, (grid0.coords t 1).val = t.val % 4 :=
  (by decide +kernel : ∀ t : Fin grid0.N, _)

/-- Token `j` of sequence `b` as a row of the arrays. -/
def tok (b : Fin 8) (j : Fin 2048) : Fin 16384 := ⟨2048 * b.val + j.val, by omega⟩

/-- The sequence a point works on. -/
def seq (t : Fin cfg0.N) : Fin 8 := ⟨t.val / 4, by have h : t.val < 32 := t.isLt; omega⟩

theorem block0 (c : Dev nD) (t : Fin cfg0.N) (r l : Fin 512) :
    iblk m c 0 t (ix2 r l) = m ((c : Thread nD τ).loc main_arg0)
      (ix2 ⟨t.val * 512 + r.val, by have h : t.val < 32 := t.isLt; omega⟩ ⟨l.val, by omega⟩) := by
  have e : iblk m c 0 t (ix2 r l) = m ((c : Thread nD τ).loc main_arg0) (((cfg0.win 0).blk t).view.emb (ix2 r l)) :=
    congrFun (V_main_arg0 m c) _
  have h := (idx_facts t).1
  rw [e]
  refine congrArg _ (ext2 ?_ ?_)
  · show win0_0.index t 0 * 512 + 1 * r.val = t.val * 512 + r.val
    rw [h]; simp
  · show win0_0.index t 1 * 512 + 1 * l.val = l.val
    rw [h]; simp

theorem block1 (c : Dev nD) (t : Fin cfg0.N) (j : Fin 2048) (l : Fin 512) :
    iblk m c 1 t (ix2 j l) = m ((c : Thread nD τ).loc main_arg0) (ix2 (tok (seq t) j) ⟨512 + l.val, by omega⟩) := by
  have e : iblk m c 1 t (ix2 j l) = m ((c : Thread nD τ).loc main_arg0) (((cfg0.win 1).blk t).view.emb (ix2 j l)) :=
    congrFun (V_main_arg0 m c) _
  have h := (idx_facts t).2.1
  rw [e]
  refine congrArg _ (ext2 ?_ ?_)
  · show win0_1.index t 0 * 2048 + 1 * j.val = 2048 * (t.val / 4) + j.val
    rw [h]
    show t.val / 4 * 2048 + 1 * j.val = _
    omega
  · show win0_1.index t 1 * 512 + 1 * l.val = 512 + l.val
    rw [h]; simp

theorem block2 (c : Dev nD) (t : Fin cfg0.N) (d : Fin 512) (j : Fin 2048) :
    iblk m c 2 t (ix3 0 d j) = m ((c : Thread nD τ).loc main_arg1) (ix3 (seq t) d j) := by
  have e : iblk m c 2 t (ix3 0 d j) = m ((c : Thread nD τ).loc main_arg1) (((cfg0.win 2).blk t).view.emb (ix3 0 d j)) :=
    congrFun (V_main_arg1 m c) _
  have h := (idx_facts t).2.2.1
  rw [e]
  refine congrArg _ (ext3 ?_ ?_ ?_)
  · show win0_2.index t 0 * 1 + 1 * 0 = t.val / 4
    rw [h]; simp
  · show win0_2.index t 1 * 512 + 1 * d.val = d.val
    rw [h]; simp
  · show win0_2.index t 2 * 2048 + 1 * j.val = j.val
    rw [h]; simp

theorem block3 (c : Dev nD) (t : Fin cfg0.N) (j : Fin 2048) (a : Fin 16) :
    iblk m c 3 t (ix2 j a) = m ((c : Thread nD τ).loc main_arg2) (ix2 (tok (seq t) j) a) := by
  have e : iblk m c 3 t (ix2 j a) = m ((c : Thread nD τ).loc main_arg2) (((cfg0.win 3).blk t).view.emb (ix2 j a)) :=
    congrFun (V_main_arg2 m c) _
  have h := (idx_facts t).2.2.2.1
  rw [e]
  refine congrArg _ (ext2 ?_ ?_)
  · show win0_3.index t 0 * 2048 + 1 * j.val = 2048 * (t.val / 4) + j.val
    rw [h]
    show t.val / 4 * 2048 + 1 * j.val = _
    omega
  · show win0_3.index t 1 * 16 + 1 * a.val = a.val
    rw [h]; simp

/-- The three constants are single blocks, the whole arrays. -/
theorem block4 (c : Dev nD) (t : Fin cfg0.N) : iblk m c 4 t = V m c main_v12 := by
  funext y
  have h := (idx_facts t).2.2.2.2.1
  refine congrArg (V m c main_v12) (Eq.trans (ext2 (a := y 0) (b := y 1) ?_ ?_) (ext2 rfl rfl).symm)
  · show win0_4.index t 0 * 512 + 1 * (y 0).val = (y 0).val
    rw [h]; simp
  · show win0_4.index t 1 * 1024 + 1 * (y 1).val = (y 1).val
    rw [h]; simp

theorem block5 (c : Dev nD) (t : Fin cfg0.N) : iblk m c 5 t = V m c main_v30 := by
  funext y
  have h := (idx_facts t).2.2.2.2.2.1
  refine congrArg (V m c main_v30) (Eq.trans (ext2 (a := y 0) (b := y 1) ?_ ?_) (ext2 rfl rfl).symm)
  · show win0_5.index t 0 * 48 + 1 * (y 0).val = (y 0).val
    rw [h]; simp
  · show win0_5.index t 1 * 1024 + 1 * (y 1).val = (y 1).val
    rw [h]; simp

theorem block6 (c : Dev nD) (t : Fin cfg0.N) : iblk m c 6 t = V m c main_v39 := by
  funext y
  have h := (idx_facts t).2.2.2.2.2.2.1
  refine congrArg (V m c main_v39) (Eq.trans (ext2 (a := y 0) (b := y 1) ?_ ?_) (ext2 rfl rfl).symm)
  · show win0_6.index t 0 * 1 + 1 * (y 0).val = (y 0).val
    rw [h]; simp
  · show win0_6.index t 1 * 1024 + 1 * (y 1).val = (y 1).val
    rw [h]; simp

end Cert.KernelIdeal.Fox

end
-- ==== Proof.FoxMath.lean ====
/-
  The forgetting attention as one formula over natural-number positions: the weight of key `j` for the query at position `T`
  is the softmax over `j ≤ T` of `q · k + C T − C j`, `C` the running sum of the decays.
-/
module

public import proofs.«01_k».proof.Proof.FoxSoft
public import proofs.«01_k».proof.Proof.FoxPrep
public import proofs.«01_k».proof.Proof.FoxBlocks

@[expose] public section

noncomputable section

namespace Cert.KernelIdeal.Fox

open Idealize.ShloMosaic Idealize.ShloMosaic.TcCoe Idealize.SL.Sem
open Cert.KernelIdeal Cert.KernelIdeal.Gen Cert.Proof.Coords

variable (A0 : S16384x1536.Idx → EReal) (A1 : S8x512x2048.Idx → EReal) (A2 : S16384x16.Idx → EReal)

/-- The queries, keys and decays are real numbers. -/
structure Finite : Prop where
  qk : ∀ (r : Fin 16384) (l : Fin 1536), l.val < 1024 → A0 (ix2 r l) = ((A0 (ix2 r l)).toReal : EReal)
  g : ∀ (r : Fin 16384) (a : Fin 16), a.val < 8 → A2 (ix2 r a) = ((A2 (ix2 r a)).toReal : EReal)

/-- Entry `d` of head `h`'s query at position `j` of sequence `b`; of its key; its decay; its value entry. Past the last
    position, zero. -/
def qN (b h : Fin 8) (j : ℕ) (d : Fin 64) : ℝ :=
  if hj : j < 2048 then (A0 (ix2 (tok b ⟨j, hj⟩) ⟨64 * h.val + d.val, by omega⟩)).toReal else 0
def kN (b h : Fin 8) (j : ℕ) (d : Fin 64) : ℝ :=
  if hj : j < 2048 then (A0 (ix2 (tok b ⟨j, hj⟩) ⟨512 + (64 * h.val + d.val), by omega⟩)).toReal else 0
def gN (b h : Fin 8) (j : ℕ) : ℝ :=
  if hj : j < 2048 then (A2 (ix2 (tok b ⟨j, hj⟩) ⟨h.val, by omega⟩)).toReal else 0
def vE (b h : Fin 8) (d : Fin 64) (j : ℕ) : EReal :=
  if hj : j < 2048 then A1 (ix3 b ⟨64 * h.val + d.val, by omega⟩ ⟨j, hj⟩) else 0

/-- The running sum of the decays up to and including position `j`. -/
def cN (b h : Fin 8) (j : ℕ) : ℝ := ∑ i ∈ Finset.range (j + 1), gN A2 b h i

/-- The query at `T` against the key at `j`. -/
def qk (b h : Fin 8) (T j : ℕ) : ℝ := ∑ d : Fin 64, kN A0 b h j d * qN A0 b h T d

/-- The score the reference gives. -/
def rho (b h : Fin 8) (T j : ℕ) : ℝ := qk A0 b h T j + cN A2 b h T - cN A2 b h j

/-- The score the kernel gives: base two, and without the query's own running sum. -/
def sgm (b h : Fin 8) (T j : ℕ) : ℝ := qk A0 b h T j * lg + (0 - cN A2 b h j) * lg

theorem rho_sig (b h : Fin 8) (T j : ℕ) : rho A0 A2 b h T j = Real.log 2 * sgm A0 A2 b h T j + cN A2 b h T := by
  have h2 : Real.log 2 ≠ 0 := (Real.log_pos (by norm_num)).ne'
  unfold rho sgm lg
  field_simp
  ring

/-- The attention's entry `d` of head `h` at position `T` of sequence `b`. -/
def attn (b h : Fin 8) (d : Fin 64) (T : ℕ) : EReal :=
  ∑ j ∈ Finset.range 2048, vE A1 b h d j
    * Ideal.div (Ideal.exp (masked (rho A0 A2 b h T) T j - sup' (masked (rho A0 A2 b h T) T) 2048))
        (∑ j ∈ Finset.range 2048, Ideal.exp (masked (rho A0 A2 b h T) T j - sup' (masked (rho A0 A2 b h T) T) 2048))

variable {A0 A1 A2}

theorem Finite.q_eq (F : Finite A0 A2) (b h : Fin 8) (j : Fin 2048) (d : Fin 64) :
    A0 (ix2 (tok b j) ⟨64 * h.val + d.val, by omega⟩) = (qN A0 b h j.val d : EReal) := by
  rw [qN, dif_pos j.isLt]; exact F.qk _ _ (by show 64 * h.val + d.val < 1024; omega)

theorem Finite.k_eq (F : Finite A0 A2) (b h : Fin 8) (j : Fin 2048) (d : Fin 64) :
    A0 (ix2 (tok b j) ⟨512 + (64 * h.val + d.val), by omega⟩) = (kN A0 b h j.val d : EReal) := by
  rw [kN, dif_pos j.isLt]; exact F.qk _ _ (by show 512 + (64 * h.val + d.val) < 1024; omega)

theorem Finite.g_eq (F : Finite A0 A2) (b h : Fin 8) (j : Fin 2048) :
    A2 (ix2 (tok b j) ⟨h.val, by omega⟩) = (gN A2 b h j.val : EReal) := by
  rw [gN, dif_pos j.isLt]; exact F.g _ _ (by show h.val < 8; omega)

theorem v_eq (b h : Fin 8) (j : Fin 2048) (d : Fin 64) :
    A1 (ix3 b ⟨64 * h.val + d.val, by omega⟩ j) = vE A1 b h d j.val := by
  rw [vE, dif_pos j.isLt]

end Cert.KernelIdeal.Fox

end
-- ==== Proof.FoxTrip.lean ====
/-
  One trip of the fox kernel's loop over the earlier tiles, and the loop: what the running maxima, the running sums of
  weights and the running weighted sums of values hold after a number of trips, head by head.
-/
module

public import proofs.«01_k».proof.Proof.Gen.KernelIdeal.Value
public import proofs.«01_k».proof.Proof.FoxHeads

@[expose] public section

set_option maxRecDepth 8192

noncomputable section

namespace Cert.KernelIdeal.Fox

open Idealize.ShloMosaic Idealize.ShloMosaic.TcCoe Idealize.SL.Sem
open Cert.KernelIdeal Cert.KernelIdeal.Gen Cert.Proof.Coords

variable (𝒱 : Variants) (c : Dev nD) (bd : Option 𝒱.V) (i : grid0.Coords)
  (arg2 : Memref sig .tc .vmem S512x512 .bf16) (harg2 : arg2.IsWhole)
  (arg3 : Memref sig .tc .vmem S2048x512 .bf16) (harg3 : arg3.IsWhole)
  (arg4 : Memref sig .tc .vmem S1x512x2048 .f32) (harg4 : arg4.IsWhole)
  (arg5 : Memref sig .tc .vmem S2048x16 .f32) (harg5 : arg5.IsWhole)
  (arg6 : Memref sig .tc .vmem S512x1024 .bf16) (harg6 : arg6.IsWhole)
  (arg7 : Memref sig .tc .vmem S48x1024 .bf16) (harg7 : arg7.IsWhole)
  (arg8 : Memref sig .tc .vmem S1x1024 .f32) (harg8 : arg8.IsWhole)
  (arg9 : Memref sig .tc .vmem S512x512 .bf16) (harg9 : arg9.IsWhole)
  (arg10 : Memref sig .tc .vmem S2048x1024 .bf16) (harg10 : arg10.IsWhole)
  (arg11 : Memref sig .tc .vmem S512x2048 .bf16) (harg11 : arg11.IsWhole)
  (arg12 : Memref sig .tc .vmem S512x1024 .bf16) (harg12 : arg12.IsWhole)
  (arg13 : Memref sig .tc .vmem S8x1x512 .f32) (harg13 : arg13.IsWhole)
  (arg14 : Memref sig .tc .vmem S8x1x512 .f32) (harg14 : arg14.IsWhole)
  (arg15 : Memref sig .tc .vmem S512x512 .f32) (harg15 : arg15.IsWhole) (arg1 : BitVec 32)
  (X10 : BufTy.Contents (Elt Ideal) arg10.view.ty) (X11 : BufTy.Contents (Elt Ideal) arg11.view.ty)
  (X12 : BufTy.Contents (Elt Ideal) arg12.view.ty)
  (f13 : BufTy.Contents (Elt Ideal) arg13.view.ty) (f14 : BufTy.Contents (Elt Ideal) arg14.view.ty)
  (f15 : BufTy.Contents (Elt Ideal) arg15.view.ty)

/-- The row at which trip `k` reads the augmented keys. -/
def row (k : Fin (k0_t1_loop i).trips) : ℕ := k0_off1 i k 0

theorem row_inb (k : Fin (k0_t1_loop i).trips) : row i k + 512 ≤ 2048 := k0_off1_inb i k 0

/-- The loop over the earlier tiles runs once per earlier tile. -/
theorem trips_eq : (k0_t1_loop i).trips = (i 1).val := by
  have h : ∀ n : Fin 4, (⟨0#32, Scalar.addi 0#32 (Scalar.muli (Scalar.divsi (Scalar.subi (BitVec.ofNat 32 n.val) 0#32) 1#32)
      1#32), 1#32⟩ : Scf.Loop 32).trips = n.val := by decide +kernel
  exact h (i 1)

/-- The second loop, over the remainder after the whole number of steps, has no trips. -/
theorem trips2 : (k0_t2_loop i).trips = 0 := by
  have h : ∀ n : Fin 4, (⟨Scalar.addi 0#32 (Scalar.muli (Scalar.divsi (Scalar.subi (BitVec.ofNat 32 n.val) 0#32) 1#32)
      1#32), Scalar.addi 0#32 (Scalar.subi (BitVec.ofNat 32 n.val) 0#32), 1#32⟩ : Scf.Loop 32).trips = 0 := by
    decide +kernel
  exact h (i 1)

/-- Trip `k` reads the keys at row `512 k`. -/
theorem row_eq (k : Fin (k0_t1_loop i).trips) : row i k = 512 * k.val := by
  have h : ∀ n : Fin 4, (Scalar.indexCast (Scalar.muli (Scf.iv 0#32 1#32 n.val) 512#32)).toNat = 512 * n.val := by
    decide +kernel
  have hk : k.val < 4 := by have := k.isLt; have := trips_eq i; have := (i 1).isLt; change _ < 4 at this; omega
  exact h ⟨k.val, hk⟩

/-- Trip `k`'s scores of head `h`. -/
def stT (k : Fin (k0_t1_loop i).trips) (h : Fin 8) : FVec Ideal S512x512 .f32 :=
  k0_pay21 (arg10.view.readAt (Elt Ideal) (kaugRect (row i k) (row_inb i k) h).toLoadRect X10)
    (arg12.view.readAt (Elt Ideal) (qaugRect h).toLoadRect X12)

/-- Trip `k`'s values of head `h`. -/
def vtT (k : Fin (k0_t1_loop i).trips) (h : Fin 8) : Vec Ideal S64x512 .bf16 :=
  arg11.view.readAt (Elt Ideal) (vtRect (row i k) (row_inb i k) h).toLoadRect X11

/-- Trip `k`'s stores: eight new maxima, eight new sums of weights, eight new weighted sums. -/
theorem trip_pieces (k : Fin (k0_t1_loop i).trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 X10 X11 X12 k f13 f14 f15
      = (heads3 (fun h => mP (stT i arg10 arg12 X10 X12 k h) (arg13.view.readAt (Elt Ideal) (rect3 h).toLoadRect f13)),
         heads3 (fun h => lP (stT i arg10 arg12 X10 X12 k h) (arg13.view.readAt (Elt Ideal) (rect3 h).toLoadRect f13)
           (arg14.view.readAt (Elt Ideal) (rect3 h).toLoadRect f14)),
         heads2 (fun h => aP (stT i arg10 arg12 X10 X12 k h) (arg13.view.readAt (Elt Ideal) (rect3 h).toLoadRect f13)
           (arg15.view.readAt (Elt Ideal) (rect2 h).toLoadRect f15) (vtT i arg11 X11 k h))) := by
  unfold tripL_k0_t1 trip_k0_t1
  rfl

/-- The augmented keys the loop reads. -/
abbrev K10 : Vec Ideal S2048x1024 .bf16 := arg10.view.read (Elt Ideal) X10
/-- The transposed values the loop reads. -/
abbrev V11 : Vec Ideal S512x2048 .bf16 := arg11.view.read (Elt Ideal) X11
/-- The augmented queries the loop reads. -/
abbrev Q12 : Vec Ideal S512x1024 .bf16 := arg12.view.read (Elt Ideal) X12

theorem stT_apply (k : Fin (k0_t1_loop i).trips) (h : Fin 8) (r t : Fin 512) :
    stT i arg10 arg12 X10 X12 k h (ix2 r t) = scN (K10 arg10 X10) (Q12 arg12 X12) h t (512 * k.val + r.val) := by
  have hr := row_inb i k
  have he := row_eq i k
  unfold stT
  rw [st_apply, scN_eq _ _ h t _ (by omega)]
  refine Finset.sum_congr rfl fun l _ => ?_
  rw [readAtK, readAtQ]
  have e : (⟨row i k + r.val, by omega⟩ : Fin 2048) = ⟨512 * k.val + r.val, by omega⟩ := Fin.ext (show row i k + r.val = 512 * k.val + r.val by omega)
  rw [e]

theorem vtT_apply (k : Fin (k0_t1_loop i).trips) (h : Fin 8) (d : Fin 64) (r : Fin 512) :
    vtT i arg11 X11 k h (ix2 d r) = vN (V11 arg11 X11) h d (512 * k.val + r.val) := by
  have hr := row_inb i k
  have he := row_eq i k
  unfold vtT
  rw [readAtV, vN_eq _ h d _ (by omega)]
  have e : (⟨row i k + r.val, by omega⟩ : Fin 2048) = ⟨512 * k.val + r.val, by omega⟩ := Fin.ext (show row i k + r.val = 512 * k.val + r.val by omega)
  rw [e]

/-- What the loop's buffers hold after `k` trips, from what they held at its entry. -/
theorem loop_reads (h : Fin 8) (t : Fin 512) : ∀ k : ℕ, k ≤ (k0_t1_loop i).trips →
    (arg13.view.read (Elt Ideal) (arg13.view.writes (Elt Ideal) f13
        (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 X10 X11 X12 f13 f14 f15 k).1) (ix3 h 0 t)
      = mAt (arg13.view.read (Elt Ideal) f13 (ix3 h 0 t)) (tileS (K10 arg10 X10) (Q12 arg12 X12) h t) k)
    ∧ (arg14.view.read (Elt Ideal) (arg14.view.writes (Elt Ideal) f14
        (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 X10 X11 X12 f13 f14 f15 k).2.1) (ix3 h 0 t)
      = lAt (arg13.view.read (Elt Ideal) f13 (ix3 h 0 t)) (arg14.view.read (Elt Ideal) f14 (ix3 h 0 t))
          (tileS (K10 arg10 X10) (Q12 arg12 X12) h t) k)
    ∧ ∀ d : Fin 64, (arg15.view.read (Elt Ideal) (arg15.view.writes (Elt Ideal) f15
        (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 X10 X11 X12 f13 f14 f15 k).2.2) (ix2 (hd h d) t)
      = aAt (arg13.view.read (Elt Ideal) f13 (ix3 h 0 t)) (arg15.view.read (Elt Ideal) f15 (ix2 (hd h d) t))
          (tileS (K10 arg10 X10) (Q12 arg12 X12) h t) (tileV (V11 arg11 X11) h d) k)
  | 0, _ => ⟨rfl, rfl, fun _ => rfl⟩
  | k + 1, hk => by
    obtain ⟨ih1, ih2, ih3⟩ := loop_reads h t k (Nat.le_of_succ_le hk)
    have es := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 X10 X11 X12 f13 f14 f15 ⟨k, hk⟩
    rw [trip_pieces] at es
    replace es : pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 X10 X11 X12 f13 f14 f15 (k + 1) = _ := es
    have hs : (fun r => stT i arg10 arg12 X10 X12 ⟨k, hk⟩ h (ix2 r t)) = tileS (K10 arg10 X10) (Q12 arg12 X12) h t k :=
      funext fun r => stT_apply i arg10 arg12 X10 X12 ⟨k, hk⟩ h r t
    rw [es]
    refine ⟨?_, ?_, fun d => ?_⟩
    · rw [View.writes_append, read_map3 _ _ _ h t headsDown (mem_headsDown h), mP_apply, readAt3, ih1, hs]; rfl
    · rw [View.writes_append, read_map3 _ _ _ h t headsDown (mem_headsDown h), lP_apply, readAt3, readAt3, ih1, ih2, hs]; rfl
    · have hv : (fun r => vtT i arg11 X11 ⟨k, hk⟩ h (ix2 d r)) = tileV (V11 arg11 X11) h d k :=
        funext fun r => vtT_apply i arg11 X11 ⟨k, hk⟩ h d r
      rw [View.writes_append, read_map2 _ _ _ h d t headsDown (mem_headsDown h), aP_apply, readAt3, readAt2, ih1, ih3 d, hs, hv]
      rfl

end Cert.KernelIdeal.Fox

end
-- ==== Proof.FoxPoint.lean ====
/-
  One point of the fox kernel's grid: the loop over the earlier tiles, the tile on the diagonal and the division, as one
  term of the buffers the point finds, whether it prepared them itself or found them prepared.
-/
module

public import proofs.«01_k».proof.Proof.FoxTrip
public import proofs.«01_k».proof.Proof.FoxTile

@[expose] public section

set_option maxRecDepth 8192

noncomputable section

namespace Cert.KernelIdeal.Fox

open Idealize.ShloMosaic Idealize.ShloMosaic.TcCoe Idealize.SL.Sem
open Cert.KernelIdeal Cert.KernelIdeal.Gen Cert.Proof.Coords

variable (c : Dev nD) (i : grid0.Coords)
  (arg2 : Memref sig .tc .vmem S512x512 .bf16) (harg2 : arg2.IsWhole)
  (arg3 : Memref sig .tc .vmem S2048x512 .bf16) (harg3 : arg3.IsWhole)
  (arg4 : Memref sig .tc .vmem S1x512x2048 .f32) (harg4 : arg4.IsWhole)
  (arg5 : Memref sig .tc .vmem S2048x16 .f32) (harg5 : arg5.IsWhole)
  (arg6 : Memref sig .tc .vmem S512x1024 .bf16) (harg6 : arg6.IsWhole)
  (arg7 : Memref sig .tc .vmem S48x1024 .bf16) (harg7 : arg7.IsWhole)
  (arg8 : Memref sig .tc .vmem S1x1024 .f32) (harg8 : arg8.IsWhole)
  (arg9 : Memref sig .tc .vmem S512x512 .bf16) (harg9 : arg9.IsWhole)
  (arg10 : Memref sig .tc .vmem S2048x1024 .bf16) (harg10 : arg10.IsWhole)
  (arg11 : Memref sig .tc .vmem S512x2048 .bf16) (harg11 : arg11.IsWhole)
  (arg12 : Memref sig .tc .vmem S512x1024 .bf16) (harg12 : arg12.IsWhole)
  (arg13 : Memref sig .tc .vmem S8x1x512 .f32) (harg13 : arg13.IsWhole)
  (arg14 : Memref sig .tc .vmem S8x1x512 .f32) (harg14 : arg14.IsWhole)
  (arg15 : Memref sig .tc .vmem S512x512 .f32) (harg15 : arg15.IsWhole)
  (X10 : BufTy.Contents (Elt Ideal) arg10.view.ty) (X11 : BufTy.Contents (Elt Ideal) arg11.view.ty)
  (x0 : Vec Ideal S512x512 .bf16) (x1 : Vec Ideal S2048x512 .bf16) (x2 : Vec Ideal S1x512x2048 .f32)
  (x3 : Vec Ideal S2048x16 .f32) (x4 : Vec Ideal S512x1024 .bf16) (x5 : Vec Ideal S48x1024 .bf16)
  (x6 : Vec Ideal S1x1024 .f32) (xs0 : Vec Ideal S2048x1024 .bf16) (xs1 : Vec Ideal S512x2048 .bf16)

/-- The augmented queries' buffer. -/
def X12 : BufTy.Contents (Elt Ideal) arg12.view.ty :=
  arg12.view.writes (Elt Ideal) arg12.view.junk
    [⟨Rect.unit ![0, 0] S512x1024.size inb_S512x1024_S512x1024_0_0,
      k0_pay153 (arg2.view.readAt (Elt Ideal) (Rect.unit ![0, 0] S512x512.size inb_S512x512_S512x512_0_0).toLoadRect (harg2.unread x0))
        (arg6.view.readAt (Elt Ideal) (Rect.unit ![0, 0] S512x1024.size inb_S512x1024_S512x1024_0_0).toLoadRect (harg6.unread x4))
        (arg8.view.readAt (Elt Ideal) (Rect.unit ![0, 0] S1x1024.size inb_S1x1024_S1x1024_0_0).toLoadRect (harg8.unread x6))⟩]

/-- The first contents of the maxima, of the sums and of the weighted sums. -/
def I3 : List (View.Piece (Elt Ideal) S8x1x512 .f32) := [⟨Rect.unit ![0, 0, 0] S8x1x512.size inb_S8x1x512_S8x1x512_0_0_0, (k0_pay154 : FVec Ideal S8x1x512 .f32)⟩]
def I4 : List (View.Piece (Elt Ideal) S8x1x512 .f32) := [⟨Rect.unit ![0, 0, 0] S8x1x512.size inb_S8x1x512_S8x1x512_0_0_0, (k0_pay155 : FVec Ideal S8x1x512 .f32)⟩]
def I5 : List (View.Piece (Elt Ideal) S512x512 .f32) := [⟨Rect.unit ![0, 0] S512x512.size inb_S512x512_S512x512_0_0, (k0_pay156 : FVec Ideal S512x512 .f32)⟩]

/-- The loop's stores. -/
def P1 : List (View.Piece (Elt Ideal) S8x1x512 .f32) × List (View.Piece (Elt Ideal) S8x1x512 .f32)
    × List (View.Piece (Elt Ideal) S512x512 .f32) :=
  pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) X10 X11
    (X12 arg2 harg2 arg6 harg6 arg8 harg8 arg12 x0 x4 x6) (arg13.view.writes (Elt Ideal) arg13.view.junk I3)
    (arg14.view.writes (Elt Ideal) arg14.view.junk I4) (arg15.view.writes (Elt Ideal) arg15.view.junk I5)
    (k0_t1_loop i).trips

/-- The second loop's stores, of which there are none. -/
def P2 : List (View.Piece (Elt Ideal) S8x1x512 .f32) × List (View.Piece (Elt Ideal) S8x1x512 .f32)
    × List (View.Piece (Elt Ideal) S512x512 .f32) :=
  pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) (k0_t1_loop i).ub X10 X11
    (X12 arg2 harg2 arg6 harg6 arg8 harg8 arg12 x0 x4 x6)
    (arg13.view.writes (Elt Ideal) arg13.view.junk ((P1 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6).1 ++ I3))
    (arg14.view.writes (Elt Ideal) arg14.view.junk ((P1 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6).2.1 ++ I4))
    (arg15.view.writes (Elt Ideal) arg15.view.junk ((P1 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6).2.2 ++ I5))
    (k0_t2_loop i).trips

/-- Everything stored before the tile on the diagonal. -/
def B3 := (P2 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6).1 ++ ((P1 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6).1 ++ I3)
def B4 := (P2 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6).2.1 ++ ((P1 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6).2.1 ++ I4)
def B5 := (P2 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6).2.2 ++ ((P1 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6).2.2 ++ I5)

/-- The row of the tile on the diagonal. -/
def rowD : ℕ := k0_off33 i 0
theorem rowD_inb : rowD i + 512 ≤ 2048 := k0_off33_inb i 0

/-- The scores of the tile on the diagonal, those of later keys at minus infinity, -/
def stD (h : Fin 8) : FVec Ideal S512x512 .f32 :=
  k0_pay228 k0_pay161 (k0_pay162 (arg10.view.readAt (Elt Ideal) (kaugRect (rowD i) (rowD_inb i) h).toLoadRect X10)
    (arg12.view.readAt (Elt Ideal) (qaugRect h).toLoadRect (X12 arg2 harg2 arg6 harg6 arg8 harg8 arg12 x0 x4 x6)))

/-- and its values. -/
def vtD (h : Fin 8) : Vec Ideal S64x512 .bf16 :=
  arg11.view.readAt (Elt Ideal) (vtRect (rowD i) (rowD_inb i) h).toLoadRect X11

/-- The block the point writes. -/
def outF : FVec Ideal S512x512 .bf16 :=
  outP arg14.view arg15.view
    (D4 arg13.view arg14.view (B3 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6) (B4 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6)
      (stD i arg2 harg2 arg6 harg6 arg8 harg8 arg10 arg12 X10 x0 x4 x6) headsDown)
    (D5 arg13.view arg15.view (B3 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6) (B5 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6)
      (stD i arg2 harg2 arg6 harg6 arg8 harg8 arg10 arg12 X10 x0 x4 x6) (vtD i arg11 X11) headsDown)

/-- Three lists of stores are those of the diagonal tile after the heads of a list. -/
def Heads (L3 L4 : List (View.Piece (Elt Ideal) S8x1x512 .f32)) (L5 : List (View.Piece (Elt Ideal) S512x512 .f32))
    (hs : List (Fin 8)) : Prop :=
  L3 = D3 arg13.view (B3 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6) (stD i arg2 harg2 arg6 harg6 arg8 harg8 arg10 arg12 X10 x0 x4 x6) hs
  ∧ L4 = D4 arg13.view arg14.view (B3 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6) (B4 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6)
      (stD i arg2 harg2 arg6 harg6 arg8 harg8 arg10 arg12 X10 x0 x4 x6) hs
  ∧ L5 = D5 arg13.view arg15.view (B3 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6) (B5 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6)
      (stD i arg2 harg2 arg6 harg6 arg8 harg8 arg10 arg12 X10 x0 x4 x6) (vtD i arg11 X11) hs

variable {c i arg2 harg2 arg3 harg3 arg4 harg4 arg5 harg5 arg6 harg6 arg7 harg7 arg8 harg8 arg9 harg9 arg10 harg10
  arg11 harg11 arg12 harg12 arg13 harg13 arg14 harg14 arg15 harg15 X10 X11 x0 x4 x6}

/-- One more head's stores over those of a list of heads. -/
theorem Heads.step {L3 L4 : List (View.Piece (Elt Ideal) S8x1x512 .f32)} {L5 : List (View.Piece (Elt Ideal) S512x512 .f32)}
    {hs : List (Fin 8)} (h : Fin 8) (H : Heads c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6 L3 L4 L5 hs)
    {p3 p4 : FVec Ideal S1x1x512 .f32} {p5 : FVec Ideal S64x512 .f32}
    (e3 : p3 = mP (stD i arg2 harg2 arg6 harg6 arg8 harg8 arg10 arg12 X10 x0 x4 x6 h)
      (arg13.view.readCov L3 (rect3 h).toLoadRect))
    (e4 : p4 = lP (stD i arg2 harg2 arg6 harg6 arg8 harg8 arg10 arg12 X10 x0 x4 x6 h)
      (arg13.view.readCov L3 (rect3 h).toLoadRect) (arg14.view.readCov L4 (rect3 h).toLoadRect))
    (e5 : p5 = aP (stD i arg2 harg2 arg6 harg6 arg8 harg8 arg10 arg12 X10 x0 x4 x6 h)
      (arg13.view.readCov L3 (rect3 h).toLoadRect) (arg15.view.readCov L5 (rect2 h).toLoadRect) (vtD i arg11 X11 h)) :
    Heads c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6
      (⟨rect3 h, p3⟩ :: L3) (⟨rect3 h, p4⟩ :: L4) (⟨rect2 h, p5⟩ :: L5) (h :: hs) := by
  obtain ⟨r3, r4, r5⟩ := H
  subst r3 r4 r5 e3 e4 e5
  exact ⟨rfl, rfl, rfl⟩

/-- The block a point writes, of lists of stores that are the diagonal tile's. -/
theorem Heads.out {L3 L4 : List (View.Piece (Elt Ideal) S8x1x512 .f32)} {L5 : List (View.Piece (Elt Ideal) S512x512 .f32)}
    (H : Heads c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6 L3 L4 L5 headsDown) :
    outP arg14.view arg15.view L4 L5 = outF c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6 := by
  obtain ⟨-, r4, r5⟩ := H
  subst r4 r5
  rfl

variable (c i arg2 harg2 arg3 harg3 arg4 harg4 arg5 harg5 arg6 harg6 arg7 harg7 arg8 harg8 arg9 harg9 arg10 harg10
  arg11 harg11 arg12 harg12 arg13 harg13 arg14 harg14 arg15 harg15 X10 X11 x0 x4 x6)

set_option maxHeartbeats 4000000 in
/-- At a point after the first of its sequence, the block is made from the keys and values found prepared. -/
theorem out_B (hc0 : ¬cond0_0 i) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1
      = outF c i arg2 harg2 arg3 harg3 arg4 harg4 arg5 harg5 arg6 harg6 arg7 harg7 arg8 harg8 arg9 harg9 arg10 harg10 arg11 harg11 arg12 harg12 arg13 harg13 arg14 harg14 arg15 harg15 (harg10.unread xs0) (harg11.unread xs1) x0 x4 x6 := by
  obtain ⟨p3, H⟩ : ∃ p3, Heads c i arg2 harg2 arg3 harg3 arg4 harg4 arg5 harg5 arg6 harg6 arg7 harg7 arg8 harg8 arg9 harg9 arg10 harg10 arg11 harg11 arg12 harg12 arg13 harg13 arg14 harg14 arg15 harg15 (harg10.unread xs0) (harg11.unread xs1) x0 x4 x6
      (⟨rect3 7, p3⟩ :: kernelRun0_B.sl.HS3_7 c i arg2 harg2 arg3 harg3 arg4 harg4 arg5 harg5 arg6 harg6 arg7 harg7 arg8 harg8 arg9 harg9 arg10 harg10 arg11 harg11 arg12 harg12 arg13 harg13 arg14 harg14 arg15 harg15 x0 x4 x6 xs0 xs1) (kernelRun0_B.sl.HS4_8 c i arg2 harg2 arg3 harg3 arg4 harg4 arg5 harg5 arg6 harg6 arg7 harg7 arg8 harg8 arg9 harg9 arg10 harg10 arg11 harg11 arg12 harg12 arg13 harg13 arg14 harg14 arg15 harg15 x0 x4 x6 xs0 xs1)
      (kernelRun0_B.sl.HS5_8 c i arg2 harg2 arg3 harg3 arg4 harg4 arg5 harg5 arg6 harg6 arg7 harg7 arg8 harg8 arg9 harg9 arg10 harg10 arg11 harg11 arg12 harg12 arg13 harg13 arg14 harg14 arg15 harg15 x0 x4 x6 xs0 xs1) headsDown := by
    refine ⟨_, Heads.step 7 (Heads.step 6 (Heads.step 5 (Heads.step 4 (Heads.step 3 (Heads.step 2 (Heads.step 1
      (Heads.step 0 (⟨rfl, rfl, rfl⟩ : Heads c i arg2 harg2 arg3 harg3 arg4 harg4 arg5 harg5 arg6 harg6 arg7 harg7 arg8 harg8 arg9 harg9 arg10 harg10 arg11 harg11 arg12 harg12 arg13 harg13 arg14 harg14 arg15 harg15 (harg10.unread xs0) (harg11.unread xs1) x0 x4 x6 _ _ _ [])
      ?_ ?_ ?_) ?_ ?_ ?_) ?_ ?_ ?_) ?_ ?_ ?_) ?_ ?_ ?_) ?_ ?_ ?_) ?_ ?_ ?_) rfl ?_ ?_⟩ <;> rfl
  rw [← H.out]
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 xs0 xs1)]
  unfold kernelRun0_B
  dsimp only
  exact View.canon_unit_zero zero2 _ _

set_option maxHeartbeats 4000000 in
/-- At the first point of its sequence, the block is made from the keys and values the point prepares itself. -/
theorem out_A (hc0 : cond0_0 i) :
    ∃ (Y10 : BufTy.Contents (Elt Ideal) arg10.view.ty) (Y11 : BufTy.Contents (Elt Ideal) arg11.view.ty),
      out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = outF c i arg2 harg2 arg3 harg3 arg4 harg4 arg5 harg5 arg6 harg6 arg7 harg7 arg8 harg8 arg9 harg9 arg10 harg10 arg11 harg11 arg12 harg12 arg13 harg13 arg14 harg14 arg15 harg15 Y10 Y11 x0 x4 x6
      ∧ arg10.view.read (Elt Ideal) Y10 = sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6
      ∧ arg11.view.read (Elt Ideal) Y11 = sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 := by
  refine ⟨arg10.view.writes (Elt Ideal) arg10.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1,
    arg11.view.writes (Elt Ideal) arg11.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1, ?_, ?_, ?_⟩
  · obtain ⟨p3, H⟩ : ∃ p3, Heads c i arg2 harg2 arg3 harg3 arg4 harg4 arg5 harg5 arg6 harg6 arg7 harg7 arg8 harg8 arg9 harg9 arg10 harg10 arg11 harg11 arg12 harg12 arg13 harg13 arg14 harg14 arg15 harg15
        (arg10.view.writes (Elt Ideal) arg10.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1)
        (arg11.view.writes (Elt Ideal) arg11.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1) x0 x4 x6
        (⟨rect3 7, p3⟩ :: kernelRun0_A.sl.HS3_7 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)
        (kernelRun0_A.sl.HS4_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6)
        (kernelRun0_A.sl.HS5_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6) headsDown := by
      refine ⟨_, Heads.step 7 (Heads.step 6 (Heads.step 5 (Heads.step 4 (Heads.step 3 (Heads.step 2 (Heads.step 1
        (Heads.step 0 (⟨rfl, rfl, rfl⟩ : Heads c i arg2 harg2 arg3 harg3 arg4 harg4 arg5 harg5 arg6 harg6 arg7 harg7 arg8 harg8 arg9 harg9 arg10 harg10 arg11 harg11 arg12 harg12 arg13 harg13 arg14 harg14 arg15 harg15
          (arg10.view.writes (Elt Ideal) arg10.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1)
          (arg11.view.writes (Elt Ideal) arg11.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1)
          x0 x4 x6 _ _ _ [])
        ?_ ?_ ?_) ?_ ?_ ?_) ?_ ?_ ?_) ?_ ?_ ?_) ?_ ?_ ?_) ?_ ?_ ?_) ?_ ?_ ?_) rfl ?_ ?_⟩ <;> rfl
    rw [← H.out]
    unfold out0_A_7
    rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6)]
    exact View.canon_unit_zero zero2 _ _
  · rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6)]
    exact (View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6)).symm
  · rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6)]
    exact (View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6)).symm

end Cert.KernelIdeal.Fox

end
-- ==== Proof.FoxFill.lean ====
/-
  What the first point of a sequence leaves in the fox kernel's two scratch arrays: the augmented keys, in four row blocks,
  and the transposed values, in four column blocks.
-/
module

public import proofs.«01_k».proof.Proof.FoxPrep
public import proofs.«01_k».proof.Proof.FoxPoint

@[expose] public section

set_option maxRecDepth 8192

noncomputable section

namespace Cert.KernelIdeal.Fox

open Idealize.ShloMosaic Idealize.ShloMosaic.TcCoe Idealize.SL.Sem
open Cert.KernelIdeal Cert.KernelIdeal.Gen Cert.Proof.Coords

/-- Row block `b` of the augmented keys, column block `b` of the transposed values, and the blocks they are made from. -/
abbrev rowRect (b : Fin 4) : Rect S2048x1024 :=
  Rect.unit (s := S2048x1024) ![512 * b.val, 0] S512x1024.size (by fin_cases b <;> decide)
abbrev colRect (b : Fin 4) : Rect S512x2048 :=
  Rect.unit (s := S512x2048) ![0, 512 * b.val] S512x512.size (by fin_cases b <;> decide)
abbrev lfRect (b : Fin 4) : Rect S2048x16 :=
  Rect.unit (s := S2048x16) ![512 * b.val, 0] S512x16.size (by fin_cases b <;> decide)
abbrev kRect (b : Fin 4) : Rect S2048x512 :=
  Rect.unit (s := S2048x512) ![512 * b.val, 0] S512x512.size (by fin_cases b <;> decide)
abbrev vRect (b : Fin 4) : Rect S1x512x2048 :=
  Rect.unit (s := S1x512x2048) ![0, 0, 512 * b.val] S1x512x512.size (by fin_cases b <;> decide)

/-- A row block's write leaves the other blocks as they were, -/
theorem canonR_ne (b' b : Fin 4) (hne : b ≠ b') (w : S512x1024.Idx → Elt Ideal .bf16)
    (L : List (View.Piece (Elt Ideal) S2048x1024 .bf16)) (r : Fin 512) (y : Fin 1024) :
    View.canon (⟨rowRect b', w⟩ :: L) (ix2 ⟨512 * b.val + r.val, by omega⟩ y) = View.canon L (ix2 ⟨512 * b.val + r.val, by omega⟩ y) := by
  refine View.canon_cons_of_not_mem _ L ?_
  rw [Rect.mem_set_unit]
  intro h
  have h0 := h 0
  have h0 : 512 * b'.val ≤ 512 * b.val + r.val ∧ 512 * b.val + r.val < 512 * b'.val + 512 := h0
  exact hne (Fin.ext (by omega))

/-- and sets its own. -/
theorem canonR_eq (b : Fin 4) (w : S512x1024.Idx → Elt Ideal .bf16) (L : List (View.Piece (Elt Ideal) S2048x1024 .bf16))
    (r : Fin 512) (y : Fin 1024) :
    View.canon (⟨rowRect b, w⟩ :: L) (ix2 ⟨512 * b.val + r.val, by omega⟩ y) = w (ix2 r y) := by
  rw [show (ix2 (⟨512 * b.val + r.val, by omega⟩ : Fin 2048) y : S2048x1024.Idx) = (rowRect b).emb (ix2 r y) from
    (ext2 (by show 512 * b.val + 1 * r.val = 512 * b.val + r.val; omega) (by show 0 + 1 * y.val = y.val; omega)).symm]
  exact View.canon_cons_emb (rowRect b) w L _

theorem canonC_ne (b' b : Fin 4) (hne : b ≠ b') (w : S512x512.Idx → Elt Ideal .bf16)
    (L : List (View.Piece (Elt Ideal) S512x2048 .bf16)) (d : Fin 512) (r : Fin 512) :
    View.canon (⟨colRect b', w⟩ :: L) (ix2 d ⟨512 * b.val + r.val, by omega⟩) = View.canon L (ix2 d ⟨512 * b.val + r.val, by omega⟩) := by
  refine View.canon_cons_of_not_mem _ L ?_
  rw [Rect.mem_set_unit]
  intro h
  have h0 := h 1
  have h0 : 512 * b'.val ≤ 512 * b.val + r.val ∧ 512 * b.val + r.val < 512 * b'.val + 512 := h0
  exact hne (Fin.ext (by omega))

theorem canonC_eq (b : Fin 4) (w : S512x512.Idx → Elt Ideal .bf16) (L : List (View.Piece (Elt Ideal) S512x2048 .bf16))
    (d : Fin 512) (r : Fin 512) :
    View.canon (⟨colRect b, w⟩ :: L) (ix2 d ⟨512 * b.val + r.val, by omega⟩) = w (ix2 d r) := by
  rw [show (ix2 d (⟨512 * b.val + r.val, by omega⟩ : Fin 2048) : S512x2048.Idx) = (colRect b).emb (ix2 d r) from
    (ext2 (by show 0 + 1 * d.val = d.val; omega) (by show 512 * b.val + 1 * r.val = 512 * b.val + r.val; omega)).symm]
  exact View.canon_cons_emb (colRect b) w L _

/-- Writes of the four blocks, in order, leave each block's own. -/
theorem canonR_apply (P : Fin 4 → S512x1024.Idx → Elt Ideal .bf16) (b : Fin 4) (r : Fin 512) (y : Fin 1024) :
    View.canon [⟨rowRect 3, P 3⟩, ⟨rowRect 2, P 2⟩, ⟨rowRect 1, P 1⟩, ⟨rowRect 0, P 0⟩] (ix2 ⟨512 * b.val + r.val, by omega⟩ y)
      = P b (ix2 r y) := by
  by_cases h3 : b = 3
  · rw [h3]; exact canonR_eq 3 _ _ r y
  refine (canonR_ne 3 b h3 _ _ r y).trans ?_
  by_cases h2 : b = 2
  · rw [h2]; exact canonR_eq 2 _ _ r y
  refine (canonR_ne 2 b h2 _ _ r y).trans ?_
  by_cases h1 : b = 1
  · rw [h1]; exact canonR_eq 1 _ _ r y
  refine (canonR_ne 1 b h1 _ _ r y).trans ?_
  have h0 : b = 0 := by
    have e3 : b.val ≠ 3 := fun e => h3 (Fin.ext e)
    have e2 : b.val ≠ 2 := fun e => h2 (Fin.ext e)
    have e1 : b.val ≠ 1 := fun e => h1 (Fin.ext e)
    exact Fin.ext (by show b.val = 0; omega)
  rw [h0]; exact canonR_eq 0 _ _ r y

theorem canonC_apply (P : Fin 4 → S512x512.Idx → Elt Ideal .bf16) (b : Fin 4) (d : Fin 512) (r : Fin 512) :
    View.canon [⟨colRect 3, P 3⟩, ⟨colRect 2, P 2⟩, ⟨colRect 1, P 1⟩, ⟨colRect 0, P 0⟩] (ix2 d ⟨512 * b.val + r.val, by omega⟩)
      = P b (ix2 d r) := by
  by_cases h3 : b = 3
  · rw [h3]; exact canonC_eq 3 _ _ d r
  refine (canonC_ne 3 b h3 _ _ d r).trans ?_
  by_cases h2 : b = 2
  · rw [h2]; exact canonC_eq 2 _ _ d r
  refine (canonC_ne 2 b h2 _ _ d r).trans ?_
  by_cases h1 : b = 1
  · rw [h1]; exact canonC_eq 1 _ _ d r
  refine (canonC_ne 1 b h1 _ _ d r).trans ?_
  have h0 : b = 0 := by
    have e3 : b.val ≠ 3 := fun e => h3 (Fin.ext e)
    have e2 : b.val ≠ 2 := fun e => h2 (Fin.ext e)
    have e1 : b.val ≠ 1 := fun e => h1 (Fin.ext e)
    exact Fin.ext (by show b.val = 0; omega)
  rw [h0]; exact canonC_eq 0 _ _ d r

/-- The gate sums carried into each block, from the blocks of gates. -/
def carry (lf : Fin 4 → Vec Ideal S512x16 .f32) : Fin 4 → FVec Ideal S1x16 .f32
  | 0 => broadcast S1x16 (Scalar.ofBits .f32 0x00000000#32)
  | 1 => k0_pay4 (lf 0)
  | 2 => k0_pay9 k0_pay2 (k0_pay4 (lf 0)) (lf 1)
  | 3 => k0_pay9 k0_pay2 (k0_pay9 k0_pay2 (k0_pay4 (lf 0)) (lf 1)) (lf 2)

variable (c : Dev nD) (i : grid0.Coords)
  (arg2 : Memref sig .tc .vmem S512x512 .bf16) (harg2 : arg2.IsWhole)
  (arg3 : Memref sig .tc .vmem S2048x512 .bf16) (harg3 : arg3.IsWhole)
  (arg4 : Memref sig .tc .vmem S1x512x2048 .f32) (harg4 : arg4.IsWhole)
  (arg5 : Memref sig .tc .vmem S2048x16 .f32) (harg5 : arg5.IsWhole)
  (arg6 : Memref sig .tc .vmem S512x1024 .bf16) (harg6 : arg6.IsWhole)
  (arg7 : Memref sig .tc .vmem S48x1024 .bf16) (harg7 : arg7.IsWhole)
  (arg8 : Memref sig .tc .vmem S1x1024 .f32) (harg8 : arg8.IsWhole)
  (arg9 : Memref sig .tc .vmem S512x512 .bf16) (harg9 : arg9.IsWhole)
  (arg10 : Memref sig .tc .vmem S2048x1024 .bf16) (harg10 : arg10.IsWhole)
  (arg11 : Memref sig .tc .vmem S512x2048 .bf16) (harg11 : arg11.IsWhole)
  (arg12 : Memref sig .tc .vmem S512x1024 .bf16) (harg12 : arg12.IsWhole)
  (arg13 : Memref sig .tc .vmem S8x1x512 .f32) (harg13 : arg13.IsWhole)
  (arg14 : Memref sig .tc .vmem S8x1x512 .f32) (harg14 : arg14.IsWhole)
  (arg15 : Memref sig .tc .vmem S512x512 .f32) (harg15 : arg15.IsWhole) (arg1 : BitVec 32)
  (x0 : Vec Ideal S512x512 .bf16) (x1 : Vec Ideal S2048x512 .bf16) (x2 : Vec Ideal S1x512x2048 .f32) (x3 : Vec Ideal S2048x16 .f32)
  (x4 : Vec Ideal S512x1024 .bf16) (x5 : Vec Ideal S48x1024 .bf16) (x6 : Vec Ideal S1x1024 .f32)

/-- The four blocks of augmented keys as written. -/
def PR (b : Fin 4) : FVec Ideal S512x1024 .bf16 :=
  kblk (carry (fun b => arg5.view.readAt (Elt Ideal) (lfRect b).toLoadRect (harg5.unread x3)) b)
    (arg5.view.readAt (Elt Ideal) (lfRect b).toLoadRect (harg5.unread x3))
    (arg3.view.readAt (Elt Ideal) (kRect b).toLoadRect (harg3.unread x1))
    (arg6.view.readAt (Elt Ideal) (Rect.unit ![0, 0] S512x1024.size (by decide)).toLoadRect (harg6.unread x4))
    (arg7.view.readAt (Elt Ideal) (Rect.unit ![0, 0] S48x1024.size (by decide)).toLoadRect (harg7.unread x5))

/-- The four blocks of transposed values as written. -/
def PC (b : Fin 4) : FVec Ideal S512x512 .bf16 :=
  k0_pay13 (arg4.view.readAt (Elt Ideal) (vRect b).toLoadRect (harg4.unread x2))

theorem fillR (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1
    = [⟨rowRect 3, PR arg3 harg3 arg5 harg5 arg6 harg6 arg7 harg7 x1 x3 x4 x5 3⟩, ⟨rowRect 2, PR arg3 harg3 arg5 harg5 arg6 harg6 arg7 harg7 x1 x3 x4 x5 2⟩,
      ⟨rowRect 1, PR arg3 harg3 arg5 harg5 arg6 harg6 arg7 harg7 x1 x3 x4 x5 1⟩, ⟨rowRect 0, PR arg3 harg3 arg5 harg5 arg6 harg6 arg7 harg7 x1 x3 x4 x5 0⟩] := by
  rfl

theorem fillC (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1
    = [⟨colRect 3, PC arg4 harg4 x2 3⟩, ⟨colRect 2, PC arg4 harg4 x2 2⟩, ⟨colRect 1, PC arg4 harg4 x2 1⟩,
      ⟨colRect 0, PC arg4 harg4 x2 0⟩] := by
  rfl

/-- Row block `b` of the gates, of the keys and column block `b` of the values, by entry. -/
def lfB (x3 : Vec Ideal S2048x16 .f32) (b : Fin 4) : Vec Ideal S512x16 .f32 := fun y => x3 ((lfRect b).emb y)
def kB (x1 : Vec Ideal S2048x512 .bf16) (b : Fin 4) : Vec Ideal S512x512 .bf16 := fun y => x1 ((kRect b).emb y)

theorem PR_eq (b : Fin 4) : PR arg3 harg3 arg5 harg5 arg6 harg6 arg7 harg7 x1 x3 x4 x5 b
    = kblk (carry (lfB x3) b) (lfB x3 b) (kB x1 b) x4 x5 := by
  have e3 : ∀ b, arg5.view.readAt (Elt Ideal) (lfRect b).toLoadRect (harg5.unread x3) = lfB x3 b := by
    intro b
    rw [View.readAt_eq_ld, harg5.read_unread]
    rfl
  have e1 : arg3.view.readAt (Elt Ideal) (kRect b).toLoadRect (harg3.unread x1) = kB x1 b := by
    rw [View.readAt_eq_ld, harg3.read_unread]
    rfl
  unfold PR
  simp only [e3, e1]
  rw [View.readAt_eq_ld, View.readAt_eq_ld, harg6.read_unread, harg7.read_unread, View.ld_unit_zero zero2, View.ld_unit_zero zero2]

/-- A row is row `r` of a block `b`. -/
theorem row_split (j : Fin 2048) : ∃ (b : Fin 4) (r : Fin 512), j = ⟨512 * b.val + r.val, by omega⟩ := by
  have hj := j.isLt
  exact ⟨⟨j.val / 512, by omega⟩, ⟨j.val % 512, by omega⟩, Fin.ext (by show j.val = 512 * (j.val / 512) + j.val % 512; omega)⟩

/-- The transposed values are the block's. -/
theorem vt_apply (hc0 : cond0_0 i) (d : Fin 512) (j : Fin 2048) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix2 d j) = x2 (ix3 0 d j) := by
  obtain ⟨b, r, rfl⟩ := row_split j
  unfold sout0_A_1
  rw [View.read_writes_junk_apply_eq_canon, fillC]
  refine (canonC_apply (PC arg4 harg4 x2) b d r).trans ?_
  unfold PC
  pointwise [k0_pay13]
  rw [View.readAt_eq_ld, harg4.read_unread]
  refine congrArg x2 (ext3 ?_ ?_ ?_)
  · rfl
  · show 0 + 1 * d.val = d.val; omega
  · show 512 * b.val + 1 * r.val = 512 * b.val + r.val; omega

/-- A running sum continued through a block. -/
theorem sum_block (g : ℕ → ℝ) (n : ℕ) (r : Fin 512) :
    ∑ i ∈ Finset.range (n + (r.val + 1)), g i
      = ∑ i ∈ Finset.range n, g i + ∑ x : Fin 512, if x ≤ r then g (n + x.val) else 0 := by
  rw [Finset.sum_range_add]
  refine congrArg _ ?_
  have e : (∑ x : Fin 512, if x ≤ r then g (n + x.val) else 0) = ∑ x ∈ Finset.range 512, if x ≤ r.val then g (n + x) else 0 :=
    (Finset.sum_range fun x => if x ≤ r.val then g (n + x) else 0).symm
  rw [e, ← Finset.sum_filter]
  refine Finset.sum_congr (Finset.ext fun x => ?_) fun _ _ => rfl
  rw [Finset.mem_filter, Finset.mem_range, Finset.mem_range]
  have := r.isLt
  omega

/-- The sum carried into block `b` is that of all the rows before it. -/
theorem carry_apply (lf : Fin 4 → Vec Ideal S512x16 .f32) (a : Fin 16) (g : ℕ → ℝ)
    (hlf : ∀ b x, lf b (ix2 x a) = (g (512 * b.val + x.val) : EReal)) (b : Fin 4) :
    carry lf b (ix2 0 a) = ((∑ i ∈ Finset.range (512 * b.val), g i : ℝ) : EReal) := by
  have step : ∀ (b : Fin 4) (γ : FVec Ideal S1x16 .f32), γ (ix2 0 a) = ((∑ i ∈ Finset.range (512 * b.val), g i : ℝ) : EReal) →
      k0_pay9 k0_pay2 γ (lf b) (ix2 0 a) = ((∑ i ∈ Finset.range (512 * (b.val + 1)), g i : ℝ) : EReal) := by
    intro b γ hγ
    have e : k0_pay9 k0_pay2 γ (lf b) (ix2 0 a) = cumB γ (lf b) (ix2 511 a) := by
      unfold cumB
      pointwise [k0_pay9]
    rw [e, cumB_apply γ (lf b) 511 a _ _ hγ (hlf b), show 512 * (b.val + 1) = 512 * b.val + ((511 : Fin 512).val + 1) from by
      show 512 * (b.val + 1) = 512 * b.val + (511 + 1); ring, sum_block]
  have h0 : carry lf 0 (ix2 0 a) = ((∑ i ∈ Finset.range (512 * (0 : Fin 4).val), g i : ℝ) : EReal) := by
    have : (512 * (0 : Fin 4).val) = 0 := rfl
    rw [this, Finset.sum_range_zero]
    unfold carry
    exact (by pointwise [] : (broadcast S1x16 (Scalar.ofBits (F := Ideal) .f32 0x00000000#32) : FVec Ideal S1x16 .f32) (ix2 0 a) = 0)
  have h1 := step 0 _ h0
  have h2 := step 1 _ h1
  have h3 := step 2 _ h2
  fin_cases b
  · exact h0
  · exact h1
  · exact h2
  · exact h3

/-- The augmented keys: the key in a head's first 64 lanes, the scaled negated running gate sum in lane 64, zero after. -/
theorem kaug_apply (hc0 : cond0_0 i) (hpk : IsPk x4) (hpc : IsPc x5) (h : Fin 8) (g : ℕ → ℝ)
    (hg : ∀ j : Fin 2048, x3 (ix2 j ⟨h.val, by omega⟩) = (g j.val : EReal)) (j : Fin 2048) (l : Fin 128) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix2 j ⟨128 * h.val + l.val, by omega⟩)
      = (if hl : l.val < 64 then x1 (ix2 j ⟨64 * h.val + l.val, by omega⟩) else 0)
        + if l.val = 64 then (((0 - ∑ i ∈ Finset.range (j.val + 1), g i) * lg : ℝ) : EReal) else 0 := by
  obtain ⟨b, r, rfl⟩ := row_split j
  unfold sout0_A_0
  rw [View.read_writes_junk_apply_eq_canon, fillR]
  refine (canonR_apply (PR arg3 harg3 arg5 harg5 arg6 harg6 arg7 harg7 x1 x3 x4 x5) b r _).trans ?_
  have hlf : ∀ (b : Fin 4) (x : Fin 512), lfB x3 b (ix2 x ⟨h.val, by omega⟩) = (g (512 * b.val + x.val) : EReal) := by
    intro b x
    refine Eq.trans (congrArg x3 ?_) (hg ⟨512 * b.val + x.val, by omega⟩)
    refine ext2 ?_ ?_
    · show 512 * b.val + 1 * x.val = 512 * b.val + x.val; omega
    · show 0 + 1 * h.val = h.val; omega
  rw [PR_eq, kblk_apply _ _ _ _ _ hpk hpc r h l _ (cumB_apply _ _ r _ _ _ (carry_apply (lfB x3) _ g hlf b) (hlf b))]
  have hs := sum_block g (512 * b.val) r
  rw [show 512 * b.val + r.val + 1 = 512 * b.val + (r.val + 1) from rfl, hs]
  refine congrArg (· + _) ?_
  by_cases hl : l.val < 64
  · rw [dif_pos hl, dif_pos hl]
    refine congrArg x1 (ext2 ?_ ?_)
    · show 512 * b.val + 1 * r.val = 512 * b.val + r.val; omega
    · show 0 + 1 * (64 * h.val + l.val) = 64 * h.val + l.val; omega
  · rw [dif_neg hl, dif_neg hl]

end Cert.KernelIdeal.Fox

end
-- ==== Proof.FoxOut.lean ====
/-
  What one point of the fox kernel's grid writes, from the augmented keys, the transposed values and the augmented
  queries: an online softmax over the earlier tiles and the tile on the diagonal.
-/
module

public import proofs.«01_k».proof.Proof.FoxPoint
public import proofs.«01_k».proof.Proof.FoxEye

@[expose] public section

set_option maxRecDepth 8192

noncomputable section

namespace Cert.KernelIdeal.Fox

open Idealize.ShloMosaic Idealize.ShloMosaic.TcCoe Idealize.SL.Sem
open Cert.KernelIdeal Cert.KernelIdeal.Gen Cert.Proof.Coords

variable (c : Dev nD) (i : grid0.Coords)
  (arg2 : Memref sig .tc .vmem S512x512 .bf16) (harg2 : arg2.IsWhole)
  (arg3 : Memref sig .tc .vmem S2048x512 .bf16) (harg3 : arg3.IsWhole)
  (arg4 : Memref sig .tc .vmem S1x512x2048 .f32) (harg4 : arg4.IsWhole)
  (arg5 : Memref sig .tc .vmem S2048x16 .f32) (harg5 : arg5.IsWhole)
  (arg6 : Memref sig .tc .vmem S512x1024 .bf16) (harg6 : arg6.IsWhole)
  (arg7 : Memref sig .tc .vmem S48x1024 .bf16) (harg7 : arg7.IsWhole)
  (arg8 : Memref sig .tc .vmem S1x1024 .f32) (harg8 : arg8.IsWhole)
  (arg9 : Memref sig .tc .vmem S512x512 .bf16) (harg9 : arg9.IsWhole)
  (arg10 : Memref sig .tc .vmem S2048x1024 .bf16) (harg10 : arg10.IsWhole)
  (arg11 : Memref sig .tc .vmem S512x2048 .bf16) (harg11 : arg11.IsWhole)
  (arg12 : Memref sig .tc .vmem S512x1024 .bf16) (harg12 : arg12.IsWhole)
  (arg13 : Memref sig .tc .vmem S8x1x512 .f32) (harg13 : arg13.IsWhole)
  (arg14 : Memref sig .tc .vmem S8x1x512 .f32) (harg14 : arg14.IsWhole)
  (arg15 : Memref sig .tc .vmem S512x512 .f32) (harg15 : arg15.IsWhole)
  (X10 : BufTy.Contents (Elt Ideal) arg10.view.ty) (X11 : BufTy.Contents (Elt Ideal) arg11.view.ty)
  (x0 : Vec Ideal S512x512 .bf16) (x4 : Vec Ideal S512x1024 .bf16) (x6 : Vec Ideal S1x1024 .f32)

/-- The augmented queries of a point. -/
def qaug : Vec Ideal S512x1024 .bf16 := k0_pay153 x0 x4 x6

/-- The diagonal tile's scores, those of later keys at minus infinity. -/
def maskS (K : Vec Ideal S2048x1024 .bf16) (Q : Vec Ideal S512x1024 .bf16) (h : Fin 8) (t : Fin 512) (n : ℕ) : Fin 512 → EReal :=
  fun r => if r.val ≤ t.val then tileS K Q h t n r else ⊥

theorem Q12_eq : Q12 arg12 (X12 arg2 harg2 arg6 harg6 arg8 harg8 arg12 x0 x4 x6) = qaug x0 x4 x6 := by
  unfold Q12 X12 qaug
  funext y
  rw [View.read_writes_junk_apply_eq_canon, View.canon_unit_zero zero2]
  rw [View.readAt_eq_ld, View.readAt_eq_ld, View.readAt_eq_ld, harg2.read_unread, harg6.read_unread, harg8.read_unread]
  rw [View.ld_unit_zero zero2, View.ld_unit_zero zero2, View.ld_unit_zero zero2]

theorem rowD_eq : rowD i = 512 * (i 1).val := by
  have h : ∀ n : Fin 4, (Scalar.indexCast (Scalar.muli (BitVec.ofNat 32 n.val) 512#32)).toNat = 512 * n.val := by
    decide +kernel
  exact h (i 1)

theorem sle_word (r t : Fin 512) : IntOp.cmpi .sle (BitVec.ofNat 32 r.val) (BitVec.ofNat 32 t.val) = if r.val ≤ t.val then 1#1 else 0#1 := by
  have hw : ((BitVec.ofNat 32 r.val).sle (BitVec.ofNat 32 t.val)) = decide (r.val ≤ t.val) := by
    have hn : ∀ x : Fin 512, (BitVec.ofNat 32 x.val).toInt = x.val := by
      intro x
      have e : (BitVec.ofNat 32 x.val).toNat = x.val := by rw [BitVec.toNat_ofNat, Nat.mod_eq_of_lt (by omega)]
      rw [BitVec.toInt_eq_toNat_of_lt (by rw [e]; omega), e]
    rw [BitVec.sle_eq_decide, hn, hn]
    simp
  by_cases e : r.val ≤ t.val
  · simp [IntOp.cmpi, hw, e]
  · simp [IntOp.cmpi, hw, e]

theorem stD_apply (h : Fin 8) (r t : Fin 512) :
    stD i arg2 harg2 arg6 harg6 arg8 harg8 arg10 arg12 X10 x0 x4 x6 h (ix2 r t)
      = maskS (K10 arg10 X10) (qaug x0 x4 x6) h t (i 1).val r := by
  have hr := rowD_inb i
  have he := rowD_eq i
  have hm : ∀ st : FVec Ideal S512x512 .f32, (k0_pay228 k0_pay161 st : Vec Ideal S512x512 .f32) (ix2 r t)
      = if r.val ≤ t.val then st (ix2 r t) else ⊥ := by
    intro st
    pointwise [k0_pay228, k0_pay161]
    rw [sle_word, ninf]
    by_cases e : r.val ≤ t.val
    · rw [if_pos e, if_pos e]; rfl
    · rw [if_neg e, if_neg e]; rfl
  unfold stD
  rw [hm]
  unfold maskS tileS
  refine if_congr Iff.rfl ?_ rfl
  rw [show k0_pay162 = k0_pay21 from rfl, st_apply, scN_eq _ _ h t _ (by omega)]
  refine Finset.sum_congr rfl fun l _ => ?_
  rw [readAtK, readAtQ, ← Q12_eq arg2 harg2 arg6 harg6 arg8 harg8 arg12 x0 x4 x6]
  have e : (⟨rowD i + r.val, by omega⟩ : Fin 2048) = ⟨512 * (i 1).val + r.val, by omega⟩ := Fin.ext (show rowD i + r.val = 512 * (i 1).val + r.val by omega)
  rw [e]

theorem vtD_apply (h : Fin 8) (d : Fin 64) (r : Fin 512) :
    vtD i arg11 X11 h (ix2 d r) = tileV (V11 arg11 X11) h d (i 1).val r := by
  have hr := rowD_inb i
  have he := rowD_eq i
  unfold vtD tileV
  rw [readAtV, vN_eq _ h d _ (by omega)]
  have e : (⟨rowD i + r.val, by omega⟩ : Fin 2048) = ⟨512 * (i 1).val + r.val, by omega⟩ := Fin.ext (show rowD i + r.val = 512 * (i 1).val + r.val by omega)
  rw [e]

theorem I3_read (h : Fin 8) (t : Fin 512) :
    arg13.view.read (Elt Ideal) (arg13.view.writes (Elt Ideal) arg13.view.junk I3) (ix3 h 0 t) = (⊥ : EReal) := by
  unfold I3
  rw [View.read_writes_junk_apply_eq_canon, View.canon_unit_zero zero3]
  exact ninf

theorem I4_read (h : Fin 8) (t : Fin 512) :
    arg14.view.read (Elt Ideal) (arg14.view.writes (Elt Ideal) arg14.view.junk I4) (ix3 h 0 t) = (0 : EReal) := by
  unfold I4
  rw [View.read_writes_junk_apply_eq_canon, View.canon_unit_zero zero3]
  pointwise [k0_pay155]

theorem I5_read (d t : Fin 512) :
    arg15.view.read (Elt Ideal) (arg15.view.writes (Elt Ideal) arg15.view.junk I5) (ix2 d t) = (0 : EReal) := by
  unfold I5
  rw [View.read_writes_junk_apply_eq_canon, View.canon_unit_zero zero2]
  pointwise [k0_pay156]

theorem P2_eq : P2 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6 = ([], [], []) := by
  unfold P2
  rw [trips2]
  rfl

/-- What the earlier tiles leave. -/
theorem base_reads (h : Fin 8) (t : Fin 512) :
    (View.canon (B3 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6) (ix3 h 0 t)
      = mAt ⊥ (tileS (K10 arg10 X10) (qaug x0 x4 x6) h t) (i 1).val)
    ∧ (View.canon (B4 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6) (ix3 h 0 t)
      = lAt ⊥ 0 (tileS (K10 arg10 X10) (qaug x0 x4 x6) h t) (i 1).val)
    ∧ ∀ d : Fin 64, View.canon (B5 c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6) (ix2 (hd h d) t)
      = aAt ⊥ 0 (tileS (K10 arg10 X10) (qaug x0 x4 x6) h t) (tileV (V11 arg11 X11) h d) (i 1).val := by
  have H := loop_reads Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) X10 X11
    (X12 arg2 harg2 arg6 harg6 arg8 harg8 arg12 x0 x4 x6) (arg13.view.writes (Elt Ideal) arg13.view.junk I3)
    (arg14.view.writes (Elt Ideal) arg14.view.junk I4) (arg15.view.writes (Elt Ideal) arg15.view.junk I5) h t
    (k0_t1_loop i).trips le_rfl
  rw [Q12_eq, I3_read, I4_read] at H
  obtain ⟨h1, h2, h3⟩ := H
  unfold B3 B4 B5
  rw [P2_eq]
  rw [trips_eq] at h1 h2 h3
  refine ⟨?_, ?_, fun d => ?_⟩
  · rw [← View.read_writes_junk_apply_eq_canon arg13.view, List.nil_append, View.writes_append]
    unfold P1
    rw [trips_eq]
    exact h1
  · rw [← View.read_writes_junk_apply_eq_canon arg14.view, List.nil_append, View.writes_append]
    unfold P1
    rw [trips_eq]
    exact h2
  · rw [← View.read_writes_junk_apply_eq_canon arg15.view, List.nil_append, View.writes_append]
    have h3 := h3 d
    rw [I5_read] at h3
    unfold P1
    rw [trips_eq]
    exact h3

/-- The block's entry at row `t`, head `h`, lane `d`. -/
theorem outF_apply (h : Fin 8) (d : Fin 64) (t : Fin 512) :
    outF c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6 (ix2 t (hd h d))
      = Ideal.div
          (aS (mAt ⊥ (tileS (K10 arg10 X10) (qaug x0 x4 x6) h t) (i 1).val)
            (aAt ⊥ 0 (tileS (K10 arg10 X10) (qaug x0 x4 x6) h t) (tileV (V11 arg11 X11) h d) (i 1).val)
            (maskS (K10 arg10 X10) (qaug x0 x4 x6) h t (i 1).val) (tileV (V11 arg11 X11) h d (i 1).val))
          (lS (mAt ⊥ (tileS (K10 arg10 X10) (qaug x0 x4 x6) h t) (i 1).val)
            (lAt ⊥ 0 (tileS (K10 arg10 X10) (qaug x0 x4 x6) h t) (i 1).val)
            (maskS (K10 arg10 X10) (qaug x0 x4 x6) h t (i 1).val)) := by
  obtain ⟨h1, h2, h3⟩ := base_reads c i arg2 harg2 arg3 harg3 arg4 harg4 arg5 harg5 arg6 harg6 arg7 harg7 arg8 harg8 arg9 harg9 arg10 harg10 arg11 harg11 arg12 harg12 arg13 harg13 arg14 harg14 arg15 harg15 X10 X11 x0 x4 x6 h t
  have hs : (fun x => stD i arg2 harg2 arg6 harg6 arg8 harg8 arg10 arg12 X10 x0 x4 x6 h (ix2 x t))
      = maskS (K10 arg10 X10) (qaug x0 x4 x6) h t (i 1).val :=
    funext fun r => stD_apply i arg2 harg2 arg6 harg6 arg8 harg8 arg10 arg12 X10 x0 x4 x6 h r t
  have hv : (fun x => vtD i arg11 X11 h (ix2 d x)) = tileV (V11 arg11 X11) h d (i 1).val :=
    funext fun r => vtD_apply i arg11 X11 h d r
  unfold outF outP
  refine (last_apply (fun h => arg15.view.readCov _ (rect2 h).toLoadRect) (fun h => arg14.view.readCov _ (rect3 h).toLoadRect)
    h d t).trans ?_
  rw [readCov2, readCov3, D4_after _ _ _ _ _ h t headsDown (by decide) (mem_headsDown h),
    D5_after _ _ _ _ _ _ h d t headsDown (by decide) (mem_headsDown h), h1, h2, h3 d, hs, hv]

end Cert.KernelIdeal.Fox

end
-- ==== Proof.FoxConsts.lean ====
/-
  The three constant matrices of the fox call, computed by the host from row and column numbers, read at one entry.
-/
module

public import proofs.«01_k».proof.Proof.FoxPrep
public import proofs.«01_k».proof.Proof.Gen.KernelIdeal.Value

@[expose] public section

set_option maxRecDepth 16384

noncomputable section

namespace Cert.KernelIdeal.Fox

open Idealize.ShloMosaic Idealize.ShloMosaic.TcCoe Idealize.SL.Sem
open Cert.KernelIdeal Cert.KernelIdeal.Gen Cert.Proof.Coords

variable (m : (ℓ : Loc nD τ sig) → Buf (Elt Ideal) ℓ)

/-- One or zero, as two words agree or not. -/
theorem eq_entry (φ : FTy) (a b : BitVec 32) :
    (FloatOps.uitofp (F := Ideal) φ (IntOp.cmpi .eq a b) : EReal) = if a = b then 1 else 0 := by
  by_cases e : a = b
  · subst e
    simp [IntOp.cmpi, FloatOps.uitofp]
  · have e' : (a == b) = false := beq_eq_false_iff_ne.mpr e
    simp [IntOp.cmpi, FloatOps.uitofp, e, e']

theorem word_eq (a b : ℕ) (ha : a < 1024) (hb : b < 1024) : BitVec.ofNat 32 a = BitVec.ofNat 32 b ↔ a = b := by
  rw [← BitVec.toNat_inj, BitVec.toNat_ofNat, BitVec.toNat_ofNat, Nat.mod_eq_of_lt (by omega), Nat.mod_eq_of_lt (by omega)]

/-- A word that depends on the row alone is the first column's. -/
theorem row_word {n : ℕ} (f : (⟨2, ![n, 1024]⟩ : Shape).Idx → BitVec 32) (x : Fin n) (y : Fin 1024) (w : BitVec 32)
    (e : f (ix2 x y) = f (ix2 x 0)) (h : f (ix2 x 0) = w) : f (ix2 x y) = w := e.trans h

/-- The matrix placing the keys. -/
theorem isPk (c : Dev nD) : IsPk (V m c main_v12) := by
  intro x y
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.cons_append, List.nil_append, List.append_nil]
  after_results
  simp only [StableHlo.TRef.ofBuf_toBuf, StableHlo.TRef.ofBuf, StableHlo.TRef.toBuf, cast_eq, id]
  refine (congrArg (fun w => FloatOps.uitofp (F := Ideal) .bf16 (IntOp.cmpi .eq (BitVec.ofNat 32 y.val) w))
    (?_ : (_ : BitVec 32) = BitVec.ofNat 32 (x.val / 64 * 128 + x.val % 64))).trans ?_
  · refine row_word _ x y _ rfl ?_
    clear y
    revert x
    decide +kernel
  · refine (eq_entry _ _ _).trans (if_congr (word_eq _ _ y.isLt (by omega)) rfl rfl)

/-- The matrix placing the gates' parts. -/
theorem isPc (c : Dev nD) : IsPc (V m c main_v30) := by
  intro x y
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.cons_append, List.nil_append, List.append_nil]
  after_results
  simp only [StableHlo.TRef.ofBuf_toBuf, StableHlo.TRef.ofBuf, StableHlo.TRef.toBuf, cast_eq, id]
  refine (congrArg (fun w => FloatOps.uitofp (F := Ideal) .bf16 (IntOp.cmpi .eq (BitVec.ofNat 32 y.val) w))
    (?_ : (_ : BitVec 32) = if x.val % 16 < 8 then BitVec.ofNat 32 (x.val % 16 * 128 + 64 + x.val / 16) else 0xFFFFFFFF#32)).trans ?_
  · refine row_word _ x y _ rfl ?_
    clear y
    revert x
    decide +kernel
  · refine (eq_entry _ _ _).trans (if_congr ?_ rfl rfl)
    have hx := x.isLt
    by_cases h : x.val % 16 < 8
    · rw [if_pos h, word_eq _ _ y.isLt (by omega)]
      exact ⟨fun e => ⟨h, e⟩, fun e => e.2⟩
    · rw [if_neg h]
      refine ⟨fun e => ?_, fun e => absurd e.1 h⟩
      have := congrArg BitVec.toNat e
      rw [BitVec.toNat_ofNat, Nat.mod_eq_of_lt (by omega)] at this
      have h2 : y.val = 4294967295 := this
      omega

/-- The ones against the gates' parts. -/
theorem isOne (c : Dev nD) : IsOne (V m c main_v39) := by
  intro y
  unfold V
  simp only [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, List.flatten_cons,
    List.flatten_nil, List.cons_append, List.nil_append, List.append_nil]
  after_results
  simp only [StableHlo.TRef.ofBuf_toBuf, StableHlo.TRef.ofBuf, StableHlo.TRef.toBuf, cast_eq, id]
  refine (congrArg (fun w => FloatOps.uitofp (F := Ideal) .f32 w)
    (?_ : (_ : BitVec 1) = if 64 ≤ y.val % 128 ∧ y.val % 128 < 67 then 1#1 else 0#1)).trans ?_
  · revert y
    decide +kernel
  · split_ifs
    · simp [FloatOps.uitofp]
    · simp [FloatOps.uitofp]

end Cert.KernelIdeal.Fox

end
-- ==== Proof.FoxState.lean ====
/-
  What the fox kernel's run holds after each grid point: the two scratch arrays (by induction over the points) and the
  output block, the attention's rows at that point.
-/
module

public import proofs.«01_k».proof.Proof.FoxMath
public import proofs.«01_k».proof.Proof.FoxFill
public import proofs.«01_k».proof.Proof.FoxOut
public import proofs.«01_k».proof.Proof.FoxConsts

@[expose] public section

set_option maxRecDepth 16384

noncomputable section

namespace Cert.KernelIdeal.Fox

open Idealize.ShloMosaic Idealize.ShloMosaic.TcCoe Idealize.SL.Sem
open Cert.KernelIdeal Cert.KernelIdeal.Gen Cert.Proof.Coords

variable (m : (ℓ : Loc nD τ sig) → Buf (Elt Ideal) ℓ) (c : Dev nD)

/-- The packed queries and keys, the values and the decays. -/
abbrev a0 : S16384x1536.Idx → EReal := m ((c : Thread nD τ).loc main_arg0)
abbrev a1 : S8x512x2048.Idx → EReal := m ((c : Thread nD τ).loc main_arg1)
abbrev a2 : S16384x16.Idx → EReal := m ((c : Thread nD τ).loc main_arg2)

/-- The keys' scratch array holds sequence `b`'s augmented keys. -/
def IsKeys (b : Fin 8) (K : Vec Ideal S2048x1024 .bf16) : Prop :=
  ∀ (h : Fin 8) (j : Fin 2048) (l : Fin 128), K (ix2 j ⟨128 * h.val + l.val, by omega⟩)
    = (if hl : l.val < 64 then (kN (a0 m c) b h j.val ⟨l.val, hl⟩ : EReal) else 0)
      + if l.val = 64 then (((0 - cN (a2 m c) b h j.val) * lg : ℝ) : EReal) else 0

/-- The values' scratch array holds sequence `b`'s transposed values. -/
def IsVals (b : Fin 8) (W : Vec Ideal S512x2048 .bf16) : Prop :=
  ∀ (d : Fin 512) (j : Fin 2048), W (ix2 d j) = a1 m c (ix3 b d j)

variable {m c}

/-- The first point of a sequence fills both. -/
theorem fill_A (F : Finite (a0 m c) (a2 m c)) (t : Fin cfg0.N) (h0 : t.val % 4 = 0) :
    IsKeys m c (seq t) (outsAt0 m c t.val t.isLt).2.1 ∧ IsVals m c (seq t) (outsAt0 m c t.val t.isLt).2.2 := by
  have hpk : IsPk (iblk m c 4 t) := by rw [block4]; exact isPk m c
  have hpc : IsPc (iblk m c 5 t) := by rw [block5]; exact isPc m c
  rw [outsAt0_A m c t h0]
  dsimp only
  refine ⟨fun h j l => ?_, fun d j => ?_⟩
  · have hg : ∀ j : Fin 2048, iblk m c 3 t (ix2 j ⟨h.val, by omega⟩) = (gN (a2 m c) (seq t) h j.val : EReal) :=
      fun j => (block3 m c t j _).trans (F.g_eq (seq t) h j)
    rw [kaug_apply (hpk := hpk) (hpc := hpc) (h := h) (g := gN (a2 m c) (seq t) h) (hg := hg) (j := j) (l := l)]
    refine congrArg₂ (· + ·) ?_ rfl
    by_cases hl : l.val < 64
    · rw [dif_pos hl, dif_pos hl]
      exact (block1 m c t j ⟨64 * h.val + l.val, by omega⟩).trans (F.k_eq (seq t) h j ⟨l.val, hl⟩)
    · rw [dif_neg hl, dif_neg hl]
  · rw [vt_apply (d := d) (j := j)]
    exact block2 m c t d j

/-- Every point leaves its sequence's keys and values there. -/
theorem state (F : Finite (a0 m c) (a2 m c)) : ∀ (n : ℕ) (hn : n < cfg0.N),
    IsKeys m c (seq ⟨n, hn⟩) (outsAt0 m c n hn).2.1 ∧ IsVals m c (seq ⟨n, hn⟩) (outsAt0 m c n hn).2.2
  | 0, hn => fill_A F ⟨0, hn⟩ rfl
  | n + 1, hn => by
    by_cases h0 : (n + 1) % 4 = 0
    · exact fill_A F ⟨n + 1, hn⟩ h0
    · have IH := state F n (Nat.lt_of_succ_lt hn)
      have e := outsAt0_B m c ⟨n + 1, hn⟩ h0
      have hs : seq ⟨n + 1, hn⟩ = seq ⟨n, Nat.lt_of_succ_lt hn⟩ := Fin.ext (by show (n + 1) / 4 = n / 4; omega)
      have e1 : (outsAt0 m c (n + 1) hn).2.1 = (outsAt0 m c n (Nat.lt_of_succ_lt hn)).2.1 :=
        congrArg (fun p => p.2.1) e
      have e2 : (outsAt0 m c (n + 1) hn).2.2 = (outsAt0 m c n (Nat.lt_of_succ_lt hn)).2.2 :=
        congrArg (fun p => p.2.2) e
      rw [e1, e2, hs]
      exact IH

/-- A score against the augmented keys and queries is the kernel's score. -/
theorem score (F : Finite (a0 m c) (a2 m c)) (t : Fin cfg0.N) {K : Vec Ideal S2048x1024 .bf16} (hK : IsKeys m c (seq t) K)
    (h : Fin 8) (r : Fin 512) (j : ℕ) (hj : j < 2048) :
    scN K (qaug (iblk m c 0 t) (iblk m c 4 t) (iblk m c 6 t)) h r j
      = (sgm (a0 m c) (a2 m c) (seq t) h (512 * (t.val % 4) + r.val) j : EReal) := by
  have hpk : IsPk (iblk m c 4 t) := by rw [block4]; exact isPk m c
  have hone : IsOne (iblk m c 6 t) := by rw [block6]; exact isOne m c
  rw [scN_eq _ _ _ _ _ hj]
  refine lanes_sum _ _ (kN (a0 m c) (seq t) h j) (qN (a0 m c) (seq t) h (512 * (t.val % 4) + r.val))
    ((0 - cN (a2 m c) (seq t) h j) * lg) (fun l => hK h ⟨j, hj⟩ l) (fun l => ?_)
  refine (qaug_apply _ _ _ hpk hone r h l).trans ?_
  refine congrArg₂ (· + ·) (congrArg (· * _) ?_) rfl
  by_cases hl : l.val < 64
  · rw [dif_pos hl, dif_pos hl]
    refine (block0 m c t r _).trans (Eq.trans (congrArg (a0 m c) (ext2 ?_ rfl))
      (F.q_eq (seq t) h ⟨512 * (t.val % 4) + r.val, by omega⟩ ⟨l.val, hl⟩))
    show t.val * 512 + r.val = 2048 * (t.val / 4) + (512 * (t.val % 4) + r.val)
    omega
  · rw [dif_neg hl, dif_neg hl]

/-- The attention from the tiles' scores and values. -/
theorem attn_of_tiles (F : Finite (a0 m c) (a2 m c)) (t : Fin cfg0.N) (n : ℕ) (hn : n = t.val % 4)
    {K : Vec Ideal S2048x1024 .bf16} {W : Vec Ideal S512x2048 .bf16}
    (hK : IsKeys m c (seq t) K) (hW : IsVals m c (seq t) W) (h : Fin 8) (d : Fin 64) (r : Fin 512) :
    Ideal.div
      (aS (mAt ⊥ (tileS K (qaug (iblk m c 0 t) (iblk m c 4 t) (iblk m c 6 t)) h r) n)
        (aAt ⊥ 0 (tileS K (qaug (iblk m c 0 t) (iblk m c 4 t) (iblk m c 6 t)) h r) (tileV W h d) n)
        (maskS K (qaug (iblk m c 0 t) (iblk m c 4 t) (iblk m c 6 t)) h r n) (tileV W h d n))
      (lS (mAt ⊥ (tileS K (qaug (iblk m c 0 t) (iblk m c 4 t) (iblk m c 6 t)) h r) n)
        (lAt ⊥ 0 (tileS K (qaug (iblk m c 0 t) (iblk m c 4 t) (iblk m c 6 t)) h r) n)
        (maskS K (qaug (iblk m c 0 t) (iblk m c 4 t) (iblk m c 6 t)) h r n))
      = attn (a0 m c) (a1 m c) (a2 m c) (seq t) h d (512 * (t.val % 4) + r.val) := by
  have ht : t.val % 4 < 4 := Nat.mod_lt _ (by norm_num)
  subst hn
  refine kernel_soft (sgm (a0 m c) (a2 m c) (seq t) h (512 * (t.val % 4) + r.val)) (rho (a0 m c) (a2 m c) (seq t) h (512 * (t.val % 4) + r.val))
    (vE (a1 m c) (seq t) h d) (t.val % 4) r 2048 (cN (a2 m c) (seq t) h (512 * (t.val % 4) + r.val)) (by omega)
    (fun j _ => rho_sig _ _ _ _ _ _) _ _ _ (fun k hk x => score F t hK h r _ (by omega)) (fun k hk x => ?_) (fun x => ?_)
  · have hx : 512 * k + x.val < 2048 := by omega
    refine (vN_eq W h d _ hx).trans ((hW _ _).trans (v_eq (seq t) h ⟨_, hx⟩ d))
  · have hx : 512 * (t.val % 4) + x.val < 2048 := by omega
    unfold maskS
    by_cases hxr : x.val ≤ r.val
    · rw [if_pos hxr, if_pos (show x ≤ r from hxr)]
      exact score F t hK h r _ hx
    · rw [if_neg hxr, if_neg (show ¬ x ≤ r from hxr)]

/-- **The output block.** Row `r` of point `t`'s block, head `h`, entry `d`. -/
theorem out_apply (F : Finite (a0 m c) (a2 m c)) (t : Fin cfg0.N) (r : Fin 512) (h : Fin 8) (d : Fin 64) :
    (outsAt0 m c t.val t.isLt).1 (ix2 r (hd h d))
      = attn (a0 m c) (a1 m c) (a2 m c) (seq t) h d (512 * (t.val % 4) + r.val) := by
  by_cases h0 : t.val % 4 = 0
  · have S := fill_A F t h0
    rw [outsAt0_A m c t h0] at S ⊢
    dsimp only at S ⊢
    obtain ⟨Y10, Y11, e, e10, e11⟩ := out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) ((hcond0_0 t).mpr h0)
    rw [← e10, ← e11] at S
    rw [e, outF_apply]
    exact attn_of_tiles F t _ (coords_one t) S.1 S.2 h d r
  · have hp : t.val - 1 < cfg0.N := Nat.lt_of_le_of_lt (Nat.sub_le _ _) t.isLt
    have S := state F (t.val - 1) hp
    have hs : seq ⟨t.val - 1, hp⟩ = seq t := Fin.ext (by show (t.val - 1) / 4 = t.val / 4; omega)
    rw [hs] at S
    rw [outsAt0_B m c t h0]
    dsimp only
    rw [out_B, outF_apply, K10, V11, Memref.IsWhole.read_unread, Memref.IsWhole.read_unread]
    exact attn_of_tiles F t _ (coords_one t) S.1 S.2 h d r

end Cert.KernelIdeal.Fox

end
-- ==== Proof.FoxPre.lean ====
/-
  The attention's precondition: where it holds, the queries, the keys and the decays are real numbers.
-/
module

public import proofs.«01_k».proof.Defs
public import proofs.«01_k».proof.Proof.FoxState

@[expose] public section

set_option maxRecDepth 16384

noncomputable section

namespace Cert.Proof.FoxPre

open Idealize.ShloMosaic Idealize.ShloMosaic.TcCoe Idealize.SL.Sem
open Cert.KernelIdeal Cert.KernelIdeal.Fox Cert.Proof.Coords

/-- The shapes the precondition's operations need. -/
theorem facts : Cert.Pre_finite.Facts := ⟨by decide, by decide, by decide, by decide, by decide⟩

/-- A number whose absolute value is below infinity is real. -/
theorem real_of_lt (x : EReal) (h : Ideal.cmp .olt (max x (-x)) (Ideal.ofBits .f32 0x7F800000#32) = 1#1) : x = (x.toReal : EReal) := by
  have hi : Ideal.ofBits FTy.f32 0x7F800000#32 = (⊤ : EReal) := by simp [Ideal.ofBits, Ideal.ieee]
  rw [hi] at h
  have hlt : max x (-x) < ⊤ := by
    by_contra hn
    simp [Ideal.cmp, hn] at h
  refine (EReal.coe_toReal (fun e => ?_) (fun e => ?_)).symm
  · rw [e] at hlt; simp at hlt
  · rw [e] at hlt; simp at hlt

theorem finite (m : (ℓ : Loc nD τ sig) → Buf (Elt Ideal) ℓ) (h : Cert.Pre_KernelIdeal_finite (hPre_finite := facts) m) (c : Dev nD) :
    Finite (a0 m c) (a2 m c) where
  qk r l hl := by
    have e := congrFun (h c).1 (ix2 r (⟨l.val, hl⟩ : Fin 1024))
    refine real_of_lt _ (Eq.trans (congrArg (fun x : EReal => Ideal.cmp .olt (max x (-x)) (Ideal.ofBits .f32 0x7F800000#32)) ?_) e)
    exact congrArg (a0 m c) (ext2 (by show 0 + r.val = r.val; omega) (by show 0 + l.val = l.val; omega)).symm
  g r a ha := by
    have e := congrFun (h c).2 (ix2 r (⟨a.val, ha⟩ : Fin 8))
    refine real_of_lt _ (Eq.trans (congrArg (fun x : EReal => Ideal.cmp .olt (max x (-x)) (Ideal.ofBits .f32 0x7F800000#32)) ?_) e)
    exact congrArg (a2 m c) (ext2 (by show 0 + r.val = r.val; omega) (by show 0 + a.val = a.val; omega)).symm

end Cert.Proof.FoxPre

end
-- ==== Proof.FoxRef.lean ====
/-
  What the reference attention computes: at every position, head and lane, the softmax formula of the attention.
-/
module

public import proofs.«01_k».proof.Proof.Gen.ReferenceIdeal.Read
public import proofs.«01_k».proof.Proof.FoxMath

@[expose] public section

set_option maxRecDepth 16384

noncomputable section

namespace Cert.Proof.FoxRef

open Idealize.ShloMosaic Idealize.ShloMosaic.TcCoe Idealize.SL.Sem
open Cert.ReferenceIdeal Cert.ReferenceIdeal.Gen Cert.ReferenceIdeal.Read Cert.KernelIdeal.Fox Cert.Proof.Coords

/-! ## Two generic readings -/

/-- A left fold of sums is the start plus the sum. -/
theorem foldl_add {ι : Type} (f : ι → EReal) (l : List ι) (v : EReal) :
    l.foldl (fun r n => r + f n) v = v + (l.map f).sum := by
  induction l generalizing v with
  | nil => simp
  | cons a l ih => rw [List.foldl_cons, ih, List.map_cons, List.sum_cons, add_assoc]

/-- A window that ends at `t`, its first positions before the start counting zero. -/
theorem window_sum (y : ℕ → EReal) (t : ℕ) (ht : t < 2048) :
    ∑ n : Fin 2048, (if 2047 ≤ t + n.val then y (t + n.val - 2047) else 0) = ∑ i ∈ Finset.range (t + 1), y i := by
  rw [Fin.sum_univ_eq_sum_range (fun n => if 2047 ≤ t + n then y (t + n - 2047) else 0) 2048]
  have e : 2048 = (2047 - t) + (t + 1) := by omega
  rw [e, Finset.sum_range_add, Finset.sum_eq_zero, zero_add]
  · refine Finset.sum_congr rfl fun x hx => ?_
    rw [Finset.mem_range] at hx
    rw [if_pos (by omega)]
    exact congrArg y (by omega)
  · intro x hx
    rw [Finset.mem_range] at hx
    exact if_neg (by omega)

/-- The largest entry of a row, as the fold over its positions. -/
theorem fold_max (S : ℕ → EReal) (f : Fin 2048 → EReal) (hf : ∀ k, f k = S k.val) :
    (Finset.univ : Finset (Fin 2048)).fold max ⊥ f = sup' S 2048 := by
  have e : (Finset.univ : Finset (Fin 2048)).fold max ⊥ f = Finset.univ.sup f := rfl
  rw [e]
  refine le_antisymm (Finset.sup_le fun k _ => ?_) (Finset.sup_le fun j hj => ?_)
  · rw [hf]; exact Finset.le_sup (f := S) (Finset.mem_range.mpr k.isLt)
  · have hj' := Finset.mem_range.mp hj
    have := Finset.le_sup (f := f) (Finset.mem_univ ⟨j, hj'⟩)
    rwa [hf] at this

variable (A0 : S16384x1536.Idx → EReal) (A1 : S8x512x2048.Idx → EReal) (A2 : S16384x16.Idx → EReal)

/-! ## The reshapes -/

theorem q_read (b h : Fin 8) (T : Fin 2048) (d : Fin 64) :
    val_main_v2 (F := Ideal) A0 (ix4 b T h d) = A0 (ix2 (tok b T) ⟨64 * h.val + d.val, by omega⟩) := by
  rw [val_main_v2_apply, val_main_v1_apply, val_main_v0_apply]
  refine congrArg A0 (ext2 ?_ ?_)
  · show (((b.val * 2048 + T.val) * 8 + h.val) * 64 + d.val) / 512 = 2048 * b.val + T.val
    omega
  · show (((b.val * 2048 + T.val) * 8 + h.val) * 64 + d.val) % 512 = 64 * h.val + d.val
    omega

theorem k_read (b h : Fin 8) (T : Fin 2048) (d : Fin 64) :
    val_main_v5 (F := Ideal) A0 (ix4 b T h d) = A0 (ix2 (tok b T) ⟨512 + (64 * h.val + d.val), by omega⟩) := by
  rw [val_main_v5_apply, val_main_v4_apply, val_main_v3_apply]
  refine congrArg A0 (ext2 ?_ ?_)
  · show (((b.val * 2048 + T.val) * 8 + h.val) * 64 + d.val) / 512 = 2048 * b.val + T.val
    omega
  · show 512 + (((b.val * 2048 + T.val) * 8 + h.val) * 64 + d.val) % 512 = 512 + (64 * h.val + d.val)
    omega

theorem v_read (b h : Fin 8) (j : Fin 2048) (d : Fin 64) :
    val_main_v7 (F := Ideal) A1 (ix4 b j h d) = A1 (ix3 b ⟨64 * h.val + d.val, by omega⟩ j) := by
  rw [val_main_v7_apply, val_main_v6_apply]
  refine congrArg A1 (ext3 ?_ ?_ ?_)
  · show (((b.val * 8 + h.val) * 64 + d.val) * 2048 + j.val) / 1048576 = b.val
    omega
  · show (((b.val * 8 + h.val) * 64 + d.val) * 2048 + j.val) / 2048 % 512 = 64 * h.val + d.val
    omega
  · show (((b.val * 8 + h.val) * 64 + d.val) * 2048 + j.val) % 2048 = j.val
    omega

theorem g_read (b h : Fin 8) (j : Fin 2048) :
    val_main_v9 (F := Ideal) A2 (ix3 b j h) = A2 (ix2 (tok b j) ⟨h.val, by omega⟩) := by
  rw [val_main_v9_apply, val_main_v8_apply]
  refine congrArg A2 (ext2 ?_ ?_)
  · show ((b.val * 2048 + j.val) * 8 + h.val) / 8 = 2048 * b.val + j.val
    omega
  · show ((b.val * 2048 + j.val) * 8 + h.val) % 8 = h.val
    omega

/-! ## The running sums -/

/-- The running sums along the positions. -/
theorem cumsum_read (x : S8x2048x8.Idx → EReal) (v : S_.Idx → EReal) (hv : ∀ i, v i = 0) (b h : Fin 8) (T : Fin 2048)
    (y : ℕ → EReal) (hy : ∀ j : Fin 2048, x (ix3 b j h) = y j.val) :
    Host.reduceWindowAdd (F := Ideal) (φ := .f32) ![1, 2048, 1] ![1, 1, 1] ![0, 2047, 0] ![0, 0, 0] x v
        reduceWindows_S8x2048x8_S8x2048x8_w1s1p0_0_w2048s1p2047_0_w1s1p0_0 h_S_ (ix3 b T h)
      = ∑ i ∈ Finset.range (T.val + 1), y i := by
  unfold Host.reduceWindowAdd
  rw [Ideal.hostReduceWindowAdd_def]
  unfold Ideal.hostReduceWindowAdd Host.reduceWindow
  dsimp only
  rw [foldl_add, hv, zero_add, ← Fin.sum_univ_def, ← window_sum y T.val T.isLt]
  have e := Equiv.sum_comp (⟨3, ![1, 2048, 1]⟩ : Shape).rowMajor.symm
    (fun w : (⟨3, ![1, 2048, 1]⟩ : Shape).Idx =>
      if hin : ∀ a : Fin 3, (![0, 2047, 0] : Fin 3 → ℕ) a ≤ (ix3 b T h a).val * (![1, 1, 1] : Fin 3 → ℕ) a + (w a).val
          ∧ (ix3 b T h a).val * (![1, 1, 1] : Fin 3 → ℕ) a + (w a).val - (![0, 2047, 0] : Fin 3 → ℕ) a < S8x2048x8.size a then
        x (fun a => ⟨(ix3 b T h a).val * (![1, 1, 1] : Fin 3 → ℕ) a + (w a).val - (![0, 2047, 0] : Fin 3 → ℕ) a, (hin a).2⟩)
      else (0 : EReal))
  refine (Finset.sum_congr rfl fun i _ => dite_congr rfl (fun _ => rfl) (fun _ => rfl)).trans (e.trans ?_)
  rw [sum_idx3, Fin.sum_univ_one]
  refine Finset.sum_congr rfl fun n _ => ?_
  rw [Fin.sum_univ_one]
  by_cases hn : 2047 ≤ T.val + n.val
  · have hin : ∀ a : Fin 3, (![0, 2047, 0] : Fin 3 → ℕ) a ≤ (ix3 b T h a).val * (![1, 1, 1] : Fin 3 → ℕ) a + (ix3 (0 : Fin 1) n (0 : Fin 1) a).val
          ∧ (ix3 b T h a).val * (![1, 1, 1] : Fin 3 → ℕ) a + (ix3 (0 : Fin 1) n (0 : Fin 1) a).val - (![0, 2047, 0] : Fin 3 → ℕ) a < S8x2048x8.size a := by
      intro a
      fin_cases a
      · show 0 ≤ b.val * 1 + 0 ∧ b.val * 1 + 0 - 0 < 8
        omega
      · show 2047 ≤ T.val * 1 + n.val ∧ T.val * 1 + n.val - 2047 < 2048
        omega
      · show 0 ≤ h.val * 1 + 0 ∧ h.val * 1 + 0 - 0 < 8
        omega
    rw [dif_pos hin, if_pos hn]
    refine Eq.trans (congrArg x (ext3 ?_ ?_ ?_)) (hy ⟨T.val + n.val - 2047, by omega⟩)
    · show b.val * 1 + 0 - 0 = b.val
      omega
    · show T.val * 1 + n.val - 2047 = T.val + n.val - 2047
      omega
    · show h.val * 1 + 0 - 0 = h.val
      omega
  · rw [if_neg hn, dif_neg]
    intro hin
    have h1 : 2047 ≤ T.val * 1 + n.val := (hin 1).1
    omega

variable {A0 A2}

theorem c_read (F : Finite A0 A2) (b h : Fin 8) (T : Fin 2048) :
    val_main_v11 (F := Ideal) A2 (ix3 b h T) = (cN A2 b h T.val : EReal) := by
  rw [val_main_v11_apply, cN, coe_sum']
  have e : idx_main_v11 (ix3 b h T) = ix3 b T h := funext fun a => by match a with | ⟨0, _⟩ => rfl | ⟨1, _⟩ => rfl | ⟨2, _⟩ => rfl
  rw [e]
  unfold val_main_v10
  refine cumsum_read _ _ (fun i => ?_) b h T _ (fun j => (g_read A2 b h j).trans (F.g_eq b h j))
  rw [val_main_call0_call0_v0_apply, val_main_call0_call0_cst_apply]
  exact Ideal.ofBits_zero_f32

/-! ## The scores and their row maximum -/

theorem score_read (F : Finite A0 A2) (b h : Fin 8) (T k : Fin 2048) :
    val_main_v18 (F := Ideal) A0 A2 (ix4 b h T k) = (rho A0 A2 b h T.val k.val : EReal) := by
  rw [val_main_v18_apply, val_main_v15_apply, val_main_v12_apply, val_main_v14_apply, val_main_v13_apply, val_main_v17_apply,
    val_main_v16_apply]
  have e1 : idx_main_v13 (idx_main_v14 (ix4 b h T k)) = ix3 b h T := funext fun a => by match a with | ⟨0, _⟩ => rfl | ⟨1, _⟩ => rfl | ⟨2, _⟩ => rfl
  have e2 : idx_main_v16 (idx_main_v17 (ix4 b h T k)) = ix3 b h k := funext fun a => by match a with | ⟨0, _⟩ => rfl | ⟨1, _⟩ => rfl | ⟨2, _⟩ => rfl
  rw [e1, e2, c_read F, c_read F]
  have e3 : (∑ d : Fin 64, val_main_v2 (F := Ideal) A0 (lidx_main_v12 (ix4 b h T k) d) * val_main_v5 (F := Ideal) A0 (ridx_main_v12 (ix4 b h T k) d))
      = (qk A0 b h T.val k.val : EReal) := by
    rw [qk, coe_sum']
    refine Finset.sum_congr rfl fun d _ => ?_
    have l : lidx_main_v12 (ix4 b h T k) d = ix4 b T h d := funext fun a => by match a with | ⟨0, _⟩ => rfl | ⟨1, _⟩ => rfl | ⟨2, _⟩ => rfl | ⟨3, _⟩ => rfl
    have r : ridx_main_v12 (ix4 b h T k) d = ix4 b k h d := funext fun a => by match a with | ⟨0, _⟩ => rfl | ⟨1, _⟩ => rfl | ⟨2, _⟩ => rfl | ⟨3, _⟩ => rfl
    rw [l, r, q_read, k_read, F.q_eq, F.k_eq, ← EReal.coe_mul, mul_comm]
  rw [e3]
  show (qk A0 b h T.val k.val : EReal) + (cN A2 b h T.val : EReal) - (cN A2 b h k.val : EReal) = _
  rw [rho, EReal.coe_sub, EReal.coe_add]

theorem sle_word (r t : Fin 2048) : IntOp.cmpi .sle (BitVec.ofNat 32 r.val) (BitVec.ofNat 32 t.val) = if r.val ≤ t.val then 1#1 else 0#1 := by
  have hw : ((BitVec.ofNat 32 r.val).sle (BitVec.ofNat 32 t.val)) = decide (r.val ≤ t.val) := by
    have hn : ∀ x : Fin 2048, (BitVec.ofNat 32 x.val).toInt = x.val := by
      intro x
      have e : (BitVec.ofNat 32 x.val).toNat = x.val := by rw [BitVec.toNat_ofNat]; omega
      rw [BitVec.toInt_eq_toNat_of_lt (by rw [e]; omega), e]
    rw [BitVec.sle_eq_decide, hn, hn]
    simp
  by_cases e : r.val ≤ t.val
  · simp [IntOp.cmpi, hw, e]
  · simp [IntOp.cmpi, hw, e]

theorem masked_read (F : Finite A0 A2) (b h : Fin 8) (T k : Fin 2048) :
    val_main_v25 (F := Ideal) A0 A2 (ix4 b h T k) = masked (rho A0 A2 b h T.val) T.val k.val := by
  rw [val_main_v25_apply, score_read F, val_main_call1_v1_apply, val_main_v24_apply, val_main_v22_apply, val_main_v20_apply,
    val_main_v19_apply, val_main_v23_apply, val_main_v21_apply, val_main_v19_apply, val_main_call1_v2_apply,
    val_main_call1_v0_apply, val_main_cst_apply]
  show Scalar.select (IntOp.cmpi .sle (BitVec.ofNat 32 k.val) (BitVec.ofNat 32 T.val)) (rho A0 A2 b h T.val k.val : EReal) _ = _
  rw [sle_word]
  unfold masked
  by_cases hk : k.val ≤ T.val
  · rw [if_pos hk, if_pos hk]; rfl
  · rw [if_neg hk, if_neg hk]
    exact ninf

theorem max_read (F : Finite A0 A2) (b h : Fin 8) (T : Fin 2048) :
    val_main_v28 (F := Ideal) A0 A2 (ix3 b h T) = sup' (masked (rho A0 A2 b h T.val) T.val) 2048 := by
  have e0 : ∀ i, val_main_v27 (F := Ideal) i = (⊥ : EReal) := fun i => by
    rw [val_main_v27_apply, val_main_cst_1_apply]; exact ninf
  have e1 : val_main_cst_0 (F := Ideal) (Shape.Idx.first h_S_) = (⊥ : EReal) := by
    rw [val_main_cst_0_apply]; exact ninf
  rw [val_main_v28_apply, e0]
  have e2 : val_main_v26 (F := Ideal) A0 A2 (ix3 b h T) = sup' (masked (rho A0 A2 b h T.val) T.val) 2048 := by
    unfold val_main_v26
    rw [Host.reduce_eq_fold_single FloatOps.maximumf _ _ reducesTo_S8x8x2048x2048_S8x8x2048_d3 (by decide) h_S_ _, e1]
    refine fold_max _ _ fun k => ?_
    refine Eq.trans (congrArg (val_main_v25 (F := Ideal) A0 A2) (?_ : _ = ix4 b h T k)) (masked_read F b h T k)
    exact funext fun a => Fin.ext (by match a with | ⟨0, _⟩ => rfl | ⟨1, _⟩ => rfl | ⟨2, _⟩ => rfl | ⟨3, _⟩ => rfl)
  rw [e2]
  exact max_eq_right bot_le

/-! ## The weights and the result -/

theorem exp_read (F : Finite A0 A2) (b h : Fin 8) (T k : Fin 2048) :
    val_main_v32 (F := Ideal) A0 A2 (ix4 b h T k)
      = Ideal.exp (masked (rho A0 A2 b h T.val) T.val k.val - sup' (masked (rho A0 A2 b h T.val) T.val) 2048) := by
  rw [val_main_v32_apply, val_main_v31_apply, masked_read F, val_main_v30_apply, val_main_v29_apply]
  have e : idx_main_v29 (idx_main_v30 (ix4 b h T k)) = ix3 b h T := funext fun a => by match a with | ⟨0, _⟩ => rfl | ⟨1, _⟩ => rfl | ⟨2, _⟩ => rfl
  rw [e, max_read F]
  rfl

theorem sum_read (F : Finite A0 A2) (b h : Fin 8) (T : Fin 2048) :
    val_main_v33 (F := Ideal) A0 A2 (ix3 b h T)
      = ∑ j ∈ Finset.range 2048, Ideal.exp (masked (rho A0 A2 b h T.val) T.val j - sup' (masked (rho A0 A2 b h T.val) T.val) 2048) := by
  have z : val_main_cst_2 (F := Ideal) (Shape.Idx.first h_S_) = (0 : EReal) := by
    rw [val_main_cst_2_apply]; exact Ideal.ofBits_zero_f32
  rw [val_main_v33_apply, z, zero_add,
    ← Fin.sum_univ_eq_sum_range (fun j => Ideal.exp (masked (rho A0 A2 b h T.val) T.val j - sup' (masked (rho A0 A2 b h T.val) T.val) 2048)) 2048]
  refine Finset.sum_congr rfl fun k _ => ?_
  have e : idx_main_v33 (ix3 b h T) k = ix4 b h T k := funext fun a => by match a with | ⟨0, _⟩ => rfl | ⟨1, _⟩ => rfl | ⟨2, _⟩ => rfl | ⟨3, _⟩ => rfl
  rw [e, exp_read F]

/-- **The reference's result.** Position `T` of sequence `b`, head `h`, entry `d`. -/
theorem result_read (F : Finite A0 A2) (b h : Fin 8) (T : Fin 2048) (d : Fin 64) :
    val_main_v40 (F := Ideal) A0 A1 A2 (ix2 (tok b T) ⟨64 * h.val + d.val, by omega⟩) = attn A0 A1 A2 b h d T.val := by
  rw [val_main_v40_apply, val_main_v39_apply]
  have e : idx_main_v39 (ix2 (tok b T) ⟨64 * h.val + d.val, by omega⟩) = ix4 b T h d := by
    funext a
    refine Fin.ext ?_
    match a with
    | ⟨0, _⟩ => show ((2048 * b.val + T.val) * 512 + (64 * h.val + d.val)) / 1048576 = b.val; omega
    | ⟨1, _⟩ => show ((2048 * b.val + T.val) * 512 + (64 * h.val + d.val)) / 512 % 2048 = T.val; omega
    | ⟨2, _⟩ => show ((2048 * b.val + T.val) * 512 + (64 * h.val + d.val)) / 64 % 8 = h.val; omega
    | ⟨3, _⟩ => show ((2048 * b.val + T.val) * 512 + (64 * h.val + d.val)) % 64 = d.val; omega
  rw [e, val_main_v38_apply]
  have e1 : idx_main_v38 (ix4 b T h d) = ix4 b h d T := funext fun a => by match a with | ⟨0, _⟩ => rfl | ⟨1, _⟩ => rfl | ⟨2, _⟩ => rfl | ⟨3, _⟩ => rfl
  rw [e1, val_main_v37_apply]
  unfold attn
  rw [← Fin.sum_univ_eq_sum_range (fun j => vE A1 b h d j
    * Ideal.div (Ideal.exp (masked (rho A0 A2 b h T.val) T.val j - sup' (masked (rho A0 A2 b h T.val) T.val) 2048))
        (∑ j ∈ Finset.range 2048, Ideal.exp (masked (rho A0 A2 b h T.val) T.val j - sup' (masked (rho A0 A2 b h T.val) T.val) 2048))) 2048]
  refine Finset.sum_congr rfl fun k _ => ?_
  have l : lidx_main_v37 (ix4 b h d T) k = ix4 b k h d := funext fun a => by match a with | ⟨0, _⟩ => rfl | ⟨1, _⟩ => rfl | ⟨2, _⟩ => rfl | ⟨3, _⟩ => rfl
  have r : ridx_main_v37 (ix4 b h d T) k = ix4 b h T k := funext fun a => by match a with | ⟨0, _⟩ => rfl | ⟨1, _⟩ => rfl | ⟨2, _⟩ => rfl | ⟨3, _⟩ => rfl
  rw [l, r, v_read, v_eq (A1 := A1), val_main_v36_apply, val_main_v35_apply, val_main_v34_apply]
  have e2 : idx_main_v34 (idx_main_v35 (ix4 b h T k)) = ix3 b h T := funext fun a => by match a with | ⟨0, _⟩ => rfl | ⟨1, _⟩ => rfl | ⟨2, _⟩ => rfl
  rw [e2, sum_read F, exp_read F]
  rfl

end Cert.Proof.FoxRef

end
-- ==== Proof.FoxValue.lean ====
/-
  The fox call computes its reference where the queries, keys and decays are real: block by block, then the whole array,
  then the claim.
-/
module

public import proofs.«01_k».proof.Proof.FoxPre
public import proofs.«01_k».proof.Proof.FoxRef
public import proofs.«01_k».proof.Proof.Gen.ReferenceIdeal.Run

@[expose] public section

set_option maxRecDepth 16384

noncomputable section

namespace Cert.Proof.FoxValue

open Idealize.ShloMosaic Idealize.ShloMosaic.TcCoe Idealize.SL.Sem
open Cert.KernelIdeal Cert.KernelIdeal.Gen Cert.KernelIdeal.Fox Cert.Proof.Coords

variable (m : (ℓ : Loc nD τ sig) → Buf (Elt Ideal) ℓ)

/-- The reference's result on the call's own arguments. -/
def G (c : Dev nD) : Vec Ideal S16384x512 .bf16 :=
  Cert.ReferenceIdeal.Read.val_main_v40 (F := Ideal) (a0 m c) (a1 m c) (a2 m c)

/-- Where an entry of a point's output block lies in the array. -/
theorem out_emb (t : Fin cfg0.N) (r : Fin 512) (h : Fin 8) (d : Fin 64) :
    ((cfg0.win 7).blk t).view.emb (ix2 r (hd h d))
      = ix2 (tok (seq t) ⟨512 * (t.val % 4) + r.val, by omega⟩) ⟨64 * h.val + d.val, by omega⟩ := by
  have e := (idx_facts t).2.2.2.2.2.2.2
  refine ext2 ?_ ?_
  · show win0_7.index t 0 * 512 + 1 * r.val = 2048 * (t.val / 4) + (512 * (t.val % 4) + r.val)
    rw [e]
    show t.val * 512 + 1 * r.val = _
    omega
  · show win0_7.index t 1 * 512 + 1 * (64 * h.val + d.val) = 64 * h.val + d.val
    rw [e]
    show 0 * 512 + 1 * (64 * h.val + d.val) = 64 * h.val + d.val
    omega

/-- What point `t` writes back is block `t` of the reference's result. -/
theorem flushed_eq (c : Dev nD) (F : Finite (a0 m c) (a2 m c)) (t : Fin cfg0.N) :
    (dats m 0 c).flushed 7 t = ((cfg0.win 7).blk t).view.read (Elt Ideal) (G m c) := by
  rw [Cert.KernelIdeal.Value.flushed7]
  funext j
  obtain ⟨r, h, d, rfl⟩ : ∃ (r : Fin 512) (h : Fin 8) (d : Fin 64), j = ix2 r (hd h d) := by
    have hj : (j 1).val < 512 := (j 1).isLt
    refine ⟨j 0, ⟨(j 1).val / 64, by omega⟩, ⟨(j 1).val % 64, by omega⟩, ext2 rfl ?_⟩
    show (j 1).val = 64 * ((j 1).val / 64) + (j 1).val % 64
    omega
  show (outsAt0 m c t.val t.isLt).1 (ix2 r (hd h d)) = G m c (((cfg0.win 7).blk t).view.emb (ix2 r (hd h d)))
  rw [out_emb]
  exact (out_apply F t r h d).trans (FoxRef.result_read (a1 m c) F (seq t) h ⟨512 * (t.val % 4) + r.val, by omega⟩ d).symm

/-- Every element of the array lies in some point's block. -/
theorem cover (i : S16384x512.Idx) : ∃ t : Fin cfg0.N, (cfg0.win 7).flush t = true ∧ i ∈ ((cfg0.win 7).blk t).view.set :=
  (Cert.KernelIdeal.Value.covered_iff7 i).mpr ⟨Nat.zero_le _, (i 0).isLt, Nat.zero_le _, (i 1).isLt⟩

/-- The output array after the run is the reference's result. -/
theorem final_eq (c : Dev nD) (F : Finite (a0 m c) (a2 m c)) : (dats m 0 c).arrAt 7 cfg0.N = G m c :=
  (dats m 0 c).arrAt_eq_of_cover 7 (G m c) (fun t _ => flushed_eq m c F t) cover

/-- The claim of equality: both programs run, and from equal arguments their results are equal. -/
theorem algebraic : Cert.algebraic_KernelIdeal_ReferenceIdeal_pre_finite (hKernelIdeal := Cert.KernelIdeal.Gen.facts)
    (hReferenceIdeal := Cert.ReferenceIdeal.Gen.facts) (hPre_finite := FoxPre.facts) := by
  intro m g m' g' hpre hargs
  refine ⟨fun c => G m c, ?_, ?_⟩
  · refine (θ_run (Cert.KernelIdeal.defs (F := Ideal)) _ _).mono (fun r h c => ?_) (Cert.KernelIdeal.Value.run_blocks (F := Ideal) m g)
    obtain ⟨hv, h0⟩ := h c
    exact ⟨hv.trans (final_eq m c (FoxPre.finite m hpre c)), h0⟩
  · refine (θ_run (Cert.ReferenceIdeal.defs (F := Ideal)) _ _).mono (fun r h c => ?_) (Cert.ReferenceIdeal.Value.run (F := Ideal) m' g')
    obtain ⟨hv, h0⟩ := h c
    obtain ⟨e0, e1, e2⟩ := hargs c
    refine ⟨(hv.trans (Cert.ReferenceIdeal.Read.val_main_v40_eq m' c)).trans ?_, h0⟩
    rw [e0, e1, e2]
    rfl

end Cert.Proof.FoxValue

end
-- ==== Proof.InprojHost.lean ====
/-
  The input projections' weights as the region finds them: the slices, joins and transposes of the host code, element by
  element, as elements of the argument arrays.
-/
module

public import proofs.«01_k».proof.Defs
public import proofs.«01_k».proof.Proof.Gen.InprojIdeal.Value
public import proofs.«01_k».proof.Proof.Coords

@[expose] public section

set_option maxRecDepth 16384

noncomputable section

namespace Cert.Proof.InprojHost

open Idealize.ShloMosaic Idealize.ShloMosaic.TcCoe Idealize.SL.Sem
open Cert.InprojIdeal Cert.InprojIdeal.Gen Cert.Proof.Coords

/-- The factor one eighth as the programs write it. -/
abbrev eighth : EReal := FloatOps.ofBits (F := Ideal) .f32 0x3E000000#32

/-- What the host code prepares, as functions of the arguments. The query, key and value weights: the query columns carry the
    factor one eighth; then the weights of the further columns; the key and value weights transposed; the biases and rates
    of the small columns; and the norm's weights. -/
def qkvWeights (x2 : Vec Ideal S4x1024x8464 .f32) : Vec Ideal S4x1024x1536 .bf16 := truncf (F := Ideal) .bf16 (concatenate S4x1024x1536 2
    [⟨S4x1024x512, mulf (F := Ideal) (φ := .f32) (extractStridedSlice S4x1024x512 ![0, 0, 0] x2 slices_S4x1024x8464_S4x1024x512_0_0_0)
        (broadcastInDim S4x1024x512 ![] bcast_S_S4x1024x512 (constant S_ .f32 0x3E000000#32))⟩,
     ⟨S4x1024x1024, extractStridedSlice S4x1024x1024 ![0, 0, 512] x2 slices_S4x1024x8464_S4x1024x1024_0_0_512⟩]
    concatenates_S4x1024x512_S4x1024x1024_S4x1024x1536_d2) bitsLt_bf16_f32

def rwWeights (x2 : Vec Ideal S4x1024x8464 .f32) : Vec Ideal S4x1024x1792 .bf16 := truncf (F := Ideal) .bf16
    (extractStridedSlice S4x1024x1792 ![0, 0, 1544] x2 slices_S4x1024x8464_S4x1024x1792_0_0_1544) bitsLt_bf16_f32

def gdWeights (x2 : Vec Ideal S4x1024x8464 .f32) : Vec Ideal S4x1024x2048 .bf16 := truncf (F := Ideal) .bf16
    (extractStridedSlice S4x1024x2048 ![0, 0, 3336] x2 slices_S4x1024x8464_S4x1024x2048_0_0_3336) bitsLt_bf16_f32

def gateWeights (x2 : Vec Ideal S4x1024x8464 .f32) : Vec Ideal S4x1024x3072 .bf16 := truncf (F := Ideal) .bf16
    (extractStridedSlice S4x1024x3072 ![0, 0, 5392] x2 slices_S4x1024x8464_S4x1024x3072_0_0_5392) bitsLt_bf16_f32

def smallWeights (x2 : Vec Ideal S4x1024x8464 .f32) : Vec Ideal S4x1024x16 .bf16 := truncf (F := Ideal) .bf16 (concatenate S4x1024x16 2
    [⟨S4x1024x8, extractStridedSlice S4x1024x8 ![0, 0, 1536] x2 slices_S4x1024x8464_S4x1024x8_0_0_1536⟩,
     ⟨S4x1024x8, extractStridedSlice S4x1024x8 ![0, 0, 5384] x2 slices_S4x1024x8464_S4x1024x8_0_0_5384⟩]
    concatenates_S4x1024x8_S4x1024x8_S4x1024x16_d2) bitsLt_bf16_f32

def kvtWeights (x2 : Vec Ideal S4x1024x8464 .f32) : Vec Ideal S4x1024x1024 .bf16 := truncf (F := Ideal) .bf16 (transpose S4x1024x1024 [0, 2, 1]
    (extractStridedSlice S4x1024x1024 ![0, 0, 512] x2 slices_S4x1024x8464_S4x1024x1024_0_0_512)
    transposes_S4x1024x1024_S4x1024x1024_0_2_1) bitsLt_bf16_f32

def smallConsts (x3 : Vec Ideal S4x8 .f32) (x4 x5 : Vec Ideal S4x4 .f32) : Vec Ideal S4x2x16 .f32 := concatenate S4x2x16 1
    [⟨S4x1x16, broadcastInDim S4x1x16 ![0, 2] bcast_S4x16_S4x1x16_0_2 (concatenate S4x16 1 [⟨S4x8, x3⟩,
        ⟨S4x4, broadcastInDim S4x4 ![] bcast_S_S4x4 (constant (F := Ideal) S_ .f32 0x00000000#32)⟩, ⟨S4x4, x4⟩]
        concatenates_S4x8_S4x4_S4x4_S4x16_d1)⟩,
     ⟨S4x1x16, broadcastInDim S4x1x16 ![0, 2] bcast_S4x16_S4x1x16_0_2 (concatenate S4x16 1
        [⟨S4x8, broadcastInDim S4x8 ![] bcast_S_S4x8 (constant (F := Ideal) S_ .f32 0x00000000#32)⟩,
         ⟨S4x4, broadcastInDim S4x4 ![] bcast_S_S4x4 (constant (F := Ideal) S_ .f32 0x00000000#32)⟩, ⟨S4x4, x5⟩]
        concatenates_S4x8_S4x4_S4x4_S4x16_d1)⟩]
    concatenates_S4x1x16_S4x1x16_S4x2x16_d1

def normWeights (x1 : Vec Ideal S4x1024 .f32) : Vec Ideal S4x1x1024 .f32 := broadcastInDim S4x1x1024 ![0, 2] bcast_S4x1024_S4x1x1024_0_2 x1

/-- Their elements. -/
theorem norm_at (x1 : Vec Ideal S4x1024 .f32) (l : Fin 1024) : normWeights x1 (ix3 3 0 l) = x1 (ix2 3 l) := by
  pointwise [normWeights]

theorem query_at (x2 : Vec Ideal S4x1024x8464 .f32) (k : Fin 1024) (j : Fin 1536) (h : j.val < 512) :
    qkvWeights x2 (ix3 3 k j) = x2 (ix3 3 k ⟨j.val, by omega⟩) * eighth := by
  pointwise [qkvWeights]
  rw [dif_pos h]

theorem keyval_at (x2 : Vec Ideal S4x1024x8464 .f32) (k : Fin 1024) (j : Fin 1536) (h : ¬ j.val < 512) :
    qkvWeights x2 (ix3 3 k j) = x2 (ix3 3 k ⟨j.val, by omega⟩) := by
  pointwise [qkvWeights]
  rw [dif_neg h]
  exact congrArg _ (ext3 rfl rfl (by show 512 + (j.val - 512) = j.val; omega))

theorem rw_at (x2 : Vec Ideal S4x1024x8464 .f32) (k : Fin 1024) (j : Fin 1792) :
    rwWeights x2 (ix3 3 k j) = x2 (ix3 3 k ⟨1544 + j.val, by omega⟩) := by
  pointwise [rwWeights]

theorem gd_at (x2 : Vec Ideal S4x1024x8464 .f32) (k : Fin 1024) (j : Fin 2048) :
    gdWeights x2 (ix3 3 k j) = x2 (ix3 3 k ⟨3336 + j.val, by omega⟩) := by
  pointwise [gdWeights]

theorem gate_at (x2 : Vec Ideal S4x1024x8464 .f32) (k : Fin 1024) (j : Fin 3072) :
    gateWeights x2 (ix3 3 k j) = x2 (ix3 3 k ⟨5392 + j.val, by omega⟩) := by
  pointwise [gateWeights]

theorem small_low_at (x2 : Vec Ideal S4x1024x8464 .f32) (k : Fin 1024) (j : Fin 16) (h : j.val < 8) :
    smallWeights x2 (ix3 3 k j) = x2 (ix3 3 k ⟨1536 + j.val, by omega⟩) := by
  pointwise [smallWeights]
  rw [dif_pos h]

theorem small_high_at (x2 : Vec Ideal S4x1024x8464 .f32) (k : Fin 1024) (j : Fin 16) (h : ¬ j.val < 8) :
    smallWeights x2 (ix3 3 k j) = x2 (ix3 3 k ⟨5384 + (j.val - 8), by omega⟩) := by
  pointwise [smallWeights]
  rw [dif_neg h]

theorem kvt_at (x2 : Vec Ideal S4x1024x8464 .f32) (j k : Fin 1024) :
    kvtWeights x2 (ix3 3 j k) = x2 (ix3 3 k ⟨512 + j.val, by omega⟩) := by
  pointwise [kvtWeights]

theorem bias_at (x3 : Vec Ideal S4x8 .f32) (x4 x5 : Vec Ideal S4x4 .f32) (j : Fin 16) : smallConsts x3 x4 x5 (ix3 3 0 j)
    = if h : j.val < 8 then x3 (ix2 3 ⟨j.val, h⟩) else if h' : j.val < 12 then 0 else x4 (ix2 3 ⟨j.val - 12, by omega⟩) := by
  pointwise [smallConsts]
  by_cases h8 : j.val < 8
  · rw [dif_pos h8, dif_pos h8]
  · rw [dif_neg h8, dif_neg h8]
    by_cases h12 : j.val < 12
    · rw [dif_pos h12, dif_pos (by omega)]
    · rw [dif_neg h12, dif_neg (by omega)]
      exact congrArg _ (ext2 rfl (by show j.val - 8 - 4 = j.val - 12; omega))

theorem decay_at (x3 : Vec Ideal S4x8 .f32) (x4 x5 : Vec Ideal S4x4 .f32) (j : Fin 16) (h : ¬ j.val < 12) : smallConsts x3 x4 x5 (ix3 3 1 j) = x5 (ix2 3 ⟨j.val - 12, by omega⟩) := by
  pointwise [smallConsts]
  rw [dif_neg (by omega), dif_neg (by omega)]
  exact congrArg _ (ext2 rfl (by show j.val - 8 - 4 = j.val - 12; omega))

variable (m : (ℓ : Loc nD τ sig) → Buf (Elt Ideal) ℓ)

/-- The arguments the weights and constants are made of. -/
abbrev a1 (c : Dev nD) : Vec Ideal S4x1024 .f32 := m ((c : Thread nD τ).loc main_arg1)
abbrev a2 (c : Dev nD) : Vec Ideal S4x1024x8464 .f32 := m ((c : Thread nD τ).loc main_arg2)
abbrev a3 (c : Dev nD) : Vec Ideal S4x8 .f32 := m ((c : Thread nD τ).loc main_arg3)
abbrev a4 (c : Dev nD) : Vec Ideal S4x4 .f32 := m ((c : Thread nD τ).loc main_arg4)
abbrev a5 (c : Dev nD) : Vec Ideal S4x4 .f32 := m ((c : Thread nD τ).loc main_arg5)

/-- The region finds them so. -/
theorem V_v12_eq (c : Dev nD) : V m c main_v12 = qkvWeights (a2 m c) := by
  unfold qkvWeights
  unfold_abbrev_sides
  after_results

theorem V_v14_eq (c : Dev nD) : V m c main_v14 = rwWeights (a2 m c) := by
  unfold rwWeights
  unfold_abbrev_sides
  after_results

theorem V_v16_eq (c : Dev nD) : V m c main_v16 = gdWeights (a2 m c) := by
  unfold gdWeights
  unfold_abbrev_sides
  after_results

theorem V_v18_eq (c : Dev nD) : V m c main_v18 = gateWeights (a2 m c) := by
  unfold gateWeights
  unfold_abbrev_sides
  after_results

theorem V_v19_eq (c : Dev nD) : V m c main_v19 = smallWeights (a2 m c) := by
  unfold smallWeights
  unfold_abbrev_sides
  after_results

theorem V_v22_eq (c : Dev nD) : V m c main_v22 = kvtWeights (a2 m c) := by
  unfold kvtWeights
  unfold_abbrev_sides
  after_results

theorem V_v25_eq (c : Dev nD) : V m c main_v25 = smallConsts (a3 m c) (a4 m c) (a5 m c) := by
  unfold smallConsts
  unfold_abbrev_sides
  after_results
  rfl

theorem V_v26_eq (c : Dev nD) : V m c main_v26 = normWeights (a1 m c) := by
  unfold normWeights
  unfold_abbrev_sides
  after_results

end Cert.Proof.InprojHost

end
-- ==== Proof.InprojBlocks.lean ====
/-
  The input projections' blocks: where each window's block sits at each grid point, and what the input blocks hold.
-/
module

public import proofs.«01_k».proof.Proof.InprojHost

@[expose] public section

set_option maxRecDepth 16384

noncomputable section

namespace Cert.Proof.InprojBlocks

open Idealize.ShloMosaic Idealize.ShloMosaic.TcCoe Idealize.SL.Sem
open Cert.InprojIdeal Cert.InprojIdeal.Gen Cert.Proof.Coords Cert.Proof.InprojHost

variable (m : (ℓ : Loc nD τ sig) → Buf (Elt Ideal) ℓ)

/-- Where each input window's block sits, decided over the 64 points: the token window advances with the point, the
    weight windows stay at the last layer. -/
theorem in_facts : ∀ t : Fin cfg0.N,
    win0_0.index t = ![t.val, 0] ∧ win0_1.index t = ![3, 0, 0] ∧ win0_2.index t = ![3, 0, 0] ∧ win0_3.index t = ![3, 0, 0]
    ∧ win0_4.index t = ![3, 0, 0] ∧ win0_5.index t = ![3, 0, 0] ∧ win0_6.index t = ![3, 0, 0]
    ∧ win0_7.index t = ![3, 0, 0] ∧ win0_8.index t = ![3, 0, 0] :=
  (by decide +kernel : ∀ t : Fin grid0.N, _)

/-- Where each output window's block sits: the rows advance with the point; the two transposed windows take the point's
    sequence (a sequence is eight points) and the point's place in it. -/
theorem out_facts : ∀ t : Fin cfg0.N,
    win0_9.index t = ![t.val, 0] ∧ win0_10.index t = ![t.val, 0] ∧ win0_11.index t = ![t.val, 0]
    ∧ win0_12.index t = ![t.val / 8, 0, t.val % 8] ∧ win0_13.index t = ![t.val / 8, 0, t.val % 8]
    ∧ win0_14.index t = ![t.val, 0] ∧ win0_15.index t = ![t.val, 0] ∧ win0_16.index t = ![t.val, 0]
    ∧ win0_17.index t = ![t.val, 0] ∧ win0_18.index t = ![t.val, 0] :=
  (by decide +kernel : ∀ t : Fin grid0.N, _)

/-- The row of the arrays that row `r` of the block at point `t` is. -/
def row (t : Fin cfg0.N) (r : Fin 256) : Fin 16384 := ⟨t.val * 256 + r.val, by have h : t.val < 64 := t.isLt; omega⟩

/-- The point's sequence, and the position in it of row `r` of the point's block. -/
def seq (t : Fin cfg0.N) : Fin 8 := ⟨t.val / 8, by have h : t.val < 64 := t.isLt; omega⟩
def pos (t : Fin cfg0.N) (r : Fin 256) : Fin 2048 := ⟨t.val % 8 * 256 + r.val, by omega⟩

theorem block0 (c : Dev nD) (t : Fin cfg0.N) (r : Fin 256) (l : Fin 1024) :
    iblk m c 0 t (ix2 r l) = m ((c : Thread nD τ).loc main_arg0) (ix2 (row t r) l) := by
  have e : iblk m c 0 t (ix2 r l) = m ((c : Thread nD τ).loc main_arg0) (((cfg0.win 0).blk t).view.emb (ix2 r l)) :=
    congrFun (V_main_arg0 m c) _
  have h := (in_facts t).1
  rw [e]
  refine congrArg _ (ext2 ?_ ?_)
  · show win0_0.index t 0 * 256 + 1 * r.val = t.val * 256 + r.val
    rw [h]; simp
  · show win0_0.index t 1 * 1024 + 1 * l.val = l.val
    rw [h]; simp

/-- Each weight block is the last layer of what the host code prepared. -/
theorem block1 (c : Dev nD) (t : Fin cfg0.N) (k : Fin 1) (l : Fin 1024) : iblk m c 1 t (ix3 0 k l) = V m c main_v26 (ix3 3 k l) := by
  have h := (in_facts t).2.1
  refine congrArg (V m c main_v26) (ext3 ?_ ?_ ?_)
  · show win0_1.index t 0 * 1 + 1 * 0 = 3
    rw [h]; simp
  · show win0_1.index t 1 * 1 + 1 * k.val = k.val
    rw [h]; simp
  · show win0_1.index t 2 * 1024 + 1 * l.val = l.val
    rw [h]; simp

theorem block2 (c : Dev nD) (t : Fin cfg0.N) (k : Fin 1024) (l : Fin 1536) : iblk m c 2 t (ix3 0 k l) = V m c main_v12 (ix3 3 k l) := by
  have h := (in_facts t).2.2.1
  refine congrArg (V m c main_v12) (ext3 ?_ ?_ ?_)
  · show win0_2.index t 0 * 1 + 1 * 0 = 3
    rw [h]; simp
  · show win0_2.index t 1 * 1024 + 1 * k.val = k.val
    rw [h]; simp
  · show win0_2.index t 2 * 1536 + 1 * l.val = l.val
    rw [h]; simp

theorem block3 (c : Dev nD) (t : Fin cfg0.N) (k : Fin 1024) (l : Fin 1792) : iblk m c 3 t (ix3 0 k l) = V m c main_v14 (ix3 3 k l) := by
  have h := (in_facts t).2.2.2.1
  refine congrArg (V m c main_v14) (ext3 ?_ ?_ ?_)
  · show win0_3.index t 0 * 1 + 1 * 0 = 3
    rw [h]; simp
  · show win0_3.index t 1 * 1024 + 1 * k.val = k.val
    rw [h]; simp
  · show win0_3.index t 2 * 1792 + 1 * l.val = l.val
    rw [h]; simp

theorem block4 (c : Dev nD) (t : Fin cfg0.N) (k : Fin 1024) (l : Fin 2048) : iblk m c 4 t (ix3 0 k l) = V m c main_v16 (ix3 3 k l) := by
  have h := (in_facts t).2.2.2.2.1
  refine congrArg (V m c main_v16) (ext3 ?_ ?_ ?_)
  · show win0_4.index t 0 * 1 + 1 * 0 = 3
    rw [h]; simp
  · show win0_4.index t 1 * 1024 + 1 * k.val = k.val
    rw [h]; simp
  · show win0_4.index t 2 * 2048 + 1 * l.val = l.val
    rw [h]; simp

theorem block5 (c : Dev nD) (t : Fin cfg0.N) (k : Fin 1024) (l : Fin 3072) : iblk m c 5 t (ix3 0 k l) = V m c main_v18 (ix3 3 k l) := by
  have h := (in_facts t).2.2.2.2.2.1
  refine congrArg (V m c main_v18) (ext3 ?_ ?_ ?_)
  · show win0_5.index t 0 * 1 + 1 * 0 = 3
    rw [h]; simp
  · show win0_5.index t 1 * 1024 + 1 * k.val = k.val
    rw [h]; simp
  · show win0_5.index t 2 * 3072 + 1 * l.val = l.val
    rw [h]; simp

theorem block6 (c : Dev nD) (t : Fin cfg0.N) (k : Fin 1024) (l : Fin 16) : iblk m c 6 t (ix3 0 k l) = V m c main_v19 (ix3 3 k l) := by
  have h := (in_facts t).2.2.2.2.2.2.1
  refine congrArg (V m c main_v19) (ext3 ?_ ?_ ?_)
  · show win0_6.index t 0 * 1 + 1 * 0 = 3
    rw [h]; simp
  · show win0_6.index t 1 * 1024 + 1 * k.val = k.val
    rw [h]; simp
  · show win0_6.index t 2 * 16 + 1 * l.val = l.val
    rw [h]; simp

theorem block7 (c : Dev nD) (t : Fin cfg0.N) (k : Fin 1024) (l : Fin 1024) : iblk m c 7 t (ix3 0 k l) = V m c main_v22 (ix3 3 k l) := by
  have h := (in_facts t).2.2.2.2.2.2.2.1
  refine congrArg (V m c main_v22) (ext3 ?_ ?_ ?_)
  · show win0_7.index t 0 * 1 + 1 * 0 = 3
    rw [h]; simp
  · show win0_7.index t 1 * 1024 + 1 * k.val = k.val
    rw [h]; simp
  · show win0_7.index t 2 * 1024 + 1 * l.val = l.val
    rw [h]; simp

theorem block8 (c : Dev nD) (t : Fin cfg0.N) (k : Fin 2) (l : Fin 16) : iblk m c 8 t (ix3 0 k l) = V m c main_v25 (ix3 3 k l) := by
  have h := (in_facts t).2.2.2.2.2.2.2.2
  refine congrArg (V m c main_v25) (ext3 ?_ ?_ ?_)
  · show win0_8.index t 0 * 1 + 1 * 0 = 3
    rw [h]; simp
  · show win0_8.index t 1 * 2 + 1 * k.val = k.val
    rw [h]; simp
  · show win0_8.index t 2 * 16 + 1 * l.val = l.val
    rw [h]; simp

end Cert.Proof.InprojBlocks

end
-- ==== Proof.InprojRow.lean ====
/-
  The input projections, row by row: what the kernel's body and the reference compute, as the products of one normalised
  row with the weights' columns.
-/
module

public import proofs.«01_k».proof.Proof.Gen.InprojIdeal.Frame
public import proofs.«01_k».proof.Proof.Gen.InprojRefIdeal.Read
public import proofs.«01_k».proof.Proof.Coords

@[expose] public section

set_option maxRecDepth 16384

noncomputable section

namespace Cert.Proof.InprojRow

open Idealize.ShloMosaic Idealize.ShloMosaic.TcCoe Idealize.SL.Sem Cert.InprojRefIdeal.Read
open Cert.InprojIdeal Cert.InprojIdeal.Gen Cert.Proof.Coords

/-- The reference's product of row `i` of the normalised input with column `j` of the last layer's weights. -/
def prod (x0 : Vec Ideal S16384x1024 .f32) (x1 : Vec Ideal S4x1024 .f32) (x2 : Vec Ideal S4x1024x8464 .f32)
    (i : Fin 16384) (j : Fin 8464) : EReal := ∑ k : Fin 1024, val_main_v14 x0 x1 (ix2 i k) * x2 (ix3 3 k j)

section reference

variable (x0 : Vec Ideal S16384x1024 .f32) (x1 : Vec Ideal S4x1024 .f32) (x2 : Vec Ideal S4x1024x8464 .f32)

/-- The reference's one product with all columns. -/
theorem all_columns (i : Fin 16384) (j : Fin 8464) : val_main_v17 x0 x1 x2 (ix2 i j) = prod x0 x1 x2 i j := by
  pointwise [val_main_v17, val_main_v16, val_main_v15, prod]

theorem ref_query (i : Fin 16384) (j : Fin 512) : val_main_v18 x0 x1 x2 (ix2 i j) = prod x0 x1 x2 i ⟨j.val, by omega⟩ := by
  pointwise [val_main_v18]
  exact all_columns x0 x1 x2 i _

theorem ref_key (i : Fin 16384) (j : Fin 512) : val_main_v19 x0 x1 x2 (ix2 i j) = prod x0 x1 x2 i ⟨512 + j.val, by omega⟩ := by
  pointwise [val_main_v19]
  exact all_columns x0 x1 x2 i _

theorem ref_value (i : Fin 16384) (j : Fin 512) : val_main_v20 x0 x1 x2 (ix2 i j) = prod x0 x1 x2 i ⟨1024 + j.val, by omega⟩ := by
  pointwise [val_main_v20]
  exact all_columns x0 x1 x2 i _

theorem ref_forget (i : Fin 16384) (j : Fin 8) : val_main_v21 x0 x1 x2 (ix2 i j) = prod x0 x1 x2 i ⟨1536 + j.val, by omega⟩ := by
  pointwise [val_main_v21]
  exact all_columns x0 x1 x2 i _

theorem ref_rw (i : Fin 16384) (j : Fin 1792) : val_main_v22 x0 x1 x2 (ix2 i j) = prod x0 x1 x2 i ⟨1544 + j.val, by omega⟩ := by
  pointwise [val_main_v22]
  exact all_columns x0 x1 x2 i _

theorem ref_gd (i : Fin 16384) (j : Fin 1536) : val_main_v23 x0 x1 x2 (ix2 i j) = prod x0 x1 x2 i ⟨3336 + j.val, by omega⟩ := by
  pointwise [val_main_v23]
  exact all_columns x0 x1 x2 i _

theorem ref_gz (i : Fin 16384) (j : Fin 512) : val_main_v24 x0 x1 x2 (ix2 i j) = prod x0 x1 x2 i ⟨4872 + j.val, by omega⟩ := by
  pointwise [val_main_v24]
  exact all_columns x0 x1 x2 i _

theorem ref_beta (i : Fin 16384) (j : Fin 4) : val_main_v25 x0 x1 x2 (ix2 i j) = prod x0 x1 x2 i ⟨5384 + j.val, by omega⟩ := by
  pointwise [val_main_v25]
  exact all_columns x0 x1 x2 i _

theorem ref_step (i : Fin 16384) (j : Fin 4) : val_main_v26 x0 x1 x2 (ix2 i j) = prod x0 x1 x2 i ⟨5388 + j.val, by omega⟩ := by
  pointwise [val_main_v26]
  exact all_columns x0 x1 x2 i _

theorem ref_gate (i : Fin 16384) (j : Fin 3072) : val_main_v27 x0 x1 x2 (ix2 i j) = prod x0 x1 x2 i ⟨5392 + j.val, by omega⟩ := by
  pointwise [val_main_v27]
  exact all_columns x0 x1 x2 i _

/-- The keys and values by sequence, tokens last. -/
theorem ref_keyT (s : Fin 8) (d : Fin 512) (p : Fin 2048) :
    val_main_v58 x0 x1 x2 (ix3 s d p) = val_main_v19 x0 x1 x2 (ix2 ⟨2048 * s.val + p.val, by omega⟩ d) := by
  pointwise [val_main_v58, val_main_v57]
  exact congrArg _ (ext2 (by show s.val * 2048 + p.val = 2048 * s.val + p.val; omega) rfl)

theorem ref_valueT (s : Fin 8) (d : Fin 512) (p : Fin 2048) :
    val_main_v60 x0 x1 x2 (ix3 s d p) = val_main_v20 x0 x1 x2 (ix2 ⟨2048 * s.val + p.val, by omega⟩ d) := by
  pointwise [val_main_v60, val_main_v59]
  exact congrArg _ (ext2 (by show s.val * 2048 + p.val = 2048 * s.val + p.val; omega) rfl)

/-- Queries, keys and values side by side. -/
theorem ref_qkv (i : Fin 16384) (j : Fin 1536) : val_main_v56 x0 x1 x2 (ix2 i j)
    = if j.val < 512 then prod x0 x1 x2 i ⟨j.val, by omega⟩ * FloatOps.ofBits (F := Ideal) .f32 0x3E000000#32
      else prod x0 x1 x2 i ⟨j.val, by omega⟩ := by
  pointwise [val_main_v56, val_main_v55, val_main_v54, val_main_v53, val_main_cst_4]
  by_cases h : j.val < 512
  · rw [dif_pos h, if_pos h, ref_query]
  · rw [dif_neg h, if_neg h]
    by_cases h' : j.val - 512 < 512
    · rw [dif_pos h', ref_key]
      exact congrArg _ (Fin.ext (by show 512 + (j.val - 512) = j.val; omega))
    · rw [dif_neg h', ref_value]
      exact congrArg _ (Fin.ext (by show 1024 + (j.val - 512 - 512) = j.val; omega))

end reference

/-- The normalised row. -/
theorem norm_row (x0 : Vec Ideal S16384x1024 .f32) (x1 : Vec Ideal S4x1024 .f32) (b0 : Vec Ideal S256x1024 .f32)
    (b1 : Vec Ideal S1x1x1024 .f32) (ρ : Fin 256 → Fin 16384) (h0 : ∀ r l, b0 (ix2 r l) = x0 (ix2 (ρ r) l))
    (h1 : ∀ l, b1 (ix3 0 0 l) = x1 (ix2 3 l)) (r : Fin 256) (k : Fin 1024) :
    k0_pay2 b0 b1 (ix2 r k) = val_main_v14 x0 x1 (ix2 (ρ r) k) := by
  pointwise [k0_pay2]
  simp only [h0, h1]
  pointwise [val_main_v14, val_main_v13, val_main_v12, val_main_v11, val_main_v10, val_main_v9, val_main_v8, val_main_v7,
    val_main_cst_1, val_main_v6, val_main_v5, val_main_cst_0, val_main_v4, val_main_v3, val_main_cst, val_main_v2, val_main_v1,
    val_main_v0]

section kernel

variable (b0 : Vec Ideal S256x1024 .f32) (b1 : Vec Ideal S1x1x1024 .f32) (h : FVec Ideal S256x1024 .bf16)

/-- The body's products of the normalised rows with the columns of its weight blocks. -/
theorem fox_read (b2 : Vec Ideal S1x1024x1536 .bf16) (r : Fin 256) (j : Fin 1536) :
    k0_pay3 b0 b1 b2 (ix2 r j) = ∑ k : Fin 1024, k0_pay2 b0 b1 (ix2 r k) * b2 (ix3 0 k j) := by
  pointwise [k0_pay3]

theorem kvt_read (b7 : Vec Ideal S1x1024x1024 .bf16) (j : Fin 1024) (r : Fin 256) :
    k0_pay7 b0 b1 b7 (ix2 j r) = ∑ k : Fin 1024, b7 (ix3 0 j k) * k0_pay2 b0 b1 (ix2 r k) := by
  pointwise [k0_pay7]

theorem rw_read (b3 : Vec Ideal S1x1024x1792 .bf16) (r : Fin 256) (j : Fin 1792) :
    k0_pay11 h b3 (ix2 r j) = ∑ k : Fin 1024, h (ix2 r k) * b3 (ix3 0 k j) := by
  pointwise [k0_pay11]

theorem gd_read (b4 : Vec Ideal S1x1024x2048 .bf16) (r : Fin 256) (j : Fin 2048) :
    k0_pay12 h b4 (ix2 r j) = ∑ k : Fin 1024, h (ix2 r k) * b4 (ix3 0 k j) := by
  pointwise [k0_pay12]

theorem gate_read (b5 : Vec Ideal S1x1024x3072 .bf16) (r : Fin 256) (j : Fin 3072) :
    k0_pay15 h b5 (ix2 r j) = ∑ k : Fin 1024, h (ix2 r k) * b5 (ix3 0 k j) := by
  pointwise [k0_pay15]

theorem small_read (b6 : Vec Ideal S1x1024x16 .bf16) (b8 : Vec Ideal S1x2x16 .f32) (r : Fin 256) (j : Fin 16) :
    k0_pay18 h (k0_pay16 b8) (k0_pay17 b6) (ix2 r j)
      = (∑ k : Fin 1024, h (ix2 r k) * b6 (ix3 0 k j)) + b8 (ix3 0 0 j) := by
  pointwise [k0_pay18, k0_pay17, k0_pay16]

/-- The stored blocks, as columns of the products. -/
theorem key_read (b2 : Vec Ideal S1x1024x1536 .bf16) (r : Fin 256) (j : Fin 512) :
    k0_pay5 b0 b1 b2 (ix2 r j) = k0_pay3 b0 b1 b2 (ix2 r ⟨512 + j.val, by omega⟩) := by
  pointwise [k0_pay5]

theorem value_read (b2 : Vec Ideal S1x1024x1536 .bf16) (r : Fin 256) (j : Fin 512) :
    k0_pay6 b0 b1 b2 (ix2 r j) = k0_pay3 b0 b1 b2 (ix2 r ⟨1024 + j.val, by omega⟩) := by
  pointwise [k0_pay6]

theorem keyT_read (b7 : Vec Ideal S1x1024x1024 .bf16) (d : Fin 512) (r : Fin 256) :
    k0_pay9 (k0_pay8 b0 b1 b7) (ix3 0 d r) = k0_pay7 b0 b1 b7 (ix2 ⟨d.val, by omega⟩ r) := by
  pointwise [k0_pay9, k0_pay8]

theorem valueT_read (b7 : Vec Ideal S1x1024x1024 .bf16) (d : Fin 512) (r : Fin 256) :
    k0_pay10 (k0_pay7 b0 b1 b7) (ix3 0 d r) = k0_pay7 b0 b1 b7 (ix2 ⟨512 + d.val, by omega⟩ r) := by
  pointwise [k0_pay10]

theorem gqkv_read (b4 : Vec Ideal S1x1024x2048 .bf16) (r : Fin 256) (j : Fin 1536) :
    k0_pay13 h b4 (ix2 r j) = k0_pay12 h b4 (ix2 r ⟨j.val, by omega⟩) := by
  pointwise [k0_pay13]

theorem gz_read (b4 : Vec Ideal S1x1024x2048 .bf16) (r : Fin 256) (j : Fin 512) :
    k0_pay14 h b4 (ix2 r j) = k0_pay12 h b4 (ix2 r ⟨1536 + j.val, by omega⟩) := by
  pointwise [k0_pay14]

end kernel

section small

/-- The smooth maximum of a number and zero, as both programs compute it. -/
def softplus (z : EReal) : EReal := max z 0 + Ideal.log (1 + Ideal.exp (-FloatOps.absf (F := Ideal) (φ := .f32) z))

/-- The logistic function, as both programs compute it. -/
def logistic (z : EReal) : EReal := Ideal.div 1 (1 + Ideal.exp (-z))

variable (h : FVec Ideal S256x1024 .bf16) (v52 : FVec Ideal S2x16 .f32) (v55 : FVec Ideal S1024x16 .bf16) (r : Fin 256) (j : Fin 16)

/-- The three readings the body chooses between, from the shifted product. -/
theorem forget_read : k0_pay21 h v52 v55 (ix2 r j) = -softplus (-k0_pay18 h v52 v55 (ix2 r j)) := by
  unfold k0_pay21
  generalize k0_pay18 h v52 v55 = z
  pointwise [softplus]
  simp only [zero_sub]

theorem beta_read : k0_pay22 h v52 v55 (ix2 r j) = logistic (k0_pay18 h v52 v55 (ix2 r j)) := by
  unfold k0_pay22
  generalize k0_pay18 h v52 v55 = z
  pointwise [logistic]
  simp only [zero_sub]

theorem step_read : k0_pay23 h v52 v55 (ix2 r j)
    = -Ideal.exp (v52 (ix2 1 j)) * softplus (k0_pay18 h v52 v55 (ix2 r j)) := by
  unfold k0_pay23
  generalize k0_pay18 h v52 v55 = z
  pointwise [softplus]
  simp only [zero_sub]

theorem below8 : ∀ j : Fin 16, IntOp.cmpi .slt (BitVec.ofNat 32 j.val) 8#32 = if j.val < 8 then 1#1 else 0#1 := by decide
theorem below12 : ∀ j : Fin 16, IntOp.cmpi .slt (BitVec.ofNat 32 j.val) 12#32 = if j.val < 12 then 1#1 else 0#1 := by decide

theorem choose {p : Prop} [Decidable p] (x y : EReal) : Scalar.select (if p then 1#1 else 0#1) x y = if p then x else y := by
  by_cases e : p
  · rw [if_pos e, if_pos e]; rfl
  · rw [if_neg e, if_neg e]; rfl

/-- The body's choice by column. -/
theorem pick_read (x y z : FVec Ideal S256x16 .f32) (b0 : Vec Ideal S256x1024 .f32) (b1 : Vec Ideal S1x1x1024 .f32) (b2 : Vec Ideal S1x1024x1536 .bf16)
    (b3 : Vec Ideal S1x1024x1792 .bf16) (b4 : Vec Ideal S1x1024x2048 .bf16) (b5 : Vec Ideal S1x1024x3072 .bf16) (b6 : Vec Ideal S1x1024x16 .bf16)
    (b7 : Vec Ideal S1x1024x1024 .bf16) (b8 : Vec Ideal S1x2x16 .f32) :
    k0_pay1 (F := Ideal) (k0_pay19 (k0_pay25 b0 b1 b2 b3 b4 b5 b6 b7 b8)) (k0_pay20 (k0_pay25 b0 b1 b2 b3 b4 b5 b6 b7 b8)) x y z (ix2 r j)
      = if j.val < 8 then x (ix2 r j) else if j.val < 12 then y (ix2 r j) else z (ix2 r j) := by
  pointwise [k0_pay1, k0_pay19, k0_pay20, k0_pay25]
  rw [below8, below12, choose, choose]

variable (x0 : Vec Ideal S16384x1024 .f32) (x1 : Vec Ideal S4x1024 .f32) (x2 : Vec Ideal S4x1024x8464 .f32)
  (x3 : Vec Ideal S4x8 .f32) (x4 x5 : Vec Ideal S4x4 .f32) (i : Fin 16384)

/-- The reference's three readings, side by side. -/
theorem ref_forget_read (j : Fin 8) : val_main_v33 x0 x1 x2 x3 (ix2 i j)
    = -softplus (-(prod x0 x1 x2 i ⟨1536 + j.val, by omega⟩ + x3 (ix2 3 j))) := by
  pointwise [val_main_v33, val_main_call0_v1, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst,
    val_main_call0_v0, val_main_v32, val_main_v31, val_main_v30, val_main_v29, val_main_v28]
  rw [if_neg (fun e => e rfl), ref_forget]
  rfl

theorem ref_beta_read (j : Fin 4) : val_main_v39 x0 x1 x2 (ix2 i j) = logistic (prod x0 x1 x2 i ⟨5384 + j.val, by omega⟩) := by
  pointwise [val_main_v39, val_main_v38, val_main_cst_3, val_main_v37, val_main_v36, val_main_cst_2, val_main_v35, val_main_v34]
  rw [ref_beta]
  rfl

theorem ref_step_read (j : Fin 4) : val_main_v52 x0 x1 x2 x4 x5 (ix2 i j)
    = -Ideal.exp (x5 (ix2 3 j)) * softplus (prod x0 x1 x2 i ⟨5388 + j.val, by omega⟩ + x4 (ix2 3 j)) := by
  pointwise [val_main_v52, val_main_v51, val_main_v50, val_main_v49, val_main_call1_v11, val_main_call1_v10, val_main_call1_v9,
    val_main_call1_v8, val_main_call1_v7, val_main_call1_v6, val_main_call1_v5, val_main_call1_v4, val_main_call1_v3,
    val_main_call1_v2, val_main_call1_v1, val_main_call1_v0, val_main_call1_cst, val_main_v48, val_main_v47, val_main_v46,
    val_main_v45, val_main_v44, val_main_v43, val_main_v42, val_main_v41, val_main_v40]
  rw [if_neg (fun e => e rfl), ref_step]
  rfl

theorem ref_small (j : Fin 16) : val_main_v61 x0 x1 x2 x3 x4 x5 (ix2 i j)
    = if h : j.val < 8 then -softplus (-(prod x0 x1 x2 i ⟨1536 + j.val, by omega⟩ + x3 (ix2 3 ⟨j.val, h⟩)))
      else if h' : j.val < 12 then logistic (prod x0 x1 x2 i ⟨5384 + (j.val - 8), by omega⟩)
      else -Ideal.exp (x5 (ix2 3 ⟨j.val - 12, by omega⟩))
        * softplus (prod x0 x1 x2 i ⟨5384 + (j.val - 8), by omega⟩ + x4 (ix2 3 ⟨j.val - 12, by omega⟩)) := by
  pointwise [val_main_v61]
  by_cases h8 : j.val < 8
  · rw [dif_pos h8, dif_pos h8, ref_forget_read]
  · rw [dif_neg h8, dif_neg h8]
    by_cases h12 : j.val < 12
    · rw [dif_pos h12, dif_pos (by omega), ref_beta_read]
    · rw [dif_neg h12, dif_neg (by omega), ref_step_read]
      have e : (⟨j.val - 8 - 4, by omega⟩ : Fin 4) = ⟨j.val - 12, by omega⟩ := Fin.ext (by show j.val - 8 - 4 = j.val - 12; omega)
      have e' : (⟨5388 + (j.val - 8 - 4), by omega⟩ : Fin 8464) = ⟨5384 + (j.val - 8), by omega⟩ :=
        Fin.ext (by show 5388 + (j.val - 8 - 4) = 5384 + (j.val - 8); omega)
      rw [e]
      exact congrArg (fun w => _ * softplus (prod x0 x1 x2 i w + _)) e'

end small

end Cert.Proof.InprojRow

end
-- ==== Proof.InprojOut.lean ====
/-
  The input projections' output blocks: each block the body leaves holds the reference's elements of the block's rows.
-/
module

public import proofs.«01_k».proof.Proof.InprojRow
public import proofs.«01_k».proof.Proof.FoxSoft

@[expose] public section

set_option maxRecDepth 16384

noncomputable section

namespace Cert.Proof.InprojOut

open Idealize.ShloMosaic Idealize.ShloMosaic.TcCoe Idealize.SL.Sem Cert.InprojRefIdeal.Read
open Cert.InprojIdeal Cert.InprojIdeal.Gen Cert.Proof.Coords Cert.Proof.InprojRow

/-- What the nine input blocks hold, as elements of the arguments: the rows `ρ` of the tokens; the norm's weights; the
    columns of the last layer's projection weights, the query columns scaled by one eighth; the biases of the sixteen small
    columns, and the rates of the last four. -/
structure IsBlocks (x0 : Vec Ideal S16384x1024 .f32) (x1 : Vec Ideal S4x1024 .f32) (x2 : Vec Ideal S4x1024x8464 .f32)
    (x3 : Vec Ideal S4x8 .f32) (x4 x5 : Vec Ideal S4x4 .f32) (ρ : Fin 256 → Fin 16384)
    (b0 : Vec Ideal S256x1024 .f32) (b1 : Vec Ideal S1x1x1024 .f32) (b2 : Vec Ideal S1x1024x1536 .bf16)
    (b3 : Vec Ideal S1x1024x1792 .bf16) (b4 : Vec Ideal S1x1024x2048 .bf16) (b5 : Vec Ideal S1x1024x3072 .bf16)
    (b6 : Vec Ideal S1x1024x16 .bf16) (b7 : Vec Ideal S1x1024x1024 .bf16) (b8 : Vec Ideal S1x2x16 .f32) : Prop where
  tok : ∀ r l, b0 (ix2 r l) = x0 (ix2 (ρ r) l)
  norm : ∀ l, b1 (ix3 0 0 l) = x1 (ix2 3 l)
  query : ∀ (k : Fin 1024) (j : Fin 1536), j.val < 512 →
    b2 (ix3 0 k j) = x2 (ix3 3 k ⟨j.val, by omega⟩) * FloatOps.ofBits (F := Ideal) .f32 0x3E000000#32
  keyval : ∀ (k : Fin 1024) (j : Fin 1536), ¬ j.val < 512 → b2 (ix3 0 k j) = x2 (ix3 3 k ⟨j.val, by omega⟩)
  rw : ∀ (k : Fin 1024) (j : Fin 1792), b3 (ix3 0 k j) = x2 (ix3 3 k ⟨1544 + j.val, by omega⟩)
  gd : ∀ (k : Fin 1024) (j : Fin 2048), b4 (ix3 0 k j) = x2 (ix3 3 k ⟨3336 + j.val, by omega⟩)
  gate : ∀ (k : Fin 1024) (j : Fin 3072), b5 (ix3 0 k j) = x2 (ix3 3 k ⟨5392 + j.val, by omega⟩)
  low : ∀ (k : Fin 1024) (j : Fin 16), j.val < 8 → b6 (ix3 0 k j) = x2 (ix3 3 k ⟨1536 + j.val, by omega⟩)
  high : ∀ (k : Fin 1024) (j : Fin 16), ¬ j.val < 8 → b6 (ix3 0 k j) = x2 (ix3 3 k ⟨5384 + (j.val - 8), by omega⟩)
  kvt : ∀ j k : Fin 1024, b7 (ix3 0 j k) = x2 (ix3 3 k ⟨512 + j.val, by omega⟩)
  bias : ∀ j : Fin 16, b8 (ix3 0 0 j) = if h : j.val < 8 then x3 (ix2 3 ⟨j.val, h⟩) else if h' : j.val < 12 then 0
    else x4 (ix2 3 ⟨j.val - 12, by omega⟩)
  rate : ∀ j : Fin 16, (h : ¬ j.val < 12) → b8 (ix3 0 1 j) = x5 (ix2 3 ⟨j.val - 12, by omega⟩)

/-- One eighth, as the number it is. -/
theorem eighth : FloatOps.ofBits (F := Ideal) .f32 0x3E000000#32 = ((1 / 8 : ℝ) : EReal) := by
  show Ideal.ofBits .f32 0x3E000000#32 = _
  simp [Ideal.ofBits, Ideal.ieee, -EReal.coe_mul]
  norm_num

section blocks

variable {x0 : Vec Ideal S16384x1024 .f32} {x1 : Vec Ideal S4x1024 .f32} {x2 : Vec Ideal S4x1024x8464 .f32}
  {x3 : Vec Ideal S4x8 .f32} {x4 x5 : Vec Ideal S4x4 .f32} {ρ : Fin 256 → Fin 16384}
  {b0 : Vec Ideal S256x1024 .f32} {b1 : Vec Ideal S1x1x1024 .f32} {b2 : Vec Ideal S1x1024x1536 .bf16}
  {b3 : Vec Ideal S1x1024x1792 .bf16} {b4 : Vec Ideal S1x1024x2048 .bf16} {b5 : Vec Ideal S1x1024x3072 .bf16}
  {b6 : Vec Ideal S1x1024x16 .bf16} {b7 : Vec Ideal S1x1024x1024 .bf16} {b8 : Vec Ideal S1x2x16 .f32}
  (B : IsBlocks x0 x1 x2 x3 x4 x5 ρ b0 b1 b2 b3 b4 b5 b6 b7 b8)

include B

/-- The normalised rows. -/
theorem hid (r : Fin 256) (k : Fin 1024) : k0_pay2 b0 b1 (ix2 r k) = val_main_v14 x0 x1 (ix2 (ρ r) k) :=
  norm_row x0 x1 b0 b1 ρ B.tok B.norm r k

/-- A product with the query columns: the common factor comes out of the sum, one eighth being positive and finite. -/
theorem query_prod (r : Fin 256) (j : Fin 1536) (h : j.val < 512) : k0_pay3 b0 b1 b2 (ix2 r j)
    = prod x0 x1 x2 (ρ r) ⟨j.val, by omega⟩ * FloatOps.ofBits (F := Ideal) .f32 0x3E000000#32 := by
  rw [fox_read, prod, Cert.KernelIdeal.Fox.mul_sum_left _ (by rw [eighth]; exact EReal.coe_nonneg.mpr (by norm_num)) (by rw [eighth]; exact EReal.coe_ne_top _)]
  exact Finset.sum_congr rfl fun k _ => by rw [hid B, B.query k j h, mul_assoc]

theorem keyval_prod (r : Fin 256) (j : Fin 1536) (h : ¬ j.val < 512) :
    k0_pay3 b0 b1 b2 (ix2 r j) = prod x0 x1 x2 (ρ r) ⟨j.val, by omega⟩ := by
  rw [fox_read, prod]
  exact Finset.sum_congr rfl fun k _ => by rw [hid B, B.keyval k j h]

theorem kvt_prod (j : Fin 1024) (r : Fin 256) : k0_pay7 b0 b1 b7 (ix2 j r) = prod x0 x1 x2 (ρ r) ⟨512 + j.val, by omega⟩ := by
  rw [kvt_read, prod]
  exact Finset.sum_congr rfl fun k _ => by rw [hid B, B.kvt j k, mul_comm]

theorem gd_prod (r : Fin 256) (j : Fin 2048) : k0_pay12 (k0_pay2 b0 b1) b4 (ix2 r j) = prod x0 x1 x2 (ρ r) ⟨3336 + j.val, by omega⟩ := by
  rw [gd_read, prod]
  exact Finset.sum_congr rfl fun k _ => by rw [hid B, B.gd k j]

/-- The shifted products of the small columns. -/
theorem low_prod (r : Fin 256) (j : Fin 16) (h : j.val < 8) : k0_pay18 (k0_pay2 b0 b1) (k0_pay16 b8) (k0_pay17 b6) (ix2 r j)
    = prod x0 x1 x2 (ρ r) ⟨1536 + j.val, by omega⟩ + x3 (ix2 3 ⟨j.val, h⟩) := by
  rw [small_read, prod, B.bias j, dif_pos h]
  exact congrArg (· + _) (Finset.sum_congr rfl fun k _ => by rw [hid B, B.low k j h])

theorem high_prod (r : Fin 256) (j : Fin 16) (h : ¬ j.val < 8) : k0_pay18 (k0_pay2 b0 b1) (k0_pay16 b8) (k0_pay17 b6) (ix2 r j)
    = prod x0 x1 x2 (ρ r) ⟨5384 + (j.val - 8), by omega⟩
      + if h' : j.val < 12 then 0 else x4 (ix2 3 ⟨j.val - 12, by omega⟩) := by
  rw [small_read, prod, B.bias j, dif_neg h]
  exact congrArg (· + _) (Finset.sum_congr rfl fun k _ => by rw [hid B, B.high k j h])

/-- The ten blocks. -/
theorem out9 (r : Fin 256) (j : Fin 1536) : out0_9 b0 b1 b2 b3 b4 b5 b6 b7 b8 (ix2 r j) = val_main_v56 x0 x1 x2 (ix2 (ρ r) j) := by
  unfold out0_9
  rw [View.canon_unit_zero zero2, View.ld_unit_zero zero2, View.ld_unit_zero zero3, View.ld_unit_zero zero3, ref_qkv]
  show k0_pay3 b0 b1 b2 (ix2 r j) = _
  by_cases h : j.val < 512
  · rw [if_pos h, query_prod B r j h]
  · rw [if_neg h, keyval_prod B r j h]

theorem out10 (r : Fin 256) (j : Fin 512) : out0_10 b0 b1 b2 b3 b4 b5 b6 b7 b8 (ix2 r j) = val_main_v19 x0 x1 x2 (ix2 (ρ r) j) := by
  unfold out0_10
  rw [View.canon_unit_zero zero2, View.ld_unit_zero zero2, View.ld_unit_zero zero3, View.ld_unit_zero zero3, ref_key, key_read,
    keyval_prod B r _ (by show ¬ 512 + j.val < 512; omega)]

theorem out11 (r : Fin 256) (j : Fin 512) : out0_11 b0 b1 b2 b3 b4 b5 b6 b7 b8 (ix2 r j) = val_main_v20 x0 x1 x2 (ix2 (ρ r) j) := by
  unfold out0_11
  rw [View.canon_unit_zero zero2, View.ld_unit_zero zero2, View.ld_unit_zero zero3, View.ld_unit_zero zero3, ref_value, value_read,
    keyval_prod B r _ (by show ¬ 1024 + j.val < 512; omega)]

theorem out12 (d : Fin 512) (r : Fin 256) : out0_12 b0 b1 b2 b3 b4 b5 b6 b7 b8 (ix3 0 d r) = val_main_v19 x0 x1 x2 (ix2 (ρ r) d) := by
  unfold out0_12
  rw [View.canon_unit_zero zero3, View.ld_unit_zero zero2, View.ld_unit_zero zero3, View.ld_unit_zero zero3, ref_key, keyT_read,
    kvt_prod B _ r]

theorem out13 (d : Fin 512) (r : Fin 256) : out0_13 b0 b1 b2 b3 b4 b5 b6 b7 b8 (ix3 0 d r) = val_main_v20 x0 x1 x2 (ix2 (ρ r) d) := by
  unfold out0_13
  rw [View.canon_unit_zero zero3, View.ld_unit_zero zero2, View.ld_unit_zero zero3, View.ld_unit_zero zero3, ref_value, valueT_read,
    kvt_prod B _ r]
  exact congrArg _ (Fin.ext (by show 512 + (512 + d.val) = 1024 + d.val; omega))

theorem pay24 : k0_pay24 b0 b1 b2 b3 b4 b5 b6 b7 b8 = k0_pay2 b0 b1 := by
  unfold k0_pay24
  rw [View.ld_unit_zero zero2, View.ld_unit_zero zero3]

theorem out14 (r : Fin 256) (j : Fin 1792) : out0_14 b0 b1 b2 b3 b4 b5 b6 b7 b8 (ix2 r j) = val_main_v22 x0 x1 x2 (ix2 (ρ r) j) := by
  unfold out0_14
  rw [View.canon_unit_zero zero2, View.ld_unit_zero zero3, pay24 B, ref_rw, rw_read, prod]
  exact Finset.sum_congr rfl fun k _ => by rw [hid B, B.rw k j]

theorem out15 (r : Fin 256) (j : Fin 1536) : out0_15 b0 b1 b2 b3 b4 b5 b6 b7 b8 (ix2 r j) = val_main_v23 x0 x1 x2 (ix2 (ρ r) j) := by
  unfold out0_15
  rw [View.canon_unit_zero zero2, View.ld_unit_zero zero3, pay24 B, ref_gd, gqkv_read, gd_prod B]

theorem out16 (r : Fin 256) (j : Fin 512) : out0_16 b0 b1 b2 b3 b4 b5 b6 b7 b8 (ix2 r j) = val_main_v24 x0 x1 x2 (ix2 (ρ r) j) := by
  unfold out0_16
  rw [View.canon_unit_zero zero2, View.ld_unit_zero zero3, pay24 B, ref_gz, gz_read, gd_prod B]
  exact congrArg _ (Fin.ext (by show 3336 + (1536 + j.val) = 4872 + j.val; omega))

theorem out17 (r : Fin 256) (j : Fin 3072) : out0_17 b0 b1 b2 b3 b4 b5 b6 b7 b8 (ix2 r j) = val_main_v27 x0 x1 x2 (ix2 (ρ r) j) := by
  unfold out0_17
  rw [View.canon_unit_zero zero2, View.ld_unit_zero zero3, pay24 B, ref_gate, gate_read, prod]
  exact Finset.sum_congr rfl fun k _ => by rw [hid B, B.gate k j]

theorem out18 (r : Fin 256) (j : Fin 16) : out0_18 b0 b1 b2 b3 b4 b5 b6 b7 b8 (ix2 r j) = val_main_v61 x0 x1 x2 x3 x4 x5 (ix2 (ρ r) j) := by
  unfold out0_18
  rw [View.canon_unit_zero zero2, pay24 B, pick_read, ref_small]
  unfold k0_pay26 k0_pay27
  rw [View.ld_unit_zero zero3, View.ld_unit_zero zero3, forget_read, beta_read, step_read]
  by_cases h8 : j.val < 8
  · rw [if_pos h8, dif_pos h8, low_prod B r j h8]
  · rw [if_neg h8, dif_neg h8, high_prod B r j h8]
    by_cases h12 : j.val < 12
    · rw [if_pos h12, dif_pos h12, dif_pos h12, add_zero]
    · rw [if_neg h12, dif_neg h12, dif_neg h12]
      refine congrArg (fun w => -Ideal.exp w * _) ?_
      refine Eq.trans ?_ (B.rate j h12)
      pointwise [k0_pay16]

end blocks

end Cert.Proof.InprojOut

end
-- ==== Proof.InprojValue.lean ====
/-
  The input projections compute their reference: block by block, then the ten arrays, then the claim.
-/
module

public import proofs.«01_k».proof.Proof.InprojBlocks
public import proofs.«01_k».proof.Proof.InprojOut
public import Idealize.ShloMosaic.Lib.Quiescent

@[expose] public section

set_option maxRecDepth 16384

noncomputable section

namespace Cert.Proof.InprojValue

open Idealize.ShloMosaic Idealize.ShloMosaic.TcCoe Idealize.SL.Sem Cert.InprojRefIdeal.Read
open Cert.InprojIdeal Cert.InprojIdeal.Gen Cert.Proof.Coords Cert.Proof.InprojHost Cert.Proof.InprojBlocks Cert.Proof.InprojOut

variable (m : (ℓ : Loc nD τ sig) → Buf (Elt Ideal) ℓ)

abbrev a0 (c : Dev nD) : Vec Ideal S16384x1024 .f32 := m ((c : Thread nD τ).loc main_arg0)

/-- The blocks at point `t` hold what the body's reading takes them to hold. -/
theorem blocks (c : Dev nD) (t : Fin cfg0.N) : IsBlocks (a0 m c) (a1 m c) (a2 m c) (a3 m c) (a4 m c) (a5 m c) (row t)
    (iblk m c 0 t) (iblk m c 1 t) (iblk m c 2 t) (iblk m c 3 t) (iblk m c 4 t) (iblk m c 5 t) (iblk m c 6 t) (iblk m c 7 t)
    (iblk m c 8 t) where
  tok := block0 m c t
  norm l := (block1 m c t 0 l).trans ((congrFun (V_v26_eq m c) _).trans (norm_at (a1 m c) l))
  query k j h := (block2 m c t k j).trans ((congrFun (V_v12_eq m c) _).trans (query_at (a2 m c) k j h))
  keyval k j h := (block2 m c t k j).trans ((congrFun (V_v12_eq m c) _).trans (keyval_at (a2 m c) k j h))
  rw k j := (block3 m c t k j).trans ((congrFun (V_v14_eq m c) _).trans (rw_at (a2 m c) k j))
  gd k j := (block4 m c t k j).trans ((congrFun (V_v16_eq m c) _).trans (gd_at (a2 m c) k j))
  gate k j := (block5 m c t k j).trans ((congrFun (V_v18_eq m c) _).trans (gate_at (a2 m c) k j))
  low k j h := (block6 m c t k j).trans ((congrFun (V_v19_eq m c) _).trans (small_low_at (a2 m c) k j h))
  high k j h := (block6 m c t k j).trans ((congrFun (V_v19_eq m c) _).trans (small_high_at (a2 m c) k j h))
  kvt j k := (block7 m c t j k).trans ((congrFun (V_v22_eq m c) _).trans (kvt_at (a2 m c) j k))
  bias j := (block8 m c t 0 j).trans ((congrFun (V_v25_eq m c) _).trans (bias_at (a3 m c) (a4 m c) (a5 m c) j))
  rate j h := (block8 m c t 1 j).trans ((congrFun (V_v25_eq m c) _).trans (decay_at (a3 m c) (a4 m c) (a5 m c) j h))

/-- The rows of a block of width `n` at point `t` are `row t` of the array. -/
theorem row_place {n : ℕ} (t : Fin cfg0.N) (ix : Fin 2 → ℕ) (h : ix = ![t.val, 0]) (r : Fin 256) (j : Fin n)
    (x : (⟨2, ![16384, n]⟩ : Shape).Idx) (h0 : (x 0).val = ix 0 * 256 + 1 * r.val) (h1 : (x 1).val = ix 1 * n + 1 * j.val) :
    x = ix2 (row t r) j := by
  subst h
  exact ext2 (h0.trans (by show t.val * 256 + 1 * r.val = t.val * 256 + r.val; omega)) (h1.trans (by show 0 * n + 1 * j.val = j.val; omega))

/-- The columns of a transposed block at point `t` are the point's places in its sequence. -/
theorem col_place (t : Fin cfg0.N) (ix : Fin 3 → ℕ) (h : ix = ![t.val / 8, 0, t.val % 8]) (d : Fin 512) (r : Fin 256)
    (x : (⟨3, ![8, 512, 2048]⟩ : Shape).Idx) (h0 : (x 0).val = ix 0 * 1 + 1 * 0) (h1 : (x 1).val = ix 1 * 512 + 1 * d.val)
    (h2 : (x 2).val = ix 2 * 256 + 1 * r.val) : x = ix3 (seq t) d (pos t r) := by
  subst h
  exact ext3 (h0.trans (by show t.val / 8 * 1 + 1 * 0 = t.val / 8; omega)) (h1.trans (by show 0 * 512 + 1 * d.val = d.val; omega))
    (h2.trans (by show t.val % 8 * 256 + 1 * r.val = t.val % 8 * 256 + r.val; omega))

/-- A sequence's place is a row of the array. -/
theorem place_row (t : Fin cfg0.N) (r : Fin 256) : (⟨2048 * (seq t).val + (pos t r).val, by omega⟩ : Fin 16384) = row t r :=
  Fin.ext (by show 2048 * (t.val / 8) + (t.val % 8 * 256 + r.val) = t.val * 256 + r.val; omega)

/-- The ten results of the reference on the call's own arguments. -/
def G9 (c : Dev nD) : Vec Ideal S16384x1536 .bf16 := val_main_v56 (F := Ideal) (a0 m c) (a1 m c) (a2 m c)
def G10 (c : Dev nD) : Vec Ideal S16384x512 .f32 := val_main_v19 (F := Ideal) (a0 m c) (a1 m c) (a2 m c)
def G11 (c : Dev nD) : Vec Ideal S16384x512 .f32 := val_main_v20 (F := Ideal) (a0 m c) (a1 m c) (a2 m c)
def G12 (c : Dev nD) : Vec Ideal S8x512x2048 .f32 := val_main_v58 (F := Ideal) (a0 m c) (a1 m c) (a2 m c)
def G13 (c : Dev nD) : Vec Ideal S8x512x2048 .f32 := val_main_v60 (F := Ideal) (a0 m c) (a1 m c) (a2 m c)
def G14 (c : Dev nD) : Vec Ideal S16384x1792 .f32 := val_main_v22 (F := Ideal) (a0 m c) (a1 m c) (a2 m c)
def G15 (c : Dev nD) : Vec Ideal S16384x1536 .f32 := val_main_v23 (F := Ideal) (a0 m c) (a1 m c) (a2 m c)
def G16 (c : Dev nD) : Vec Ideal S16384x512 .f32 := val_main_v24 (F := Ideal) (a0 m c) (a1 m c) (a2 m c)
def G17 (c : Dev nD) : Vec Ideal S16384x3072 .f32 := val_main_v27 (F := Ideal) (a0 m c) (a1 m c) (a2 m c)
def G18 (c : Dev nD) : Vec Ideal S16384x16 .f32 := val_main_v61 (F := Ideal) (a0 m c) (a1 m c) (a2 m c) (a3 m c) (a4 m c) (a5 m c)

/-- Two blocks of rows agree when they agree at every row and column. -/
theorem rows_ext {n : ℕ} {A : Type} (f g : (⟨2, ![256, n]⟩ : Shape).Idx → A) (h : ∀ r j, f (ix2 r j) = g (ix2 r j)) : f = g := by
  funext y
  rw [show y = ix2 (y 0) (y 1) from ext2 rfl rfl]
  exact h _ _

theorem cols_ext {A : Type} (f g : (⟨3, ![1, 512, 256]⟩ : Shape).Idx → A) (h : ∀ d r, f (ix3 0 d r) = g (ix3 0 d r)) : f = g := by
  funext y
  rw [show y = ix3 0 (y 1) (y 2) from ext3 (by have h : (y 0).val < 1 := (y 0).isLt; show (y 0).val = 0; omega) rfl rfl]
  exact h _ _

/-- Every element of an array of rows lies in some point's block, and so does every element of a transposed array. -/
theorem rows_cover {n : ℕ} (i : (⟨2, ![16384, n]⟩ : Shape).Idx) : ∃ t : Fin cfg0.N, ∀ ix : Fin 2 → ℕ, ix = ![t.val, 0] →
    ∀ a, ix a * ![256, n] a ≤ (i a).val ∧ (i a).val < ix a * ![256, n] a + ![256, n] a := by
  have h0 : (i 0).val < 16384 := (i 0).isLt
  have h1 : (i 1).val < n := (i 1).isLt
  refine ⟨⟨(i 0).val / 256, by show _ < 64; omega⟩, fun ix h a => ?_⟩
  subst h
  fin_cases a
  · show (i 0).val / 256 * 256 ≤ (i 0).val ∧ (i 0).val < (i 0).val / 256 * 256 + 256
    omega
  · show 0 * n ≤ (i 1).val ∧ (i 1).val < 0 * n + n
    omega

theorem cols_cover (i : (⟨3, ![8, 512, 2048]⟩ : Shape).Idx) : ∃ t : Fin cfg0.N, ∀ ix : Fin 3 → ℕ, ix = ![t.val / 8, 0, t.val % 8] →
    ∀ a, ix a * ![1, 512, 256] a ≤ (i a).val ∧ (i a).val < ix a * ![1, 512, 256] a + ![1, 512, 256] a := by
  have h0 : (i 0).val < 8 := (i 0).isLt
  have h1 : (i 1).val < 512 := (i 1).isLt
  have h2 : (i 2).val < 2048 := (i 2).isLt
  refine ⟨⟨(i 0).val * 8 + (i 2).val / 256, by show _ < 64; omega⟩, fun ix h a => ?_⟩
  subst h
  fin_cases a
  · show ((i 0).val * 8 + (i 2).val / 256) / 8 * 1 ≤ (i 0).val ∧ (i 0).val < ((i 0).val * 8 + (i 2).val / 256) / 8 * 1 + 1
    omega
  · show 0 * 512 ≤ (i 1).val ∧ (i 1).val < 0 * 512 + 512
    omega
  · show ((i 0).val * 8 + (i 2).val / 256) % 8 * 256 ≤ (i 2).val ∧ (i 2).val < ((i 0).val * 8 + (i 2).val / 256) % 8 * 256 + 256
    omega

/-- Each output array after the run is the reference's result: what every point writes back is the point's block of it,
    and the blocks cover it. -/
theorem final9 (c : Dev nD) : (dats m 0 c).arrAt 9 cfg0.N = G9 m c := by
  refine (dats m 0 c).arrAt_eq_of_cover 9 (G9 m c) (fun t _ => ?_) fun i => ?_
  · rw [Cert.InprojIdeal.Value.flushed9]
    exact rows_ext _ _ fun r j => (out9 (blocks m c t) r j).trans
      (congrArg (G9 m c) (row_place t _ (out_facts t).1 r j (((cfg0.win 9).blk t).view.emb (ix2 r j)) rfl rfl).symm)
  · obtain ⟨t, h⟩ := rows_cover i
    refine ⟨t, (by decide +kernel : ∀ t : Fin cfg0.N, (cfg0.win 9).flush t = true) t, ?_⟩
    show i ∈ ((View.whole main_v27_0).slice (win0_9.rect t)).set
    rw [View.set_slice_whole, Rect.mem_set_unit]
    exact h _ (out_facts t).1

theorem final10 (c : Dev nD) : (dats m 0 c).arrAt 10 cfg0.N = G10 m c := by
  refine (dats m 0 c).arrAt_eq_of_cover 10 (G10 m c) (fun t _ => ?_) fun i => ?_
  · rw [Cert.InprojIdeal.Value.flushed10]
    exact rows_ext _ _ fun r j => (out10 (blocks m c t) r j).trans
      (congrArg (G10 m c) (row_place t _ (out_facts t).2.1 r j (((cfg0.win 10).blk t).view.emb (ix2 r j)) rfl rfl).symm)
  · obtain ⟨t, h⟩ := rows_cover i
    refine ⟨t, (by decide +kernel : ∀ t : Fin cfg0.N, (cfg0.win 10).flush t = true) t, ?_⟩
    show i ∈ ((View.whole main_v27_1).slice (win0_10.rect t)).set
    rw [View.set_slice_whole, Rect.mem_set_unit]
    exact h _ (out_facts t).2.1

theorem final11 (c : Dev nD) : (dats m 0 c).arrAt 11 cfg0.N = G11 m c := by
  refine (dats m 0 c).arrAt_eq_of_cover 11 (G11 m c) (fun t _ => ?_) fun i => ?_
  · rw [Cert.InprojIdeal.Value.flushed11]
    exact rows_ext _ _ fun r j => (out11 (blocks m c t) r j).trans
      (congrArg (G11 m c) (row_place t _ (out_facts t).2.2.1 r j (((cfg0.win 11).blk t).view.emb (ix2 r j)) rfl rfl).symm)
  · obtain ⟨t, h⟩ := rows_cover i
    refine ⟨t, (by decide +kernel : ∀ t : Fin cfg0.N, (cfg0.win 11).flush t = true) t, ?_⟩
    show i ∈ ((View.whole main_v27_2).slice (win0_11.rect t)).set
    rw [View.set_slice_whole, Rect.mem_set_unit]
    exact h _ (out_facts t).2.2.1

theorem final12 (c : Dev nD) : (dats m 0 c).arrAt 12 cfg0.N = G12 m c := by
  refine (dats m 0 c).arrAt_eq_of_cover 12 (G12 m c) (fun t _ => ?_) fun i => ?_
  · rw [Cert.InprojIdeal.Value.flushed12]
    exact cols_ext _ _ fun d r => ((out12 (blocks m c t) d r).trans
        ((InprojRow.ref_keyT (a0 m c) (a1 m c) (a2 m c) (seq t) d (pos t r)).trans (by rw [place_row])).symm).trans
      (congrArg (G12 m c) (col_place t _ (out_facts t).2.2.2.1 d r (((cfg0.win 12).blk t).view.emb (ix3 0 d r)) rfl rfl rfl).symm)
  · obtain ⟨t, h⟩ := cols_cover i
    refine ⟨t, (by decide +kernel : ∀ t : Fin cfg0.N, (cfg0.win 12).flush t = true) t, ?_⟩
    show i ∈ ((View.whole main_v27_3).slice (win0_12.rect t)).set
    rw [View.set_slice_whole, Rect.mem_set_unit]
    exact h _ (out_facts t).2.2.2.1

theorem final13 (c : Dev nD) : (dats m 0 c).arrAt 13 cfg0.N = G13 m c := by
  refine (dats m 0 c).arrAt_eq_of_cover 13 (G13 m c) (fun t _ => ?_) fun i => ?_
  · rw [Cert.InprojIdeal.Value.flushed13]
    exact cols_ext _ _ fun d r => ((out13 (blocks m c t) d r).trans
        ((InprojRow.ref_valueT (a0 m c) (a1 m c) (a2 m c) (seq t) d (pos t r)).trans (by rw [place_row])).symm).trans
      (congrArg (G13 m c) (col_place t _ (out_facts t).2.2.2.2.1 d r (((cfg0.win 13).blk t).view.emb (ix3 0 d r)) rfl rfl rfl).symm)
  · obtain ⟨t, h⟩ := cols_cover i
    refine ⟨t, (by decide +kernel : ∀ t : Fin cfg0.N, (cfg0.win 13).flush t = true) t, ?_⟩
    show i ∈ ((View.whole main_v27_4).slice (win0_13.rect t)).set
    rw [View.set_slice_whole, Rect.mem_set_unit]
    exact h _ (out_facts t).2.2.2.2.1

theorem final14 (c : Dev nD) : (dats m 0 c).arrAt 14 cfg0.N = G14 m c := by
  refine (dats m 0 c).arrAt_eq_of_cover 14 (G14 m c) (fun t _ => ?_) fun i => ?_
  · rw [Cert.InprojIdeal.Value.flushed14]
    exact rows_ext _ _ fun r j => (out14 (blocks m c t) r j).trans
      (congrArg (G14 m c) (row_place t _ (out_facts t).2.2.2.2.2.1 r j (((cfg0.win 14).blk t).view.emb (ix2 r j)) rfl rfl).symm)
  · obtain ⟨t, h⟩ := rows_cover i
    refine ⟨t, (by decide +kernel : ∀ t : Fin cfg0.N, (cfg0.win 14).flush t = true) t, ?_⟩
    show i ∈ ((View.whole main_v27_5).slice (win0_14.rect t)).set
    rw [View.set_slice_whole, Rect.mem_set_unit]
    exact h _ (out_facts t).2.2.2.2.2.1

theorem final15 (c : Dev nD) : (dats m 0 c).arrAt 15 cfg0.N = G15 m c := by
  refine (dats m 0 c).arrAt_eq_of_cover 15 (G15 m c) (fun t _ => ?_) fun i => ?_
  · rw [Cert.InprojIdeal.Value.flushed15]
    exact rows_ext _ _ fun r j => (out15 (blocks m c t) r j).trans
      (congrArg (G15 m c) (row_place t _ (out_facts t).2.2.2.2.2.2.1 r j (((cfg0.win 15).blk t).view.emb (ix2 r j)) rfl rfl).symm)
  · obtain ⟨t, h⟩ := rows_cover i
    refine ⟨t, (by decide +kernel : ∀ t : Fin cfg0.N, (cfg0.win 15).flush t = true) t, ?_⟩
    show i ∈ ((View.whole main_v27_6).slice (win0_15.rect t)).set
    rw [View.set_slice_whole, Rect.mem_set_unit]
    exact h _ (out_facts t).2.2.2.2.2.2.1

theorem final16 (c : Dev nD) : (dats m 0 c).arrAt 16 cfg0.N = G16 m c := by
  refine (dats m 0 c).arrAt_eq_of_cover 16 (G16 m c) (fun t _ => ?_) fun i => ?_
  · rw [Cert.InprojIdeal.Value.flushed16]
    exact rows_ext _ _ fun r j => (out16 (blocks m c t) r j).trans
      (congrArg (G16 m c) (row_place t _ (out_facts t).2.2.2.2.2.2.2.1 r j (((cfg0.win 16).blk t).view.emb (ix2 r j)) rfl rfl).symm)
  · obtain ⟨t, h⟩ := rows_cover i
    refine ⟨t, (by decide +kernel : ∀ t : Fin cfg0.N, (cfg0.win 16).flush t = true) t, ?_⟩
    show i ∈ ((View.whole main_v27_7).slice (win0_16.rect t)).set
    rw [View.set_slice_whole, Rect.mem_set_unit]
    exact h _ (out_facts t).2.2.2.2.2.2.2.1

theorem final17 (c : Dev nD) : (dats m 0 c).arrAt 17 cfg0.N = G17 m c := by
  refine (dats m 0 c).arrAt_eq_of_cover 17 (G17 m c) (fun t _ => ?_) fun i => ?_
  · rw [Cert.InprojIdeal.Value.flushed17]
    exact rows_ext _ _ fun r j => (out17 (blocks m c t) r j).trans
      (congrArg (G17 m c) (row_place t _ (out_facts t).2.2.2.2.2.2.2.2.1 r j (((cfg0.win 17).blk t).view.emb (ix2 r j)) rfl rfl).symm)
  · obtain ⟨t, h⟩ := rows_cover i
    refine ⟨t, (by decide +kernel : ∀ t : Fin cfg0.N, (cfg0.win 17).flush t = true) t, ?_⟩
    show i ∈ ((View.whole main_v27_8).slice (win0_17.rect t)).set
    rw [View.set_slice_whole, Rect.mem_set_unit]
    exact h _ (out_facts t).2.2.2.2.2.2.2.2.1

theorem final18 (c : Dev nD) : (dats m 0 c).arrAt 18 cfg0.N = G18 m c := by
  refine (dats m 0 c).arrAt_eq_of_cover 18 (G18 m c) (fun t _ => ?_) fun i => ?_
  · rw [Cert.InprojIdeal.Value.flushed18]
    exact rows_ext _ _ fun r j => (out18 (blocks m c t) r j).trans
      (congrArg (G18 m c) (row_place t _ (out_facts t).2.2.2.2.2.2.2.2.2 r j (((cfg0.win 18).blk t).view.emb (ix2 r j)) rfl rfl).symm)
  · obtain ⟨t, h⟩ := rows_cover i
    refine ⟨t, (by decide +kernel : ∀ t : Fin cfg0.N, (cfg0.win 18).flush t = true) t, ?_⟩
    show i ∈ ((View.whole main_v27_9).slice (win0_18.rect t)).set
    rw [View.set_slice_whole, Rect.mem_set_unit]
    exact h _ (out_facts t).2.2.2.2.2.2.2.2.2

/-- The claim of equality: both programs run, and from equal arguments their ten results are equal. -/
theorem algebraic : Cert.algebraic_InprojIdeal_InprojRefIdeal (hInprojIdeal := Cert.InprojIdeal.Gen.facts)
    (hInprojRefIdeal := Cert.InprojRefIdeal.Gen.facts) := by
  intro m g m' g' _ hargs
  refine ⟨G9 m, G10 m, G11 m, G12 m, G13 m, G14 m, G15 m, G16 m, G17 m, G18 m, ?_, ?_⟩
  · refine (θ_run (Cert.InprojIdeal.defs (F := Ideal)) _ _).mono (fun r h c => ?_) (Cert.InprojIdeal.Value.run_blocks (F := Ideal) m g)
    obtain ⟨h9, h10, h11, h12, h13, h14, h15, h16, h17, h18, hk⟩ := h c
    exact ⟨h9.trans (final9 m c), h10.trans (final10 m c), h11.trans (final11 m c), h12.trans (final12 m c), h13.trans (final13 m c),
      h14.trans (final14 m c), h15.trans (final15 m c), h16.trans (final16 m c), h17.trans (final17 m c), h18.trans (final18 m c), hk⟩
  · refine (θ_run (Cert.InprojRefIdeal.defs (F := Ideal)) _ _).mono (fun r h c => ?_) (Cert.InprojRefIdeal.Value.run (F := Ideal) m' g')
    obtain ⟨h9, h10, h11, h12, h13, h14, h15, h16, h17, h18, hk⟩ := h c
    obtain ⟨e0, e1, e2, e3, e4, e5⟩ := hargs c
    exact ⟨(h9.trans (val_main_v56_eq _ _ _)).trans (same_three (val_main_v56 (F := Ideal)) e0 e1 e2),
      (h10.trans (val_main_v19_eq _ _ _)).trans (same_three (val_main_v19 (F := Ideal)) e0 e1 e2),
      (h11.trans (val_main_v20_eq _ _ _)).trans (same_three (val_main_v20 (F := Ideal)) e0 e1 e2),
      (h12.trans (val_main_v58_eq _ _ _)).trans (same_three (val_main_v58 (F := Ideal)) e0 e1 e2),
      (h13.trans (val_main_v60_eq _ _ _)).trans (same_three (val_main_v60 (F := Ideal)) e0 e1 e2),
      (h14.trans (val_main_v22_eq _ _ _)).trans (same_three (val_main_v22 (F := Ideal)) e0 e1 e2),
      (h15.trans (val_main_v23_eq _ _ _)).trans (same_three (val_main_v23 (F := Ideal)) e0 e1 e2),
      (h16.trans (val_main_v24_eq _ _ _)).trans (same_three (val_main_v24 (F := Ideal)) e0 e1 e2),
      (h17.trans (val_main_v27_eq _ _ _)).trans (same_three (val_main_v27 (F := Ideal)) e0 e1 e2),
      (h18.trans (val_main_v61_eq m' c)).trans (same_six (val_main_v61 (F := Ideal)) e0 e1 e2 e3 e4 e5), hk⟩

end Cert.Proof.InprojValue

end
-- ==== Proof.FfnSampleValue.lean ====
/-
  The sample batch's feed-forward step computes its reference: the call has one point, and a row of its block is the
  reference's row.
-/
module

public import proofs.«01_k».proof.Defs
public import proofs.«01_k».proof.Proof.Coords
public import proofs.«01_k».proof.Proof.Gen.FfnSampleIdeal.Value
public import proofs.«01_k».proof.Proof.Gen.FfnSampleRefIdeal.Read
public import proofs.«01_k».proof.Proof.Gen.FfnSampleRefIdeal.Run
public import Idealize.ShloMosaic.Lib.Quiescent

@[expose] public section

set_option maxRecDepth 16384

noncomputable section

namespace Cert.Proof.FfnSampleValue

open Idealize.ShloMosaic Idealize.ShloMosaic.TcCoe Idealize.SL.Sem Cert.FfnSampleRefIdeal.Read
open Cert.FfnSampleIdeal Cert.FfnSampleIdeal.Gen Cert.Proof.Coords

/-- What the input blocks hold, as elements of the arguments. -/
structure IsBlocks (x0 : Vec Ideal S256x1024 .f32) (x1 : Vec Ideal S4x1024 .f32) (x2 x3 : Vec Ideal S4x1024x2816 .f32)
    (x4 : Vec Ideal S4x2816x1024 .f32) (x5 : Vec Ideal S1024 .f32)
    (b0 : Vec Ideal S256x1024 .f32) (b1 : Vec Ideal S1x1x1024 .f32) (b2 b3 : Vec Ideal S1x1024x2816 .bf16)
    (b4 : Vec Ideal S1x2816x1024 .bf16) (b5 : Vec Ideal S1x1024 .f32) : Prop where
  tok : ∀ r l, b0 (ix2 r l) = x0 (ix2 r l)
  norm : ∀ l, b1 (ix3 0 0 l) = x1 (ix2 3 l)
  gate : ∀ k l, b2 (ix3 0 k l) = x2 (ix3 3 k l)
  up : ∀ k l, b3 (ix3 0 k l) = x3 (ix3 3 k l)
  down : ∀ k l, b4 (ix3 0 k l) = x4 (ix3 3 k l)
  last : ∀ l, b5 (ix2 0 l) = x5 (ix1 l)

section blocks

variable {x0 : Vec Ideal S256x1024 .f32} {x1 : Vec Ideal S4x1024 .f32} {x2 x3 : Vec Ideal S4x1024x2816 .f32}
  {x4 : Vec Ideal S4x2816x1024 .f32} {x5 : Vec Ideal S1024 .f32}
  {b0 : Vec Ideal S256x1024 .f32} {b1 : Vec Ideal S1x1x1024 .f32} {b2 b3 : Vec Ideal S1x1024x2816 .bf16}
  {b4 : Vec Ideal S1x2816x1024 .bf16} {b5 : Vec Ideal S1x1024 .f32} (B : IsBlocks x0 x1 x2 x3 x4 x5 b0 b1 b2 b3 b4 b5)

include B

/-- The gated hidden row. -/
theorem hidden (r : Fin 256) (l : Fin 2816) : k0_pay3 b0 b1 b2 b3 (ix2 r l) = val_main_v22 x0 x1 x2 x3 (ix2 r l) := by
  pointwise [k0_pay3]
  simp only [B.tok, B.norm, B.gate, B.up]
  pointwise [val_main_v22, val_main_v21, val_main_v20, val_main_v19, val_main_v18, val_main_call0_v5, val_main_call0_v4, val_main_call0_cst_0, val_main_call0_v3, val_main_call0_v2, val_main_call0_cst, val_main_call0_v1, val_main_call0_v0, val_main_v17, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  simp only [zero_sub]

/-- The finished row. -/
theorem finished (r : Fin 256) (l : Fin 1024) : out0_6 b0 b1 b2 b3 b4 b5 (ix2 r l) = val_main_v41 x0 x1 x2 x3 x4 x5 (ix2 r l) := by
  unfold out0_6
  rw [View.canon_unit_zero zero2, View.ld_unit_zero zero2, View.ld_unit_zero zero3, View.ld_unit_zero zero3,
    View.ld_unit_zero zero3, View.ld_unit_zero zero3, View.ld_unit_zero zero2]
  have hh := hidden B
  generalize k0_pay3 b0 b1 b2 b3 = hid at hh ⊢
  pointwise [k0_pay1, k0_pay2, k0_pay4]
  simp only [B.tok, hh, B.down, B.last]
  pointwise [val_main_v41, val_main_v40, val_main_v39, val_main_v38, val_main_v37, val_main_v36, val_main_v35, val_main_v34, val_main_cst_5, val_main_v33, val_main_v32, val_main_cst_4, val_main_v31, val_main_v30, val_main_cst_3, val_main_v29, val_main_v28, val_main_v27, val_main_v26, val_main_cst_2, val_main_v25, val_main_v24, val_main_v23]

end blocks

variable (m : (ℓ : Loc nD τ sig) → Buf (Elt Ideal) ℓ)

/-- The arguments. -/
abbrev y0 (c : Dev nD) : Vec Ideal S256x1024 .f32 := m ((c : Thread nD τ).loc main_arg0)
abbrev y1 (c : Dev nD) : Vec Ideal S4x1024 .f32 := m ((c : Thread nD τ).loc main_arg1)
abbrev y2 (c : Dev nD) : Vec Ideal S4x1024x2816 .f32 := m ((c : Thread nD τ).loc main_arg2)
abbrev y3 (c : Dev nD) : Vec Ideal S4x1024x2816 .f32 := m ((c : Thread nD τ).loc main_arg3)
abbrev y4 (c : Dev nD) : Vec Ideal S4x2816x1024 .f32 := m ((c : Thread nD τ).loc main_arg4)
abbrev y5 (c : Dev nD) : Vec Ideal S1024 .f32 := m ((c : Thread nD τ).loc main_arg5)

/-- Every window sits at its one place: the rows at the start, the weights at the last layer. -/
theorem idx_facts : ∀ t : Fin cfg0.N,
    win0_0.index t = ![0, 0] ∧ win0_1.index t = ![3, 0, 0] ∧ win0_2.index t = ![3, 0, 0] ∧ win0_3.index t = ![3, 0, 0]
    ∧ win0_4.index t = ![3, 0, 0] ∧ win0_5.index t = ![0, 0] ∧ win0_6.index t = ![0, 0] :=
  (by decide +kernel : ∀ t : Fin grid0.N, _)

/-- The norms' weights as the region finds them, and the weights, whose cast is the identity. -/
theorem found0 (c : Dev nD) : V m c main_v0 = broadcastInDim S4x1x1024 ![0, 2] bcast_S4x1024_S4x1x1024_0_2 (y1 m c) := by
  unfold_abbrev_sides
  after_results

theorem found4 (c : Dev nD) : V m c main_v4 = broadcastInDim S1x1024 ![1] bcast_S1024_S1x1024_1 (y5 m c) := by
  unfold_abbrev_sides
  after_results

theorem found1 (c : Dev nD) : V m c main_v1 = truncf (F := Ideal) (φ := .f32) .bf16 (y2 m c) bitsLt_bf16_f32 := by
  unfold_abbrev_sides
  after_results

theorem found2 (c : Dev nD) : V m c main_v2 = truncf (F := Ideal) (φ := .f32) .bf16 (y3 m c) bitsLt_bf16_f32 := by
  unfold_abbrev_sides
  after_results

theorem found3 (c : Dev nD) : V m c main_v3 = truncf (F := Ideal) (φ := .f32) .bf16 (y4 m c) bitsLt_bf16_f32 := by
  unfold_abbrev_sides
  after_results

theorem blocks (c : Dev nD) (t : Fin cfg0.N) : IsBlocks (y0 m c) (y1 m c) (y2 m c) (y3 m c) (y4 m c) (y5 m c)
    (iblk m c 0 t) (iblk m c 1 t) (iblk m c 2 t) (iblk m c 3 t) (iblk m c 4 t) (iblk m c 5 t) where
  tok r l := (congrFun (V_main_arg0 m c) _).trans
    (congrArg (y0 m c) (same_place _ (idx_facts t).1 r l (((cfg0.win 0).blk t).view.emb (ix2 r l)) rfl rfl))
  norm l := by
    refine (congrArg (V m c main_v0) (last_layer _ (idx_facts t).2.1 (0 : Fin 1) l (((cfg0.win 1).blk t).view.emb (ix3 0 0 l)) rfl rfl rfl)).trans ?_
    rw [found0]
    pointwise []
  gate k l := (congrFun (found1 m c) _).trans
    (congrArg (y2 m c) (last_layer _ (idx_facts t).2.2.1 k l (((cfg0.win 2).blk t).view.emb (ix3 0 k l)) rfl rfl rfl))
  up k l := (congrFun (found2 m c) _).trans
    (congrArg (y3 m c) (last_layer _ (idx_facts t).2.2.2.1 k l (((cfg0.win 3).blk t).view.emb (ix3 0 k l)) rfl rfl rfl))
  down k l := (congrFun (found3 m c) _).trans
    (congrArg (y4 m c) (last_layer _ (idx_facts t).2.2.2.2.1 k l (((cfg0.win 4).blk t).view.emb (ix3 0 k l)) rfl rfl rfl))
  last l := by
    refine (congrArg (V m c main_v4) (same_place _ (idx_facts t).2.2.2.2.2.1 (0 : Fin 1) l (((cfg0.win 5).blk t).view.emb (ix2 0 l)) rfl rfl)).trans ?_
    rw [found4]
    pointwise []

/-- The reference's result on the call's own arguments. -/
def G (c : Dev nD) : Vec Ideal S256x1024 .f32 := val_main_v41 (F := Ideal) (y0 m c) (y1 m c) (y2 m c) (y3 m c) (y4 m c) (y5 m c)

/-- The call's one point. -/
abbrev t0 : Fin cfg0.N := ⟨0, by decide⟩

/-- The output array after the run is the reference's result. -/
theorem final_eq (c : Dev nD) : (dats m 0 c).arrAt 6 cfg0.N = G m c := by
  refine (dats m 0 c).arrAt_eq_of_cover 6 (G m c) (fun t _ => ?_) fun i => ?_
  · rw [Cert.FfnSampleIdeal.Value.flushed6]
    funext i
    obtain ⟨r, l, rfl⟩ : ∃ (r : Fin 256) (l : Fin 1024), i = ix2 r l := ⟨i 0, i 1, eq_ix2 i⟩
    exact (finished (blocks m c t) r l).trans
      (congrArg (G m c) (same_place _ (idx_facts t).2.2.2.2.2.2 r l (((cfg0.win 6).blk t).view.emb (ix2 r l)) rfl rfl).symm)
  · refine ⟨t0, (by decide +kernel : (cfg0.win 6).flush t0 = true), ?_⟩
    show i ∈ ((View.whole main_v5).slice (win0_6.rect t0)).set
    rw [View.set_slice_whole, Rect.mem_set_unit]
    exact whole2 i _ (idx_facts t0).2.2.2.2.2.2

/-- The claim of equality: both programs run, and from equal arguments their results are equal. -/
theorem algebraic : Cert.algebraic_FfnSampleIdeal_FfnSampleRefIdeal (hFfnSampleIdeal := Cert.FfnSampleIdeal.Gen.facts)
    (hFfnSampleRefIdeal := Cert.FfnSampleRefIdeal.Gen.facts) := by
  intro m g m' g' _ hargs
  refine ⟨fun c => G m c, ?_, ?_⟩
  · refine (θ_run (Cert.FfnSampleIdeal.defs (F := Ideal)) _ _).mono (fun r h c => ?_) (Cert.FfnSampleIdeal.Value.run_blocks (F := Ideal) m g)
    obtain ⟨hv, h0⟩ := h c
    exact ⟨hv.trans (final_eq m c), h0⟩
  · refine (θ_run (Cert.FfnSampleRefIdeal.defs (F := Ideal)) _ _).mono (fun r h c => ?_) (Cert.FfnSampleRefIdeal.Value.run (F := Ideal) m' g')
    obtain ⟨hv, h0⟩ := h c
    obtain ⟨e0, e1, e2, e3, e4, e5⟩ := hargs c
    exact ⟨(hv.trans (val_main_v41_eq m' c)).trans (same_six (val_main_v41 (F := Ideal)) e0 e1 e2 e3 e4 e5), h0⟩

/-- The reference runs and keeps its arguments. -/
theorem frame_ref : Cert.quiescent_FfnSampleRefIdeal (hFfnSampleRefIdeal := Cert.FfnSampleRefIdeal.Gen.facts) :=
  fun m g _ => (θ_run Cert.FfnSampleRefIdeal.defs _ _).mono
    (fun r h => ⟨fun c => (h c).2, sem_eq_zero_of_no_sems (by decide) r.2⟩) (Cert.FfnSampleRefIdeal.Value.run m g)

end Cert.Proof.FfnSampleValue

end
-- ==== Proof.InprojSampleRef.lean ====
/-
  The sample batch's input projections: the reference on the batch's 256 rows is the prompt's reference on rows that repeat
  them.
-/
module

public import proofs.«01_k».proof.Proof.InprojRow
public import proofs.«01_k».proof.Proof.Gen.InprojSampleRefIdeal.Read

@[expose] public section

set_option maxRecDepth 16384

noncomputable section

namespace Cert.Proof.InprojSampleRef

open Idealize.ShloMosaic Idealize.ShloMosaic.TcCoe Idealize.SL.Sem Cert.InprojSampleRefIdeal.Read
open Cert.InprojSampleRefIdeal Cert.Proof.Coords

/-- The batch's rows repeated to the prompt's number of rows, and a row's first place among them. -/
def tall (x0 : Vec Ideal S256x1024 .f32) : Vec Ideal Cert.InprojRefIdeal.S16384x1024 .f32 :=
  fun i => x0 (ix2 ⟨(i 0).val % 256, by omega⟩ ⟨(i 1).val, (i 1).isLt⟩)

def place (r : Fin 256) : Fin 16384 := ⟨r.val, by omega⟩

theorem tall_row (x0 : Vec Ideal S256x1024 .f32) (r : Fin 256) (l : Fin 1024) : tall x0 (ix2 (place r) l) = x0 (ix2 r l) :=
  congrArg x0 (ext2 (by show r.val % 256 = r.val; omega) rfl)

variable (x0 : Vec Ideal S256x1024 .f32) (x1 : Vec Ideal S4x1024 .f32) (x2 : Vec Ideal S4x1024x8464 .f32)
  (x3 : Vec Ideal S4x8 .f32) (x4 x5 : Vec Ideal S4x4 .f32) (r : Fin 256)

/-- The two references agree at a row and its place: the normalised row, the products, then each result. -/
theorem norm_same (k : Fin 1024) : val_main_v14 x0 x1 (ix2 r k) = InprojRefIdeal.Read.val_main_v14 (tall x0) x1 (ix2 (place r) k) := by
  pointwise [val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0, InprojRefIdeal.Read.val_main_v14, InprojRefIdeal.Read.val_main_v13, InprojRefIdeal.Read.val_main_v12, InprojRefIdeal.Read.val_main_v11, InprojRefIdeal.Read.val_main_v10, InprojRefIdeal.Read.val_main_v9, InprojRefIdeal.Read.val_main_v8, InprojRefIdeal.Read.val_main_v7, InprojRefIdeal.Read.val_main_cst_1, InprojRefIdeal.Read.val_main_v6, InprojRefIdeal.Read.val_main_v5, InprojRefIdeal.Read.val_main_cst_0, InprojRefIdeal.Read.val_main_v4, InprojRefIdeal.Read.val_main_v3, InprojRefIdeal.Read.val_main_cst, InprojRefIdeal.Read.val_main_v2, InprojRefIdeal.Read.val_main_v1, InprojRefIdeal.Read.val_main_v0]
  simp only [tall_row]

theorem product_same (j : Fin 8464) : val_main_v17 x0 x1 x2 (ix2 r j) = InprojRefIdeal.Read.val_main_v17 (tall x0) x1 x2 (ix2 (place r) j) := by
  pointwise [val_main_v17, val_main_v16, val_main_v15, InprojRefIdeal.Read.val_main_v17, InprojRefIdeal.Read.val_main_v16, InprojRefIdeal.Read.val_main_v15]
  simp only [norm_same]

theorem query_same (j : Fin 512) : val_main_v18 x0 x1 x2 (ix2 r j) = InprojRefIdeal.Read.val_main_v18 (tall x0) x1 x2 (ix2 (place r) j) := by
  pointwise [val_main_v18, InprojRefIdeal.Read.val_main_v18]
  exact product_same x0 x1 x2 r _

theorem key_same (j : Fin 512) : val_main_v19 x0 x1 x2 (ix2 r j) = InprojRefIdeal.Read.val_main_v19 (tall x0) x1 x2 (ix2 (place r) j) := by
  pointwise [val_main_v19, InprojRefIdeal.Read.val_main_v19]
  exact product_same x0 x1 x2 r _

theorem value_same (j : Fin 512) : val_main_v20 x0 x1 x2 (ix2 r j) = InprojRefIdeal.Read.val_main_v20 (tall x0) x1 x2 (ix2 (place r) j) := by
  pointwise [val_main_v20, InprojRefIdeal.Read.val_main_v20]
  exact product_same x0 x1 x2 r _

theorem forget_same (j : Fin 8) : val_main_v21 x0 x1 x2 (ix2 r j) = InprojRefIdeal.Read.val_main_v21 (tall x0) x1 x2 (ix2 (place r) j) := by
  pointwise [val_main_v21, InprojRefIdeal.Read.val_main_v21]
  exact product_same x0 x1 x2 r _

theorem rw_same (j : Fin 1792) : val_main_v22 x0 x1 x2 (ix2 r j) = InprojRefIdeal.Read.val_main_v22 (tall x0) x1 x2 (ix2 (place r) j) := by
  pointwise [val_main_v22, InprojRefIdeal.Read.val_main_v22]
  exact product_same x0 x1 x2 r _

theorem gd_same (j : Fin 1536) : val_main_v23 x0 x1 x2 (ix2 r j) = InprojRefIdeal.Read.val_main_v23 (tall x0) x1 x2 (ix2 (place r) j) := by
  pointwise [val_main_v23, InprojRefIdeal.Read.val_main_v23]
  exact product_same x0 x1 x2 r _

theorem gz_same (j : Fin 512) : val_main_v24 x0 x1 x2 (ix2 r j) = InprojRefIdeal.Read.val_main_v24 (tall x0) x1 x2 (ix2 (place r) j) := by
  pointwise [val_main_v24, InprojRefIdeal.Read.val_main_v24]
  exact product_same x0 x1 x2 r _

theorem beta_same (j : Fin 4) : val_main_v25 x0 x1 x2 (ix2 r j) = InprojRefIdeal.Read.val_main_v25 (tall x0) x1 x2 (ix2 (place r) j) := by
  pointwise [val_main_v25, InprojRefIdeal.Read.val_main_v25]
  exact product_same x0 x1 x2 r _

theorem step_same (j : Fin 4) : val_main_v26 x0 x1 x2 (ix2 r j) = InprojRefIdeal.Read.val_main_v26 (tall x0) x1 x2 (ix2 (place r) j) := by
  pointwise [val_main_v26, InprojRefIdeal.Read.val_main_v26]
  exact product_same x0 x1 x2 r _

theorem gate_same (j : Fin 3072) : val_main_v27 x0 x1 x2 (ix2 r j) = InprojRefIdeal.Read.val_main_v27 (tall x0) x1 x2 (ix2 (place r) j) := by
  pointwise [val_main_v27, InprojRefIdeal.Read.val_main_v27]
  exact product_same x0 x1 x2 r _

theorem qkv_same (j : Fin 1536) : val_main_v56 x0 x1 x2 (ix2 r j) = InprojRefIdeal.Read.val_main_v56 (tall x0) x1 x2 (ix2 (place r) j) := by
  pointwise [val_main_v56, val_main_v55, val_main_v54, val_main_v53, val_main_cst_4, InprojRefIdeal.Read.val_main_v56, InprojRefIdeal.Read.val_main_v55, InprojRefIdeal.Read.val_main_v54, InprojRefIdeal.Read.val_main_v53, InprojRefIdeal.Read.val_main_cst_4]
  simp only [query_same, key_same, value_same]

/-- The keys and values of the batch's one run of tokens, tokens last. -/
theorem keyT_same (d : Fin 512) : val_main_v58 x0 x1 x2 (ix3 0 d r) = InprojRefIdeal.Read.val_main_v19 (tall x0) x1 x2 (ix2 (place r) d) := by
  refine Eq.trans ?_ (key_same x0 x1 x2 r d)
  pointwise [val_main_v58, val_main_v57]

theorem valueT_same (d : Fin 512) : val_main_v60 x0 x1 x2 (ix3 0 d r) = InprojRefIdeal.Read.val_main_v20 (tall x0) x1 x2 (ix2 (place r) d) := by
  refine Eq.trans ?_ (value_same x0 x1 x2 r d)
  pointwise [val_main_v60, val_main_v59]

theorem forget_read_same (j : Fin 8) : val_main_v33 x0 x1 x2 x3 (ix2 r j) = InprojRefIdeal.Read.val_main_v33 (tall x0) x1 x2 x3 (ix2 (place r) j) := by
  pointwise [val_main_v33, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v32, val_main_v31, val_main_v30, val_main_v29, val_main_v28, InprojRefIdeal.Read.val_main_v33, InprojRefIdeal.Read.val_main_call0_v1, InprojRefIdeal.Read.val_main_call0_call0_v11, InprojRefIdeal.Read.val_main_call0_call0_v10, InprojRefIdeal.Read.val_main_call0_call0_v9, InprojRefIdeal.Read.val_main_call0_call0_v8, InprojRefIdeal.Read.val_main_call0_call0_v7, InprojRefIdeal.Read.val_main_call0_call0_v6, InprojRefIdeal.Read.val_main_call0_call0_v5, InprojRefIdeal.Read.val_main_call0_call0_v4, InprojRefIdeal.Read.val_main_call0_call0_v3, InprojRefIdeal.Read.val_main_call0_call0_v2, InprojRefIdeal.Read.val_main_call0_call0_v1, InprojRefIdeal.Read.val_main_call0_call0_v0, InprojRefIdeal.Read.val_main_call0_call0_cst, InprojRefIdeal.Read.val_main_call0_v0, InprojRefIdeal.Read.val_main_v32, InprojRefIdeal.Read.val_main_v31, InprojRefIdeal.Read.val_main_v30, InprojRefIdeal.Read.val_main_v29, InprojRefIdeal.Read.val_main_v28]
  simp only [forget_same]

theorem beta_read_same (j : Fin 4) : val_main_v39 x0 x1 x2 (ix2 r j) = InprojRefIdeal.Read.val_main_v39 (tall x0) x1 x2 (ix2 (place r) j) := by
  pointwise [val_main_v39, val_main_v38, val_main_cst_3, val_main_v37, val_main_v36, val_main_cst_2, val_main_v35, val_main_v34, InprojRefIdeal.Read.val_main_v39, InprojRefIdeal.Read.val_main_v38, InprojRefIdeal.Read.val_main_cst_3, InprojRefIdeal.Read.val_main_v37, InprojRefIdeal.Read.val_main_v36, InprojRefIdeal.Read.val_main_cst_2, InprojRefIdeal.Read.val_main_v35, InprojRefIdeal.Read.val_main_v34]
  simp only [beta_same]

theorem step_read_same (j : Fin 4) : val_main_v52 x0 x1 x2 x4 x5 (ix2 r j)
    = InprojRefIdeal.Read.val_main_v52 (tall x0) x1 x2 x4 x5 (ix2 (place r) j) := by
  pointwise [val_main_v52, val_main_v51, val_main_v50, val_main_v49, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v48, val_main_v47, val_main_v46, val_main_v45, val_main_v44, val_main_v43, val_main_v42, val_main_v41, val_main_v40, InprojRefIdeal.Read.val_main_v52, InprojRefIdeal.Read.val_main_v51, InprojRefIdeal.Read.val_main_v50, InprojRefIdeal.Read.val_main_v49, InprojRefIdeal.Read.val_main_call1_v11, InprojRefIdeal.Read.val_main_call1_v10, InprojRefIdeal.Read.val_main_call1_v9, InprojRefIdeal.Read.val_main_call1_v8, InprojRefIdeal.Read.val_main_call1_v7, InprojRefIdeal.Read.val_main_call1_v6, InprojRefIdeal.Read.val_main_call1_v5, InprojRefIdeal.Read.val_main_call1_v4, InprojRefIdeal.Read.val_main_call1_v3, InprojRefIdeal.Read.val_main_call1_v2, InprojRefIdeal.Read.val_main_call1_v1, InprojRefIdeal.Read.val_main_call1_v0, InprojRefIdeal.Read.val_main_call1_cst, InprojRefIdeal.Read.val_main_v48, InprojRefIdeal.Read.val_main_v47, InprojRefIdeal.Read.val_main_v46, InprojRefIdeal.Read.val_main_v45, InprojRefIdeal.Read.val_main_v44, InprojRefIdeal.Read.val_main_v43, InprojRefIdeal.Read.val_main_v42, InprojRefIdeal.Read.val_main_v41, InprojRefIdeal.Read.val_main_v40]
  simp only [step_same]

theorem small_same (j : Fin 16) : val_main_v61 x0 x1 x2 x3 x4 x5 (ix2 r j)
    = InprojRefIdeal.Read.val_main_v61 (tall x0) x1 x2 x3 x4 x5 (ix2 (place r) j) := by
  pointwise [val_main_v61, InprojRefIdeal.Read.val_main_v61]
  simp only [forget_read_same, beta_read_same, step_read_same]

end Cert.Proof.InprojSampleRef

end
-- ==== Proof.InprojSampleValue.lean ====
/-
  The sample batch's input projections compute their reference: the call has one point, whose body is the prompt's, so its
  blocks are the prompt's reference on the repeated rows, and that is the batch's own reference.
-/
module

public import proofs.«01_k».proof.Defs
public import proofs.«01_k».proof.Proof.InprojOut
public import proofs.«01_k».proof.Proof.InprojHost
public import proofs.«01_k».proof.Proof.InprojSampleRef
public import proofs.«01_k».proof.Proof.Gen.InprojSampleIdeal.Value
public import proofs.«01_k».proof.Proof.Gen.InprojSampleRefIdeal.Run
public import Idealize.ShloMosaic.Lib.Quiescent

@[expose] public section

set_option maxRecDepth 16384

noncomputable section

namespace Cert.Proof.InprojSampleValue

open Idealize.ShloMosaic Idealize.ShloMosaic.TcCoe Idealize.SL.Sem Cert.InprojSampleRefIdeal.Read
open Cert.InprojSampleIdeal Cert.InprojSampleIdeal.Gen Cert.Proof.Coords Cert.Proof.InprojHost Cert.Proof.InprojSampleRef

variable (m : (ℓ : Loc nD τ sig) → Buf (Elt Ideal) ℓ)

/-- The arguments. -/
abbrev y0 (c : Dev nD) : Vec Ideal S256x1024 .f32 := m ((c : Thread nD τ).loc main_arg0)
abbrev y1 (c : Dev nD) : Vec Ideal S4x1024 .f32 := m ((c : Thread nD τ).loc main_arg1)
abbrev y2 (c : Dev nD) : Vec Ideal S4x1024x8464 .f32 := m ((c : Thread nD τ).loc main_arg2)
abbrev y3 (c : Dev nD) : Vec Ideal S4x8 .f32 := m ((c : Thread nD τ).loc main_arg3)
abbrev y4 (c : Dev nD) : Vec Ideal S4x4 .f32 := m ((c : Thread nD τ).loc main_arg4)
abbrev y5 (c : Dev nD) : Vec Ideal S4x4 .f32 := m ((c : Thread nD τ).loc main_arg5)

/-- The region finds the weights the prompt's host code prepares. -/
theorem found12 (c : Dev nD) : V m c main_v12 = qkvWeights (y2 m c) := by
  unfold qkvWeights
  unfold_abbrev_sides
  after_results

theorem found14 (c : Dev nD) : V m c main_v14 = rwWeights (y2 m c) := by
  unfold rwWeights
  unfold_abbrev_sides
  after_results

theorem found16 (c : Dev nD) : V m c main_v16 = gdWeights (y2 m c) := by
  unfold gdWeights
  unfold_abbrev_sides
  after_results

theorem found18 (c : Dev nD) : V m c main_v18 = gateWeights (y2 m c) := by
  unfold gateWeights
  unfold_abbrev_sides
  after_results

theorem found19 (c : Dev nD) : V m c main_v19 = smallWeights (y2 m c) := by
  unfold smallWeights
  unfold_abbrev_sides
  after_results

theorem found22 (c : Dev nD) : V m c main_v22 = kvtWeights (y2 m c) := by
  unfold kvtWeights
  unfold_abbrev_sides
  after_results

theorem found25 (c : Dev nD) : V m c main_v25 = smallConsts (y3 m c) (y4 m c) (y5 m c) := by
  unfold smallConsts
  unfold_abbrev_sides
  after_results
  rfl

theorem found26 (c : Dev nD) : V m c main_v26 = normWeights (y1 m c) := by
  unfold normWeights
  unfold_abbrev_sides
  after_results

/-- Every window sits at its one place: the tokens and the outputs at the start, the weights at the last layer. -/
theorem in_facts : ∀ t : Fin cfg0.N,
    win0_0.index t = ![0, 0] ∧ win0_1.index t = ![3, 0, 0] ∧ win0_2.index t = ![3, 0, 0] ∧ win0_3.index t = ![3, 0, 0]
    ∧ win0_4.index t = ![3, 0, 0] ∧ win0_5.index t = ![3, 0, 0] ∧ win0_6.index t = ![3, 0, 0]
    ∧ win0_7.index t = ![3, 0, 0] ∧ win0_8.index t = ![3, 0, 0] :=
  (by decide +kernel : ∀ t : Fin grid0.N, _)

theorem out_facts : ∀ t : Fin cfg0.N,
    win0_9.index t = ![0, 0] ∧ win0_10.index t = ![0, 0] ∧ win0_11.index t = ![0, 0]
    ∧ win0_12.index t = ![0, 0, 0] ∧ win0_13.index t = ![0, 0, 0]
    ∧ win0_14.index t = ![0, 0] ∧ win0_15.index t = ![0, 0] ∧ win0_16.index t = ![0, 0]
    ∧ win0_17.index t = ![0, 0] ∧ win0_18.index t = ![0, 0] :=
  (by decide +kernel : ∀ t : Fin grid0.N, _)

/-- What the input blocks hold. -/
theorem block0 (c : Dev nD) (t : Fin cfg0.N) (r : Fin 256) (l : Fin 1024) : iblk m c 0 t (ix2 r l) = y0 m c (ix2 r l) :=
  (congrFun (V_main_arg0 m c) _).trans
    (congrArg (y0 m c) (same_place _ (in_facts t).1 r l (((cfg0.win 0).blk t).view.emb (ix2 r l)) rfl rfl))

theorem block1 (c : Dev nD) (t : Fin cfg0.N) (k : Fin 1) (l : Fin 1024) : iblk m c 1 t (ix3 0 k l) = V m c main_v26 (ix3 3 k l) :=
  congrArg (V m c main_v26) (last_layer _ (in_facts t).2.1 k l (((cfg0.win 1).blk t).view.emb (ix3 0 k l)) rfl rfl rfl)

theorem block2 (c : Dev nD) (t : Fin cfg0.N) (k : Fin 1024) (l : Fin 1536) : iblk m c 2 t (ix3 0 k l) = V m c main_v12 (ix3 3 k l) :=
  congrArg (V m c main_v12) (last_layer _ (in_facts t).2.2.1 k l (((cfg0.win 2).blk t).view.emb (ix3 0 k l)) rfl rfl rfl)

theorem block3 (c : Dev nD) (t : Fin cfg0.N) (k : Fin 1024) (l : Fin 1792) : iblk m c 3 t (ix3 0 k l) = V m c main_v14 (ix3 3 k l) :=
  congrArg (V m c main_v14) (last_layer _ (in_facts t).2.2.2.1 k l (((cfg0.win 3).blk t).view.emb (ix3 0 k l)) rfl rfl rfl)

theorem block4 (c : Dev nD) (t : Fin cfg0.N) (k : Fin 1024) (l : Fin 2048) : iblk m c 4 t (ix3 0 k l) = V m c main_v16 (ix3 3 k l) :=
  congrArg (V m c main_v16) (last_layer _ (in_facts t).2.2.2.2.1 k l (((cfg0.win 4).blk t).view.emb (ix3 0 k l)) rfl rfl rfl)

theorem block5 (c : Dev nD) (t : Fin cfg0.N) (k : Fin 1024) (l : Fin 3072) : iblk m c 5 t (ix3 0 k l) = V m c main_v18 (ix3 3 k l) :=
  congrArg (V m c main_v18) (last_layer _ (in_facts t).2.2.2.2.2.1 k l (((cfg0.win 5).blk t).view.emb (ix3 0 k l)) rfl rfl rfl)

theorem block6 (c : Dev nD) (t : Fin cfg0.N) (k : Fin 1024) (l : Fin 16) : iblk m c 6 t (ix3 0 k l) = V m c main_v19 (ix3 3 k l) :=
  congrArg (V m c main_v19) (last_layer _ (in_facts t).2.2.2.2.2.2.1 k l (((cfg0.win 6).blk t).view.emb (ix3 0 k l)) rfl rfl rfl)

theorem block7 (c : Dev nD) (t : Fin cfg0.N) (k : Fin 1024) (l : Fin 1024) : iblk m c 7 t (ix3 0 k l) = V m c main_v22 (ix3 3 k l) :=
  congrArg (V m c main_v22) (last_layer _ (in_facts t).2.2.2.2.2.2.2.1 k l (((cfg0.win 7).blk t).view.emb (ix3 0 k l)) rfl rfl rfl)

theorem block8 (c : Dev nD) (t : Fin cfg0.N) (k : Fin 2) (l : Fin 16) : iblk m c 8 t (ix3 0 k l) = V m c main_v25 (ix3 3 k l) :=
  congrArg (V m c main_v25) (last_layer _ (in_facts t).2.2.2.2.2.2.2.2 k l (((cfg0.win 8).blk t).view.emb (ix3 0 k l)) rfl rfl rfl)

theorem blocks (c : Dev nD) (t : Fin cfg0.N) : InprojOut.IsBlocks (tall (y0 m c)) (y1 m c) (y2 m c) (y3 m c) (y4 m c) (y5 m c) place
    (iblk m c 0 t) (iblk m c 1 t) (iblk m c 2 t) (iblk m c 3 t) (iblk m c 4 t) (iblk m c 5 t) (iblk m c 6 t) (iblk m c 7 t)
    (iblk m c 8 t) where
  tok r l := (block0 m c t r l).trans (tall_row (y0 m c) r l).symm
  norm l := (block1 m c t 0 l).trans ((congrFun (found26 m c) _).trans (norm_at (y1 m c) l))
  query k j h := (block2 m c t k j).trans ((congrFun (found12 m c) _).trans (query_at (y2 m c) k j h))
  keyval k j h := (block2 m c t k j).trans ((congrFun (found12 m c) _).trans (keyval_at (y2 m c) k j h))
  rw k j := (block3 m c t k j).trans ((congrFun (found14 m c) _).trans (rw_at (y2 m c) k j))
  gd k j := (block4 m c t k j).trans ((congrFun (found16 m c) _).trans (gd_at (y2 m c) k j))
  gate k j := (block5 m c t k j).trans ((congrFun (found18 m c) _).trans (gate_at (y2 m c) k j))
  low k j h := (block6 m c t k j).trans ((congrFun (found19 m c) _).trans (small_low_at (y2 m c) k j h))
  high k j h := (block6 m c t k j).trans ((congrFun (found19 m c) _).trans (small_high_at (y2 m c) k j h))
  kvt j k := (block7 m c t j k).trans ((congrFun (found22 m c) _).trans (kvt_at (y2 m c) j k))
  bias j := (block8 m c t 0 j).trans ((congrFun (found25 m c) _).trans (bias_at (y3 m c) (y4 m c) (y5 m c) j))
  rate j h := (block8 m c t 1 j).trans ((congrFun (found25 m c) _).trans (decay_at (y3 m c) (y4 m c) (y5 m c) j h))

/-- The ten results of the reference on the call's own arguments. -/
def G9 (c : Dev nD) : Vec Ideal S256x1536 .bf16 := val_main_v56 (F := Ideal) (y0 m c) (y1 m c) (y2 m c)
def G10 (c : Dev nD) : Vec Ideal S256x512 .f32 := val_main_v19 (F := Ideal) (y0 m c) (y1 m c) (y2 m c)
def G11 (c : Dev nD) : Vec Ideal S256x512 .f32 := val_main_v20 (F := Ideal) (y0 m c) (y1 m c) (y2 m c)
def G12 (c : Dev nD) : Vec Ideal S1x512x256 .f32 := val_main_v58 (F := Ideal) (y0 m c) (y1 m c) (y2 m c)
def G13 (c : Dev nD) : Vec Ideal S1x512x256 .f32 := val_main_v60 (F := Ideal) (y0 m c) (y1 m c) (y2 m c)
def G14 (c : Dev nD) : Vec Ideal S256x1792 .f32 := val_main_v22 (F := Ideal) (y0 m c) (y1 m c) (y2 m c)
def G15 (c : Dev nD) : Vec Ideal S256x1536 .f32 := val_main_v23 (F := Ideal) (y0 m c) (y1 m c) (y2 m c)
def G16 (c : Dev nD) : Vec Ideal S256x512 .f32 := val_main_v24 (F := Ideal) (y0 m c) (y1 m c) (y2 m c)
def G17 (c : Dev nD) : Vec Ideal S256x3072 .f32 := val_main_v27 (F := Ideal) (y0 m c) (y1 m c) (y2 m c)
def G18 (c : Dev nD) : Vec Ideal S256x16 .f32 := val_main_v61 (F := Ideal) (y0 m c) (y1 m c) (y2 m c) (y3 m c) (y4 m c) (y5 m c)

/-- Two blocks agree when they agree at every row and column. -/
theorem rows_ext {n : ℕ} {φ : EltTy} (f g : Vec Ideal ⟨2, ![256, n]⟩ φ) (h : ∀ (r : Fin 256) (j : Fin n), f (ix2 r j) = g (ix2 r j)) : f = g :=
  funext fun i => by rw [eq_ix2 i]; exact h _ _

theorem cols_ext {φ : EltTy} (f g : Vec Ideal ⟨3, ![1, 512, 256]⟩ φ) (h : ∀ (d : Fin 512) (r : Fin 256), f (ix3 0 d r) = g (ix3 0 d r)) : f = g :=
  funext fun i => by
    obtain ⟨d, r, e⟩ : ∃ d r, i = ix3 0 d r := ⟨i 1, i 2, ext3 (by have h : (i 0).val < 1 := (i 0).isLt; show (i 0).val = 0; omega) rfl rfl⟩
    rw [e]
    exact h _ _

/-- The call's one point. -/
abbrev t0 : Fin cfg0.N := ⟨0, by decide⟩

/-- Each output array after the run is the reference's result. -/
theorem final9 (c : Dev nD) : (dats m 0 c).arrAt 9 cfg0.N = G9 m c := by
  refine (dats m 0 c).arrAt_eq_of_cover 9 (G9 m c) (fun t _ => ?_) fun i => ?_
  · rw [Cert.InprojSampleIdeal.Value.flushed9]
    exact rows_ext _ _ fun r j => ((InprojOut.out9 (blocks m c t) r j).trans (qkv_same (y0 m c) (y1 m c) (y2 m c) r j).symm).trans
      (congrArg (G9 m c) (same_place _ (out_facts t).1 r j (((cfg0.win 9).blk t).view.emb (ix2 r j)) rfl rfl).symm)
  · refine ⟨t0, (by decide +kernel : (cfg0.win 9).flush t0 = true), ?_⟩
    show i ∈ ((View.whole main_v27_0).slice (win0_9.rect t0)).set
    rw [View.set_slice_whole, Rect.mem_set_unit]
    exact whole2 i _ (out_facts t0).1

theorem final10 (c : Dev nD) : (dats m 0 c).arrAt 10 cfg0.N = G10 m c := by
  refine (dats m 0 c).arrAt_eq_of_cover 10 (G10 m c) (fun t _ => ?_) fun i => ?_
  · rw [Cert.InprojSampleIdeal.Value.flushed10]
    exact rows_ext _ _ fun r j => ((InprojOut.out10 (blocks m c t) r j).trans (key_same (y0 m c) (y1 m c) (y2 m c) r j).symm).trans
      (congrArg (G10 m c) (same_place _ (out_facts t).2.1 r j (((cfg0.win 10).blk t).view.emb (ix2 r j)) rfl rfl).symm)
  · refine ⟨t0, (by decide +kernel : (cfg0.win 10).flush t0 = true), ?_⟩
    show i ∈ ((View.whole main_v27_1).slice (win0_10.rect t0)).set
    rw [View.set_slice_whole, Rect.mem_set_unit]
    exact whole2 i _ (out_facts t0).2.1

theorem final11 (c : Dev nD) : (dats m 0 c).arrAt 11 cfg0.N = G11 m c := by
  refine (dats m 0 c).arrAt_eq_of_cover 11 (G11 m c) (fun t _ => ?_) fun i => ?_
  · rw [Cert.InprojSampleIdeal.Value.flushed11]
    exact rows_ext _ _ fun r j => ((InprojOut.out11 (blocks m c t) r j).trans (value_same (y0 m c) (y1 m c) (y2 m c) r j).symm).trans
      (congrArg (G11 m c) (same_place _ (out_facts t).2.2.1 r j (((cfg0.win 11).blk t).view.emb (ix2 r j)) rfl rfl).symm)
  · refine ⟨t0, (by decide +kernel : (cfg0.win 11).flush t0 = true), ?_⟩
    show i ∈ ((View.whole main_v27_2).slice (win0_11.rect t0)).set
    rw [View.set_slice_whole, Rect.mem_set_unit]
    exact whole2 i _ (out_facts t0).2.2.1

theorem final12 (c : Dev nD) : (dats m 0 c).arrAt 12 cfg0.N = G12 m c := by
  refine (dats m 0 c).arrAt_eq_of_cover 12 (G12 m c) (fun t _ => ?_) fun i => ?_
  · rw [Cert.InprojSampleIdeal.Value.flushed12]
    exact cols_ext _ _ fun d r => ((InprojOut.out12 (blocks m c t) d r).trans (keyT_same (y0 m c) (y1 m c) (y2 m c) r d).symm).trans
      (congrArg (G12 m c) (same_place3 _ (out_facts t).2.2.2.1 d r (((cfg0.win 12).blk t).view.emb (ix3 0 d r)) rfl rfl rfl).symm)
  · refine ⟨t0, (by decide +kernel : (cfg0.win 12).flush t0 = true), ?_⟩
    show i ∈ ((View.whole main_v27_3).slice (win0_12.rect t0)).set
    rw [View.set_slice_whole, Rect.mem_set_unit]
    exact whole3 i _ (out_facts t0).2.2.2.1

theorem final13 (c : Dev nD) : (dats m 0 c).arrAt 13 cfg0.N = G13 m c := by
  refine (dats m 0 c).arrAt_eq_of_cover 13 (G13 m c) (fun t _ => ?_) fun i => ?_
  · rw [Cert.InprojSampleIdeal.Value.flushed13]
    exact cols_ext _ _ fun d r => ((InprojOut.out13 (blocks m c t) d r).trans (valueT_same (y0 m c) (y1 m c) (y2 m c) r d).symm).trans
      (congrArg (G13 m c) (same_place3 _ (out_facts t).2.2.2.2.1 d r (((cfg0.win 13).blk t).view.emb (ix3 0 d r)) rfl rfl rfl).symm)
  · refine ⟨t0, (by decide +kernel : (cfg0.win 13).flush t0 = true), ?_⟩
    show i ∈ ((View.whole main_v27_4).slice (win0_13.rect t0)).set
    rw [View.set_slice_whole, Rect.mem_set_unit]
    exact whole3 i _ (out_facts t0).2.2.2.2.1

theorem final14 (c : Dev nD) : (dats m 0 c).arrAt 14 cfg0.N = G14 m c := by
  refine (dats m 0 c).arrAt_eq_of_cover 14 (G14 m c) (fun t _ => ?_) fun i => ?_
  · rw [Cert.InprojSampleIdeal.Value.flushed14]
    exact rows_ext _ _ fun r j => ((InprojOut.out14 (blocks m c t) r j).trans (rw_same (y0 m c) (y1 m c) (y2 m c) r j).symm).trans
      (congrArg (G14 m c) (same_place _ (out_facts t).2.2.2.2.2.1 r j (((cfg0.win 14).blk t).view.emb (ix2 r j)) rfl rfl).symm)
  · refine ⟨t0, (by decide +kernel : (cfg0.win 14).flush t0 = true), ?_⟩
    show i ∈ ((View.whole main_v27_5).slice (win0_14.rect t0)).set
    rw [View.set_slice_whole, Rect.mem_set_unit]
    exact whole2 i _ (out_facts t0).2.2.2.2.2.1

theorem final15 (c : Dev nD) : (dats m 0 c).arrAt 15 cfg0.N = G15 m c := by
  refine (dats m 0 c).arrAt_eq_of_cover 15 (G15 m c) (fun t _ => ?_) fun i => ?_
  · rw [Cert.InprojSampleIdeal.Value.flushed15]
    exact rows_ext _ _ fun r j => ((InprojOut.out15 (blocks m c t) r j).trans (gd_same (y0 m c) (y1 m c) (y2 m c) r j).symm).trans
      (congrArg (G15 m c) (same_place _ (out_facts t).2.2.2.2.2.2.1 r j (((cfg0.win 15).blk t).view.emb (ix2 r j)) rfl rfl).symm)
  · refine ⟨t0, (by decide +kernel : (cfg0.win 15).flush t0 = true), ?_⟩
    show i ∈ ((View.whole main_v27_6).slice (win0_15.rect t0)).set
    rw [View.set_slice_whole, Rect.mem_set_unit]
    exact whole2 i _ (out_facts t0).2.2.2.2.2.2.1

theorem final16 (c : Dev nD) : (dats m 0 c).arrAt 16 cfg0.N = G16 m c := by
  refine (dats m 0 c).arrAt_eq_of_cover 16 (G16 m c) (fun t _ => ?_) fun i => ?_
  · rw [Cert.InprojSampleIdeal.Value.flushed16]
    exact rows_ext _ _ fun r j => ((InprojOut.out16 (blocks m c t) r j).trans (gz_same (y0 m c) (y1 m c) (y2 m c) r j).symm).trans
      (congrArg (G16 m c) (same_place _ (out_facts t).2.2.2.2.2.2.2.1 r j (((cfg0.win 16).blk t).view.emb (ix2 r j)) rfl rfl).symm)
  · refine ⟨t0, (by decide +kernel : (cfg0.win 16).flush t0 = true), ?_⟩
    show i ∈ ((View.whole main_v27_7).slice (win0_16.rect t0)).set
    rw [View.set_slice_whole, Rect.mem_set_unit]
    exact whole2 i _ (out_facts t0).2.2.2.2.2.2.2.1

theorem final17 (c : Dev nD) : (dats m 0 c).arrAt 17 cfg0.N = G17 m c := by
  refine (dats m 0 c).arrAt_eq_of_cover 17 (G17 m c) (fun t _ => ?_) fun i => ?_
  · rw [Cert.InprojSampleIdeal.Value.flushed17]
    exact rows_ext _ _ fun r j => ((InprojOut.out17 (blocks m c t) r j).trans (gate_same (y0 m c) (y1 m c) (y2 m c) r j).symm).trans
      (congrArg (G17 m c) (same_place _ (out_facts t).2.2.2.2.2.2.2.2.1 r j (((cfg0.win 17).blk t).view.emb (ix2 r j)) rfl rfl).symm)
  · refine ⟨t0, (by decide +kernel : (cfg0.win 17).flush t0 = true), ?_⟩
    show i ∈ ((View.whole main_v27_8).slice (win0_17.rect t0)).set
    rw [View.set_slice_whole, Rect.mem_set_unit]
    exact whole2 i _ (out_facts t0).2.2.2.2.2.2.2.2.1

theorem final18 (c : Dev nD) : (dats m 0 c).arrAt 18 cfg0.N = G18 m c := by
  refine (dats m 0 c).arrAt_eq_of_cover 18 (G18 m c) (fun t _ => ?_) fun i => ?_
  · rw [Cert.InprojSampleIdeal.Value.flushed18]
    exact rows_ext _ _ fun r j => ((InprojOut.out18 (blocks m c t) r j).trans (small_same (y0 m c) (y1 m c) (y2 m c) (y3 m c) (y4 m c) (y5 m c) r j).symm).trans
      (congrArg (G18 m c) (same_place _ (out_facts t).2.2.2.2.2.2.2.2.2 r j (((cfg0.win 18).blk t).view.emb (ix2 r j)) rfl rfl).symm)
  · refine ⟨t0, (by decide +kernel : (cfg0.win 18).flush t0 = true), ?_⟩
    show i ∈ ((View.whole main_v27_9).slice (win0_18.rect t0)).set
    rw [View.set_slice_whole, Rect.mem_set_unit]
    exact whole2 i _ (out_facts t0).2.2.2.2.2.2.2.2.2

/-- The claim of equality: both programs run, and from equal arguments their ten results are equal. -/
theorem algebraic : Cert.algebraic_InprojSampleIdeal_InprojSampleRefIdeal (hInprojSampleIdeal := Cert.InprojSampleIdeal.Gen.facts)
    (hInprojSampleRefIdeal := Cert.InprojSampleRefIdeal.Gen.facts) := by
  intro m g m' g' _ hargs
  refine ⟨G9 m, G10 m, G11 m, G12 m, G13 m, G14 m, G15 m, G16 m, G17 m, G18 m, ?_, ?_⟩
  · refine (θ_run (Cert.InprojSampleIdeal.defs (F := Ideal)) _ _).mono (fun r h c => ?_) (Cert.InprojSampleIdeal.Value.run_blocks (F := Ideal) m g)
    obtain ⟨h9, h10, h11, h12, h13, h14, h15, h16, h17, h18, hk⟩ := h c
    exact ⟨h9.trans (final9 m c), h10.trans (final10 m c), h11.trans (final11 m c), h12.trans (final12 m c), h13.trans (final13 m c),
      h14.trans (final14 m c), h15.trans (final15 m c), h16.trans (final16 m c), h17.trans (final17 m c), h18.trans (final18 m c), hk⟩
  · refine (θ_run (Cert.InprojSampleRefIdeal.defs (F := Ideal)) _ _).mono (fun r h c => ?_) (Cert.InprojSampleRefIdeal.Value.run (F := Ideal) m' g')
    obtain ⟨h9, h10, h11, h12, h13, h14, h15, h16, h17, h18, hk⟩ := h c
    obtain ⟨e0, e1, e2, e3, e4, e5⟩ := hargs c
    exact ⟨(h9.trans (val_main_v56_eq _ _ _)).trans (same_three (val_main_v56 (F := Ideal)) e0 e1 e2),
      (h10.trans (val_main_v19_eq _ _ _)).trans (same_three (val_main_v19 (F := Ideal)) e0 e1 e2),
      (h11.trans (val_main_v20_eq _ _ _)).trans (same_three (val_main_v20 (F := Ideal)) e0 e1 e2),
      (h12.trans (val_main_v58_eq _ _ _)).trans (same_three (val_main_v58 (F := Ideal)) e0 e1 e2),
      (h13.trans (val_main_v60_eq _ _ _)).trans (same_three (val_main_v60 (F := Ideal)) e0 e1 e2),
      (h14.trans (val_main_v22_eq _ _ _)).trans (same_three (val_main_v22 (F := Ideal)) e0 e1 e2),
      (h15.trans (val_main_v23_eq _ _ _)).trans (same_three (val_main_v23 (F := Ideal)) e0 e1 e2),
      (h16.trans (val_main_v24_eq _ _ _)).trans (same_three (val_main_v24 (F := Ideal)) e0 e1 e2),
      (h17.trans (val_main_v27_eq _ _ _)).trans (same_three (val_main_v27 (F := Ideal)) e0 e1 e2),
      (h18.trans (val_main_v61_eq m' c)).trans (same_six (val_main_v61 (F := Ideal)) e0 e1 e2 e3 e4 e5), hk⟩

/-- The reference runs and keeps its arguments. -/
theorem frame_ref : Cert.quiescent_InprojSampleRefIdeal (hInprojSampleRefIdeal := Cert.InprojSampleRefIdeal.Gen.facts) :=
  fun m g _ => (θ_run Cert.InprojSampleRefIdeal.defs _ _).mono
    (fun r h => ⟨fun c => (h c).2.2.2.2.2.2.2.2.2.2, sem_eq_zero_of_no_sems (by decide) r.2⟩) (Cert.InprojSampleRefIdeal.Value.run m g)

end Cert.Proof.InprojSampleValue

end
-- ==== Proof.FfnInnerValue.lean ====
/-
  The feed-forward step of the inner layers, without the final norm, computes its reference: a row of a block is the
  reference's row, and the blocks fill the array.
-/
module

public import proofs.«01_k».proof.Defs
public import proofs.«01_k».proof.Proof.Coords
public import proofs.«01_k».proof.Proof.Gen.FfnInnerIdeal.Value
public import proofs.«01_k».proof.Proof.Gen.FfnInnerRefIdeal.Read
public import proofs.«01_k».proof.Proof.Gen.FfnInnerRefIdeal.Run
public import Idealize.ShloMosaic.Lib.Quiescent

@[expose] public section

set_option maxRecDepth 16384

noncomputable section

namespace Cert.Proof.FfnInnerValue

open Idealize.ShloMosaic Idealize.ShloMosaic.TcCoe Idealize.SL.Sem Cert.FfnInnerRefIdeal.Read
open Cert.FfnInnerIdeal Cert.FfnInnerIdeal.Gen Cert.Proof.Coords

/-- What the input blocks hold, as elements of the arguments: row `r` of the token block is row `ρ r`. -/
structure IsBlocks (ρ : Fin 512 → Fin 16384) (x0 : Vec Ideal S16384x1024 .f32) (x1 : Vec Ideal S4x1024 .f32)
    (x2 x3 : Vec Ideal S4x1024x2816 .f32) (x4 : Vec Ideal S4x2816x1024 .f32)
    (b0 : Vec Ideal S512x1024 .f32) (b1 : Vec Ideal S1x1x1024 .f32) (b2 b3 : Vec Ideal S1x1024x2816 .bf16)
    (b4 : Vec Ideal S1x2816x1024 .bf16) : Prop where
  tok : ∀ r l, b0 (ix2 r l) = x0 (ix2 (ρ r) l)
  norm : ∀ l, b1 (ix3 0 0 l) = x1 (ix2 3 l)
  gate : ∀ k l, b2 (ix3 0 k l) = x2 (ix3 3 k l)
  up : ∀ k l, b3 (ix3 0 k l) = x3 (ix3 3 k l)
  down : ∀ k l, b4 (ix3 0 k l) = x4 (ix3 3 k l)

section blocks

variable {ρ : Fin 512 → Fin 16384} {x0 : Vec Ideal S16384x1024 .f32} {x1 : Vec Ideal S4x1024 .f32}
  {x2 x3 : Vec Ideal S4x1024x2816 .f32} {x4 : Vec Ideal S4x2816x1024 .f32}
  {b0 : Vec Ideal S512x1024 .f32} {b1 : Vec Ideal S1x1x1024 .f32} {b2 b3 : Vec Ideal S1x1024x2816 .bf16}
  {b4 : Vec Ideal S1x2816x1024 .bf16} (B : IsBlocks ρ x0 x1 x2 x3 x4 b0 b1 b2 b3 b4)

include B

/-- The gated hidden row. -/
theorem hidden (r : Fin 512) (l : Fin 2816) : k0_pay3 b0 b1 b2 b3 (ix2 r l) = val_main_v22 x0 x1 x2 x3 (ix2 (ρ r) l) := by
  pointwise [k0_pay3]
  simp only [B.tok, B.norm, B.gate, B.up]
  pointwise [val_main_v22, val_main_v21, val_main_v20, val_main_v19, val_main_v18, val_main_call0_v5, val_main_call0_v4, val_main_call0_cst_0, val_main_call0_v3, val_main_call0_v2, val_main_call0_cst, val_main_call0_v1, val_main_call0_v0, val_main_v17, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  simp only [zero_sub]

/-- The finished row: the residual plus half of the hidden row against the down weights. -/
theorem finished (b5 : Vec Ideal S1x1024 .f32) (r : Fin 512) (l : Fin 1024) :
    out0_6 b0 b1 b2 b3 b4 b5 (ix2 r l) = val_main_v28 x0 x1 x2 x3 x4 (ix2 (ρ r) l) := by
  unfold out0_6
  rw [View.canon_unit_zero zero2, View.ld_unit_zero zero2, View.ld_unit_zero zero3, View.ld_unit_zero zero3,
    View.ld_unit_zero zero3, View.ld_unit_zero zero3]
  have hh := hidden B
  generalize k0_pay3 b0 b1 b2 b3 = hid at hh ⊢
  pointwise [k0_pay1, k0_pay2, k0_pay4]
  simp only [B.tok, hh, B.down]
  pointwise [val_main_v28, val_main_v27, val_main_v26, val_main_cst_2, val_main_v25, val_main_v24, val_main_v23]

end blocks

variable (m : (ℓ : Loc nD τ sig) → Buf (Elt Ideal) ℓ)

/-- The arguments the result depends on. -/
abbrev y0 (c : Dev nD) : Vec Ideal S16384x1024 .f32 := m ((c : Thread nD τ).loc main_arg0)
abbrev y1 (c : Dev nD) : Vec Ideal S4x1024 .f32 := m ((c : Thread nD τ).loc main_arg1)
abbrev y2 (c : Dev nD) : Vec Ideal S4x1024x2816 .f32 := m ((c : Thread nD τ).loc main_arg2)
abbrev y3 (c : Dev nD) : Vec Ideal S4x1024x2816 .f32 := m ((c : Thread nD τ).loc main_arg3)
abbrev y4 (c : Dev nD) : Vec Ideal S4x2816x1024 .f32 := m ((c : Thread nD τ).loc main_arg4)

/-- Where each window's block sits: the token windows advance with the point, the weights stay at the last layer. -/
theorem idx_facts : ∀ t : Fin cfg0.N,
    win0_0.index t = ![t.val, 0] ∧ win0_1.index t = ![3, 0, 0] ∧ win0_2.index t = ![3, 0, 0] ∧ win0_3.index t = ![3, 0, 0]
    ∧ win0_4.index t = ![3, 0, 0] ∧ win0_6.index t = ![t.val, 0] :=
  (by decide +kernel : ∀ t : Fin grid0.N, _)

/-- The row of the arrays that row `r` of the block at point `t` is. -/
def row (t : Fin cfg0.N) (r : Fin 512) : Fin 16384 := ⟨t.val * 512 + r.val, by have h : t.val < 32 := t.isLt; omega⟩

/-- Where an element of a token block lies in its array. -/
theorem row_place (t : Fin cfg0.N) (ix : Fin 2 → ℕ) (h : ix = ![t.val, 0]) (r : Fin 512) (l : Fin 1024) (x : S16384x1024.Idx)
    (h0 : (x 0).val = ix 0 * 512 + 1 * r.val) (h1 : (x 1).val = ix 1 * 1024 + 1 * l.val) : x = ix2 (row t r) l := by
  subst h
  exact ext2 (h0.trans (by show t.val * 512 + 1 * r.val = t.val * 512 + r.val; omega))
    (h1.trans (by show 0 * 1024 + 1 * l.val = l.val; omega))

/-- The norm's weights as the region finds them, and the weights, whose cast is the identity. -/
theorem found0 (c : Dev nD) : V m c main_v0 = broadcastInDim S4x1x1024 ![0, 2] bcast_S4x1024_S4x1x1024_0_2 (y1 m c) := by
  unfold_abbrev_sides
  after_results

theorem found1 (c : Dev nD) : V m c main_v1 = truncf (F := Ideal) (φ := .f32) .bf16 (y2 m c) bitsLt_bf16_f32 := by
  unfold_abbrev_sides
  after_results

theorem found2 (c : Dev nD) : V m c main_v2 = truncf (F := Ideal) (φ := .f32) .bf16 (y3 m c) bitsLt_bf16_f32 := by
  unfold_abbrev_sides
  after_results

theorem found3 (c : Dev nD) : V m c main_v3 = truncf (F := Ideal) (φ := .f32) .bf16 (y4 m c) bitsLt_bf16_f32 := by
  unfold_abbrev_sides
  after_results

theorem blocks (c : Dev nD) (t : Fin cfg0.N) : IsBlocks (row t) (y0 m c) (y1 m c) (y2 m c) (y3 m c) (y4 m c)
    (iblk m c 0 t) (iblk m c 1 t) (iblk m c 2 t) (iblk m c 3 t) (iblk m c 4 t) where
  tok r l := (congrFun (V_main_arg0 m c) _).trans
    (congrArg (y0 m c) (row_place t _ (idx_facts t).1 r l (((cfg0.win 0).blk t).view.emb (ix2 r l)) rfl rfl))
  norm l := by
    refine (congrArg (V m c main_v0) (last_layer _ (idx_facts t).2.1 (0 : Fin 1) l (((cfg0.win 1).blk t).view.emb (ix3 0 0 l)) rfl rfl rfl)).trans ?_
    rw [found0]
    pointwise []
  gate k l := (congrFun (found1 m c) _).trans
    (congrArg (y2 m c) (last_layer _ (idx_facts t).2.2.1 k l (((cfg0.win 2).blk t).view.emb (ix3 0 k l)) rfl rfl rfl))
  up k l := (congrFun (found2 m c) _).trans
    (congrArg (y3 m c) (last_layer _ (idx_facts t).2.2.2.1 k l (((cfg0.win 3).blk t).view.emb (ix3 0 k l)) rfl rfl rfl))
  down k l := (congrFun (found3 m c) _).trans
    (congrArg (y4 m c) (last_layer _ (idx_facts t).2.2.2.2.1 k l (((cfg0.win 4).blk t).view.emb (ix3 0 k l)) rfl rfl rfl))

/-- The reference's result on the call's own arguments. -/
def G (c : Dev nD) : Vec Ideal S16384x1024 .f32 := val_main_v28 (F := Ideal) (y0 m c) (y1 m c) (y2 m c) (y3 m c) (y4 m c)

/-- Every element of the array lies in some point's block. -/
theorem cover (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  obtain ⟨t, ht⟩ : ∃ t : Fin cfg0.N, t.val = (i 0).val / 512 := ⟨⟨(i 0).val / 512, by show _ < 32; omega⟩, rfl⟩
  refine ⟨t, (by decide +kernel : ∀ t : Fin cfg0.N, (cfg0.win 6).flush t = true) t, ?_⟩
  show i ∈ ((View.whole main_v5).slice (win0_6.rect t)).set
  rw [View.set_slice_whole, Rect.mem_set_unit]
  show ∀ a, win0_6.index t a * S512x1024.size a ≤ (i a).val ∧ (i a).val < win0_6.index t a * S512x1024.size a + S512x1024.size a
  rw [(idx_facts t).2.2.2.2.2]
  intro a
  fin_cases a
  · show t.val * 512 ≤ (i 0).val ∧ (i 0).val < t.val * 512 + 512
    omega
  · show 0 * 1024 ≤ (i 1).val ∧ (i 1).val < 0 * 1024 + 1024
    omega

/-- The output array after the run is the reference's result. -/
theorem final_eq (c : Dev nD) : (dats m 0 c).arrAt 6 cfg0.N = G m c := by
  refine (dats m 0 c).arrAt_eq_of_cover 6 (G m c) (fun t _ => ?_) cover
  rw [Cert.FfnInnerIdeal.Value.flushed6]
  funext i
  obtain ⟨r, l, rfl⟩ : ∃ (r : Fin 512) (l : Fin 1024), i = ix2 r l := ⟨i 0, i 1, eq_ix2 i⟩
  exact (finished (blocks m c t) _ r l).trans
    (congrArg (G m c) (row_place t _ (idx_facts t).2.2.2.2.2 r l (((cfg0.win 6).blk t).view.emb (ix2 r l)) rfl rfl).symm)

/-- The claim of equality: both programs run, and from equal arguments their results are equal. -/
theorem algebraic : Cert.algebraic_FfnInnerIdeal_FfnInnerRefIdeal (hFfnInnerIdeal := Cert.FfnInnerIdeal.Gen.facts)
    (hFfnInnerRefIdeal := Cert.FfnInnerRefIdeal.Gen.facts) := by
  intro m g m' g' _ hargs
  refine ⟨fun c => G m c, ?_, ?_⟩
  · refine (θ_run (Cert.FfnInnerIdeal.defs (F := Ideal)) _ _).mono (fun r h c => ?_) (Cert.FfnInnerIdeal.Value.run_blocks (F := Ideal) m g)
    obtain ⟨hv, h0⟩ := h c
    exact ⟨hv.trans (final_eq m c), h0⟩
  · refine (θ_run (Cert.FfnInnerRefIdeal.defs (F := Ideal)) _ _).mono (fun r h c => ?_) (Cert.FfnInnerRefIdeal.Value.run (F := Ideal) m' g')
    obtain ⟨hv, h0⟩ := h c
    obtain ⟨e0, e1, e2, e3, e4, -⟩ := hargs c
    refine ⟨(hv.trans (val_main_v28_eq _ _ _ _ _)).trans ?_, h0⟩
    exact same_six (fun a b d e f (_ : Unit) => val_main_v28 (F := Ideal) a b d e f) e0 e1 e2 e3 e4 (rfl : () = ())

/-- The reference runs and keeps its arguments. -/
theorem frame_ref : Cert.quiescent_FfnInnerRefIdeal (hFfnInnerRefIdeal := Cert.FfnInnerRefIdeal.Gen.facts) :=
  fun m g _ => (θ_run Cert.FfnInnerRefIdeal.defs _ _).mono
    (fun r h => ⟨fun c => (h c).2, sem_eq_zero_of_no_sems (by decide) r.2⟩) (Cert.FfnInnerRefIdeal.Value.run m g)

end Cert.Proof.FfnInnerValue

end
-- ==== Proof.MergeSampleValue.lean ====
/-
  The sample batch's merge computes its reference: the call has one point, and a row of its block is the reference's row.
-/
module

public import proofs.«01_k».proof.Defs
public import proofs.«01_k».proof.Proof.Coords
public import proofs.«01_k».proof.Proof.Gen.MergeSampleIdeal.Value
public import proofs.«01_k».proof.Proof.Gen.MergeSampleRefIdeal.Read
public import proofs.«01_k».proof.Proof.Gen.MergeSampleRefIdeal.Run
public import Idealize.ShloMosaic.Lib.Quiescent

@[expose] public section

set_option maxRecDepth 16384

noncomputable section

namespace Cert.Proof.MergeSampleValue

open Idealize.ShloMosaic Idealize.ShloMosaic.TcCoe Idealize.SL.Sem Cert.MergeSampleRefIdeal.Read
open Cert.MergeSampleIdeal Cert.MergeSampleIdeal.Gen Cert.Proof.Coords

/-- What the input blocks hold, as elements of the arguments. -/
structure IsBlocks (x0 : Vec Ideal S256x1024 .f32) (x1 x2 x3 : Vec Ideal S256x512 .bf16) (x4 : Vec Ideal S256x3072 .f32)
    (x5 x6 x7 : Vec Ideal S4x512x1024 .f32) (x8 : Vec Ideal S4x1024x1024 .f32)
    (b0 : Vec Ideal S256x1024 .f32) (b1 b2 b3 : Vec Ideal S256x512 .bf16) (b4 : Vec Ideal S256x3072 .f32)
    (b5 b6 b7 : Vec Ideal S1x512x1024 .bf16) (b8 : Vec Ideal S1x1024x1024 .bf16) : Prop where
  tok : b0 = x0
  fox : b1 = x1
  rw : b2 = x2
  gdn : b3 = x3
  gate : b4 = x4
  wfox : ∀ k l, b5 (ix3 0 k l) = x5 (ix3 3 k l)
  wrw : ∀ k l, b6 (ix3 0 k l) = x6 (ix3 3 k l)
  wgdn : ∀ k l, b7 (ix3 0 k l) = x7 (ix3 3 k l)
  wout : ∀ k l, b8 (ix3 0 k l) = x8 (ix3 3 k l)

section blocks

variable {x0 : Vec Ideal S256x1024 .f32} {x1 x2 x3 : Vec Ideal S256x512 .bf16} {x4 : Vec Ideal S256x3072 .f32}
  {x5 x6 x7 : Vec Ideal S4x512x1024 .f32} {x8 : Vec Ideal S4x1024x1024 .f32}
  {b0 : Vec Ideal S256x1024 .f32} {b1 b2 b3 : Vec Ideal S256x512 .bf16} {b4 : Vec Ideal S256x3072 .f32}
  {b5 b6 b7 : Vec Ideal S1x512x1024 .bf16} {b8 : Vec Ideal S1x1024x1024 .bf16}

/-- The finished row: the residual plus the gated sum of the three branches against the output weights. -/
theorem finished (B : IsBlocks x0 x1 x2 x3 x4 x5 x6 x7 x8 b0 b1 b2 b3 b4 b5 b6 b7 b8) (r : Fin 256) (l : Fin 1024) :
    out0_9 b0 b1 b2 b3 b4 b5 b6 b7 b8 (ix2 r l) = val_main_v33 x0 x1 x2 x3 x4 x5 x6 x7 x8 (ix2 r l) := by
  obtain ⟨rfl, rfl, rfl, rfl, rfl, h5, h6, h7, h8⟩ := B
  unfold out0_9
  rw [View.canon_unit_zero zero2, View.ld_unit_zero zero2, View.ld_unit_zero zero3, View.ld_unit_zero zero2,
    View.ld_unit_zero zero3, View.ld_unit_zero zero2, View.ld_unit_zero zero3, View.ld_unit_zero zero2, View.ld_unit_zero zero3]
  pointwise [k0_pay1, k0_pay2, k0_pay3]
  simp only [h5, h6, h7, h8, zero_sub]
  pointwise [val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_cst_0, val_main_v6, val_main_v5, val_main_cst, val_main_v4,
    val_main_v3, val_main_v2, val_main_v1, val_main_v0]

end blocks

variable (m : (ℓ : Loc nD τ sig) → Buf (Elt Ideal) ℓ)

/-- The arguments. -/
abbrev y0 (c : Dev nD) : Vec Ideal S256x1024 .f32 := m ((c : Thread nD τ).loc main_arg0)
abbrev y1 (c : Dev nD) : Vec Ideal S256x512 .bf16 := m ((c : Thread nD τ).loc main_arg1)
abbrev y2 (c : Dev nD) : Vec Ideal S256x512 .bf16 := m ((c : Thread nD τ).loc main_arg2)
abbrev y3 (c : Dev nD) : Vec Ideal S256x512 .bf16 := m ((c : Thread nD τ).loc main_arg3)
abbrev y4 (c : Dev nD) : Vec Ideal S256x3072 .f32 := m ((c : Thread nD τ).loc main_arg4)
abbrev y5 (c : Dev nD) : Vec Ideal S4x512x1024 .f32 := m ((c : Thread nD τ).loc main_arg5)
abbrev y6 (c : Dev nD) : Vec Ideal S4x512x1024 .f32 := m ((c : Thread nD τ).loc main_arg6)
abbrev y7 (c : Dev nD) : Vec Ideal S4x512x1024 .f32 := m ((c : Thread nD τ).loc main_arg7)
abbrev y8 (c : Dev nD) : Vec Ideal S4x1024x1024 .f32 := m ((c : Thread nD τ).loc main_arg8)

/-- Every window sits at its one place: the rows at the start, the weights at the last layer. -/
theorem idx_facts : ∀ t : Fin cfg0.N,
    (win0_0.index t = ![0, 0] ∧ win0_1.index t = ![0, 0] ∧ win0_2.index t = ![0, 0] ∧ win0_3.index t = ![0, 0]
    ∧ win0_4.index t = ![0, 0] ∧ win0_9.index t = ![0, 0]) ∧ win0_5.index t = ![3, 0, 0] ∧ win0_6.index t = ![3, 0, 0]
    ∧ win0_7.index t = ![3, 0, 0] ∧ win0_8.index t = ![3, 0, 0] :=
  (by decide +kernel : ∀ t : Fin grid0.N, _)

/-- The weights as the region finds them: the arguments in the narrower format. -/
theorem found0 (c : Dev nD) : V m c main_v0 = truncf (F := Ideal) (φ := .f32) .bf16 (y5 m c) bitsLt_bf16_f32 := by
  unfold_abbrev_sides
  after_results

theorem found1 (c : Dev nD) : V m c main_v1 = truncf (F := Ideal) (φ := .f32) .bf16 (y6 m c) bitsLt_bf16_f32 := by
  unfold_abbrev_sides
  after_results

theorem found2 (c : Dev nD) : V m c main_v2 = truncf (F := Ideal) (φ := .f32) .bf16 (y7 m c) bitsLt_bf16_f32 := by
  unfold_abbrev_sides
  after_results

theorem found3 (c : Dev nD) : V m c main_v3 = truncf (F := Ideal) (φ := .f32) .bf16 (y8 m c) bitsLt_bf16_f32 := by
  unfold_abbrev_sides
  after_results

/-- A function of two coordinates read at places that are its own is itself. -/
theorem eq_of_places {n0 n1 : ℕ} {α : Type} (f g : (⟨2, ![n0, n1]⟩ : Shape).Idx → α)
    (h : ∀ (r : Fin n0) (l : Fin n1), f (ix2 r l) = g (ix2 r l)) : f = g :=
  funext fun i => by rw [eq_ix2 i]; exact h _ _

theorem blocks (c : Dev nD) (t : Fin cfg0.N) : IsBlocks (y0 m c) (y1 m c) (y2 m c) (y3 m c) (y4 m c) (y5 m c) (y6 m c)
    (y7 m c) (y8 m c) (iblk m c 0 t) (iblk m c 1 t) (iblk m c 2 t) (iblk m c 3 t) (iblk m c 4 t) (iblk m c 5 t)
    (iblk m c 6 t) (iblk m c 7 t) (iblk m c 8 t) where
  tok := eq_of_places _ _ fun r l => (congrFun (V_main_arg0 m c) _).trans
    (congrArg (y0 m c) (same_place _ (idx_facts t).1.1 r l (((cfg0.win 0).blk t).view.emb (ix2 r l)) rfl rfl))
  fox := eq_of_places _ _ fun r l => (congrFun (V_main_arg1 m c) _).trans
    (congrArg (y1 m c) (same_place _ (idx_facts t).1.2.1 r l (((cfg0.win 1).blk t).view.emb (ix2 r l)) rfl rfl))
  rw := eq_of_places _ _ fun r l => (congrFun (V_main_arg2 m c) _).trans
    (congrArg (y2 m c) (same_place _ (idx_facts t).1.2.2.1 r l (((cfg0.win 2).blk t).view.emb (ix2 r l)) rfl rfl))
  gdn := eq_of_places _ _ fun r l => (congrFun (V_main_arg3 m c) _).trans
    (congrArg (y3 m c) (same_place _ (idx_facts t).1.2.2.2.1 r l (((cfg0.win 3).blk t).view.emb (ix2 r l)) rfl rfl))
  gate := eq_of_places _ _ fun r l => (congrFun (V_main_arg4 m c) _).trans
    (congrArg (y4 m c) (same_place _ (idx_facts t).1.2.2.2.2.1 r l (((cfg0.win 4).blk t).view.emb (ix2 r l)) rfl rfl))
  wfox k l := (congrFun (found0 m c) _).trans
    (congrArg (y5 m c) (last_layer _ (idx_facts t).2.1 k l (((cfg0.win 5).blk t).view.emb (ix3 0 k l)) rfl rfl rfl))
  wrw k l := (congrFun (found1 m c) _).trans
    (congrArg (y6 m c) (last_layer _ (idx_facts t).2.2.1 k l (((cfg0.win 6).blk t).view.emb (ix3 0 k l)) rfl rfl rfl))
  wgdn k l := (congrFun (found2 m c) _).trans
    (congrArg (y7 m c) (last_layer _ (idx_facts t).2.2.2.1 k l (((cfg0.win 7).blk t).view.emb (ix3 0 k l)) rfl rfl rfl))
  wout k l := (congrFun (found3 m c) _).trans
    (congrArg (y8 m c) (last_layer _ (idx_facts t).2.2.2.2 k l (((cfg0.win 8).blk t).view.emb (ix3 0 k l)) rfl rfl rfl))

/-- The reference's result on the call's own arguments. -/
def G (c : Dev nD) : Vec Ideal S256x1024 .f32 :=
  val_main_v33 (F := Ideal) (y0 m c) (y1 m c) (y2 m c) (y3 m c) (y4 m c) (y5 m c) (y6 m c) (y7 m c) (y8 m c)

/-- The call's one point. -/
abbrev t0 : Fin cfg0.N := ⟨0, by decide⟩

/-- The output array after the run is the reference's result. -/
theorem final_eq (c : Dev nD) : (dats m 0 c).arrAt 9 cfg0.N = G m c := by
  refine (dats m 0 c).arrAt_eq_of_cover 9 (G m c) (fun t _ => ?_) fun i => ?_
  · rw [Cert.MergeSampleIdeal.Value.flushed9]
    funext i
    obtain ⟨r, l, rfl⟩ : ∃ (r : Fin 256) (l : Fin 1024), i = ix2 r l := ⟨i 0, i 1, eq_ix2 i⟩
    exact (finished (blocks m c t) r l).trans
      (congrArg (G m c) (same_place _ (idx_facts t).1.2.2.2.2.2 r l (((cfg0.win 9).blk t).view.emb (ix2 r l)) rfl rfl).symm)
  · refine ⟨t0, (by decide +kernel : (cfg0.win 9).flush t0 = true), ?_⟩
    show i ∈ ((View.whole main_v4).slice (win0_9.rect t0)).set
    rw [View.set_slice_whole, Rect.mem_set_unit]
    exact whole2 i _ (idx_facts t0).1.2.2.2.2.2

/-- The claim of equality: both programs run, and from equal arguments their results are equal. -/
theorem algebraic : Cert.algebraic_MergeSampleIdeal_MergeSampleRefIdeal (hMergeSampleIdeal := Cert.MergeSampleIdeal.Gen.facts)
    (hMergeSampleRefIdeal := Cert.MergeSampleRefIdeal.Gen.facts) := by
  intro m g m' g' _ hargs
  refine ⟨fun c => G m c, ?_, ?_⟩
  · refine (θ_run (Cert.MergeSampleIdeal.defs (F := Ideal)) _ _).mono (fun r h c => ?_) (Cert.MergeSampleIdeal.Value.run_blocks (F := Ideal) m g)
    obtain ⟨hv, h0⟩ := h c
    exact ⟨hv.trans (final_eq m c), h0⟩
  · refine (θ_run (Cert.MergeSampleRefIdeal.defs (F := Ideal)) _ _).mono (fun r h c => ?_) (Cert.MergeSampleRefIdeal.Value.run (F := Ideal) m' g')
    obtain ⟨hv, h0⟩ := h c
    obtain ⟨e0, e1, e2, e3, e4, e5, e6, e7, e8⟩ := hargs c
    refine ⟨(hv.trans (val_main_v33_eq _ _ _ _ _ _ _ _ _)).trans ?_, h0⟩
    rw [e0, e1, e2, e3, e4, e5, e6, e7, e8]
    rfl

/-- The reference runs and keeps its arguments. -/
theorem frame_ref : Cert.quiescent_MergeSampleRefIdeal (hMergeSampleRefIdeal := Cert.MergeSampleRefIdeal.Gen.facts) :=
  fun m g _ => (θ_run Cert.MergeSampleRefIdeal.defs _ _).mono
    (fun r h => ⟨fun c => (h c).2, sem_eq_zero_of_no_sems (by decide) r.2⟩) (Cert.MergeSampleRefIdeal.Value.run m g)

end Cert.Proof.MergeSampleValue

end
-- ==== Proof.FfnInnerSampleValue.lean ====
/-
  The sample batch's feed-forward step without the final norm computes its reference: the call has one point, and a row of
  its block is the reference's row.
-/
module

public import proofs.«01_k».proof.Defs
public import proofs.«01_k».proof.Proof.Coords
public import proofs.«01_k».proof.Proof.Gen.FfnInnerSampleIdeal.Value
public import proofs.«01_k».proof.Proof.Gen.FfnInnerSampleRefIdeal.Read
public import proofs.«01_k».proof.Proof.Gen.FfnInnerSampleRefIdeal.Run
public import Idealize.ShloMosaic.Lib.Quiescent

@[expose] public section

set_option maxRecDepth 16384

noncomputable section

namespace Cert.Proof.FfnInnerSampleValue

open Idealize.ShloMosaic Idealize.ShloMosaic.TcCoe Idealize.SL.Sem Cert.FfnInnerSampleRefIdeal.Read
open Cert.FfnInnerSampleIdeal Cert.FfnInnerSampleIdeal.Gen Cert.Proof.Coords

/-- What the input blocks hold, as elements of the arguments. -/
structure IsBlocks (x0 : Vec Ideal S256x1024 .f32) (x1 : Vec Ideal S4x1024 .f32) (x2 x3 : Vec Ideal S4x1024x2816 .f32)
    (x4 : Vec Ideal S4x2816x1024 .f32)
    (b0 : Vec Ideal S256x1024 .f32) (b1 : Vec Ideal S1x1x1024 .f32) (b2 b3 : Vec Ideal S1x1024x2816 .bf16)
    (b4 : Vec Ideal S1x2816x1024 .bf16) : Prop where
  tok : ∀ r l, b0 (ix2 r l) = x0 (ix2 r l)
  norm : ∀ l, b1 (ix3 0 0 l) = x1 (ix2 3 l)
  gate : ∀ k l, b2 (ix3 0 k l) = x2 (ix3 3 k l)
  up : ∀ k l, b3 (ix3 0 k l) = x3 (ix3 3 k l)
  down : ∀ k l, b4 (ix3 0 k l) = x4 (ix3 3 k l)

section blocks

variable {x0 : Vec Ideal S256x1024 .f32} {x1 : Vec Ideal S4x1024 .f32} {x2 x3 : Vec Ideal S4x1024x2816 .f32}
  {x4 : Vec Ideal S4x2816x1024 .f32}
  {b0 : Vec Ideal S256x1024 .f32} {b1 : Vec Ideal S1x1x1024 .f32} {b2 b3 : Vec Ideal S1x1024x2816 .bf16}
  {b4 : Vec Ideal S1x2816x1024 .bf16} (B : IsBlocks x0 x1 x2 x3 x4 b0 b1 b2 b3 b4)

include B

/-- The gated hidden row. -/
theorem hidden (r : Fin 256) (l : Fin 2816) : k0_pay3 b0 b1 b2 b3 (ix2 r l) = val_main_v22 x0 x1 x2 x3 (ix2 r l) := by
  pointwise [k0_pay3]
  simp only [B.tok, B.norm, B.gate, B.up]
  pointwise [val_main_v22, val_main_v21, val_main_v20, val_main_v19, val_main_v18, val_main_call0_v5, val_main_call0_v4, val_main_call0_cst_0, val_main_call0_v3, val_main_call0_v2, val_main_call0_cst, val_main_call0_v1, val_main_call0_v0, val_main_v17, val_main_v16, val_main_v15, val_main_v14, val_main_v13, val_main_v12, val_main_v11, val_main_v10, val_main_v9, val_main_v8, val_main_v7, val_main_cst_1, val_main_v6, val_main_v5, val_main_cst_0, val_main_v4, val_main_v3, val_main_cst, val_main_v2, val_main_v1, val_main_v0]
  simp only [zero_sub]

/-- The finished row: the residual plus half of the hidden row against the down weights. -/
theorem finished (b5 : Vec Ideal S1x1024 .f32) (r : Fin 256) (l : Fin 1024) :
    out0_6 b0 b1 b2 b3 b4 b5 (ix2 r l) = val_main_v28 x0 x1 x2 x3 x4 (ix2 r l) := by
  unfold out0_6
  rw [View.canon_unit_zero zero2, View.ld_unit_zero zero2, View.ld_unit_zero zero3, View.ld_unit_zero zero3,
    View.ld_unit_zero zero3, View.ld_unit_zero zero3]
  have hh := hidden B
  generalize k0_pay3 b0 b1 b2 b3 = hid at hh ⊢
  pointwise [k0_pay1, k0_pay2, k0_pay4]
  simp only [B.tok, hh, B.down]
  pointwise [val_main_v28, val_main_v27, val_main_v26, val_main_cst_2, val_main_v25, val_main_v24, val_main_v23]

end blocks

variable (m : (ℓ : Loc nD τ sig) → Buf (Elt Ideal) ℓ)

/-- The arguments the result depends on. -/
abbrev y0 (c : Dev nD) : Vec Ideal S256x1024 .f32 := m ((c : Thread nD τ).loc main_arg0)
abbrev y1 (c : Dev nD) : Vec Ideal S4x1024 .f32 := m ((c : Thread nD τ).loc main_arg1)
abbrev y2 (c : Dev nD) : Vec Ideal S4x1024x2816 .f32 := m ((c : Thread nD τ).loc main_arg2)
abbrev y3 (c : Dev nD) : Vec Ideal S4x1024x2816 .f32 := m ((c : Thread nD τ).loc main_arg3)
abbrev y4 (c : Dev nD) : Vec Ideal S4x2816x1024 .f32 := m ((c : Thread nD τ).loc main_arg4)

/-- Every window sits at its one place: the rows at the start, the weights at the last layer. -/
theorem idx_facts : ∀ t : Fin cfg0.N,
    win0_0.index t = ![0, 0] ∧ win0_1.index t = ![3, 0, 0] ∧ win0_2.index t = ![3, 0, 0] ∧ win0_3.index t = ![3, 0, 0]
    ∧ win0_4.index t = ![3, 0, 0] ∧ win0_5.index t = ![0, 0] ∧ win0_6.index t = ![0, 0] :=
  (by decide +kernel : ∀ t : Fin grid0.N, _)

/-- The norm's weights as the region finds them, and the weights, whose cast is the identity. -/
theorem found0 (c : Dev nD) : V m c main_v0 = broadcastInDim S4x1x1024 ![0, 2] bcast_S4x1024_S4x1x1024_0_2 (y1 m c) := by
  unfold_abbrev_sides
  after_results

theorem found1 (c : Dev nD) : V m c main_v1 = truncf (F := Ideal) (φ := .f32) .bf16 (y2 m c) bitsLt_bf16_f32 := by
  unfold_abbrev_sides
  after_results

theorem found2 (c : Dev nD) : V m c main_v2 = truncf (F := Ideal) (φ := .f32) .bf16 (y3 m c) bitsLt_bf16_f32 := by
  unfold_abbrev_sides
  after_results

theorem found3 (c : Dev nD) : V m c main_v3 = truncf (F := Ideal) (φ := .f32) .bf16 (y4 m c) bitsLt_bf16_f32 := by
  unfold_abbrev_sides
  after_results

theorem blocks (c : Dev nD) (t : Fin cfg0.N) : IsBlocks (y0 m c) (y1 m c) (y2 m c) (y3 m c) (y4 m c)
    (iblk m c 0 t) (iblk m c 1 t) (iblk m c 2 t) (iblk m c 3 t) (iblk m c 4 t) where
  tok r l := (congrFun (V_main_arg0 m c) _).trans
    (congrArg (y0 m c) (same_place _ (idx_facts t).1 r l (((cfg0.win 0).blk t).view.emb (ix2 r l)) rfl rfl))
  norm l := by
    refine (congrArg (V m c main_v0) (last_layer _ (idx_facts t).2.1 (0 : Fin 1) l (((cfg0.win 1).blk t).view.emb (ix3 0 0 l)) rfl rfl rfl)).trans ?_
    rw [found0]
    pointwise []
  gate k l := (congrFun (found1 m c) _).trans
    (congrArg (y2 m c) (last_layer _ (idx_facts t).2.2.1 k l (((cfg0.win 2).blk t).view.emb (ix3 0 k l)) rfl rfl rfl))
  up k l := (congrFun (found2 m c) _).trans
    (congrArg (y3 m c) (last_layer _ (idx_facts t).2.2.2.1 k l (((cfg0.win 3).blk t).view.emb (ix3 0 k l)) rfl rfl rfl))
  down k l := (congrFun (found3 m c) _).trans
    (congrArg (y4 m c) (last_layer _ (idx_facts t).2.2.2.2.1 k l (((cfg0.win 4).blk t).view.emb (ix3 0 k l)) rfl rfl rfl))

/-- The reference's result on the call's own arguments. -/
def G (c : Dev nD) : Vec Ideal S256x1024 .f32 := val_main_v28 (F := Ideal) (y0 m c) (y1 m c) (y2 m c) (y3 m c) (y4 m c)

/-- The call's one point. -/
abbrev t0 : Fin cfg0.N := ⟨0, by decide⟩

/-- The output array after the run is the reference's result. -/
theorem final_eq (c : Dev nD) : (dats m 0 c).arrAt 6 cfg0.N = G m c := by
  refine (dats m 0 c).arrAt_eq_of_cover 6 (G m c) (fun t _ => ?_) fun i => ?_
  · rw [Cert.FfnInnerSampleIdeal.Value.flushed6]
    funext i
    obtain ⟨r, l, rfl⟩ : ∃ (r : Fin 256) (l : Fin 1024), i = ix2 r l := ⟨i 0, i 1, eq_ix2 i⟩
    exact (finished (blocks m c t) _ r l).trans
      (congrArg (G m c) (same_place _ (idx_facts t).2.2.2.2.2.2 r l (((cfg0.win 6).blk t).view.emb (ix2 r l)) rfl rfl).symm)
  · refine ⟨t0, (by decide +kernel : (cfg0.win 6).flush t0 = true), ?_⟩
    show i ∈ ((View.whole main_v5).slice (win0_6.rect t0)).set
    rw [View.set_slice_whole, Rect.mem_set_unit]
    exact whole2 i _ (idx_facts t0).2.2.2.2.2.2

/-- The claim of equality: both programs run, and from equal arguments their results are equal. -/
theorem algebraic : Cert.algebraic_FfnInnerSampleIdeal_FfnInnerSampleRefIdeal (hFfnInnerSampleIdeal := Cert.FfnInnerSampleIdeal.Gen.facts)
    (hFfnInnerSampleRefIdeal := Cert.FfnInnerSampleRefIdeal.Gen.facts) := by
  intro m g m' g' _ hargs
  refine ⟨fun c => G m c, ?_, ?_⟩
  · refine (θ_run (Cert.FfnInnerSampleIdeal.defs (F := Ideal)) _ _).mono (fun r h c => ?_) (Cert.FfnInnerSampleIdeal.Value.run_blocks (F := Ideal) m g)
    obtain ⟨hv, h0⟩ := h c
    exact ⟨hv.trans (final_eq m c), h0⟩
  · refine (θ_run (Cert.FfnInnerSampleRefIdeal.defs (F := Ideal)) _ _).mono (fun r h c => ?_) (Cert.FfnInnerSampleRefIdeal.Value.run (F := Ideal) m' g')
    obtain ⟨hv, h0⟩ := h c
    obtain ⟨e0, e1, e2, e3, e4, -⟩ := hargs c
    refine ⟨(hv.trans (val_main_v28_eq _ _ _ _ _)).trans ?_, h0⟩
    exact same_six (fun a b d e f (_ : Unit) => val_main_v28 (F := Ideal) a b d e f) e0 e1 e2 e3 e4 (rfl : () = ())

/-- The reference runs and keeps its arguments. -/
theorem frame_ref : Cert.quiescent_FfnInnerSampleRefIdeal (hFfnInnerSampleRefIdeal := Cert.FfnInnerSampleRefIdeal.Gen.facts) :=
  fun m g _ => (θ_run Cert.FfnInnerSampleRefIdeal.defs _ _).mono
    (fun r h => ⟨fun c => (h c).2, sem_eq_zero_of_no_sems (by decide) r.2⟩) (Cert.FfnInnerSampleRefIdeal.Value.run m g)

end Cert.Proof.FfnInnerSampleValue

end
-- ==== Proof.lean ====
/-
  The proof of `Cert.Claim` (Defs.lean), assembled: the generated frames of the kernels, the frames of the references from
  their runs, the named constant, and the equalities of the modules beside.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn.Frame
public import proofs.«01_k».proof.Proof.Gen.Merge.Frame
public import proofs.«01_k».proof.Proof.Gen.Inproj.Frame
public import proofs.«01_k».proof.Proof.Gen.InprojIdeal.Value
public import proofs.«01_k».proof.Proof.Gen.InprojRefIdeal.Run
public import proofs.«01_k».proof.Proof.Gen.InprojRefIdeal.Read
public import proofs.«01_k».proof.Proof.FfnValue
public import proofs.«01_k».proof.Proof.MergeValue
public import proofs.«01_k».proof.Proof.FoxValue
public import proofs.«01_k».proof.Proof.InprojValue
public import proofs.«01_k».proof.Proof.FfnSampleValue
public import proofs.«01_k».proof.Proof.InprojSampleValue
public import proofs.«01_k».proof.Proof.FfnInnerValue
public import proofs.«01_k».proof.Proof.MergeSampleValue
public import proofs.«01_k».proof.Proof.FfnInnerSampleValue
public import proofs.«01_k».proof.Proof.Gen.FfnInnerSample.Frame
public import proofs.«01_k».proof.Proof.Gen.FfnInner.Frame
public import proofs.«01_k».proof.Proof.Gen.MergeSample.Frame
public import proofs.«01_k».proof.Proof.Gen.FfnSample.Frame
public import proofs.«01_k».proof.Proof.Gen.InprojSample.Frame

@[expose] public section

noncomputable section

namespace Cert.Proof

open Idealize.ShloMosaic Idealize.SL.Sem

/-- The attention's reference runs and keeps its arguments. -/
theorem frame_fox_ref : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The input projection's reference runs and keeps its arguments. -/
theorem frame_inproj_ref : Cert.quiescent_InprojRefIdeal (hInprojRefIdeal := Cert.InprojRefIdeal.Gen.facts) :=
  fun m g _ => (θ_run Cert.InprojRefIdeal.defs _ _).mono
    (fun r h => ⟨fun c => (h c).2.2.2.2.2.2.2.2.2.2, sem_eq_zero_of_no_sems (by decide) r.2⟩) (Cert.InprojRefIdeal.Value.run m g)

/-- The literal for the logarithm's inverse is read as that inverse. -/
theorem preserves_fox : Cert.preserves_Kernel_KernelIdeal :=
  IdealRules.named_const.statement Cert.KernelIdeal.κ "log2e" .f32 0x3FB8AA3B#32 _ rfl

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts, Cert.Merge.Gen.facts,
  Cert.MergeIdeal.Gen.facts, Cert.MergeRefIdeal.Gen.facts, Cert.Inproj.Gen.facts, Cert.InprojIdeal.Gen.facts,
  Cert.InprojRefIdeal.Gen.facts, Cert.FfnSample.Gen.facts, Cert.FfnSampleIdeal.Gen.facts, Cert.FfnSampleRefIdeal.Gen.facts,
  Cert.InprojSample.Gen.facts, Cert.InprojSampleIdeal.Gen.facts, Cert.InprojSampleRefIdeal.Gen.facts,
  Cert.FfnInner.Gen.facts, Cert.FfnInnerIdeal.Gen.facts, Cert.FfnInnerRefIdeal.Gen.facts,
  Cert.MergeSample.Gen.facts, Cert.MergeSampleIdeal.Gen.facts, Cert.MergeSampleRefIdeal.Gen.facts,
  Cert.FfnInnerSample.Gen.facts, Cert.FfnInnerSampleIdeal.Gen.facts, Cert.FfnInnerSampleRefIdeal.Gen.facts, FoxPre.facts,
  fun m g _ => Cert.Kernel.Gen.frame m g, fun m g _ => Cert.KernelIdeal.Gen.frame m g,
  fun m g _ => Cert.KernelIdeal.Gen.frame m g, frame_fox_ref, fun m g _ => frame_fox_ref m g trivial,
  fun m g _ => Cert.Ffn.Gen.frame m g, fun m g _ => Cert.FfnIdeal.Gen.frame m g, FfnValue.frame_ref,
  fun m g _ => Cert.Merge.Gen.frame m g, fun m g _ => Cert.MergeIdeal.Gen.frame m g, MergeValue.frame_ref,
  fun m g _ => Cert.Inproj.Gen.frame m g, fun m g _ => Cert.InprojIdeal.Gen.frame m g, frame_inproj_ref,
  fun m g _ => Cert.FfnSample.Gen.frame m g, fun m g _ => Cert.FfnSampleIdeal.Gen.frame m g, FfnSampleValue.frame_ref,
  fun m g _ => Cert.InprojSample.Gen.frame m g, fun m g _ => Cert.InprojSampleIdeal.Gen.frame m g, InprojSampleValue.frame_ref,
  fun m g _ => Cert.FfnInner.Gen.frame m g, fun m g _ => Cert.FfnInnerIdeal.Gen.frame m g, FfnInnerValue.frame_ref,
  fun m g _ => Cert.MergeSample.Gen.frame m g, fun m g _ => Cert.MergeSampleIdeal.Gen.frame m g, MergeSampleValue.frame_ref,
  fun m g _ => Cert.FfnInnerSample.Gen.frame m g, fun m g _ => Cert.FfnInnerSampleIdeal.Gen.frame m g, FfnInnerSampleValue.frame_ref,
  preserves_fox, FoxValue.algebraic, trivial, FfnValue.algebraic, trivial, MergeValue.algebraic, trivial, InprojValue.algebraic,
  trivial, FfnSampleValue.algebraic, trivial, InprojSampleValue.algebraic,
  trivial, FfnInnerValue.algebraic, trivial, MergeSampleValue.algebraic, trivial, FfnInnerSampleValue.algebraic⟩

end Cert.Proof

end
